-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_args_finite [hPre_attn_args_finite : Cert.Pre_attn_args_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_args_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_args_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_args_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_args_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_args_finite [hPre_attn_args_finite : Cert.Pre_attn_args_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_args_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_args_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_args_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_args_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Experts [hPre_expert_tables : Cert.Pre_expert_tables.Facts] (m : (ℓ : Loc Cert.Experts.nD Cert.Experts.τ Cert.Experts.sig) → Buf (Elt Bits) ℓ) : Prop :=
  ∀ c : Dev Cert.Experts.nD,
    (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.1 = (fun _ => 1#1)
    ∧ (Cert.Pre_expert_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2 = (fun _ => 1#1)

def Pre_ExpertsIdeal [hPre_expert_tables : Cert.Pre_expert_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_expert_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_expert_tables [hPre_expert_tables : Cert.Pre_expert_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_expert_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).1 = (fun _ => 1#1)
    ∧ (Cert.Pre_expert_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2.1 = (fun _ => 1#1)
    ∧ (Cert.Pre_expert_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))).2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_args_finite [hAttnIdeal : Cert.AttnIdeal.Facts] [hPre_attn_args_finite : Cert.Pre_attn_args_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_args_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_args_finite [hAttnRefIdeal : Cert.AttnRefIdeal.Facts] [hPre_attn_args_finite : Cert.Pre_attn_args_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_args_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Experts [hExperts : Cert.Experts.Facts] [hPre_expert_tables : Cert.Pre_expert_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_expert_tables [hExpertsRefIdeal : Cert.ExpertsRefIdeal.Facts] [hPre_expert_tables : Cert.Pre_expert_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_expert_tables m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v80) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Attn_AttnIdeal : Prop :=
  IdealRules.named_const.Statement Cert.AttnIdeal.κ "mask" .f32 0xF149F2CA#32 ⊥

def algebraic_AttnIdeal_AttnRefIdeal_pre_attn_args_finite [hAttnIdeal : Cert.AttnIdeal.Facts] [hAttnRefIdeal : Cert.AttnRefIdeal.Facts] [hPre_attn_args_finite : Cert.Pre_attn_args_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_args_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v10)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v10) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v84) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)) (v2 : (c : Dev Cert.InprojIdeal.nD) → Buf (Elt Ideal) ((c.tc : Thread Cert.InprojIdeal.nD Cert.InprojIdeal.τ).loc Cert.InprojIdeal.main_v1_2)) (v3 : (c : Dev Cert.InprojIdeal.nD) → Buf (Elt Ideal) ((c.tc : Thread Cert.InprojIdeal.nD Cert.InprojIdeal.τ).loc Cert.InprojIdeal.main_v1_3)) (v4 : (c : Dev Cert.InprojIdeal.nD) → Buf (Elt Ideal) ((c.tc : Thread Cert.InprojIdeal.nD Cert.InprojIdeal.τ).loc Cert.InprojIdeal.main_v1_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_v1_2) = v2 c
          ∧ r.2.mem ((c.tc : Thread Cert.InprojIdeal.nD Cert.InprojIdeal.τ).loc Cert.InprojIdeal.main_v1_3) = v3 c
          ∧ r.2.mem ((c.tc : Thread Cert.InprojIdeal.nD Cert.InprojIdeal.τ).loc Cert.InprojIdeal.main_v1_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v20) = v0 c
          ∧ r.2.mem ((c.tc : Thread Cert.InprojRefIdeal.nD Cert.InprojRefIdeal.τ).loc Cert.InprojRefIdeal.main_v24) = v1 c
          ∧ r.2.mem ((c.tc : Thread Cert.InprojRefIdeal.nD Cert.InprojRefIdeal.τ).loc Cert.InprojRefIdeal.main_v25) = v2 c
          ∧ r.2.mem ((c.tc : Thread Cert.InprojRefIdeal.nD Cert.InprojRefIdeal.τ).loc Cert.InprojRefIdeal.main_v29) = v3 c
          ∧ r.2.mem ((c.tc : Thread Cert.InprojRefIdeal.nD Cert.InprojRefIdeal.τ).loc Cert.InprojRefIdeal.main_v19) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] [hPre_expert_tables : Cert.Pre_expert_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v6)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v6) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v18) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def Claim : Prop :=
  ∃ (hMerge : Cert.Merge.Facts) (hMergeIdeal : Cert.MergeIdeal.Facts) (hMergeRefIdeal : Cert.MergeRefIdeal.Facts) (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hExperts : Cert.Experts.Facts) (hExpertsIdeal : Cert.ExpertsIdeal.Facts) (hExpertsRefIdeal : Cert.ExpertsRefIdeal.Facts) (hPre_attn_args_finite : Cert.Pre_attn_args_finite.Facts) (hPre_expert_tables : Cert.Pre_expert_tables.Facts),
    quiescent_Merge (hMerge := hMerge)
    ∧ quiescent_MergeIdeal (hMergeIdeal := hMergeIdeal)
    ∧ quiescent_MergeRefIdeal (hMergeRefIdeal := hMergeRefIdeal)
    ∧ quiescent_Attn (hAttn := hAttn)
    ∧ quiescent_AttnIdeal (hAttnIdeal := hAttnIdeal)
    ∧ quiescent_AttnIdeal_pre_attn_args_finite (hAttnIdeal := hAttnIdeal) (hPre_attn_args_finite := hPre_attn_args_finite)
    ∧ quiescent_AttnRefIdeal (hAttnRefIdeal := hAttnRefIdeal)
    ∧ quiescent_AttnRefIdeal_pre_attn_args_finite (hAttnRefIdeal := hAttnRefIdeal) (hPre_attn_args_finite := hPre_attn_args_finite)
    ∧ quiescent_Inproj (hInproj := hInproj)
    ∧ quiescent_InprojIdeal (hInprojIdeal := hInprojIdeal)
    ∧ quiescent_InprojRefIdeal (hInprojRefIdeal := hInprojRefIdeal)
    ∧ quiescent_Experts (hExperts := hExperts) (hPre_expert_tables := hPre_expert_tables)
    ∧ quiescent_ExpertsIdeal (hExpertsIdeal := hExpertsIdeal) (hPre_expert_tables := hPre_expert_tables)
    ∧ quiescent_ExpertsRefIdeal (hExpertsRefIdeal := hExpertsRefIdeal)
    ∧ quiescent_ExpertsRefIdeal_pre_expert_tables (hExpertsRefIdeal := hExpertsRefIdeal) (hPre_expert_tables := hPre_expert_tables)
    ∧ preserves_Merge_MergeIdeal
    ∧ algebraic_MergeIdeal_MergeRefIdeal (hMergeIdeal := hMergeIdeal) (hMergeRefIdeal := hMergeRefIdeal)
    ∧ preserves_Attn_AttnIdeal
    ∧ algebraic_AttnIdeal_AttnRefIdeal_pre_attn_args_finite (hAttnIdeal := hAttnIdeal) (hAttnRefIdeal := hAttnRefIdeal) (hPre_attn_args_finite := hPre_attn_args_finite)
    ∧ preserves_Inproj_InprojIdeal
    ∧ algebraic_InprojIdeal_InprojRefIdeal (hInprojIdeal := hInprojIdeal) (hInprojRefIdeal := hInprojRefIdeal)
    ∧ preserves_Experts_ExpertsIdeal
    ∧ algebraic_ExpertsIdeal_ExpertsRefIdeal (hExpertsIdeal := hExpertsIdeal) (hExpertsRefIdeal := hExpertsRefIdeal) (hPre_expert_tables := hPre_expert_tables)
-- ==== Pre_attn_args_finite.lean ====
abbrev S4x64 : Shape := ⟨2, ![4, 64]⟩
abbrev S1x128 : Shape := ⟨2, ![1, 128]⟩
abbrev S2x16384x1536 : Shape := ⟨3, ![2, 16384, 1536]⟩
abbrev S4x256x256 : Shape := ⟨3, ![4, 256, 256]⟩
abbrev S_ : Shape := ⟨0, ![]⟩

class Facts : Prop where
  bcast_S_S4x64 : S_.BroadcastsInDim S4x64 (![] : Fin 0 → Fin S4x64.rank)
  bcast_S_S2x16384x1536 : S_.BroadcastsInDim S2x16384x1536 (![] : Fin 0 → Fin S2x16384x1536.rank)
  bcast_S_S4x256x256 : S_.BroadcastsInDim S4x256x256 (![] : Fin 0 → Fin S4x256x256.rank)

variable [Facts]

def fn_part1 {F : FTy → Type} [FloatOps F] (main_arg4 : FVec F S4x256x256 .f32) (main_v4 : IVec S4x64 1) (main_v9 : IVec S2x16384x1536 1) (main_v14 : IVec S4x256x256 1) (main_v16 : IVec S4x256x256 1) : IVec S4x64 1 × IVec S2x16384x1536 1 × IVec S4x256x256 1 × IVec S4x256x256 1 :=
  let main_cst_6 : FVec F S_ .f32 := constant S_ .f32 0xFF800000#32
  let main_v17 : FVec F S4x256x256 .f32 := broadcastInDim S4x256x256 ![] bcast_S_S4x256x256 main_cst_6
  let main_v18 : IVec S4x256x256 1 := cmpf .ogt main_arg4 main_v17
  let main_v19 : IVec S4x256x256 1 := andi main_v16 main_v18
  (main_v4, main_v9, main_v14, main_v19)

def fn {F : FTy → Type} [FloatOps F] (main_arg0 : FVec F S4x64 .f32) (main_arg1 : FVec F S1x128 .f32) (main_arg2 : FVec F S2x16384x1536 .bf16) (main_arg3 : FVec F S4x256x256 .f32) (main_arg4 : FVec F S4x256x256 .f32) : IVec S4x64 1 × IVec S2x16384x1536 1 × IVec S4x256x256 1 × IVec S4x256x256 1 :=
  let main_cst : FVec F S_ .f32 := constant S_ .f32 0x7F800000#32
  let main_v0 : FVec F S4x64 .f32 := broadcastInDim S4x64 ![] bcast_S_S4x64 main_cst
  let main_v1 : IVec S4x64 1 := cmpf .olt main_arg0 main_v0
  let main_cst_0 : FVec F S_ .f32 := constant S_ .f32 0xFF800000#32
  let main_v2 : FVec F S4x64 .f32 := broadcastInDim S4x64 ![] bcast_S_S4x64 main_cst_0
  let main_v3 : IVec S4x64 1 := cmpf .ogt main_arg0 main_v2
  let main_v4 : IVec S4x64 1 := andi main_v1 main_v3
  let main_cst_1 : FVec F S_ .bf16 := constant S_ .bf16 0x7F80#16
  let main_v5 : FVec F S2x16384x1536 .bf16 := broadcastInDim S2x16384x1536 ![] bcast_S_S2x16384x1536 main_cst_1
  let main_v6 : IVec S2x16384x1536 1 := cmpf .olt main_arg2 main_v5
  let main_cst_2 : FVec F S_ .bf16 := constant S_ .bf16 0xFF80#16
  let main_v7 : FVec F S2x16384x1536 .bf16 := broadcastInDim S2x16384x1536 ![] bcast_S_S2x16384x1536 main_cst_2
  let main_v8 : IVec S2x16384x1536 1 := cmpf .ogt main_arg2 main_v7
  let main_v9 : IVec S2x16384x1536 1 := andi main_v6 main_v8
  let main_cst_3 : FVec F S_ .f32 := constant S_ .f32 0x7F800000#32
  let main_v10 : FVec F S4x256x256 .f32 := broadcastInDim S4x256x256 ![] bcast_S_S4x256x256 main_cst_3
  let main_v11 : IVec S4x256x256 1 := cmpf .olt main_arg3 main_v10
  let main_cst_4 : FVec F S_ .f32 := constant S_ .f32 0xFF800000#32
  let main_v12 : FVec F S4x256x256 .f32 := broadcastInDim S4x256x256 ![] bcast_S_S4x256x256 main_cst_4
  let main_v13 : IVec S4x256x256 1 := cmpf .ogt main_arg3 main_v12
  let main_v14 : IVec S4x256x256 1 := andi main_v11 main_v13
  let main_cst_5 : FVec F S_ .f32 := constant S_ .f32 0x7F800000#32
  let main_v15 : FVec F S4x256x256 .f32 := broadcastInDim S4x256x256 ![] bcast_S_S4x256x256 main_cst_5
  let main_v16 : IVec S4x256x256 1 := cmpf .olt main_arg4 main_v15
  fn_part1 (F := F) main_arg4 main_v4 main_v9 main_v14 main_v16
-- ==== Pre_expert_tables.lean ====
abbrev S144 : Shape := ⟨1, ![144]⟩
abbrev S1 : Shape := ⟨1, ![1]⟩
abbrev S73728x2048 : Shape := ⟨2, ![73728, 2048]⟩
abbrev S16x2048x1408 : Shape := ⟨3, ![16, 2048, 1408]⟩
abbrev S16x1408x2048 : Shape := ⟨3, ![16, 1408, 2048]⟩
abbrev S_ : Shape := ⟨0, ![]⟩

class Facts : Prop where
  shapeCasts_S1_S_ : S1.ShapeCasts S_
  bcast_S_S144 : S_.BroadcastsInDim S144 (![] : Fin 0 → Fin S144.rank)
  bcast_S_S1 : S_.BroadcastsInDim S1 (![] : Fin 0 → Fin S1.rank)

variable [Facts]

def fn {F : FTy → Type} [FloatOps F] (main_arg0 : IVec S144 32) (main_arg1 : IVec S1 32) (main_arg2 : FVec F S73728x2048 .f32) (main_arg3 : FVec F S16x2048x1408 .bf16) (main_arg4 : FVec F S16x2048x1408 .bf16) (main_arg5 : FVec F S16x1408x2048 .bf16) : IVec S144 1 × IVec S144 1 × IVec S1 1 :=
  let main_v0 : IVec S144 32 := iotaInDim S144 32 0
  let main_v1 : IVec S_ 32 := shapeCast S_ main_arg1 shapeCasts_S1_S_
  let main_v2 : IVec S144 32 := broadcastInDim S144 ![] bcast_S_S144 main_v1
  let main_v3 : IVec S144 1 := cmpi .sge main_v0 main_v2
  let main_c : IVec S_ 32 := constantI S_ 32 0#32
  let main_v4 : IVec S144 32 := broadcastInDim S144 ![] bcast_S_S144 main_c
  let main_v5 : IVec S144 1 := cmpi .sge main_arg0 main_v4
  let main_v6 : IVec S144 1 := ori main_v3 main_v5
  let main_c_0 : IVec S_ 32 := constantI S_ 32 16#32
  let main_v7 : IVec S144 32 := broadcastInDim S144 ![] bcast_S_S144 main_c_0
  let main_v8 : IVec S144 1 := cmpi .slt main_arg0 main_v7
  let main_v9 : IVec S144 1 := ori main_v3 main_v8
  let main_c_1 : IVec S_ 32 := constantI S_ 32 1#32
  let main_v10 : IVec S1 32 := broadcastInDim S1 ![] bcast_S_S1 main_c_1
  let main_v11 : IVec S1 1 := cmpi .sge main_arg1 main_v10
  (main_v6, main_v9, main_v11)
-- ==== Merge.lean ====
abbrev S32768x2048 : Shape := ⟨2, ![32768, 2048]⟩
abbrev S32768x512 : Shape := ⟨2, ![32768, 512]⟩
abbrev S4x2048x2048 : Shape := ⟨3, ![4, 2048, 2048]⟩
abbrev S4x2048 : Shape := ⟨2, ![4, 2048]⟩
abbrev S4x512x2048 : Shape := ⟨3, ![4, 512, 2048]⟩
abbrev S4x1x2048 : Shape := ⟨3, ![4, 1, 2048]⟩
abbrev S512x2048 : Shape := ⟨2, ![512, 2048]⟩
abbrev S512x512 : Shape := ⟨2, ![512, 512]⟩
abbrev S4x2048x512 : Shape := ⟨3, ![4, 2048, 512]⟩
abbrev S4x1x512 : Shape := ⟨3, ![4, 1, 512]⟩
abbrev S4x512x512 : Shape := ⟨3, ![4, 512, 512]⟩
abbrev S1x2048x512 : Shape := ⟨3, ![1, 2048, 512]⟩
abbrev S2048x512 : Shape := ⟨2, ![2048, 512]⟩
abbrev S1x1x512 : Shape := ⟨3, ![1, 1, 512]⟩
abbrev S1x512 : Shape := ⟨2, ![1, 512]⟩
abbrev S1x512x512 : Shape := ⟨3, ![1, 512, 512]⟩

abbrev nBuf : Space → Nat
  | .hbm => 12
  | .vmem => 18
  | .smem => 0
  | _ => 0

abbrev bufTy : (tb : Table) → Fin (tcTables nBuf tb) → BufTy
  | .hbm, ⟨0, _⟩ => ⟨S32768x2048, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S4x2048x2048, .f32⟩
  | .hbm, ⟨6, _⟩ => ⟨S4x2048, .f32⟩
  | .hbm, ⟨7, _⟩ => ⟨S4x512x2048, .f32⟩
  | .hbm, ⟨8, _⟩ => ⟨S4x2048x2048, .bf16⟩
  | .hbm, ⟨9, _⟩ => ⟨S4x1x2048, .f32⟩
  | .hbm, ⟨10, _⟩ => ⟨S4x512x2048, .bf16⟩
  | .hbm, ⟨11, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4x2048x512, .bf16⟩
  | .local _ .vmem, ⟨11, _⟩ => ⟨S4x2048x512, .bf16⟩
  | .local _ .vmem, ⟨12, _⟩ => ⟨S4x1x512, .f32⟩
  | .local _ .vmem, ⟨13, _⟩ => ⟨S4x1x512, .f32⟩
  | .local _ .vmem, ⟨14, _⟩ => ⟨S4x512x512, .bf16⟩
  | .local _ .vmem, ⟨15, _⟩ => ⟨S4x512x512, .bf16⟩
  | .local _ .vmem, ⟨16, _⟩ => ⟨S512x512, .bf16⟩
  | .local _ .vmem, ⟨17, _⟩ => ⟨S512x512, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S32768x2048 : Shape := ⟨2, ![32768, 2048]⟩
abbrev S32768x512 : Shape := ⟨2, ![32768, 512]⟩
abbrev S4x2048x2048 : Shape := ⟨3, ![4, 2048, 2048]⟩
abbrev S4x2048 : Shape := ⟨2, ![4, 2048]⟩
abbrev S4x512x2048 : Shape := ⟨3, ![4, 512, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 97
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S4x2048x2048, .f32⟩
  | .hbm, ⟨6, _⟩ => ⟨S4x2048, .f32⟩
  | .hbm, ⟨7, _⟩ => ⟨S4x512x2048, .f32⟩
  | .hbm, ⟨8, _⟩ => ⟨S32768x2048, .f32⟩
  | .hbm, ⟨9, _⟩ => ⟨S1x2048x2048, .f32⟩
  | .hbm, ⟨10, _⟩ => ⟨S2048x2048, .f32⟩
  | .hbm, ⟨11, _⟩ => ⟨S32768x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x512, .f32⟩
  | .hbm, ⟨26, _⟩ => ⟨S1x512x2048, .f32⟩
  | .hbm, ⟨27, _⟩ => ⟨S512x2048, .f32⟩
  | .hbm, ⟨28, _⟩ => ⟨S32768x2048, .f32⟩
  | .hbm, ⟨29, _⟩ => ⟨S32768x2048, .f32⟩
  | .hbm, ⟨30, _⟩ => ⟨S1x2048x2048, .f32⟩
  | .hbm, ⟨31, _⟩ => ⟨S2048x2048, .f32⟩
  | .hbm, ⟨32, _⟩ => ⟨S32768x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .f32⟩
  | .hbm, ⟨46, _⟩ => ⟨S32768x512, .f32⟩
  | .hbm, ⟨47, _⟩ => ⟨S1x512x2048, .f32⟩
  | .hbm, ⟨48, _⟩ => ⟨S512x2048, .f32⟩
  | .hbm, ⟨49, _⟩ => ⟨S32768x2048, .f32⟩
  | .hbm, ⟨50, _⟩ => ⟨S32768x2048, .f32⟩
  | .hbm, ⟨51, _⟩ => ⟨S32768x2048, .f32⟩
  | .hbm, ⟨52, _⟩ => ⟨S1x2048x2048, .f32⟩
  | .hbm, ⟨53, _⟩ => ⟨S2048x2048, .f32⟩
  | .hbm, ⟨54, _⟩ => ⟨S32768x2048, .f32⟩
  | .hbm, ⟨55, _⟩ => ⟨S1x2048, .f32⟩
  | .hbm, ⟨56, _⟩ => ⟨S2048, .f32⟩
  | .hbm, ⟨57, _⟩ => ⟨S1x2048, .f32⟩
  | .hbm, ⟨58, _⟩ => ⟨S32768x2048, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S_, .f32⟩
  | .hbm, ⟨63, _⟩ => ⟨S32768x2048, .f32⟩
  | .hbm, ⟨64, _⟩ => ⟨S32768x2048, .f32⟩
  | .hbm, ⟨65, _⟩ => ⟨S_, .f32⟩
  | .hbm, ⟨66, _⟩ => ⟨S32768x2048, .f32⟩
  | .hbm, ⟨67, _⟩ => ⟨S32768x2048, .f32⟩
  | .hbm, ⟨68, _⟩ => ⟨S32768x512, .f32⟩
  | .hbm, ⟨69, _⟩ => ⟨S1x512x2048, .f32⟩
  | .hbm, ⟨70, _⟩ => ⟨S512x2048, .f32⟩
  | .hbm, ⟨71, _⟩ => ⟨S32768x2048, .f32⟩
  | .hbm, ⟨72, _⟩ => ⟨S32768x2048, .f32⟩
  | .hbm, ⟨73, _⟩ => ⟨S32768x2048, .f32⟩
  | .hbm, ⟨74, _⟩ => ⟨S1x2048x2048, .f32⟩
  | .hbm, ⟨75, _⟩ => ⟨S2048x2048, .f32⟩
  | .hbm, ⟨76, _⟩ => ⟨S32768x2048, .f32⟩
  | .hbm, ⟨77, _⟩ => ⟨S1x2048, .f32⟩
  | .hbm, ⟨78, _⟩ => ⟨S2048, .f32⟩
  | .hbm, ⟨79, _⟩ => ⟨S1x2048, .f32⟩
  | .hbm, ⟨80, _⟩ => ⟨S32768x2048, .f32⟩
  | .hbm, ⟨81, _⟩ => ⟨S32768x2048, .f32⟩
  | .hbm, ⟨82, _⟩ => ⟨S32768x2048, .f32⟩
  | .hbm, ⟨83, _⟩ => ⟨S32768x2048, .f32⟩
  | .hbm, ⟨84, _⟩ => ⟨S_, .f32⟩
  | .hbm, ⟨85, _⟩ => ⟨S32768x2048, .f32⟩
  | .hbm, ⟨86, _⟩ => ⟨S32768x2048, .f32⟩
  | .hbm, ⟨87, _⟩ => ⟨S_, .f32⟩
  | .hbm, ⟨88, _⟩ => ⟨S32768x2048, .f32⟩
  | .hbm, ⟨89, _⟩ => ⟨S32768x2048, .f32⟩
  | .hbm, ⟨90, _⟩ => ⟨S32768x512, .f32⟩
  | .hbm, ⟨91, _⟩ => ⟨S1x512x2048, .f32⟩
  | .hbm, ⟨92, _⟩ => ⟨S512x2048, .f32⟩
  | .hbm, ⟨93, _⟩ => ⟨S32768x2048, .f32⟩
  | .hbm, ⟨94, _⟩ => ⟨S32768x2048, .f32⟩
  | .hbm, ⟨95, _⟩ => ⟨S32768x2048, .f32⟩
  | .hbm, ⟨96, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_5 : Ref sig .tc := ⟨.hbm, 84, rfl⟩
abbrev main_v70 : Ref sig .tc := ⟨.hbm, 85, rfl⟩
abbrev main_v71 : Ref sig .tc := ⟨.hbm, 86, rfl⟩
abbrev main_cst_6 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩

abbrev nD : Nat := 1
abbrev τ : Topo := Topo.v7x

variable {F : FTy → Type} [FloatOps F]
-- ==== Attn.lean ====
abbrev S4x64 : Shape := ⟨2, ![4, 64]⟩
abbrev S1x128 : Shape := ⟨2, ![1, 128]⟩
abbrev S2x16384x1536 : Shape := ⟨3, ![2, 16384, 1536]⟩
abbrev S4x256x256 : Shape := ⟨3, ![4, 256, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x16384x512 : Shape := ⟨3, ![2, 16384, 512]⟩
abbrev S1x1024x128 : Shape := ⟨3, ![1, 1024, 128]⟩
abbrev S1x16384x128 : Shape := ⟨3, ![1, 16384, 128]⟩
abbrev S1x256x256 : Shape := ⟨3, ![1, 256, 256]⟩
abbrev S2x2048x1024 : Shape := ⟨3, ![2, 2048, 1024]⟩
abbrev S2048x1 : Shape := ⟨2, ![2048, 1]⟩
abbrev S2048x256 : Shape := ⟨2, ![2048, 256]⟩
abbrev S1024x128 : Shape := ⟨2, ![1024, 128]⟩
abbrev S2048x128 : Shape := ⟨2, ![2048, 128]⟩
abbrev S256x128 : Shape := ⟨2, ![256, 128]⟩
abbrev S1x2048x1024 : Shape := ⟨3, ![1, 2048, 1024]⟩
abbrev S2048x1024 : Shape := ⟨2, ![2048, 1024]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S256x1024 : Shape := ⟨2, ![256, 1024]⟩
abbrev S1024x256 : Shape := ⟨2, ![1024, 256]⟩
abbrev S512x256 : Shape := ⟨2, ![512, 256]⟩
abbrev S768x256 : Shape := ⟨2, ![768, 256]⟩
abbrev S512x1024 : Shape := ⟨2, ![512, 1024]⟩
abbrev S512x1 : Shape := ⟨2, ![512, 1]⟩
abbrev S512 : Shape := ⟨1, ![512]⟩
abbrev S1x64 : Shape := ⟨2, ![1, 64]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 21
  | .vmem => 17
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S2x16384x1536, .bf16⟩
  | .hbm, ⟨3, _⟩ => ⟨S4x256x256, .f32⟩
  | .hbm, ⟨4, _⟩ => ⟨S4x256x256, .f32⟩
  | .hbm, ⟨5, _⟩ => ⟨S256, .i32⟩
  | .hbm, ⟨6, _⟩ => ⟨S256x1, .i32⟩
  | .hbm, ⟨7, _⟩ => ⟨S256, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i1⟩
  | .hbm, ⟨15, _⟩ => ⟨S_, .f32⟩
  | .hbm, ⟨16, _⟩ => ⟨S_, .f32⟩
  | .hbm, ⟨17, _⟩ => ⟨S4x256x256, .i1⟩
  | .hbm, ⟨18, _⟩ => ⟨S4x256x256, .f32⟩
  | .hbm, ⟨19, _⟩ => ⟨S4x256x256, .f32⟩
  | .hbm, ⟨20, _⟩ => ⟨S2x16384x512, .bf16⟩
  | .local _ .vmem, ⟨0, _⟩ => ⟨S4x64, .f32⟩
  | .local _ .vmem, ⟨1, _⟩ => ⟨S1x128, .f32⟩
  | .local _ .vmem, ⟨2, _⟩ => ⟨S1x1024x128, .bf16⟩
  | .local _ .vmem, ⟨3, _⟩ => ⟨S1x1024x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S1x16384x128, .bf16⟩
  | .local _ .vmem, ⟨7, _⟩ => ⟨S1x16384x128, .bf16⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x1024x128, .bf16⟩
  | .local _ .vmem, ⟨13, _⟩ => ⟨S1x1024x128, .bf16⟩
  | .local _ .vmem, ⟨14, _⟩ => ⟨S2x2048x1024, .f32⟩
  | .local _ .vmem, ⟨15, _⟩ => ⟨S2048x1, .f32⟩
  | .local _ .vmem, ⟨16, _⟩ => ⟨S2048x256, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let c1_i32 : BitVec 32 := 1#32
  let arg2 : BitVec 32 := BitVec.ofNat 32 (i 2).val
  let v23 : BitVec 32 := Scalar.muli c1_i32 arg2
  let c0_i32_10 : BitVec 32 := 0#32
  let v26 : BitVec 32 := Scalar.addi v23 c0_i32_10
  let c1024_i32 : BitVec 32 := 1024#32
  let v27 : BitVec 32 := Scalar.muli v26 c1024_i32
  v27
def k0_off1 (i : grid0.Coords) : Fin 3 → Nat :=
  let c0_11 : Index := 0#32
  let c1_i32 : BitVec 32 := 1#32
  let arg2 : BitVec 32 := BitVec.ofNat 32 (i 2).val
  let v23 : BitVec 32 := Scalar.muli c1_i32 arg2
  let c0_i32_10 : BitVec 32 := 0#32
  let v26 : BitVec 32 := Scalar.addi v23 c0_i32_10
  let c1024_i32 : BitVec 32 := 1024#32
  let v27 : BitVec 32 := Scalar.muli v26 c1024_i32
  let v28 : BitVec 32 := v27
  let v29 : Index := Scalar.indexCast v28
  let c0_12 : Index := 0#32
  ![0, v29.toNat, 0]
def k0_mult2 (i : grid0.Coords) : BitVec 32 :=
  let c1_i32 : BitVec 32 := 1#32
  let arg2 : BitVec 32 := BitVec.ofNat 32 (i 2).val
  let v23 : BitVec 32 := Scalar.muli c1_i32 arg2
  let c_m1_i32 : BitVec 32 := 4294967295#32
  let v94 : BitVec 32 := Scalar.addi v23 c_m1_i32
  let c0_i32_54 : BitVec 32 := 0#32
  let v95 : BitVec 32 := Scalar.maxsi v94 c0_i32_54
  let c1024_i32_55 : BitVec 32 := 1024#32
  let v96 : BitVec 32 := Scalar.muli v95 c1024_i32_55
  v96
def k0_off2 (i : grid0.Coords) : Fin 3 → Nat :=
  let c0_56 : Index := 0#32
  let c1_i32 : BitVec 32 := 1#32
  let arg2 : BitVec 32 := BitVec.ofNat 32 (i 2).val
  let v23 : BitVec 32 := Scalar.muli c1_i32 arg2
  let c_m1_i32 : BitVec 32 := 4294967295#32
  let v94 : BitVec 32 := Scalar.addi v23 c_m1_i32
  let c0_i32_54 : BitVec 32 := 0#32
  let v95 : BitVec 32 := Scalar.maxsi v94 c0_i32_54
  let c1024_i32_55 : BitVec 32 := 1024#32
  let v96 : BitVec 32 := Scalar.muli v95 c1024_i32_55
  let v97 : BitVec 32 := v96
  let v98 : Index := Scalar.indexCast v97
  let c0_57 : Index := 0#32
  ![0, v98.toNat, 0]
def k0_mult3 (i : grid0.Coords) : BitVec 32 :=
  let c1_i32 : BitVec 32 := 1#32
  let arg2 : BitVec 32 := BitVec.ofNat 32 (i 2).val
  let v23 : BitVec 32 := Scalar.muli c1_i32 arg2
  let c0_i32_58 : BitVec 32 := 0#32
  let v101 : BitVec 32 := Scalar.addi v23 c0_i32_58
  let c1024_i32_59 : BitVec 32 := 1024#32
  let v102 : BitVec 32 := Scalar.muli v101 c1024_i32_59
  v102
def k0_cond1 (i : grid0.Coords) : BitVec 1 :=
  let arg2 : BitVec 32 := BitVec.ofNat 32 (i 2).val
  let c1_i32_415 : BitVec 32 := 1#32
  let v523 : BitVec 1 := Scalar.cmpi .sge arg2 c1_i32_415
  let v524 : BitVec 32 := Scalar.extui v523
  let c0_i32_418 : BitVec 32 := 0#32
  let v525 : BitVec 1 := Scalar.cmpi .ne v524 c0_i32_418
  v525

def k0_mult4 : BitVec 32 :=
  let c0_i32_461 : BitVec 32 := 0#32
  c0_i32_461
def k0_mult5 (i : grid0.Coords) : BitVec 32 :=
  let c1_i32 : BitVec 32 := 1#32
  let arg2 : BitVec 32 := BitVec.ofNat 32 (i 2).val
  let v23 : BitVec 32 := Scalar.muli c1_i32 arg2
  let c_m1_i32_464 : BitVec 32 := 4294967295#32
  let v607 : BitVec 32 := Scalar.addi v23 c_m1_i32_464
  let c1024_i32_465 : BitVec 32 := 1024#32
  let v608 : BitVec 32 := Scalar.muli v607 c1024_i32_465
  v608
def k0_off3 (i : grid0.Coords) : Fin 3 → Nat :=
  let c0_466 : Index := 0#32
  let c1_i32 : BitVec 32 := 1#32
  let arg2 : BitVec 32 := BitVec.ofNat 32 (i 2).val
  let v23 : BitVec 32 := Scalar.muli c1_i32 arg2
  let c_m1_i32_464 : BitVec 32 := 4294967295#32
  let v607 : BitVec 32 := Scalar.addi v23 c_m1_i32_464
  let c1024_i32_465 : BitVec 32 := 1024#32
  let v608 : BitVec 32 := Scalar.muli v607 c1024_i32_465
  let v609 : BitVec 32 := v608
  let v610 : Index := Scalar.indexCast v609
  let c0_467 : Index := 0#32
  ![0, v610.toNat, 0]
@[reducible] def k0_t1_loop (i : grid0.Coords) : Scf.Loop 32 :=
  let c0_i32_430 : BitVec 32 := 0#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v545 : BitVec 32 := Scalar.subi v544 c0_i32_430
  let c1_i32_431 : BitVec 32 := 1#32
  let v547 : BitVec 32 := Scalar.divsi v545 c1_i32_431
  let v548 : BitVec 32 := Scalar.muli v547 c1_i32_431
  let v549 : BitVec 32 := Scalar.addi c0_i32_430 v548
  let c1_i32_432 : BitVec 32 := 1#32
  ⟨c0_i32_430, v549, c1_i32_432⟩
def k0_mult6 (i : grid0.Coords) (k0_t1 : Fin (k0_t1_loop i).trips) : BitVec 32 :=
  let c2_i32_461 : BitVec 32 := 2#32
  let c0_i32_430 : BitVec 32 := 0#32
  let c1_i32_432 : BitVec 32 := 1#32
  let arg14 : BitVec 32 := Scf.iv c0_i32_430 c1_i32_432 k0_t1
  let v603 : BitVec 32 := Scalar.muli c2_i32_461 arg14
  let c1_i32_462 : BitVec 32 := 1#32
  let v604 : BitVec 32 := Scalar.addi v603 c1_i32_462
  let c1024_i32_463 : BitVec 32 := 1024#32
  let v605 : BitVec 32 := Scalar.muli v604 c1024_i32_463
  v605
def k0_off4 (i : grid0.Coords) (k0_t1 : Fin (k0_t1_loop i).trips) (c1_i32_462 : BitVec 32) : Fin 3 → Nat :=
  let c0_464 : Index := 0#32
  let c2_i32_461 : BitVec 32 := 2#32
  let c0_i32_430 : BitVec 32 := 0#32
  let c1_i32_432 : BitVec 32 := 1#32
  let arg14 : BitVec 32 := Scf.iv c0_i32_430 c1_i32_432 k0_t1
  let v603 : BitVec 32 := Scalar.muli c2_i32_461 arg14
  let v604 : BitVec 32 := Scalar.addi v603 c1_i32_462
  let c1024_i32_463 : BitVec 32 := 1024#32
  let v605 : BitVec 32 := Scalar.muli v604 c1024_i32_463
  let v606 : BitVec 32 := v605
  let v607 : Index := Scalar.indexCast v606
  let c0_465 : Index := 0#32
  ![0, v607.toNat, 0]
def k0_mult7 (i : grid0.Coords) (k0_t1 : Fin (k0_t1_loop i).trips) : BitVec 32 :=
  let c2_i32_466 : BitVec 32 := 2#32
  let c0_i32_430 : BitVec 32 := 0#32
  let c1_i32_432 : BitVec 32 := 1#32
  let arg14 : BitVec 32 := Scf.iv c0_i32_430 c1_i32_432 k0_t1
  let v610 : BitVec 32 := Scalar.muli c2_i32_466 arg14
  let c1024_i32_467 : BitVec 32 := 1024#32
  let v611 : BitVec 32 := Scalar.muli v610 c1024_i32_467
  v611
def k0_off5 (i : grid0.Coords) (k0_t1 : Fin (k0_t1_loop i).trips) : Fin 3 → Nat :=
  let c0_468 : Index := 0#32
  let c2_i32_466 : BitVec 32 := 2#32
  let c0_i32_430 : BitVec 32 := 0#32
  let c1_i32_432 : BitVec 32 := 1#32
  let arg14 : BitVec 32 := Scf.iv c0_i32_430 c1_i32_432 k0_t1
  let v610 : BitVec 32 := Scalar.muli c2_i32_466 arg14
  let c1024_i32_467 : BitVec 32 := 1024#32
  let v611 : BitVec 32 := Scalar.muli v610 c1024_i32_467
  let v612 : BitVec 32 := v611
  let v613 : Index := Scalar.indexCast v612
  let c0_469 : Index := 0#32
  ![0, v613.toNat, 0]
def k0_mult8 (i : grid0.Coords) (k0_t1 : Fin (k0_t1_loop i).trips) : BitVec 32 :=
  let c2_i32_549 : BitVec 32 := 2#32
  let c0_i32_430 : BitVec 32 := 0#32
  let c1_i32_432 : BitVec 32 := 1#32
  let arg14 : BitVec 32 := Scf.iv c0_i32_430 c1_i32_432 k0_t1
  let v748 : BitVec 32 := Scalar.muli c2_i32_549 arg14
  let c2_i32_550 : BitVec 32 := 2#32
  let v749 : BitVec 32 := Scalar.addi v748 c2_i32_550
  let c1024_i32_551 : BitVec 32 := 1024#32
  let v750 : BitVec 32 := Scalar.muli v749 c1024_i32_551
  v750
def k0_mult9 (i : grid0.Coords) (k0_t1 : Fin (k0_t1_loop i).trips) : BitVec 32 :=
  let c2_i32_554 : BitVec 32 := 2#32
  let c0_i32_430 : BitVec 32 := 0#32
  let c1_i32_432 : BitVec 32 := 1#32
  let arg14 : BitVec 32 := Scf.iv c0_i32_430 c1_i32_432 k0_t1
  let v755 : BitVec 32 := Scalar.muli c2_i32_554 arg14
  let c1_i32_555 : BitVec 32 := 1#32
  let v756 : BitVec 32 := Scalar.addi v755 c1_i32_555
  let c1024_i32_556 : BitVec 32 := 1024#32
  let v757 : BitVec 32 := Scalar.muli v756 c1024_i32_556
  v757
@[reducible] def k0_t2_loop (i : grid0.Coords) : Scf.Loop 32 :=
  let c0_i32_430 : BitVec 32 := 0#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v545 : BitVec 32 := Scalar.subi v544 c0_i32_430
  let c1_i32_431 : BitVec 32 := 1#32
  let v547 : BitVec 32 := Scalar.divsi v545 c1_i32_431
  let v548 : BitVec 32 := Scalar.muli v547 c1_i32_431
  let v549 : BitVec 32 := Scalar.addi c0_i32_430 v548
  let v546 : BitVec 32 := Scalar.addi c0_i32_430 v545
  let c1_i32_433 : BitVec 32 := 1#32
  ⟨v549, v546, c1_i32_433⟩
def k0_mult10 (i : grid0.Coords) (k0_t2 : Fin (k0_t2_loop i).trips) : BitVec 32 :=
  let c2_i32_461 : BitVec 32 := 2#32
  let c0_i32_430 : BitVec 32 := 0#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v545 : BitVec 32 := Scalar.subi v544 c0_i32_430
  let c1_i32_431 : BitVec 32 := 1#32
  let v547 : BitVec 32 := Scalar.divsi v545 c1_i32_431
  let v548 : BitVec 32 := Scalar.muli v547 c1_i32_431
  let v549 : BitVec 32 := Scalar.addi c0_i32_430 v548
  let c1_i32_433 : BitVec 32 := 1#32
  let arg14 : BitVec 32 := Scf.iv v549 c1_i32_433 k0_t2
  let v603 : BitVec 32 := Scalar.muli c2_i32_461 arg14
  let c1_i32_462 : BitVec 32 := 1#32
  let v604 : BitVec 32 := Scalar.addi v603 c1_i32_462
  let c1024_i32_463 : BitVec 32 := 1024#32
  let v605 : BitVec 32 := Scalar.muli v604 c1024_i32_463
  v605
def k0_off6 (i : grid0.Coords) (k0_t2 : Fin (k0_t2_loop i).trips) (c1_i32_462 : BitVec 32) : Fin 3 → Nat :=
  let c0_464 : Index := 0#32
  let c2_i32_461 : BitVec 32 := 2#32
  let c0_i32_430 : BitVec 32 := 0#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v545 : BitVec 32 := Scalar.subi v544 c0_i32_430
  let c1_i32_431 : BitVec 32 := 1#32
  let v547 : BitVec 32 := Scalar.divsi v545 c1_i32_431
  let v548 : BitVec 32 := Scalar.muli v547 c1_i32_431
  let v549 : BitVec 32 := Scalar.addi c0_i32_430 v548
  let c1_i32_433 : BitVec 32 := 1#32
  let arg14 : BitVec 32 := Scf.iv v549 c1_i32_433 k0_t2
  let v603 : BitVec 32 := Scalar.muli c2_i32_461 arg14
  let v604 : BitVec 32 := Scalar.addi v603 c1_i32_462
  let c1024_i32_463 : BitVec 32 := 1024#32
  let v605 : BitVec 32 := Scalar.muli v604 c1024_i32_463
  let v606 : BitVec 32 := v605
  let v607 : Index := Scalar.indexCast v606
  let c0_465 : Index := 0#32
  ![0, v607.toNat, 0]
def k0_mult11 (i : grid0.Coords) (k0_t2 : Fin (k0_t2_loop i).trips) : BitVec 32 :=
  let c2_i32_466 : BitVec 32 := 2#32
  let c0_i32_430 : BitVec 32 := 0#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v545 : BitVec 32 := Scalar.subi v544 c0_i32_430
  let c1_i32_431 : BitVec 32 := 1#32
  let v547 : BitVec 32 := Scalar.divsi v545 c1_i32_431
  let v548 : BitVec 32 := Scalar.muli v547 c1_i32_431
  let v549 : BitVec 32 := Scalar.addi c0_i32_430 v548
  let c1_i32_433 : BitVec 32 := 1#32
  let arg14 : BitVec 32 := Scf.iv v549 c1_i32_433 k0_t2
  let v610 : BitVec 32 := Scalar.muli c2_i32_466 arg14
  let c1024_i32_467 : BitVec 32 := 1024#32
  let v611 : BitVec 32 := Scalar.muli v610 c1024_i32_467
  v611
def k0_off7 (i : grid0.Coords) (k0_t2 : Fin (k0_t2_loop i).trips) : Fin 3 → Nat :=
  let c0_468 : Index := 0#32
  let c2_i32_466 : BitVec 32 := 2#32
  let c0_i32_430 : BitVec 32 := 0#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v545 : BitVec 32 := Scalar.subi v544 c0_i32_430
  let c1_i32_431 : BitVec 32 := 1#32
  let v547 : BitVec 32 := Scalar.divsi v545 c1_i32_431
  let v548 : BitVec 32 := Scalar.muli v547 c1_i32_431
  let v549 : BitVec 32 := Scalar.addi c0_i32_430 v548
  let c1_i32_433 : BitVec 32 := 1#32
  let arg14 : BitVec 32 := Scf.iv v549 c1_i32_433 k0_t2
  let v610 : BitVec 32 := Scalar.muli c2_i32_466 arg14
  let c1024_i32_467 : BitVec 32 := 1024#32
  let v611 : BitVec 32 := Scalar.muli v610 c1024_i32_467
  let v612 : BitVec 32 := v611
  let v613 : Index := Scalar.indexCast v612
  let c0_469 : Index := 0#32
  ![0, v613.toNat, 0]
def k0_mult12 (i : grid0.Coords) (k0_t2 : Fin (k0_t2_loop i).trips) : BitVec 32 :=
  let c2_i32_549 : BitVec 32 := 2#32
  let c0_i32_430 : BitVec 32 := 0#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v545 : BitVec 32 := Scalar.subi v544 c0_i32_430
  let c1_i32_431 : BitVec 32 := 1#32
  let v547 : BitVec 32 := Scalar.divsi v545 c1_i32_431
  let v548 : BitVec 32 := Scalar.muli v547 c1_i32_431
  let v549 : BitVec 32 := Scalar.addi c0_i32_430 v548
  let c1_i32_433 : BitVec 32 := 1#32
  let arg14 : BitVec 32 := Scf.iv v549 c1_i32_433 k0_t2
  let v748 : BitVec 32 := Scalar.muli c2_i32_549 arg14
  let c2_i32_550 : BitVec 32 := 2#32
  let v749 : BitVec 32 := Scalar.addi v748 c2_i32_550
  let c1024_i32_551 : BitVec 32 := 1024#32
  let v750 : BitVec 32 := Scalar.muli v749 c1024_i32_551
  v750
def k0_mult13 (i : grid0.Coords) (k0_t2 : Fin (k0_t2_loop i).trips) : BitVec 32 :=
  let c2_i32_554 : BitVec 32 := 2#32
  let c0_i32_430 : BitVec 32 := 0#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v545 : BitVec 32 := Scalar.subi v544 c0_i32_430
  let c1_i32_431 : BitVec 32 := 1#32
  let v547 : BitVec 32 := Scalar.divsi v545 c1_i32_431
  let v548 : BitVec 32 := Scalar.muli v547 c1_i32_431
  let v549 : BitVec 32 := Scalar.addi c0_i32_430 v548
  let c1_i32_433 : BitVec 32 := 1#32
  let arg14 : BitVec 32 := Scf.iv v549 c1_i32_433 k0_t2
  let v755 : BitVec 32 := Scalar.muli c2_i32_554 arg14
  let c1_i32_555 : BitVec 32 := 1#32
  let v756 : BitVec 32 := Scalar.addi v755 c1_i32_555
  let c1024_i32_556 : BitVec 32 := 1024#32
  let v757 : BitVec 32 := Scalar.muli v756 c1024_i32_556
  v757
def k0_cond2 (i : grid0.Coords) : BitVec 1 :=
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c2_i32_434 : BitVec 32 := 2#32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let v551 : BitVec 32 := Scalar.subi v25 v550
  let c2_i32_435 : BitVec 32 := 2#32
  let v552 : BitVec 1 := Scalar.cmpi .eq v551 c2_i32_435
  let v553 : BitVec 32 := Scalar.extui v552
  let c0_i32_438 : BitVec 32 := 0#32
  let v554 : BitVec 1 := Scalar.cmpi .ne v553 c0_i32_438
  v554

def k0_mult14 (i : grid0.Coords) : BitVec 32 :=
  let c2_i32_434 : BitVec 32 := 2#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let c1_i32_461 : BitVec 32 := 1#32
  let v603 : BitVec 32 := Scalar.addi v550 c1_i32_461
  let c1024_i32_462 : BitVec 32 := 1024#32
  let v604 : BitVec 32 := Scalar.muli v603 c1024_i32_462
  v604
def k0_off8 (i : grid0.Coords) : Fin 3 → Nat :=
  let c0_463 : Index := 0#32
  let c2_i32_434 : BitVec 32 := 2#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let c1_i32_461 : BitVec 32 := 1#32
  let v603 : BitVec 32 := Scalar.addi v550 c1_i32_461
  let c1024_i32_462 : BitVec 32 := 1024#32
  let v604 : BitVec 32 := Scalar.muli v603 c1024_i32_462
  let v605 : BitVec 32 := v604
  let v606 : Index := Scalar.indexCast v605
  let c0_464 : Index := 0#32
  ![0, v606.toNat, 0]
def k0_mult15 (i : grid0.Coords) : BitVec 32 :=
  let c2_i32_434 : BitVec 32 := 2#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let c1024_i32_465 : BitVec 32 := 1024#32
  let v609 : BitVec 32 := Scalar.muli v550 c1024_i32_465
  v609
def k0_off9 (i : grid0.Coords) : Fin 3 → Nat :=
  let c0_466 : Index := 0#32
  let c2_i32_434 : BitVec 32 := 2#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let c1024_i32_465 : BitVec 32 := 1024#32
  let v609 : BitVec 32 := Scalar.muli v550 c1024_i32_465
  let v610 : BitVec 32 := v609
  let v611 : Index := Scalar.indexCast v610
  let c0_467 : Index := 0#32
  ![0, v611.toNat, 0]
def k0_mult16 (i : grid0.Coords) : BitVec 32 :=
  let c2_i32_434 : BitVec 32 := 2#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let c1_i32_547 : BitVec 32 := 1#32
  let v746 : BitVec 32 := Scalar.addi v550 c1_i32_547
  let c1024_i32_548 : BitVec 32 := 1024#32
  let v747 : BitVec 32 := Scalar.muli v746 c1024_i32_548
  v747
def k0_cond3 (i : grid0.Coords) : BitVec 1 :=
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c2_i32_434 : BitVec 32 := 2#32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let v555 : BitVec 32 := Scalar.subi v25 v550
  let c1_i32_439 : BitVec 32 := 1#32
  let v556 : BitVec 1 := Scalar.cmpi .eq v555 c1_i32_439
  let v557 : BitVec 32 := Scalar.extui v556
  let c0_i32_441 : BitVec 32 := 0#32
  let v558 : BitVec 1 := Scalar.cmpi .ne v557 c0_i32_441
  v558

def k0_mult17 (i : grid0.Coords) : BitVec 32 :=
  let c2_i32_434 : BitVec 32 := 2#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let c1024_i32_461 : BitVec 32 := 1024#32
  let v603 : BitVec 32 := Scalar.muli v550 c1024_i32_461
  v603
def k0_off10 (i : grid0.Coords) : Fin 3 → Nat :=
  let c0_462 : Index := 0#32
  let c2_i32_434 : BitVec 32 := 2#32
  let c1_i32 : BitVec 32 := 1#32
  let arg2 : BitVec 32 := BitVec.ofNat 32 (i 2).val
  let v23 : BitVec 32 := Scalar.muli c1_i32 arg2
  let c1_i32_9 : BitVec 32 := 1#32
  let v24 : BitVec 32 := Scalar.subi v23 c1_i32_9
  let c0_i32 : BitVec 32 := 0#32
  let v25 : BitVec 32 := Scalar.maxsi v24 c0_i32
  let c1_i32_419 : BitVec 32 := 1#32
  let v526 : BitVec 32 := Scalar.subi v25 c1_i32_419
  let c0_i32_420 : BitVec 32 := 0#32
  let v527 : BitVec 32 := Scalar.maxsi v526 c0_i32_420
  let c0_i32_421 : BitVec 32 := 0#32
  let v529 : BitVec 1 := Scalar.cmpi .sgt v527 c0_i32_421
  let v530 : BitVec 32 := Scalar.extui v529
  let c0_i32_422 : BitVec 32 := 0#32
  let v531 : BitVec 1 := Scalar.cmpi .slt v527 c0_i32_422
  let v532 : BitVec 32 := Scalar.extui v531
  let v533 : BitVec 32 := Scalar.subi v530 v532
  let c2_i32 : BitVec 32 := 2#32
  let c0_i32_423 : BitVec 32 := 0#32
  let v534 : BitVec 1 := Scalar.cmpi .sgt c2_i32 c0_i32_423
  let v535 : BitVec 32 := Scalar.extui v534
  let c0_i32_424 : BitVec 32 := 0#32
  let v536 : BitVec 1 := Scalar.cmpi .slt c2_i32 c0_i32_424
  let v537 : BitVec 32 := Scalar.extui v536
  let v538 : BitVec 32 := Scalar.subi v535 v537
  let v539 : BitVec 1 := Scalar.cmpi .ne v533 v538
  let v540 : BitVec 32 := Scalar.remsi v527 c2_i32
  let c0_i32_425 : BitVec 32 := 0#32
  let v541 : BitVec 1 := Scalar.cmpi .ne v540 c0_i32_425
  let v542 : BitVec 1 := Scalar.andi v539 v541
  let v528 : BitVec 32 := Scalar.divsi v527 c2_i32
  let c1_i32_426 : BitVec 32 := 1#32
  let v543 : BitVec 32 := Scalar.subi v528 c1_i32_426
  let v544 : BitVec 32 := Scalar.select v542 v543 v528
  let v550 : BitVec 32 := Scalar.muli c2_i32_434 v544
  let c1024_i32_461 : BitVec 32 := 1024#32
  let v603 : BitVec 32 := Scalar.muli v550 c1024_i32_461
  let v604 : BitVec 32 := v603
  let v605 : Index := Scalar.indexCast v604
  let c0_463 : Index := 0#32
  ![0, v605.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S4x64 : Shape := ⟨2, ![4, 64]⟩
abbrev S1x128 : Shape := ⟨2, ![1, 128]⟩
abbrev S2x16384x1536 : Shape := ⟨3, ![2, 16384, 1536]⟩
abbrev S4x256x256 : Shape := ⟨3, ![4, 256, 256]⟩
abbrev S2x16384x512 : Shape := ⟨3, ![2, 16384, 512]⟩
abbrev S1x64 : Shape := ⟨2, ![1, 64]⟩
abbrev S64 : Shape := ⟨1, ![64]⟩
abbrev S_ : Shape := ⟨0, ![]⟩
abbrev S2x16384x4x2x64 : Shape := ⟨5, ![2, 16384, 4, 2, 64]⟩
abbrev S2x2x4x16384x64 : Shape := ⟨5, ![2, 2, 4, 16384, 64]⟩
abbrev S2x16384x4x128 : Shape := ⟨4, ![2, 16384, 4, 128]⟩
abbrev S2x4x16384x128 : Shape := ⟨4, ![2, 4, 16384, 128]⟩
abbrev S64x256x64x256 : Shape := ⟨4, ![64, 256, 64, 256]⟩
abbrev S4x1x256x1x256 : Shape := ⟨5, ![4, 1, 256, 1, 256]⟩
abbrev S4x64x256x64x256 : Shape := ⟨5, ![4, 64, 256, 64, 256]⟩
abbrev S4x16384x16384 : Shape := ⟨3, ![4, 16384, 16384]⟩
abbrev S16384x16384 : Shape := ⟨2, ![16384, 16384]⟩
abbrev S2x2x4x16384x16384 : Shape := ⟨5, ![2, 2, 4, 16384, 16384]⟩
abbrev S1x1x4x16384x16384 : Shape := ⟨5, ![1, 1, 4, 16384, 16384]⟩
abbrev S2x2x4x16384 : Shape := ⟨4, ![2, 2, 4, 16384]⟩
abbrev S2x2x4x16384x1 : Shape := ⟨5, ![2, 2, 4, 16384, 1]⟩
abbrev S1x2x4x16384x16384 : Shape := ⟨5, ![1, 2, 4, 16384, 16384]⟩
abbrev S2x4x16384x16384 : Shape := ⟨4, ![2, 4, 16384, 16384]⟩
abbrev S2x4x16384 : Shape := ⟨3, ![2, 4, 16384]⟩
abbrev S2x4x16384x1 : Shape := ⟨4, ![2, 4, 16384, 1]⟩
abbrev S128 : Shape := ⟨1, ![128]⟩
abbrev S1x1x1x128 : Shape := ⟨4, ![1, 1, 1, 128]⟩

abbrev nBuf : Space → Nat
  | .hbm => 113
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S1x128, .f32⟩
  | .hbm, ⟨2, _⟩ => ⟨S2x16384x1536, .bf16⟩
  | .hbm, ⟨3, _⟩ => ⟨S4x256x256, .f32⟩
  | .hbm, ⟨4, _⟩ => ⟨S4x256x256, .f32⟩
  | .hbm, ⟨5, _⟩ => ⟨S2x16384x1536, .f32⟩
  | .hbm, ⟨6, _⟩ => ⟨S2x16384x512, .f32⟩
  | .hbm, ⟨7, _⟩ => ⟨S2x16384x512, .f32⟩
  | .hbm, ⟨8, _⟩ => ⟨S2x16384x512, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x16384x4x2x64, .f32⟩
  | .hbm, ⟨29, _⟩ => ⟨S2x2x4x16384x64, .f32⟩
  | .hbm, ⟨30, _⟩ => ⟨S2x16384x4x2x64, .f32⟩
  | .hbm, ⟨31, _⟩ => ⟨S2x2x4x16384x64, .f32⟩
  | .hbm, ⟨32, _⟩ => ⟨S2x16384x4x128, .f32⟩
  | .hbm, ⟨33, _⟩ => ⟨S2x4x16384x128, .f32⟩
  | .hbm, ⟨34, _⟩ => ⟨S64x256x64x256, .i32⟩
  | .hbm, ⟨35, _⟩ => ⟨S64x256x64x256, .i32⟩
  | .hbm, ⟨36, _⟩ => ⟨S64x256x64x256, .i1⟩
  | .hbm, ⟨37, _⟩ => ⟨S4x1x256x1x256, .f32⟩
  | .hbm, ⟨38, _⟩ => ⟨S_, .i32⟩
  | .hbm, ⟨39, _⟩ => ⟨S64x256x64x256, .i32⟩
  | .hbm, ⟨40, _⟩ => ⟨S64x256x64x256, .i32⟩
  | .hbm, ⟨41, _⟩ => ⟨S64x256x64x256, .i1⟩
  | .hbm, ⟨42, _⟩ => ⟨S4x1x256x1x256, .f32⟩
  | .hbm, ⟨43, _⟩ => ⟨S_, .f32⟩
  | .hbm, ⟨44, _⟩ => ⟨S_, .f32⟩
  | .hbm, ⟨45, _⟩ => ⟨S4x64x256x64x256, .i1⟩
  | .hbm, ⟨46, _⟩ => ⟨S4x64x256x64x256, .f32⟩
  | .hbm, ⟨47, _⟩ => ⟨S4x64x256x64x256, .f32⟩
  | .hbm, ⟨48, _⟩ => ⟨S4x64x256x64x256, .f32⟩
  | .hbm, ⟨49, _⟩ => ⟨S4x64x256x64x256, .i1⟩
  | .hbm, ⟨50, _⟩ => ⟨S4x64x256x64x256, .f32⟩
  | .hbm, ⟨51, _⟩ => ⟨S4x64x256x64x256, .f32⟩
  | .hbm, ⟨52, _⟩ => ⟨S4x16384x16384, .f32⟩
  | .hbm, ⟨53, _⟩ => ⟨S16384x16384, .i32⟩
  | .hbm, ⟨54, _⟩ => ⟨S16384x16384, .i32⟩
  | .hbm, ⟨55, _⟩ => ⟨S2x2x4x16384x16384, .f32⟩
  | .hbm, ⟨56, _⟩ => ⟨S1x1x4x16384x16384, .f32⟩
  | .hbm, ⟨57, _⟩ => ⟨S2x2x4x16384x16384, .f32⟩
  | .hbm, ⟨58, _⟩ => ⟨S2x2x4x16384x16384, .f32⟩
  | .hbm, ⟨59, _⟩ => ⟨S16384x16384, .i32⟩
  | .hbm, ⟨60, _⟩ => ⟨S_, .i32⟩
  | .hbm, ⟨61, _⟩ => ⟨S16384x16384, .i32⟩
  | .hbm, ⟨62, _⟩ => ⟨S16384x16384, .i1⟩
  | .hbm, ⟨63, _⟩ => ⟨S_, .f32⟩
  | .hbm, ⟨64, _⟩ => ⟨S_, .f32⟩
  | .hbm, ⟨65, _⟩ => ⟨S2x2x4x16384x16384, .i1⟩
  | .hbm, ⟨66, _⟩ => ⟨S2x2x4x16384x16384, .f32⟩
  | .hbm, ⟨67, _⟩ => ⟨S2x2x4x16384x16384, .f32⟩
  | .hbm, ⟨68, _⟩ => ⟨S_, .f32⟩
  | .hbm, ⟨69, _⟩ => ⟨S2x2x4x16384, .f32⟩
  | .hbm, ⟨70, _⟩ => ⟨S_, .f32⟩
  | .hbm, ⟨71, _⟩ => ⟨S2x2x4x16384, .f32⟩
  | .hbm, ⟨72, _⟩ => ⟨S2x2x4x16384, .f32⟩
  | .hbm, ⟨73, _⟩ => ⟨S2x2x4x16384x1, .f32⟩
  | .hbm, ⟨74, _⟩ => ⟨S2x2x4x16384x16384, .f32⟩
  | .hbm, ⟨75, _⟩ => ⟨S2x2x4x16384x16384, .f32⟩
  | .hbm, ⟨76, _⟩ => ⟨S2x2x4x16384x16384, .f32⟩
  | .hbm, ⟨77, _⟩ => ⟨S_, .f32⟩
  | .hbm, ⟨78, _⟩ => ⟨S2x2x4x16384, .f32⟩
  | .hbm, ⟨79, _⟩ => ⟨S2x2x4x16384x1, .f32⟩
  | .hbm, ⟨80, _⟩ => ⟨S2x2x4x16384x16384, .f32⟩
  | .hbm, ⟨81, _⟩ => ⟨S2x2x4x16384x16384, .f32⟩
  | .hbm, ⟨82, _⟩ => ⟨S1x2x4x16384x16384, .f32⟩
  | .hbm, ⟨83, _⟩ => ⟨S2x4x16384x16384, .f32⟩
  | .hbm, ⟨84, _⟩ => ⟨S1x2x4x16384x16384, .f32⟩
  | .hbm, ⟨85, _⟩ => ⟨S2x4x16384x16384, .f32⟩
  | .hbm, ⟨86, _⟩ => ⟨S2x4x16384x16384, .f32⟩
  | .hbm, ⟨87, _⟩ => ⟨S2x4x16384x16384, .f32⟩
  | .hbm, ⟨88, _⟩ => ⟨S2x4x16384x16384, .f32⟩
  | .hbm, ⟨89, _⟩ => ⟨S2x4x16384x128, .f32⟩
  | .hbm, ⟨90, _⟩ => ⟨S2x4x16384x128, .f32⟩
  | .hbm, ⟨91, _⟩ => ⟨S_, .f32⟩
  | .hbm, ⟨92, _⟩ => ⟨S2x4x16384, .f32⟩
  | .hbm, ⟨93, _⟩ => ⟨S2x4x16384x1, .f32⟩
  | .hbm, ⟨94, _⟩ => ⟨S_, .f32⟩
  | .hbm, ⟨95, _⟩ => ⟨S2x4x16384x1, .f32⟩
  | .hbm, ⟨96, _⟩ => ⟨S2x4x16384x1, .f32⟩
  | .hbm, ⟨97, _⟩ => ⟨S_, .f32⟩
  | .hbm, ⟨98, _⟩ => ⟨S2x4x16384x1, .f32⟩
  | .hbm, ⟨99, _⟩ => ⟨S2x4x16384x1, .f32⟩
  | .hbm, ⟨100, _⟩ => ⟨S2x4x16384x1, .f32⟩
  | .hbm, ⟨101, _⟩ => ⟨S2x4x16384x128, .f32⟩
  | .hbm, ⟨102, _⟩ => ⟨S2x4x16384x128, .f32⟩
  | .hbm, ⟨103, _⟩ => ⟨S128, .f32⟩
  | .hbm, ⟨104, _⟩ => ⟨S1x1x1x128, .f32⟩
  | .hbm, ⟨105, _⟩ => ⟨S2x4x16384x128, .f32⟩
  | .hbm, ⟨106, _⟩ => ⟨S2x4x16384x128, .f32⟩
  | .hbm, ⟨107, _⟩ => ⟨S_, .f32⟩
  | .hbm, ⟨108, _⟩ => ⟨S2x4x16384x128, .f32⟩
  | .hbm, ⟨109, _⟩ => ⟨S2x4x16384x128, .f32⟩
  | .hbm, ⟨110, _⟩ => ⟨S2x16384x4x128, .f32⟩
  | .hbm, ⟨111, _⟩ => ⟨S2x16384x512, .f32⟩
  | .hbm, ⟨112, _⟩ => ⟨S2x16384x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_v34 : Ref sig .tc := ⟨.hbm, 48, rfl⟩
abbrev main_call1_v0 : Ref sig .tc := ⟨.hbm, 49, rfl⟩
abbrev main_call1_v1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_3 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_8 : Ref sig .tc := ⟨.hbm, 91, rfl⟩
abbrev main_v67 : Ref sig .tc := ⟨.hbm, 92, rfl⟩
abbrev main_v68 : Ref sig .tc := ⟨.hbm, 93, rfl⟩
abbrev main_cst_9 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Inproj.lean ====
abbrev S2x16384x2048 : Shape := ⟨3, ![2, 16384, 2048]⟩
abbrev S2x1x2048 : Shape := ⟨3, ![2, 1, 2048]⟩
abbrev S2048x4608 : Shape := ⟨2, ![2048, 4608]⟩
abbrev S2x16384x1536 : Shape := ⟨3, ![2, 16384, 1536]⟩
abbrev S2x32x2x512 : Shape := ⟨4, ![2, 32, 2, 512]⟩
abbrev S1x512x2048 : Shape := ⟨3, ![1, 512, 2048]⟩
abbrev S1x1x2048 : Shape := ⟨3, ![1, 1, 2048]⟩
abbrev S1x512x1536 : Shape := ⟨3, ![1, 512, 1536]⟩
abbrev S1x1x2x512 : Shape := ⟨4, ![1, 1, 2, 512]⟩
abbrev S512x2048 : Shape := ⟨2, ![512, 2048]⟩
abbrev S1x2048 : Shape := ⟨2, ![1, 2048]⟩
abbrev S2048x512 : Shape := ⟨2, ![2048, 512]⟩
abbrev S512x512 : Shape := ⟨2, ![512, 512]⟩
abbrev S1x512x512 : Shape := ⟨3, ![1, 512, 512]⟩
abbrev S256x512 : Shape := ⟨2, ![256, 512]⟩
abbrev S512 : Shape := ⟨1, ![512]⟩
abbrev S1x512 : Shape := ⟨2, ![1, 512]⟩
abbrev S1x1x1x512 : Shape := ⟨4, ![1, 1, 1, 512]⟩

abbrev nBuf : Space → Nat
  | .hbm => 10
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048x4608, .f32⟩
  | .hbm, ⟨4, _⟩ => ⟨S2048x4608, .bf16⟩
  | .hbm, ⟨5, _⟩ => ⟨S2x16384x2048, .bf16⟩
  | .hbm, ⟨6, _⟩ => ⟨S2x16384x1536, .bf16⟩
  | .hbm, ⟨7, _⟩ => ⟨S2x16384x1536, .f32⟩
  | .hbm, ⟨8, _⟩ => ⟨S2x16384x1536, .bf16⟩
  | .hbm, ⟨9, _⟩ => ⟨S2x32x2x512, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x4608, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x1536, .bf16⟩
  | .local _ .vmem, ⟨10, _⟩ => ⟨S1x512x1536, .bf16⟩
  | .local _ .vmem, ⟨11, _⟩ => ⟨S1x512x1536, .f32⟩
  | .local _ .vmem, ⟨12, _⟩ => ⟨S1x512x1536, .f32⟩
  | .local _ .vmem, ⟨13, _⟩ => ⟨S1x512x1536, .bf16⟩
  | .local _ .vmem, ⟨14, _⟩ => ⟨S1x512x1536, .bf16⟩
  | .local _ .vmem, ⟨15, _⟩ => ⟨S1x1x2x512, .f32⟩
  | .local _ .vmem, ⟨16, _⟩ => ⟨S1x1x2x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InprojRefIdeal.lean ====
abbrev S2x16384x2048 : Shape := ⟨3, ![2, 16384, 2048]⟩
abbrev S2x1x2048 : Shape := ⟨3, ![2, 1, 2048]⟩
abbrev S2048x4608 : Shape := ⟨2, ![2048, 4608]⟩
abbrev S_ : Shape := ⟨0, ![]⟩
abbrev S2x16384x4608 : Shape := ⟨3, ![2, 16384, 4608]⟩
abbrev S2x16384x512 : Shape := ⟨3, ![2, 16384, 512]⟩
abbrev S2x32x2x256x512 : Shape := ⟨5, ![2, 32, 2, 256, 512]⟩
abbrev S2x32x2x512 : Shape := ⟨4, ![2, 32, 2, 512]⟩
abbrev S2x16384x1536 : Shape := ⟨3, ![2, 16384, 1536]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x1x2048, .f32⟩
  | .hbm, ⟨2, _⟩ => ⟨S2x1x2048, .f32⟩
  | .hbm, ⟨3, _⟩ => ⟨S2048x4608, .f32⟩
  | .hbm, ⟨4, _⟩ => ⟨S_, .f32⟩
  | .hbm, ⟨5, _⟩ => ⟨S2x1x2048, .f32⟩
  | .hbm, ⟨6, _⟩ => ⟨S2x1x2048, .f32⟩
  | .hbm, ⟨7, _⟩ => ⟨S2x16384x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S2x16384x4608, .f32⟩
  | .hbm, ⟨12, _⟩ => ⟨S2x16384x512, .f32⟩
  | .hbm, ⟨13, _⟩ => ⟨S2x16384x512, .f32⟩
  | .hbm, ⟨14, _⟩ => ⟨S2x16384x512, .f32⟩
  | .hbm, ⟨15, _⟩ => ⟨S2x16384x512, .f32⟩
  | .hbm, ⟨16, _⟩ => ⟨S2x16384x512, .f32⟩
  | .hbm, ⟨17, _⟩ => ⟨S2x16384x512, .f32⟩
  | .hbm, ⟨18, _⟩ => ⟨S2x16384x512, .f32⟩
  | .hbm, ⟨19, _⟩ => ⟨S2x16384x512, .f32⟩
  | .hbm, ⟨20, _⟩ => ⟨S2x16384x512, .f32⟩
  | .hbm, ⟨21, _⟩ => ⟨S2x32x2x256x512, .f32⟩
  | .hbm, ⟨22, _⟩ => ⟨S_, .f32⟩
  | .hbm, ⟨23, _⟩ => ⟨S2x32x2x512, .f32⟩
  | .hbm, ⟨24, _⟩ => ⟨S_, .f32⟩
  | .hbm, ⟨25, _⟩ => ⟨S2x32x2x512, .f32⟩
  | .hbm, ⟨26, _⟩ => ⟨S2x32x2x512, .f32⟩
  | .hbm, ⟨27, _⟩ => ⟨S2x16384x2048, .bf16⟩
  | .hbm, ⟨28, _⟩ => ⟨S_, .f32⟩
  | .hbm, ⟨29, _⟩ => ⟨S2x16384x512, .f32⟩
  | .hbm, ⟨30, _⟩ => ⟨S2x16384x512, .f32⟩
  | .hbm, ⟨31, _⟩ => ⟨S2x16384x1536, .f32⟩
  | .hbm, ⟨32, _⟩ => ⟨S2x16384x1536, .bf16⟩
  | .hbm, ⟨33, _⟩ => ⟨S2x16384x1536, .f32⟩
  | .hbm, ⟨34, _⟩ => ⟨S_, .f32⟩
  | .hbm, ⟨35, _⟩ => ⟨S2x16384x512, .f32⟩
  | .hbm, ⟨36, _⟩ => ⟨S2x16384x512, .f32⟩
  | .hbm, ⟨37, _⟩ => ⟨S2x16384x1536, .f32⟩
  | .hbm, ⟨38, _⟩ => ⟨S2x16384x1536, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Experts.lean ====
abbrev S144 : Shape := ⟨1, ![144]⟩
abbrev S1 : Shape := ⟨1, ![1]⟩
abbrev S73728x2048 : Shape := ⟨2, ![73728, 2048]⟩
abbrev S16x2048x1408 : Shape := ⟨3, ![16, 2048, 1408]⟩
abbrev S16x1408x2048 : Shape := ⟨3, ![16, 1408, 2048]⟩
abbrev S_ : Shape := ⟨0, ![]⟩
abbrev S144x1 : Shape := ⟨2, ![144, 1]⟩
abbrev S512x2048 : Shape := ⟨2, ![512, 2048]⟩
abbrev S1x2048x1408 : Shape := ⟨3, ![1, 2048, 1408]⟩
abbrev S1x1408x2048 : Shape := ⟨3, ![1, 1408, 2048]⟩
abbrev S2048x1408 : Shape := ⟨2, ![2048, 1408]⟩
abbrev S512x1408 : Shape := ⟨2, ![512, 1408]⟩
abbrev S1408x2048 : Shape := ⟨2, ![1408, 2048]⟩

abbrev nBuf : Space → Nat
  | .hbm => 13
  | .vmem => 7
  | .smem => 2
  | _ => 0

abbrev bufTy : (tb : Table) → Fin (tcTables nBuf tb) → BufTy
  | .hbm, ⟨0, _⟩ => ⟨S144, .i32⟩
  | .hbm, ⟨1, _⟩ => ⟨S73728x2048, .f32⟩
  | .hbm, ⟨2, _⟩ => ⟨S16x2048x1408, .bf16⟩
  | .hbm, ⟨3, _⟩ => ⟨S16x2048x1408, .bf16⟩
  | .hbm, ⟨4, _⟩ => ⟨S16x1408x2048, .bf16⟩
  | .hbm, ⟨5, _⟩ => ⟨S144, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S144, .i32⟩
  | .hbm, ⟨10, _⟩ => ⟨S144, .i32⟩
  | .hbm, ⟨11, _⟩ => ⟨S144x1, .i32⟩
  | .hbm, ⟨12, _⟩ => ⟨S73728x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1408, .bf16⟩
  | .local _ .vmem, ⟨3, _⟩ => ⟨S1x2048x1408, .bf16⟩
  | .local _ .vmem, ⟨4, _⟩ => ⟨S1x1408x2048, .bf16⟩
  | .local _ .vmem, ⟨5, _⟩ => ⟨S512x2048, .f32⟩
  | .local _ .vmem, ⟨6, _⟩ => ⟨S512x2048, .f32⟩
  | .local _ .smem, ⟨0, _⟩ => ⟨S144, .i32⟩
  | .local _ .smem, ⟨1, _⟩ => ⟨S1, .i32⟩
  | _, _ => ⟨S144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v6 : Ref sig .tc := ⟨.hbm, 12, rfl⟩
abbrev main_v5 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_v5.idx, main_arg1.idx], fun | 0 => main_v5.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1408x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsRefIdeal.lean ====
abbrev S144 : Shape := ⟨1, ![144]⟩
abbrev S1 : Shape := ⟨1, ![1]⟩
abbrev S73728x2048 : Shape := ⟨2, ![73728, 2048]⟩
abbrev S16x2048x1408 : Shape := ⟨3, ![16, 2048, 1408]⟩
abbrev S16x1408x2048 : Shape := ⟨3, ![16, 1408, 2048]⟩
abbrev S144x512x2048 : Shape := ⟨3, ![144, 512, 2048]⟩
abbrev S144x1 : Shape := ⟨2, ![144, 1]⟩
abbrev S144x2048x1408 : Shape := ⟨3, ![144, 2048, 1408]⟩
abbrev S144x512x1408 : Shape := ⟨3, ![144, 512, 1408]⟩
abbrev S_ : Shape := ⟨0, ![]⟩
abbrev S144x1408x2048 : Shape := ⟨3, ![144, 1408, 2048]⟩
abbrev S144x1x1 : Shape := ⟨3, ![144, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S144, .i32⟩
  | .hbm, ⟨1, _⟩ => ⟨S1, .i32⟩
  | .hbm, ⟨2, _⟩ => ⟨S73728x2048, .f32⟩
  | .hbm, ⟨3, _⟩ => ⟨S16x2048x1408, .bf16⟩
  | .hbm, ⟨4, _⟩ => ⟨S16x2048x1408, .bf16⟩
  | .hbm, ⟨5, _⟩ => ⟨S16x1408x2048, .bf16⟩
  | .hbm, ⟨6, _⟩ => ⟨S144x512x2048, .f32⟩
  | .hbm, ⟨7, _⟩ => ⟨S144x1, .i32⟩
  | .hbm, ⟨8, _⟩ => ⟨S144x2048x1408, .bf16⟩
  | .hbm, ⟨9, _⟩ => ⟨S144x2048x1408, .f32⟩
  | .hbm, ⟨10, _⟩ => ⟨S144x512x1408, .f32⟩
  | .hbm, ⟨11, _⟩ => ⟨S144x1, .i32⟩
  | .hbm, ⟨12, _⟩ => ⟨S144x2048x1408, .bf16⟩
  | .hbm, ⟨13, _⟩ => ⟨S144x2048x1408, .f32⟩
  | .hbm, ⟨14, _⟩ => ⟨S144x512x1408, .f32⟩
  | .hbm, ⟨15, _⟩ => ⟨S144x512x1408, .f32⟩
  | .hbm, ⟨16, _⟩ => ⟨S144x512x1408, .f32⟩
  | .hbm, ⟨17, _⟩ => ⟨S_, .f32⟩
  | .hbm, ⟨18, _⟩ => ⟨S144x512x1408, .f32⟩
  | .hbm, ⟨19, _⟩ => ⟨S144x512x1408, .f32⟩
  | .hbm, ⟨20, _⟩ => ⟨S_, .f32⟩
  | .hbm, ⟨21, _⟩ => ⟨S144x512x1408, .f32⟩
  | .hbm, ⟨22, _⟩ => ⟨S144x512x1408, .f32⟩
  | .hbm, ⟨23, _⟩ => ⟨S144x512x1408, .f32⟩
  | .hbm, ⟨24, _⟩ => ⟨S144x512x1408, .f32⟩
  | .hbm, ⟨25, _⟩ => ⟨S144x1, .i32⟩
  | .hbm, ⟨26, _⟩ => ⟨S144x1408x2048, .bf16⟩
  | .hbm, ⟨27, _⟩ => ⟨S144x1408x2048, .f32⟩
  | .hbm, ⟨28, _⟩ => ⟨S144x512x2048, .f32⟩
  | .hbm, ⟨29, _⟩ => ⟨S144, .i32⟩
  | .hbm, ⟨30, _⟩ => ⟨S_, .i32⟩
  | .hbm, ⟨31, _⟩ => ⟨S144, .i32⟩
  | .hbm, ⟨32, _⟩ => ⟨S144, .i1⟩
  | .hbm, ⟨33, _⟩ => ⟨S144x1x1, .i1⟩
  | .hbm, ⟨34, _⟩ => ⟨S_, .f32⟩
  | .hbm, ⟨35, _⟩ => ⟨S_, .f32⟩
  | .hbm, ⟨36, _⟩ => ⟨S144x512x2048, .i1⟩
  | .hbm, ⟨37, _⟩ => ⟨S144x512x2048, .f32⟩
  | .hbm, ⟨38, _⟩ => ⟨S144x512x2048, .f32⟩
  | .hbm, ⟨39, _⟩ => ⟨S73728x2048, .f32⟩
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call2_v0 : Ref sig .tc := ⟨.hbm, 15, rfl⟩
abbrev main_call2_v1 : Ref sig .tc := ⟨.hbm, 16, rfl⟩
abbrev main_call2_cst : Ref sig .tc := ⟨.hbm, 17, rfl⟩
abbrev main_call2_v2 : Ref sig .tc := ⟨.hbm, 18, rfl⟩
abbrev main_call2_v3 : Ref sig .tc := ⟨.hbm, 19, rfl⟩
abbrev main_call2_cst_0 : Ref sig .tc := ⟨.hbm, 20, rfl⟩
abbrev main_call2_v4 : Ref sig .tc := ⟨.hbm, 21, rfl⟩
abbrev main_call2_v5 : Ref sig .tc := ⟨.hbm, 22, rfl⟩
abbrev main_v7 : Ref sig .tc := ⟨.hbm, 23, rfl⟩
abbrev main_v8 : Ref sig .tc := ⟨.hbm, 24, rfl⟩
abbrev main_call3_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Proof.MergeBlock.lean ====
/- The gated merge's body, read at an index: what one grid point leaves in the output block, as a formula in the entries
   of the input blocks. -/
module

public import proofs.«01_k».proof.Proof.Gen.MergeIdeal.Frame
public import Idealize.ShloMosaic.Lib.Pointwise

@[expose] public section

set_option maxRecDepth 16384

noncomputable section

namespace Cert.Proof.Merge

open Idealize.ShloMosaic Idealize.ShloMosaic.Pointwise Cert.MergeIdeal Cert.MergeIdeal.Gen
open scoped BigOperators

/-- The logistic function as both programs compute it: one over one plus the exponential of the negation. -/
def sig1 (x : EReal) : EReal := Ideal.div 1 (1 + Ideal.exp (-x))

/-- One branch's gated term: the logistic of (row of `h` times column of the gate's weights, plus the gate's bias)
    times (row of the branch's output times column of the branch's weights). -/
def term (h : Fin 2048 → EReal) (wg : Fin 2048 → EReal) (b : EReal) (o : Fin 512 → EReal) (wb : Fin 512 → EReal) : EReal :=
  sig1 ((∑ k, h k * wg k) + b) * ∑ k, o k * wb k

/-- The zero offset of a rank-two rectangle. -/
theorem hz2 : (![0, 0] : Fin 2 → Nat) = fun _ => 0 := funext fun a => by fin_cases a <;> rfl

/-- What the body leaves in the output block at row `p`, column `q`: the sum of the four branches' gated terms. -/
theorem out_apply (x0 : Vec Ideal S512x2048 .bf16) (x1 x2 x3 x4 : Vec Ideal S512x512 .bf16) (x5 : Vec Ideal S4x2048x512 .bf16)
    (x6 : Vec Ideal S4x1x512 .f32) (x7 : Vec Ideal S4x512x512 .bf16) (p q : Fin 512) :
    out0_8 x0 x1 x2 x3 x4 x5 x6 x7 (ix2 p q) =
      term (fun k => x0 (ix2 p k)) (fun k => x5 (ix3 0 k q)) (x6 (ix3 0 0 q)) (fun k => x1 (ix2 p k)) (fun k => x7 (ix3 0 k q))
      + term (fun k => x0 (ix2 p k)) (fun k => x5 (ix3 1 k q)) (x6 (ix3 1 0 q)) (fun k => x2 (ix2 p k)) (fun k => x7 (ix3 1 k q))
      + term (fun k => x0 (ix2 p k)) (fun k => x5 (ix3 2 k q)) (x6 (ix3 2 0 q)) (fun k => x3 (ix2 p k)) (fun k => x7 (ix3 2 k q))
      + term (fun k => x0 (ix2 p k)) (fun k => x5 (ix3 3 k q)) (x6 (ix3 3 0 q)) (fun k => x4 (ix2 p k)) (fun k => x7 (ix3 3 k q)) := by
  unfold out0_8 term sig1
  rw [View.canon_unit_zero hz2]
  pointwise [k0_pay1, k0_pay2, k0_pay3, k0_pay4, k0_pay5, k0_pay6]
  simp only [sub_eq_add_neg, zero_add]

end Cert.Proof.Merge

end
-- ==== Proof.MergeValue.lean ====
/- The gated merge's result array as one function of its argument arrays. -/
module

public import proofs.«01_k».proof.Proof.Gen.MergeIdeal.Value
public import proofs.«01_k».proof.Proof.MergeBlock
public import Idealize.ShloMosaic.Lib.StableHlo.Run

@[expose] public section

set_option maxRecDepth 16384

noncomputable section

namespace Cert.Proof.Merge

open Idealize.ShloMosaic Idealize.ShloMosaic.TcCoe Idealize.SL.Sem Cert.MergeIdeal Cert.MergeIdeal.Gen
open scoped BigOperators

/-- The merge at row `r`, column `e`: the sum of the four branches' gated terms. -/
def gmAt (h : Vec Ideal S32768x2048 .bf16) (oa ob oc od : Vec Ideal S32768x512 .bf16) (wg : Vec Ideal S4x2048x2048 .f32)
    (b : Vec Ideal S4x2048 .f32) (wb : Vec Ideal S4x512x2048 .f32) (r : Fin 32768) (e : Fin 2048) : EReal :=
  term (fun k => h (ix2 r k)) (fun k => wg (ix3 0 k e)) (b (ix2 0 e)) (fun k => oa (ix2 r k)) (fun k => wb (ix3 0 k e))
  + term (fun k => h (ix2 r k)) (fun k => wg (ix3 1 k e)) (b (ix2 1 e)) (fun k => ob (ix2 r k)) (fun k => wb (ix3 1 k e))
  + term (fun k => h (ix2 r k)) (fun k => wg (ix3 2 k e)) (b (ix2 2 e)) (fun k => oc (ix2 r k)) (fun k => wb (ix3 2 k e))
  + term (fun k => h (ix2 r k)) (fun k => wg (ix3 3 k e)) (b (ix2 3 e)) (fun k => od (ix2 r k)) (fun k => wb (ix3 3 k e))

/-- The merge as a whole array. -/
def gm (h : Vec Ideal S32768x2048 .bf16) (oa ob oc od : Vec Ideal S32768x512 .bf16) (wg : Vec Ideal S4x2048x2048 .f32)
    (b : Vec Ideal S4x2048 .f32) (wb : Vec Ideal S4x512x2048 .f32) : Vec Ideal S32768x2048 .bf16 :=
  fun i => gmAt h oa ob oc od wg b wb (i 0) (i 1)

variable (m : (ℓ : Loc nD τ sig) → Buf (Elt Ideal) ℓ) (ρ : Dev nD → PrngReg)

/-! ## The arrays the call reads that the host prepares -/

/-- The gate weights as the call finds them, entry by entry: the argument's entries. -/
theorem V_wg (c : Dev nD) (a : Fin 4) (k e : Fin 2048) :
    V m c main_v0 (ix3 a k e) = m ((c : Thread nD τ).loc main_arg5) (ix3 a k e) := by
  have h : @Eq (FVec Ideal S4x2048x2048 .bf16) (V m c main_v0) (truncf (F := Ideal) (s := S4x2048x2048) (φ := .f32) .bf16 (m ((c : Thread nD τ).loc main_arg5)) bitsLt_bf16_f32) := by
    show StableHlo.after hostOps0 _ _ = _
    simp only [hostOps0]
    after_results_simp <;> rfl
  exact congrFun h _

/-- The gate biases as the call finds them: the argument's, with a unit axis in the middle. -/
theorem V_b (c : Dev nD) (a : Fin 4) (e : Fin 2048) :
    V m c main_v1 (ix3 a 0 e) = m ((c : Thread nD τ).loc main_arg6) (ix2 a e) := by
  have h : V m c main_v1 = broadcastInDim S4x1x2048 ![0, 2] bcast_S4x2048_S4x1x2048_0_2 (m ((c : Thread nD τ).loc main_arg6)) := by
    show StableHlo.after hostOps0 _ _ = _
    simp only [hostOps0]
    after_results_simp <;> rfl
  rw [h]
  pointwise

/-- The branch weights as the call finds them, entry by entry: the argument's entries. -/
theorem V_wb (c : Dev nD) (a : Fin 4) (k : Fin 512) (e : Fin 2048) :
    V m c main_v2 (ix3 a k e) = m ((c : Thread nD τ).loc main_arg7) (ix3 a k e) := by
  have h : @Eq (FVec Ideal S4x512x2048 .bf16) (V m c main_v2) (truncf (F := Ideal) (s := S4x512x2048) (φ := .f32) .bf16 (m ((c : Thread nD τ).loc main_arg7)) bitsLt_bf16_f32) := by
    show StableHlo.after hostOps0 _ _ = _
    simp only [hostOps0]
    after_results_simp <;> rfl
  exact congrFun h _

/-! ## Which entries a point's blocks are -/

/-- The block indices at a point: the column block `t / 64` and the row block `t % 64`. -/
theorem idx0 : ∀ t : Fin cfg0.N, win0_0.index t (0 : Fin 2) = t.val % 64 ∧ win0_0.index t (1 : Fin 2) = 0 :=
  (by decide +kernel : ∀ t : Fin grid0.N, _)
theorem idx1 : ∀ t : Fin cfg0.N, win0_1.index t (0 : Fin 2) = t.val % 64 ∧ win0_1.index t (1 : Fin 2) = 0 :=
  (by decide +kernel : ∀ t : Fin grid0.N, _)
theorem idx2 : ∀ t : Fin cfg0.N, win0_2.index t (0 : Fin 2) = t.val % 64 ∧ win0_2.index t (1 : Fin 2) = 0 :=
  (by decide +kernel : ∀ t : Fin grid0.N, _)
theorem idx3 : ∀ t : Fin cfg0.N, win0_3.index t (0 : Fin 2) = t.val % 64 ∧ win0_3.index t (1 : Fin 2) = 0 :=
  (by decide +kernel : ∀ t : Fin grid0.N, _)
theorem idx4 : ∀ t : Fin cfg0.N, win0_4.index t (0 : Fin 2) = t.val % 64 ∧ win0_4.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = t.val / 64 :=
  (by decide +kernel : ∀ t : Fin grid0.N, _)
theorem idx6 : ∀ t : Fin cfg0.N, win0_6.index t (0 : Fin 3) = 0 ∧ win0_6.index t (1 : Fin 3) = 0 ∧ win0_6.index t (2 : Fin 3) = t.val / 64 :=
  (by decide +kernel : ∀ t : Fin grid0.N, _)
theorem idx7 : ∀ t : Fin cfg0.N, win0_7.index t (0 : Fin 3) = 0 ∧ win0_7.index t (1 : Fin 3) = 0 ∧ win0_7.index t (2 : Fin 3) = t.val / 64 :=
  (by decide +kernel : ∀ t : Fin grid0.N, _)
theorem idx8 : ∀ t : Fin cfg0.N, win0_8.index t (0 : Fin 2) = t.val % 64 ∧ win0_8.index t (1 : Fin 2) = t.val / 64 :=
  (by decide +kernel : ∀ t : Fin grid0.N, _)

/-- Row `p` of the point's row block, as a row of the array. -/
def row (t : Fin cfg0.N) (p : Fin 512) : Fin 32768 := ⟨(t.val % 64) * 512 + p.val, by omega⟩
/-- Column `q` of the point's column block, as a column of the array. -/
def col (t : Fin cfg0.N) (q : Fin 512) : Fin 2048 := ⟨(t.val / 64) * 512 + q.val, by have := t.isLt; have : cfg0.N = 256 := N_0; omega⟩

theorem iblk0 (c : Dev nD) (t : Fin cfg0.N) (p : Fin 512) (k : Fin 2048) :
    iblk m c 0 t (ix2 p k) = m ((c : Thread nD τ).loc main_arg0) (ix2 (row t p) k) := by
  obtain ⟨e0, e1⟩ := idx0 t
  rw [← V_main_arg0 m c]
  show V m c main_arg0 (((cfg0.win 0).blk t).view.emb (ix2 p k)) = _
  congr 1; funext a; apply Fin.ext
  match a with
  | ⟨0, _⟩ => show win0_0.index t (0 : Fin 2) * 512 + 1 * p.val = t.val % 64 * 512 + p.val; omega
  | ⟨1, _⟩ => show win0_0.index t (1 : Fin 2) * 2048 + 1 * k.val = k.val; omega

theorem iblk1 (c : Dev nD) (t : Fin cfg0.N) (p k : Fin 512) :
    iblk m c 1 t (ix2 p k) = m ((c : Thread nD τ).loc main_arg1) (ix2 (row t p) k) := by
  obtain ⟨e0, e1⟩ := idx1 t
  rw [← V_main_arg1 m c]
  show V m c main_arg1 (((cfg0.win 1).blk t).view.emb (ix2 p k)) = _
  congr 1; funext a; apply Fin.ext
  match a with
  | ⟨0, _⟩ => show win0_1.index t (0 : Fin 2) * 512 + 1 * p.val = t.val % 64 * 512 + p.val; omega
  | ⟨1, _⟩ => show win0_1.index t (1 : Fin 2) * 512 + 1 * k.val = k.val; omega

theorem iblk2 (c : Dev nD) (t : Fin cfg0.N) (p k : Fin 512) :
    iblk m c 2 t (ix2 p k) = m ((c : Thread nD τ).loc main_arg2) (ix2 (row t p) k) := by
  obtain ⟨e0, e1⟩ := idx2 t
  rw [← V_main_arg2 m c]
  show V m c main_arg2 (((cfg0.win 2).blk t).view.emb (ix2 p k)) = _
  congr 1; funext a; apply Fin.ext
  match a with
  | ⟨0, _⟩ => show win0_2.index t (0 : Fin 2) * 512 + 1 * p.val = t.val % 64 * 512 + p.val; omega
  | ⟨1, _⟩ => show win0_2.index t (1 : Fin 2) * 512 + 1 * k.val = k.val; omega

theorem iblk3 (c : Dev nD) (t : Fin cfg0.N) (p k : Fin 512) :
    iblk m c 3 t (ix2 p k) = m ((c : Thread nD τ).loc main_arg3) (ix2 (row t p) k) := by
  obtain ⟨e0, e1⟩ := idx3 t
  rw [← V_main_arg3 m c]
  show V m c main_arg3 (((cfg0.win 3).blk t).view.emb (ix2 p k)) = _
  congr 1; funext a; apply Fin.ext
  match a with
  | ⟨0, _⟩ => show win0_3.index t (0 : Fin 2) * 512 + 1 * p.val = t.val % 64 * 512 + p.val; omega
  | ⟨1, _⟩ => show win0_3.index t (1 : Fin 2) * 512 + 1 * k.val = k.val; omega

theorem iblk4 (c : Dev nD) (t : Fin cfg0.N) (p k : Fin 512) :
    iblk m c 4 t (ix2 p k) = m ((c : Thread nD τ).loc main_arg4) (ix2 (row t p) k) := by
  obtain ⟨e0, e1⟩ := idx4 t
  rw [← V_main_arg4 m c]
  show V m c main_arg4 (((cfg0.win 4).blk t).view.emb (ix2 p k)) = _
  congr 1; funext a; apply Fin.ext
  match a with
  | ⟨0, _⟩ => show win0_4.index t (0 : Fin 2) * 512 + 1 * p.val = t.val % 64 * 512 + p.val; omega
  | ⟨1, _⟩ => show win0_4.index t (1 : Fin 2) * 512 + 1 * k.val = k.val; omega

theorem iblk5 (c : Dev nD) (t : Fin cfg0.N) (a : Fin 4) (k : Fin 2048) (q : Fin 512) :
    iblk m c 5 t (ix3 a k q) = m ((c : Thread nD τ).loc main_arg5) (ix3 a k (col t q)) := by
  obtain ⟨e0, e1, e2⟩ := idx5 t
  rw [← V_wg m c]
  show V m c main_v0 (((cfg0.win 5).blk t).view.emb (ix3 a k q)) = _
  congr 1; funext a'; apply Fin.ext
  match a' with
  | ⟨0, _⟩ => show win0_5.index t (0 : Fin 3) * 4 + 1 * a.val = a.val; omega
  | ⟨1, _⟩ => show win0_5.index t (1 : Fin 3) * 2048 + 1 * k.val = k.val; omega
  | ⟨2, _⟩ => show win0_5.index t (2 : Fin 3) * 512 + 1 * q.val = t.val / 64 * 512 + q.val; omega

theorem iblk6 (c : Dev nD) (t : Fin cfg0.N) (a : Fin 4)  (q : Fin 512) :
    iblk m c 6 t (ix3 a 0 q) = m ((c : Thread nD τ).loc main_arg6) (ix2 a (col t q)) := by
  obtain ⟨e0, e1, e2⟩ := idx6 t
  rw [← V_b m c]
  show V m c main_v1 (((cfg0.win 6).blk t).view.emb (ix3 a 0 q)) = _
  congr 1; funext a'; apply Fin.ext
  match a' with
  | ⟨0, _⟩ => show win0_6.index t (0 : Fin 3) * 4 + 1 * a.val = a.val; omega
  | ⟨1, _⟩ => show win0_6.index t (1 : Fin 3) * 1 + 1 * 0 = 0; omega
  | ⟨2, _⟩ => show win0_6.index t (2 : Fin 3) * 512 + 1 * q.val = t.val / 64 * 512 + q.val; omega

theorem iblk7 (c : Dev nD) (t : Fin cfg0.N) (a : Fin 4) (k : Fin 512) (q : Fin 512) :
    iblk m c 7 t (ix3 a k q) = m ((c : Thread nD τ).loc main_arg7) (ix3 a k (col t q)) := by
  obtain ⟨e0, e1, e2⟩ := idx7 t
  rw [← V_wb m c]
  show V m c main_v2 (((cfg0.win 7).blk t).view.emb (ix3 a k q)) = _
  congr 1; funext a'; apply Fin.ext
  match a' with
  | ⟨0, _⟩ => show win0_7.index t (0 : Fin 3) * 4 + 1 * a.val = a.val; omega
  | ⟨1, _⟩ => show win0_7.index t (1 : Fin 3) * 512 + 1 * k.val = k.val; omega
  | ⟨2, _⟩ => show win0_7.index t (2 : Fin 3) * 512 + 1 * q.val = t.val / 64 * 512 + q.val; omega

/-! ## The result array -/

/-- The merge of device `c`'s arguments. -/
abbrev G (c : Dev nD) : Vec Ideal S32768x2048 .bf16 :=
  gm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What point `t` writes back is its block of the merge of the arguments. -/
theorem flushed_eq (c : Dev nD) (t : Fin cfg0.N) :
    (dats m 0 c).flushed 8 t = (win0_8.blk t).view.read (Elt Ideal) (G m c) := by
  obtain ⟨e0, e1⟩ := idx8 t
  rw [Value.flushed8]
  funext (j : S512x512.Idx)
  obtain ⟨p, q, rfl⟩ : ∃ (p : Fin 512) (q : Fin 512), j = ix2 p q := ⟨j 0, j 1, eq_ix2 j⟩
  show out0_8 (iblk m c 0 t) (iblk m c 1 t) (iblk m c 2 t) (iblk m c 3 t) (iblk m c 4 t) (iblk m c 5 t) (iblk m c 6 t) (iblk m c 7 t) (ix2 p q)
    = G m c (((cfg0.win 8).blk t).view.emb (ix2 p q))
  have he : ((cfg0.win 8).blk t).view.emb (ix2 p q) = ix2 (row t p) (col t q) := by
    funext a; apply Fin.ext
    match a with
    | ⟨0, _⟩ => show win0_8.index t (0 : Fin 2) * 512 + 1 * p.val = t.val % 64 * 512 + p.val; omega
    | ⟨1, _⟩ => show win0_8.index t (1 : Fin 2) * 512 + 1 * q.val = t.val / 64 * 512 + q.val; omega
  rw [he, out_apply]
  simp only [iblk0, iblk1, iblk2, iblk3, iblk4, iblk5, iblk6, iblk7]
  rfl

/-- An index of the result array is in point `t`'s block exactly when its row is in row block `t % 64` and its column in
    column block `t / 64`. -/
theorem mem_blk (t : Fin cfg0.N) (i : S32768x2048.Idx) :
    i ∈ ((cfg0.win 8).blk t).view.set ↔ (i 0 : Nat) / 512 = t.val % 64 ∧ (i 1 : Nat) / 512 = t.val / 64 := by
  obtain ⟨e0, e1⟩ := idx8 t
  show i ∈ ((View.whole main_v3).slice (win0_8.rect t)).set ↔ _
  rw [View.set_slice_whole, Rect.mem_set_unit]
  refine ⟨fun h => ?_, fun h a => ?_⟩
  · have h0 : win0_8.index t (0 : Fin 2) * 512 ≤ (i 0 : Nat) ∧ (i 0 : Nat) < win0_8.index t (0 : Fin 2) * 512 + 512 := h 0
    have h1 : win0_8.index t (1 : Fin 2) * 512 ≤ (i 1 : Nat) ∧ (i 1 : Nat) < win0_8.index t (1 : Fin 2) * 512 + 512 := h 1
    omega
  · match a with
    | ⟨0, _⟩ => show win0_8.index t (0 : Fin 2) * 512 ≤ (i 0 : Nat) ∧ (i 0 : Nat) < win0_8.index t (0 : Fin 2) * 512 + 512; omega
    | ⟨1, _⟩ => show win0_8.index t (1 : Fin 2) * 512 ≤ (i 1 : Nat) ∧ (i 1 : Nat) < win0_8.index t (1 : Fin 2) * 512 + 512; omega

/-- The points' blocks cover the result array. -/
theorem cover (i : S32768x2048.Idx) :
    ∃ t : Fin cfg0.N, (cfg0.win 8).flush t = true ∧ i ∈ ((cfg0.win 8).blk t).view.set := by
  have h0 : (i 0 : Nat) < 32768 := (i 0).isLt
  have h1 : (i 1 : Nat) < 2048 := (i 1).isLt
  have hN : cfg0.N = 256 := N_0
  refine ⟨⟨(i 1 : Nat) / 512 * 64 + (i 0 : Nat) / 512, by omega⟩, flush0_8 _, ?_⟩
  rw [mem_blk]
  dsimp only
  omega

/-- So the result array ends holding the merge of the arguments, -/
theorem final (c : Dev nD) : (dats m 0 c).arrAt 8 cfg0.N = G m c :=
  (dats m 0 c).arrAt_eq_of_cover 8 (G m c) (fun t _ => flushed_eq m c t) cover

/-- and the run, read: the result is the merge of the arguments, the arguments are unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.Proof.Merge

end
-- ==== Proof.MergeRefValue.lean ====
/- The gated merge's reference, read at an index. -/
module

public import proofs.«01_k».proof.Proof.Gen.MergeRefIdeal.Run
public import proofs.«01_k».proof.Proof.MergeValue

@[expose] public section

set_option maxRecDepth 16384

noncomputable section

namespace Cert.Proof.Merge

open Idealize.ShloMosaic Idealize.ShloMosaic.TcCoe Idealize.SL.Sem Cert.MergeRefIdeal Cert.MergeRefIdeal.Gen
open scoped BigOperators

set_option maxHeartbeats 4000000 in
/-- The reference's result is the merge of its arguments. -/
theorem ref_eq (m : (ℓ : Loc nD τ sig) → Buf (Elt Ideal) ℓ) (c : Dev nD) :
    Value.res_out0 m c =
      gm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  funext (j : S32768x2048.Idx)
  obtain ⟨r, e, rfl⟩ : ∃ (r : Fin 32768) (e : Fin 2048), j = ix2 r e := ⟨j 0, j 1, eq_ix2 j⟩
  show Value.res_out0 m c (ix2 r e) = gmAt _ _ _ _ _ _ _ _ r e
  unfold gmAt term sig1
  pointwise [Value.res_out0, Value.res_main_v80]

end Cert.Proof.Merge

end
-- ==== Proof.InprojBlock.lean ====
/- The input projection's body, read at an index: what one grid point leaves in each of its five output blocks, as a
   formula in the entries of the input blocks. -/
module

public import proofs.«01_k».proof.Proof.Gen.InprojIdeal.Frame
public import Idealize.ShloMosaic.Lib.Pointwise

@[expose] public section

set_option maxRecDepth 16384

noncomputable section

namespace Cert.Proof.Inproj

open Idealize.ShloMosaic Idealize.ShloMosaic.Pointwise Cert.InprojIdeal Cert.InprojIdeal.Gen
open scoped BigOperators

/-- The constant both programs multiply the queries by (one over the square root of the head dimension). -/
def qs : EReal := Ideal.ofBits .f32 0x3E000000#32

/-- The number of keys of a block, as both programs divide by it. -/
def nk : EReal := Ideal.ofBits .f32 0x43800000#32

/-- The zero offset of a rank-three rectangle. -/
theorem hz3 : (![0, 0, 0] : Fin 3 → Nat) = fun _ => 0 := funext fun a => by fin_cases a <;> rfl

/-- The block's modulated input at row `r`, column `k`. -/
def hB (x0 : Vec Ideal S1x512x2048 .f32) (x1 x2 : Vec Ideal S1x1x2048 .f32) (r : Fin 512) (k : Fin 2048) : EReal :=
  x0 (ix3 0 r k) * (1 + x1 (ix3 0 0 k)) + x2 (ix3 0 0 k)

/-- The block's product with the weights at row `r`, column `e`. -/
def zB (x0 : Vec Ideal S1x512x2048 .f32) (x1 x2 : Vec Ideal S1x1x2048 .f32) (x3 : Vec Ideal S2048x4608 .bf16) (r : Fin 512)
    (e : Fin 4608) : EReal :=
  ∑ k, hB x0 x1 x2 r k * x3 (ix2 k e)

variable (x0 : Vec Ideal S1x512x2048 .f32) (x1 x2 : Vec Ideal S1x1x2048 .f32) (x3 : Vec Ideal S2048x4608 .bf16)

/-- The modulated input as the body holds it. -/
theorem pay18_apply (r : Fin 512) (k : Fin 2048) : k0_pay18 x0 x1 x2 x3 (ix2 r k) = hB x0 x1 x2 r k := by
  unfold hB
  pointwise [k0_pay18, k0_pay2]

/-- What the body leaves in the block of modulated inputs. -/
theorem out4_apply (r : Fin 512) (k : Fin 2048) : out0_4 x0 x1 x2 x3 (ix3 0 r k) = hB x0 x1 x2 r k := by
  unfold out0_4 hB
  rw [View.canon_unit_zero hz3]
  pointwise [k0_pay3, k0_pay2]

/-- What the body leaves in the first 512 columns of the first branch's block. -/
theorem out5_0 (r : Fin 512) (e : Fin 1536) (e' : Fin 512) (he : e.val = 0 + e'.val) :
    out0_5 x0 x1 x2 x3 (ix3 0 r e) = zB x0 x1 x2 x3 r ⟨0 + e'.val, by omega⟩ * qs := by
  unfold out0_5
  rw [View.canon_cons_of_not_mem, View.canon_cons_of_not_mem]
  · rw [show (ix3 0 r e : S1x512x1536.Idx) = r0_3.emb (ix3 0 r e') from funext fun a => Fin.ext (by
      match a with
      | ⟨0, _⟩ => rfl
      | ⟨1, _⟩ => show r.val = 0 + 1 * r.val; omega
      | ⟨2, _⟩ => show e.val = 0 + 1 * e'.val; omega), View.canon_cons_emb]
    unfold zB hB qs
    pointwise [k0_pay4, k0_pay2]
  all_goals rw [Rect.mem_set_unit]; intro h; have h2 := (h 2).1
  · have h3 : 512 ≤ e.val := h2; omega
  · have h3 : 1024 ≤ e.val := h2; omega

/-- What the body leaves in the second 512 columns of the first branch's block. -/
theorem out5_1 (r : Fin 512) (e : Fin 1536) (e' : Fin 512) (he : e.val = 512 + e'.val) :
    out0_5 x0 x1 x2 x3 (ix3 0 r e) = zB x0 x1 x2 x3 r ⟨512 + e'.val, by omega⟩ := by
  unfold out0_5
  rw [View.canon_cons_of_not_mem]
  · rw [show (ix3 0 r e : S1x512x1536.Idx) = r0_5.emb (ix3 0 r e') from funext fun a => Fin.ext (by
      match a with
      | ⟨0, _⟩ => rfl
      | ⟨1, _⟩ => show r.val = 0 + 1 * r.val; omega
      | ⟨2, _⟩ => show e.val = 512 + 1 * e'.val; omega), View.canon_cons_emb]
    unfold zB hB
    pointwise [k0_pay6, k0_pay5, k0_pay2]
  all_goals rw [Rect.mem_set_unit]; intro h; have h2 := (h 2).1
  · have h3 : 1024 ≤ e.val := h2; omega

/-- What the body leaves in the third 512 columns of the first branch's block. -/
theorem out5_2 (r : Fin 512) (e : Fin 1536) (e' : Fin 512) (he : e.val = 1024 + e'.val) :
    out0_5 x0 x1 x2 x3 (ix3 0 r e) = zB x0 x1 x2 x3 r ⟨1024 + e'.val, by omega⟩ := by
  unfold out0_5
  rw [show (ix3 0 r e : S1x512x1536.Idx) = r0_7.emb (ix3 0 r e') from funext fun a => Fin.ext (by
    match a with
    | ⟨0, _⟩ => rfl
    | ⟨1, _⟩ => show r.val = 0 + 1 * r.val; omega
    | ⟨2, _⟩ => show e.val = 1024 + 1 * e'.val; omega), View.canon_cons_emb]
  unfold zB hB
  pointwise [k0_pay7, k0_pay18, k0_pay2]

/-- What the body leaves in the first branch's block, the queries scaled. -/
theorem out5_apply (r : Fin 512) (e : Fin 1536) :
    out0_5 x0 x1 x2 x3 (ix3 0 r e) = if e.val < 512 then zB x0 x1 x2 x3 r ⟨0 + e.val, by omega⟩ * qs else zB x0 x1 x2 x3 r ⟨0 + e.val, by omega⟩ := by
  by_cases h1 : e.val < 512
  · rw [if_pos h1, out5_0 x0 x1 x2 x3 r e ⟨e.val, h1⟩ (by show e.val = 0 + e.val; omega)]
  · rw [if_neg h1]
    by_cases h2 : e.val < 1024
    · rw [out5_1 x0 x1 x2 x3 r e ⟨e.val - 512, by omega⟩ (by show e.val = 512 + (e.val - 512); omega)]
      congr 1; apply Fin.ext; show 512 + (e.val - 512) = 0 + e.val; omega
    · rw [out5_2 x0 x1 x2 x3 r e ⟨e.val - 1024, by omega⟩ (by show e.val = 1024 + (e.val - 1024); omega)]
      congr 1; apply Fin.ext; show 1024 + (e.val - 1024) = 0 + e.val; omega

/-- What the body leaves in the first 512 columns of the middle branches' block. -/
theorem out6_0 (r : Fin 512) (e : Fin 1536) (e' : Fin 512) (he : e.val = 0 + e'.val) :
    out0_6 x0 x1 x2 x3 (ix3 0 r e) = zB x0 x1 x2 x3 r ⟨1536 + e'.val, by omega⟩ := by
  unfold out0_6
  rw [View.canon_cons_of_not_mem, View.canon_cons_of_not_mem]
  · rw [show (ix3 0 r e : S1x512x1536.Idx) = r0_3.emb (ix3 0 r e') from funext fun a => Fin.ext (by
      match a with
      | ⟨0, _⟩ => rfl
      | ⟨1, _⟩ => show r.val = 0 + 1 * r.val; omega
      | ⟨2, _⟩ => show e.val = 0 + 1 * e'.val; omega), View.canon_cons_emb]
    unfold zB hB
    pointwise [k0_pay8, k0_pay18, k0_pay2]
  all_goals rw [Rect.mem_set_unit]; intro h; have h2 := (h 2).1
  · have h3 : 512 ≤ e.val := h2; omega
  · have h3 : 1024 ≤ e.val := h2; omega

/-- What the body leaves in the second 512 columns of the middle branches' block. -/
theorem out6_1 (r : Fin 512) (e : Fin 1536) (e' : Fin 512) (he : e.val = 512 + e'.val) :
    out0_6 x0 x1 x2 x3 (ix3 0 r e) = zB x0 x1 x2 x3 r ⟨2048 + e'.val, by omega⟩ := by
  unfold out0_6
  rw [View.canon_cons_of_not_mem]
  · rw [show (ix3 0 r e : S1x512x1536.Idx) = r0_5.emb (ix3 0 r e') from funext fun a => Fin.ext (by
      match a with
      | ⟨0, _⟩ => rfl
      | ⟨1, _⟩ => show r.val = 0 + 1 * r.val; omega
      | ⟨2, _⟩ => show e.val = 512 + 1 * e'.val; omega), View.canon_cons_emb]
    unfold zB hB
    pointwise [k0_pay9, k0_pay18, k0_pay2]
  all_goals rw [Rect.mem_set_unit]; intro h; have h2 := (h 2).1
  · have h3 : 1024 ≤ e.val := h2; omega

/-- What the body leaves in the third 512 columns of the middle branches' block. -/
theorem out6_2 (r : Fin 512) (e : Fin 1536) (e' : Fin 512) (he : e.val = 1024 + e'.val) :
    out0_6 x0 x1 x2 x3 (ix3 0 r e) = zB x0 x1 x2 x3 r ⟨2560 + e'.val, by omega⟩ := by
  unfold out0_6
  rw [show (ix3 0 r e : S1x512x1536.Idx) = r0_7.emb (ix3 0 r e') from funext fun a => Fin.ext (by
    match a with
    | ⟨0, _⟩ => rfl
    | ⟨1, _⟩ => show r.val = 0 + 1 * r.val; omega
    | ⟨2, _⟩ => show e.val = 1024 + 1 * e'.val; omega), View.canon_cons_emb]
  unfold zB hB
  pointwise [k0_pay10, k0_pay18, k0_pay2]

/-- What the body leaves in the middle branches' block. -/
theorem out6_apply (r : Fin 512) (e : Fin 1536) :
    out0_6 x0 x1 x2 x3 (ix3 0 r e) = zB x0 x1 x2 x3 r ⟨1536 + e.val, by omega⟩ := by
  by_cases h1 : e.val < 512
  · rw [out6_0 x0 x1 x2 x3 r e ⟨e.val, h1⟩ (by show e.val = 0 + e.val; omega)]
  · by_cases h2 : e.val < 1024
    · rw [out6_1 x0 x1 x2 x3 r e ⟨e.val - 512, by omega⟩ (by show e.val = 512 + (e.val - 512); omega)]
      congr 1; apply Fin.ext; show 2048 + (e.val - 512) = 1536 + e.val; omega
    · rw [out6_2 x0 x1 x2 x3 r e ⟨e.val - 1024, by omega⟩ (by show e.val = 1024 + (e.val - 1024); omega)]
      congr 1; apply Fin.ext; show 2560 + (e.val - 1024) = 1536 + e.val; omega

/-- What the body leaves in the first 512 columns of the last branch's block. -/
theorem out7_0 (r : Fin 512) (e : Fin 1536) (e' : Fin 512) (he : e.val = 0 + e'.val) :
    out0_7 x0 x1 x2 x3 (ix3 0 r e) = zB x0 x1 x2 x3 r ⟨3072 + e'.val, by omega⟩ * qs := by
  unfold out0_7
  rw [View.canon_cons_of_not_mem, View.canon_cons_of_not_mem]
  · rw [show (ix3 0 r e : S1x512x1536.Idx) = r0_3.emb (ix3 0 r e') from funext fun a => Fin.ext (by
      match a with
      | ⟨0, _⟩ => rfl
      | ⟨1, _⟩ => show r.val = 0 + 1 * r.val; omega
      | ⟨2, _⟩ => show e.val = 0 + 1 * e'.val; omega), View.canon_cons_emb]
    unfold zB hB qs
    pointwise [k0_pay12, k0_pay11, k0_pay18, k0_pay2]
  all_goals rw [Rect.mem_set_unit]; intro h; have h2 := (h 2).1
  · have h3 : 512 ≤ e.val := h2; omega
  · have h3 : 1024 ≤ e.val := h2; omega

/-- What the body leaves in the second 512 columns of the last branch's block. -/
theorem out7_1 (r : Fin 512) (e : Fin 1536) (e' : Fin 512) (he : e.val = 512 + e'.val) :
    out0_7 x0 x1 x2 x3 (ix3 0 r e) = zB x0 x1 x2 x3 r ⟨3584 + e'.val, by omega⟩ := by
  unfold out0_7
  rw [View.canon_cons_of_not_mem]
  · rw [show (ix3 0 r e : S1x512x1536.Idx) = r0_5.emb (ix3 0 r e') from funext fun a => Fin.ext (by
      match a with
      | ⟨0, _⟩ => rfl
      | ⟨1, _⟩ => show r.val = 0 + 1 * r.val; omega
      | ⟨2, _⟩ => show e.val = 512 + 1 * e'.val; omega), View.canon_cons_emb]
    unfold zB hB
    pointwise [k0_pay14, k0_pay13, k0_pay18, k0_pay2]
  all_goals rw [Rect.mem_set_unit]; intro h; have h2 := (h 2).1
  · have h3 : 1024 ≤ e.val := h2; omega

/-- What the body leaves in the third 512 columns of the last branch's block. -/
theorem out7_2 (r : Fin 512) (e : Fin 1536) (e' : Fin 512) (he : e.val = 1024 + e'.val) :
    out0_7 x0 x1 x2 x3 (ix3 0 r e) = zB x0 x1 x2 x3 r ⟨4096 + e'.val, by omega⟩ := by
  unfold out0_7
  rw [show (ix3 0 r e : S1x512x1536.Idx) = r0_7.emb (ix3 0 r e') from funext fun a => Fin.ext (by
    match a with
    | ⟨0, _⟩ => rfl
    | ⟨1, _⟩ => show r.val = 0 + 1 * r.val; omega
    | ⟨2, _⟩ => show e.val = 1024 + 1 * e'.val; omega), View.canon_cons_emb]
  unfold zB hB
  pointwise [k0_pay1, k0_pay18, k0_pay2]

/-- What the body leaves in the last branch's block, the queries scaled. -/
theorem out7_apply (r : Fin 512) (e : Fin 1536) :
    out0_7 x0 x1 x2 x3 (ix3 0 r e) = if e.val < 512 then zB x0 x1 x2 x3 r ⟨3072 + e.val, by omega⟩ * qs else zB x0 x1 x2 x3 r ⟨3072 + e.val, by omega⟩ := by
  by_cases h1 : e.val < 512
  · rw [if_pos h1, out7_0 x0 x1 x2 x3 r e ⟨e.val, h1⟩ (by show e.val = 0 + e.val; omega)]
  · rw [if_neg h1]
    by_cases h2 : e.val < 1024
    · rw [out7_1 x0 x1 x2 x3 r e ⟨e.val - 512, by omega⟩ (by show e.val = 512 + (e.val - 512); omega)]
      congr 1; apply Fin.ext; show 3584 + (e.val - 512) = 3072 + e.val; omega
    · rw [out7_2 x0 x1 x2 x3 r e ⟨e.val - 1024, by omega⟩ (by show e.val = 1024 + (e.val - 1024); omega)]
      congr 1; apply Fin.ext; show 4096 + (e.val - 1024) = 3072 + e.val; omega

/-- What the body leaves in the row of means of the first half of the block's keys. -/
theorem out8_0 (e : Fin 512) :
    out0_8 x0 x1 x2 x3 (ix4 0 0 0 e) =
      Ideal.div (∑ r : Fin 256, zB x0 x1 x2 x3 ⟨0 + r.val, by omega⟩ ⟨3584 + e.val, by omega⟩) nk := by
  unfold out0_8
  rw [View.canon_cons_of_not_mem]
  · rw [show (ix4 0 0 0 e : S1x1x2x512.Idx) = r0_13.emb (ix4 0 0 0 e) from funext fun a => Fin.ext (by
      match a with
      | ⟨0, _⟩ => rfl
      | ⟨1, _⟩ => rfl
      | ⟨2, _⟩ => rfl
      | ⟨3, _⟩ => show e.val = 0 + 1 * e.val; omega), View.canon_cons_emb]
    unfold zB hB nk
    pointwise [k0_pay16, k0_pay15, k0_pay13, k0_pay18, k0_pay2]
  · rw [Rect.mem_set_unit]; intro h; have h3 : 1 ≤ 0 := (h 2).1; omega

/-- What the body leaves in the row of means of the second half of the block's keys. -/
theorem out8_1 (e : Fin 512) :
    out0_8 x0 x1 x2 x3 (ix4 0 0 1 e) =
      Ideal.div (∑ r : Fin 256, zB x0 x1 x2 x3 ⟨256 + r.val, by omega⟩ ⟨3584 + e.val, by omega⟩) nk := by
  unfold out0_8
  rw [show (ix4 0 0 1 e : S1x1x2x512.Idx) = r0_14.emb (ix4 0 0 0 e) from funext fun a => Fin.ext (by
    match a with
    | ⟨0, _⟩ => rfl
    | ⟨1, _⟩ => rfl
    | ⟨2, _⟩ => rfl
    | ⟨3, _⟩ => show e.val = 0 + 1 * e.val; omega), View.canon_cons_emb]
  unfold zB hB nk
  pointwise [k0_pay17, k0_pay15, k0_pay13, k0_pay18, k0_pay2]

end Cert.Proof.Inproj

end
-- ==== Proof.InprojValue.lean ====
/- The input projection's five result arrays, each as one function of the call's argument arrays. -/
module

public import proofs.«01_k».proof.Proof.Gen.InprojIdeal.Value
public import proofs.«01_k».proof.Proof.InprojBlock
public import Idealize.ShloMosaic.Lib.StableHlo.Run

@[expose] public section

set_option maxRecDepth 16384

noncomputable section

namespace Cert.Proof.Inproj

open Idealize.ShloMosaic Idealize.ShloMosaic.TcCoe Idealize.SL.Sem Cert.InprojIdeal Cert.InprojIdeal.Gen
open scoped BigOperators

/-- The modulated input of batch `b` at row `t`, column `k`. -/
def hAt (x : Vec Ideal S2x16384x2048 .f32) (sc sh : Vec Ideal S2x1x2048 .f32) (b : Fin 2) (t : Fin 16384) (k : Fin 2048) : EReal :=
  x (ix3 b t k) * (1 + sc (ix3 b 0 k)) + sh (ix3 b 0 k)

/-- Its product with the weights at row `t`, column `e`. -/
def zAt (x : Vec Ideal S2x16384x2048 .f32) (sc sh : Vec Ideal S2x1x2048 .f32) (w : Vec Ideal S2048x4608 .f32) (b : Fin 2)
    (t : Fin 16384) (e : Fin 4608) : EReal :=
  ∑ k, hAt x sc sh b t k * w (ix2 k e)

/-- Columns `o` to `o + 1535` of the product, the first 512 of them (a branch's queries) scaled. -/
def qAt (x : Vec Ideal S2x16384x2048 .f32) (sc sh : Vec Ideal S2x1x2048 .f32) (w : Vec Ideal S2048x4608 .f32) (o : Nat)
    (ho : o ≤ 3072) (b : Fin 2) (t : Fin 16384) (e : Fin 1536) : EReal :=
  if e.val < 512 then zAt x sc sh w b t ⟨o + e.val, by omega⟩ * qs else zAt x sc sh w b t ⟨o + e.val, by omega⟩

/-- The mean of the 256 keys (columns 3584 to 4095 of the product) of block `a` of half `i`'s two, at column `e`. -/
def mAt (x : Vec Ideal S2x16384x2048 .f32) (sc sh : Vec Ideal S2x1x2048 .f32) (w : Vec Ideal S2048x4608 .f32) (b : Fin 2)
    (i : Fin 32) (a : Fin 2) (e : Fin 512) : EReal :=
  Ideal.div (∑ r : Fin 256, zAt x sc sh w b ⟨i.val * 512 + (a.val * 256 + r.val), by omega⟩ ⟨3584 + e.val, by omega⟩) nk

/-- The modulated input as a whole array. -/
def g4 (x : Vec Ideal S2x16384x2048 .f32) (sc sh : Vec Ideal S2x1x2048 .f32) : Vec Ideal S2x16384x2048 .bf16 :=
  fun i => hAt x sc sh (i 0) (i 1) (i 2)

/-- The first branch's queries (scaled), keys and values as a whole array. -/
def g5 (x : Vec Ideal S2x16384x2048 .f32) (sc sh : Vec Ideal S2x1x2048 .f32) (w : Vec Ideal S2048x4608 .f32) :
    Vec Ideal S2x16384x1536 .bf16 :=
  fun i => qAt x sc sh w 0 (by omega) (i 0) (i 1) (i 2)

/-- The middle branches' three pieces as a whole array. -/
def g6 (x : Vec Ideal S2x16384x2048 .f32) (sc sh : Vec Ideal S2x1x2048 .f32) (w : Vec Ideal S2048x4608 .f32) :
    Vec Ideal S2x16384x1536 .f32 :=
  fun i => zAt x sc sh w (i 0) (i 1) ⟨1536 + (i 2).val, by have : (i 2).val < 1536 := (i 2).isLt; omega⟩

/-- The last branch's queries (scaled), keys and values as a whole array. -/
def g7 (x : Vec Ideal S2x16384x2048 .f32) (sc sh : Vec Ideal S2x1x2048 .f32) (w : Vec Ideal S2048x4608 .f32) :
    Vec Ideal S2x16384x1536 .bf16 :=
  fun i => qAt x sc sh w 3072 (by omega) (i 0) (i 1) (i 2)

/-- The last branch's key means as a whole array. -/
def g8 (x : Vec Ideal S2x16384x2048 .f32) (sc sh : Vec Ideal S2x1x2048 .f32) (w : Vec Ideal S2048x4608 .f32) :
    Vec Ideal S2x32x2x512 .f32 :=
  fun i => mAt x sc sh w (i 0) (i 1) (i 2) (i 3)

variable (m : (ℓ : Loc nD τ sig) → Buf (Elt Ideal) ℓ) (ρ : Dev nD → PrngReg)

/-! ## The array the host prepares -/

/-- The weights as the call finds them, entry by entry: the argument's entries. -/
theorem V_w (c : Dev nD) (k : Fin 2048) (e : Fin 4608) :
    V m c main_v0 (ix2 k e) = m ((c : Thread nD τ).loc main_arg3) (ix2 k e) := by
  have h : @Eq (FVec Ideal S2048x4608 .bf16) (V m c main_v0) (truncf (F := Ideal) (s := S2048x4608) (φ := .f32) .bf16 (m ((c : Thread nD τ).loc main_arg3)) bitsLt_bf16_f32) := by
    show StableHlo.after hostOps0 _ _ = _
    simp only [hostOps0]
    after_results_simp <;> rfl
  exact congrFun h _

/-! ## The blocks the points read -/

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem idx1 : ∀ t : Fin cfg0.N, win0_1.index t (0 : Fin 3) = t.val / 32 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val / 32 ∧ win0_4.index t (1 : Fin 3) = t.val % 32 ∧ win0_4.index t (2 : Fin 3) = 0 :=
  (by decide +kernel : ∀ t : Fin grid0.N, _)
theorem idx5 : ∀ t : Fin cfg0.N, win0_5.index t (0 : Fin 3) = t.val / 32 ∧ win0_5.index t (1 : Fin 3) = t.val % 32 ∧ win0_5.index t (2 : Fin 3) = 0 :=
  (by decide +kernel : ∀ t : Fin grid0.N, _)
theorem idx6 : ∀ t : Fin cfg0.N, win0_6.index t (0 : Fin 3) = t.val / 32 ∧ win0_6.index t (1 : Fin 3) = t.val % 32 ∧ win0_6.index t (2 : Fin 3) = 0 :=
  (by decide +kernel : ∀ t : Fin grid0.N, _)
theorem idx7 : ∀ t : Fin cfg0.N, win0_7.index t (0 : Fin 3) = t.val / 32 ∧ win0_7.index t (1 : Fin 3) = t.val % 32 ∧ win0_7.index t (2 : Fin 3) = 0 :=
  (by decide +kernel : ∀ t : Fin grid0.N, _)
theorem idx8 : ∀ t : Fin cfg0.N, win0_8.index t (0 : Fin 4) = t.val / 32 ∧ win0_8.index t (1 : Fin 4) = t.val % 32 ∧ win0_8.index t (2 : Fin 4) = 0 ∧ win0_8.index t (3 : Fin 4) = 0 :=
  (by decide +kernel : ∀ t : Fin grid0.N, _)

/-- The point's batch. -/
def bat (t : Fin cfg0.N) : Fin 2 := ⟨t.val / 32, by have := t.isLt; have : cfg0.N = 64 := N_0; omega⟩
/-- The point's row block. -/
def rb (t : Fin cfg0.N) : Fin 32 := ⟨t.val % 32, by omega⟩
/-- Row `p` of the point's row block, as a row of the batch. -/
def row (t : Fin cfg0.N) (p : Fin 512) : Fin 16384 := ⟨t.val % 32 * 512 + p.val, by omega⟩

theorem iblk0 (c : Dev nD) (t : Fin cfg0.N) (p : Fin 512) (k : Fin 2048) :
    iblk m c 0 t (ix3 0 p k) = m ((c : Thread nD τ).loc main_arg0) (ix3 (bat t) (row t p) k) := by
  obtain ⟨e0, e1, e2⟩ := idx0 t
  rw [← V_main_arg0 m c]
  show V m c main_arg0 (((cfg0.win 0).blk t).view.emb (ix3 0 p k)) = _
  congr 1; funext a; apply Fin.ext
  match a with
  | ⟨0, _⟩ => show win0_0.index t (0 : Fin 3) * 1 + 1 * 0 = t.val / 32; omega
  | ⟨1, _⟩ => show win0_0.index t (1 : Fin 3) * 512 + 1 * p.val = t.val % 32 * 512 + p.val; omega
  | ⟨2, _⟩ => show win0_0.index t (2 : Fin 3) * 2048 + 1 * k.val = k.val; omega

theorem iblk1 (c : Dev nD) (t : Fin cfg0.N) (k : Fin 2048) :
    iblk m c 1 t (ix3 0 0 k) = m ((c : Thread nD τ).loc main_arg1) (ix3 (bat t) 0 k) := by
  obtain ⟨e0, e1, e2⟩ := idx1 t
  rw [← V_main_arg1 m c]
  show V m c main_arg1 (((cfg0.win 1).blk t).view.emb (ix3 0 0 k)) = _
  congr 1; funext a; apply Fin.ext
  match a with
  | ⟨0, _⟩ => show win0_1.index t (0 : Fin 3) * 1 + 1 * 0 = t.val / 32; omega
  | ⟨1, _⟩ => show win0_1.index t (1 : Fin 3) * 1 + 1 * 0 = 0; omega
  | ⟨2, _⟩ => show win0_1.index t (2 : Fin 3) * 2048 + 1 * k.val = k.val; omega

theorem iblk2 (c : Dev nD) (t : Fin cfg0.N) (k : Fin 2048) :
    iblk m c 2 t (ix3 0 0 k) = m ((c : Thread nD τ).loc main_arg2) (ix3 (bat t) 0 k) := by
  obtain ⟨e0, e1, e2⟩ := idx2 t
  rw [← V_main_arg2 m c]
  show V m c main_arg2 (((cfg0.win 2).blk t).view.emb (ix3 0 0 k)) = _
  congr 1; funext a; apply Fin.ext
  match a with
  | ⟨0, _⟩ => show win0_2.index t (0 : Fin 3) * 1 + 1 * 0 = t.val / 32; omega
  | ⟨1, _⟩ => show win0_2.index t (1 : Fin 3) * 1 + 1 * 0 = 0; omega
  | ⟨2, _⟩ => show win0_2.index t (2 : Fin 3) * 2048 + 1 * k.val = k.val; omega

theorem iblk3 (c : Dev nD) (t : Fin cfg0.N) (k : Fin 2048) (e : Fin 4608) :
    iblk m c 3 t (ix2 k e) = m ((c : Thread nD τ).loc main_arg3) (ix2 k e) := by
  obtain ⟨e0, e1⟩ := idx3 t
  rw [← V_w m c]
  show V m c main_v0 (((cfg0.win 3).blk t).view.emb (ix2 k e)) = _
  congr 1; funext a; apply Fin.ext
  match a with
  | ⟨0, _⟩ => show win0_3.index t (0 : Fin 2) * 2048 + 1 * k.val = k.val; omega
  | ⟨1, _⟩ => show win0_3.index t (1 : Fin 2) * 4608 + 1 * e.val = e.val; omega

/-- The block's modulated input is the batch's at the block's rows, -/
theorem hB_iblk (c : Dev nD) (t : Fin cfg0.N) (p : Fin 512) (k : Fin 2048) :
    hB (iblk m c 0 t) (iblk m c 1 t) (iblk m c 2 t) p k
      = hAt (m ((c : Thread nD τ).loc main_arg0)) (m ((c : Thread nD τ).loc main_arg1)) (m ((c : Thread nD τ).loc main_arg2))
          (bat t) (row t p) k := by
  unfold hB hAt
  rw [iblk0, iblk1, iblk2]

/-- and so is its product with the weights. -/
theorem zB_iblk (c : Dev nD) (t : Fin cfg0.N) (p : Fin 512) (e : Fin 4608) :
    zB (iblk m c 0 t) (iblk m c 1 t) (iblk m c 2 t) (iblk m c 3 t) p e
      = zAt (m ((c : Thread nD τ).loc main_arg0)) (m ((c : Thread nD τ).loc main_arg1)) (m ((c : Thread nD τ).loc main_arg2))
          (m ((c : Thread nD τ).loc main_arg3)) (bat t) (row t p) e := by
  unfold zB zAt
  exact Finset.sum_congr rfl fun k _ => by rw [hB_iblk, iblk3]

/-! ## The result arrays -/

/-- The modulated input of device `c`'s arguments. -/
abbrev G4 (c : Dev nD) : Vec Ideal S2x16384x2048 .bf16 := g4 (m ((c : Thread nD τ).loc main_arg0)) (m ((c : Thread nD τ).loc main_arg1)) (m ((c : Thread nD τ).loc main_arg2))

/-- What point `t` writes back to this result is its block of that array. -/
theorem flushed_eq4 (c : Dev nD) (t : Fin cfg0.N) :
    (dats m 0 c).flushed 4 t = (win0_4.blk t).view.read (Elt Ideal) (G4 m c) := by
  obtain ⟨e0, e1, e2⟩ := idx4 t
  rw [Value.flushed4]
  funext (j : S1x512x2048.Idx)
  obtain ⟨p, q, rfl⟩ : ∃ (p : Fin 512) (q : Fin 2048), j = ix3 0 p q :=
    ⟨j 1, j 2, (eq_ix3 j).trans (congrArg (fun z : Fin 1 => ix3 z (j 1) (j 2)) (Subsingleton.elim (α := Fin 1) _ _))⟩
  show out0_4 (iblk m c 0 t) (iblk m c 1 t) (iblk m c 2 t) (iblk m c 3 t) (ix3 0 p q) = G4 m c (((cfg0.win 4).blk t).view.emb (ix3 0 p q))
  have he : ((cfg0.win 4).blk t).view.emb (ix3 0 p q) = ix3 (bat t) (row t p) q := by
    funext a; apply Fin.ext
    match a with
    | ⟨0, _⟩ => show win0_4.index t (0 : Fin 3) * 1 + 1 * 0 = t.val / 32; omega
    | ⟨1, _⟩ => show win0_4.index t (1 : Fin 3) * 512 + 1 * p.val = t.val % 32 * 512 + p.val; omega
    | ⟨2, _⟩ => show win0_4.index t (2 : Fin 3) * 2048 + 1 * q.val = q.val; omega
  rw [he, out4_apply, hB_iblk]
  rfl

/-- An index is in point `t`'s block exactly when its batch and its row block are the point's. -/
theorem mem_blk4 (t : Fin cfg0.N) (i : S2x16384x2048.Idx) :
    i ∈ ((cfg0.win 4).blk t).view.set ↔ (i 0 : Nat) = t.val / 32 ∧ (i 1 : Nat) / 512 = t.val % 32 := by
  obtain ⟨e0, e1, e2⟩ := idx4 t
  have hw : (i 2 : Nat) < 2048 := (i 2).isLt
  show i ∈ ((View.whole main_v1_0).slice (win0_4.rect t)).set ↔ _
  rw [View.set_slice_whole, Rect.mem_set_unit]
  refine ⟨fun h => ?_, fun h a => ?_⟩
  · have h0 : win0_4.index t (0 : Fin 3) * 1 ≤ (i 0 : Nat) ∧ (i 0 : Nat) < win0_4.index t (0 : Fin 3) * 1 + 1 := h 0
    have h1 : win0_4.index t (1 : Fin 3) * 512 ≤ (i 1 : Nat) ∧ (i 1 : Nat) < win0_4.index t (1 : Fin 3) * 512 + 512 := h 1
    omega
  · match a with
    | ⟨0, _⟩ => show win0_4.index t (0 : Fin 3) * 1 ≤ (i 0 : Nat) ∧ (i 0 : Nat) < win0_4.index t (0 : Fin 3) * 1 + 1; omega
    | ⟨1, _⟩ => show win0_4.index t (1 : Fin 3) * 512 ≤ (i 1 : Nat) ∧ (i 1 : Nat) < win0_4.index t (1 : Fin 3) * 512 + 512; omega
    | ⟨2, _⟩ => show win0_4.index t (2 : Fin 3) * 2048 ≤ (i 2 : Nat) ∧ (i 2 : Nat) < win0_4.index t (2 : Fin 3) * 2048 + 2048; omega

/-- The points' blocks cover this result, -/
theorem cover4 (i : S2x16384x2048.Idx) :
    ∃ t : Fin cfg0.N, (cfg0.win 4).flush t = true ∧ i ∈ ((cfg0.win 4).blk t).view.set := by
  have h0 : (i 0 : Nat) < 2 := (i 0).isLt
  have h1 : (i 1 : Nat) < 16384 := (i 1).isLt
  have hN : cfg0.N = 64 := N_0
  refine ⟨⟨(i 0 : Nat) * 32 + (i 1 : Nat) / 512, by omega⟩, flush0_4 _, ?_⟩
  rw [mem_blk4]
  dsimp only
  omega

/-- so it ends holding that array. -/
theorem final4 (c : Dev nD) : (dats m 0 c).arrAt 4 cfg0.N = G4 m c :=
  (dats m 0 c).arrAt_eq_of_cover 4 (G4 m c) (fun t _ => flushed_eq4 m c t) cover4

/-- The first branch's queries, keys and values of device `c`'s arguments. -/
abbrev G5 (c : Dev nD) : Vec Ideal S2x16384x1536 .bf16 := g5 (m ((c : Thread nD τ).loc main_arg0)) (m ((c : Thread nD τ).loc main_arg1)) (m ((c : Thread nD τ).loc main_arg2)) (m ((c : Thread nD τ).loc main_arg3))

/-- What point `t` writes back to this result is its block of that array. -/
theorem flushed_eq5 (c : Dev nD) (t : Fin cfg0.N) :
    (dats m 0 c).flushed 5 t = (win0_5.blk t).view.read (Elt Ideal) (G5 m c) := by
  obtain ⟨e0, e1, e2⟩ := idx5 t
  rw [Value.flushed5]
  funext (j : S1x512x1536.Idx)
  obtain ⟨p, q, rfl⟩ : ∃ (p : Fin 512) (q : Fin 1536), j = ix3 0 p q :=
    ⟨j 1, j 2, (eq_ix3 j).trans (congrArg (fun z : Fin 1 => ix3 z (j 1) (j 2)) (Subsingleton.elim (α := Fin 1) _ _))⟩
  show out0_5 (iblk m c 0 t) (iblk m c 1 t) (iblk m c 2 t) (iblk m c 3 t) (ix3 0 p q) = G5 m c (((cfg0.win 5).blk t).view.emb (ix3 0 p q))
  have he : ((cfg0.win 5).blk t).view.emb (ix3 0 p q) = ix3 (bat t) (row t p) q := by
    funext a; apply Fin.ext
    match a with
    | ⟨0, _⟩ => show win0_5.index t (0 : Fin 3) * 1 + 1 * 0 = t.val / 32; omega
    | ⟨1, _⟩ => show win0_5.index t (1 : Fin 3) * 512 + 1 * p.val = t.val % 32 * 512 + p.val; omega
    | ⟨2, _⟩ => show win0_5.index t (2 : Fin 3) * 1536 + 1 * q.val = q.val; omega
  rw [he, out5_apply, zB_iblk]
  rfl

/-- An index is in point `t`'s block exactly when its batch and its row block are the point's. -/
theorem mem_blk5 (t : Fin cfg0.N) (i : S2x16384x1536.Idx) :
    i ∈ ((cfg0.win 5).blk t).view.set ↔ (i 0 : Nat) = t.val / 32 ∧ (i 1 : Nat) / 512 = t.val % 32 := by
  obtain ⟨e0, e1, e2⟩ := idx5 t
  have hw : (i 2 : Nat) < 1536 := (i 2).isLt
  show i ∈ ((View.whole main_v1_1).slice (win0_5.rect t)).set ↔ _
  rw [View.set_slice_whole, Rect.mem_set_unit]
  refine ⟨fun h => ?_, fun h a => ?_⟩
  · have h0 : win0_5.index t (0 : Fin 3) * 1 ≤ (i 0 : Nat) ∧ (i 0 : Nat) < win0_5.index t (0 : Fin 3) * 1 + 1 := h 0
    have h1 : win0_5.index t (1 : Fin 3) * 512 ≤ (i 1 : Nat) ∧ (i 1 : Nat) < win0_5.index t (1 : Fin 3) * 512 + 512 := h 1
    omega
  · match a with
    | ⟨0, _⟩ => show win0_5.index t (0 : Fin 3) * 1 ≤ (i 0 : Nat) ∧ (i 0 : Nat) < win0_5.index t (0 : Fin 3) * 1 + 1; omega
    | ⟨1, _⟩ => show win0_5.index t (1 : Fin 3) * 512 ≤ (i 1 : Nat) ∧ (i 1 : Nat) < win0_5.index t (1 : Fin 3) * 512 + 512; omega
    | ⟨2, _⟩ => show win0_5.index t (2 : Fin 3) * 1536 ≤ (i 2 : Nat) ∧ (i 2 : Nat) < win0_5.index t (2 : Fin 3) * 1536 + 1536; omega

/-- The points' blocks cover this result, -/
theorem cover5 (i : S2x16384x1536.Idx) :
    ∃ t : Fin cfg0.N, (cfg0.win 5).flush t = true ∧ i ∈ ((cfg0.win 5).blk t).view.set := by
  have h0 : (i 0 : Nat) < 2 := (i 0).isLt
  have h1 : (i 1 : Nat) < 16384 := (i 1).isLt
  have hN : cfg0.N = 64 := N_0
  refine ⟨⟨(i 0 : Nat) * 32 + (i 1 : Nat) / 512, by omega⟩, flush0_5 _, ?_⟩
  rw [mem_blk5]
  dsimp only
  omega

/-- so it ends holding that array. -/
theorem final5 (c : Dev nD) : (dats m 0 c).arrAt 5 cfg0.N = G5 m c :=
  (dats m 0 c).arrAt_eq_of_cover 5 (G5 m c) (fun t _ => flushed_eq5 m c t) cover5

/-- The middle branches' pieces of device `c`'s arguments. -/
abbrev G6 (c : Dev nD) : Vec Ideal S2x16384x1536 .f32 := g6 (m ((c : Thread nD τ).loc main_arg0)) (m ((c : Thread nD τ).loc main_arg1)) (m ((c : Thread nD τ).loc main_arg2)) (m ((c : Thread nD τ).loc main_arg3))

/-- What point `t` writes back to this result is its block of that array. -/
theorem flushed_eq6 (c : Dev nD) (t : Fin cfg0.N) :
    (dats m 0 c).flushed 6 t = (win0_6.blk t).view.read (Elt Ideal) (G6 m c) := by
  obtain ⟨e0, e1, e2⟩ := idx6 t
  rw [Value.flushed6]
  funext (j : S1x512x1536.Idx)
  obtain ⟨p, q, rfl⟩ : ∃ (p : Fin 512) (q : Fin 1536), j = ix3 0 p q :=
    ⟨j 1, j 2, (eq_ix3 j).trans (congrArg (fun z : Fin 1 => ix3 z (j 1) (j 2)) (Subsingleton.elim (α := Fin 1) _ _))⟩
  show out0_6 (iblk m c 0 t) (iblk m c 1 t) (iblk m c 2 t) (iblk m c 3 t) (ix3 0 p q) = G6 m c (((cfg0.win 6).blk t).view.emb (ix3 0 p q))
  have he : ((cfg0.win 6).blk t).view.emb (ix3 0 p q) = ix3 (bat t) (row t p) q := by
    funext a; apply Fin.ext
    match a with
    | ⟨0, _⟩ => show win0_6.index t (0 : Fin 3) * 1 + 1 * 0 = t.val / 32; omega
    | ⟨1, _⟩ => show win0_6.index t (1 : Fin 3) * 512 + 1 * p.val = t.val % 32 * 512 + p.val; omega
    | ⟨2, _⟩ => show win0_6.index t (2 : Fin 3) * 1536 + 1 * q.val = q.val; omega
  rw [he, out6_apply, zB_iblk]
  rfl

/-- An index is in point `t`'s block exactly when its batch and its row block are the point's. -/
theorem mem_blk6 (t : Fin cfg0.N) (i : S2x16384x1536.Idx) :
    i ∈ ((cfg0.win 6).blk t).view.set ↔ (i 0 : Nat) = t.val / 32 ∧ (i 1 : Nat) / 512 = t.val % 32 := by
  obtain ⟨e0, e1, e2⟩ := idx6 t
  have hw : (i 2 : Nat) < 1536 := (i 2).isLt
  show i ∈ ((View.whole main_v1_2).slice (win0_6.rect t)).set ↔ _
  rw [View.set_slice_whole, Rect.mem_set_unit]
  refine ⟨fun h => ?_, fun h a => ?_⟩
  · have h0 : win0_6.index t (0 : Fin 3) * 1 ≤ (i 0 : Nat) ∧ (i 0 : Nat) < win0_6.index t (0 : Fin 3) * 1 + 1 := h 0
    have h1 : win0_6.index t (1 : Fin 3) * 512 ≤ (i 1 : Nat) ∧ (i 1 : Nat) < win0_6.index t (1 : Fin 3) * 512 + 512 := h 1
    omega
  · match a with
    | ⟨0, _⟩ => show win0_6.index t (0 : Fin 3) * 1 ≤ (i 0 : Nat) ∧ (i 0 : Nat) < win0_6.index t (0 : Fin 3) * 1 + 1; omega
    | ⟨1, _⟩ => show win0_6.index t (1 : Fin 3) * 512 ≤ (i 1 : Nat) ∧ (i 1 : Nat) < win0_6.index t (1 : Fin 3) * 512 + 512; omega
    | ⟨2, _⟩ => show win0_6.index t (2 : Fin 3) * 1536 ≤ (i 2 : Nat) ∧ (i 2 : Nat) < win0_6.index t (2 : Fin 3) * 1536 + 1536; omega

/-- The points' blocks cover this result, -/
theorem cover6 (i : S2x16384x1536.Idx) :
    ∃ t : Fin cfg0.N, (cfg0.win 6).flush t = true ∧ i ∈ ((cfg0.win 6).blk t).view.set := by
  have h0 : (i 0 : Nat) < 2 := (i 0).isLt
  have h1 : (i 1 : Nat) < 16384 := (i 1).isLt
  have hN : cfg0.N = 64 := N_0
  refine ⟨⟨(i 0 : Nat) * 32 + (i 1 : Nat) / 512, by omega⟩, flush0_6 _, ?_⟩
  rw [mem_blk6]
  dsimp only
  omega

/-- so it ends holding that array. -/
theorem final6 (c : Dev nD) : (dats m 0 c).arrAt 6 cfg0.N = G6 m c :=
  (dats m 0 c).arrAt_eq_of_cover 6 (G6 m c) (fun t _ => flushed_eq6 m c t) cover6

/-- The last branch's queries, keys and values of device `c`'s arguments. -/
abbrev G7 (c : Dev nD) : Vec Ideal S2x16384x1536 .bf16 := g7 (m ((c : Thread nD τ).loc main_arg0)) (m ((c : Thread nD τ).loc main_arg1)) (m ((c : Thread nD τ).loc main_arg2)) (m ((c : Thread nD τ).loc main_arg3))

/-- What point `t` writes back to this result is its block of that array. -/
theorem flushed_eq7 (c : Dev nD) (t : Fin cfg0.N) :
    (dats m 0 c).flushed 7 t = (win0_7.blk t).view.read (Elt Ideal) (G7 m c) := by
  obtain ⟨e0, e1, e2⟩ := idx7 t
  rw [Value.flushed7]
  funext (j : S1x512x1536.Idx)
  obtain ⟨p, q, rfl⟩ : ∃ (p : Fin 512) (q : Fin 1536), j = ix3 0 p q :=
    ⟨j 1, j 2, (eq_ix3 j).trans (congrArg (fun z : Fin 1 => ix3 z (j 1) (j 2)) (Subsingleton.elim (α := Fin 1) _ _))⟩
  show out0_7 (iblk m c 0 t) (iblk m c 1 t) (iblk m c 2 t) (iblk m c 3 t) (ix3 0 p q) = G7 m c (((cfg0.win 7).blk t).view.emb (ix3 0 p q))
  have he : ((cfg0.win 7).blk t).view.emb (ix3 0 p q) = ix3 (bat t) (row t p) q := by
    funext a; apply Fin.ext
    match a with
    | ⟨0, _⟩ => show win0_7.index t (0 : Fin 3) * 1 + 1 * 0 = t.val / 32; omega
    | ⟨1, _⟩ => show win0_7.index t (1 : Fin 3) * 512 + 1 * p.val = t.val % 32 * 512 + p.val; omega
    | ⟨2, _⟩ => show win0_7.index t (2 : Fin 3) * 1536 + 1 * q.val = q.val; omega
  rw [he, out7_apply, zB_iblk]
  rfl

/-- An index is in point `t`'s block exactly when its batch and its row block are the point's. -/
theorem mem_blk7 (t : Fin cfg0.N) (i : S2x16384x1536.Idx) :
    i ∈ ((cfg0.win 7).blk t).view.set ↔ (i 0 : Nat) = t.val / 32 ∧ (i 1 : Nat) / 512 = t.val % 32 := by
  obtain ⟨e0, e1, e2⟩ := idx7 t
  have hw : (i 2 : Nat) < 1536 := (i 2).isLt
  show i ∈ ((View.whole main_v1_3).slice (win0_7.rect t)).set ↔ _
  rw [View.set_slice_whole, Rect.mem_set_unit]
  refine ⟨fun h => ?_, fun h a => ?_⟩
  · have h0 : win0_7.index t (0 : Fin 3) * 1 ≤ (i 0 : Nat) ∧ (i 0 : Nat) < win0_7.index t (0 : Fin 3) * 1 + 1 := h 0
    have h1 : win0_7.index t (1 : Fin 3) * 512 ≤ (i 1 : Nat) ∧ (i 1 : Nat) < win0_7.index t (1 : Fin 3) * 512 + 512 := h 1
    omega
  · match a with
    | ⟨0, _⟩ => show win0_7.index t (0 : Fin 3) * 1 ≤ (i 0 : Nat) ∧ (i 0 : Nat) < win0_7.index t (0 : Fin 3) * 1 + 1; omega
    | ⟨1, _⟩ => show win0_7.index t (1 : Fin 3) * 512 ≤ (i 1 : Nat) ∧ (i 1 : Nat) < win0_7.index t (1 : Fin 3) * 512 + 512; omega
    | ⟨2, _⟩ => show win0_7.index t (2 : Fin 3) * 1536 ≤ (i 2 : Nat) ∧ (i 2 : Nat) < win0_7.index t (2 : Fin 3) * 1536 + 1536; omega

/-- The points' blocks cover this result, -/
theorem cover7 (i : S2x16384x1536.Idx) :
    ∃ t : Fin cfg0.N, (cfg0.win 7).flush t = true ∧ i ∈ ((cfg0.win 7).blk t).view.set := by
  have h0 : (i 0 : Nat) < 2 := (i 0).isLt
  have h1 : (i 1 : Nat) < 16384 := (i 1).isLt
  have hN : cfg0.N = 64 := N_0
  refine ⟨⟨(i 0 : Nat) * 32 + (i 1 : Nat) / 512, by omega⟩, flush0_7 _, ?_⟩
  rw [mem_blk7]
  dsimp only
  omega

/-- so it ends holding that array. -/
theorem final7 (c : Dev nD) : (dats m 0 c).arrAt 7 cfg0.N = G7 m c :=
  (dats m 0 c).arrAt_eq_of_cover 7 (G7 m c) (fun t _ => flushed_eq7 m c t) cover7

/-- The last branch's key means of device `c`'s arguments. -/
abbrev G8 (c : Dev nD) : Vec Ideal S2x32x2x512 .f32 := g8 (m ((c : Thread nD τ).loc main_arg0)) (m ((c : Thread nD τ).loc main_arg1)) (m ((c : Thread nD τ).loc main_arg2)) (m ((c : Thread nD τ).loc main_arg3))

/-- What point `t` writes back to this result is its block of that array. -/
theorem flushed_eq8 (c : Dev nD) (t : Fin cfg0.N) :
    (dats m 0 c).flushed 8 t = (win0_8.blk t).view.read (Elt Ideal) (G8 m c) := by
  obtain ⟨e0, e1, e2, e3⟩ := idx8 t
  rw [Value.flushed8]
  funext (j : S1x1x2x512.Idx)
  obtain ⟨p, q, rfl⟩ : ∃ (p : Fin 2) (q : Fin 512), j = ix4 0 0 p q :=
    ⟨j 2, j 3, (eq_ix4 j).trans (congrArg₂ (fun y z : Fin 1 => ix4 y z (j 2) (j 3)) (Subsingleton.elim (α := Fin 1) _ _) (Subsingleton.elim (α := Fin 1) _ _))⟩
  show out0_8 (iblk m c 0 t) (iblk m c 1 t) (iblk m c 2 t) (iblk m c 3 t) (ix4 0 0 p q) = G8 m c (((cfg0.win 8).blk t).view.emb (ix4 0 0 p q))
  have he : ((cfg0.win 8).blk t).view.emb (ix4 0 0 p q) = ix4 (bat t) (rb t) p q := by
    funext a; apply Fin.ext
    match a with
    | ⟨0, _⟩ => show win0_8.index t (0 : Fin 4) * 1 + 1 * 0 = t.val / 32; omega
    | ⟨1, _⟩ => show win0_8.index t (1 : Fin 4) * 1 + 1 * 0 = t.val % 32; omega
    | ⟨2, _⟩ => show win0_8.index t (2 : Fin 4) * 2 + 1 * p.val = p.val; omega
    | ⟨3, _⟩ => show win0_8.index t (3 : Fin 4) * 512 + 1 * q.val = q.val; omega
  match p with
  | ⟨0, _⟩ =>
      have he : ((cfg0.win 8).blk t).view.emb (ix4 0 0 0 q) = ix4 (bat t) (rb t) 0 q := he
      show out0_8 (iblk m c 0 t) (iblk m c 1 t) (iblk m c 2 t) (iblk m c 3 t) (ix4 0 0 0 q) = G8 m c (((cfg0.win 8).blk t).view.emb (ix4 0 0 0 q))
      rw [he, out8_0]
      simp only [zB_iblk]
      show Ideal.div _ nk = mAt _ _ _ _ (bat t) (rb t) 0 q
      unfold mAt
      congr 1
  | ⟨1, _⟩ =>
      have he : ((cfg0.win 8).blk t).view.emb (ix4 0 0 1 q) = ix4 (bat t) (rb t) 1 q := he
      show out0_8 (iblk m c 0 t) (iblk m c 1 t) (iblk m c 2 t) (iblk m c 3 t) (ix4 0 0 1 q) = G8 m c (((cfg0.win 8).blk t).view.emb (ix4 0 0 1 q))
      rw [he, out8_1]
      simp only [zB_iblk]
      show Ideal.div _ nk = mAt _ _ _ _ (bat t) (rb t) 1 q
      unfold mAt
      congr 1

/-- An index is in point `t`'s block exactly when its batch and its row block are the point's. -/
theorem mem_blk8 (t : Fin cfg0.N) (i : S2x32x2x512.Idx) :
    i ∈ ((cfg0.win 8).blk t).view.set ↔ (i 0 : Nat) = t.val / 32 ∧ (i 1 : Nat) = t.val % 32 := by
  obtain ⟨e0, e1, e2, e3⟩ := idx8 t
  have h2 : (i 2 : Nat) < 2 := (i 2).isLt
  have h3 : (i 3 : Nat) < 512 := (i 3).isLt
  show i ∈ ((View.whole main_v1_4).slice (win0_8.rect t)).set ↔ _
  rw [View.set_slice_whole, Rect.mem_set_unit]
  refine ⟨fun h => ?_, fun h a => ?_⟩
  · have h0 : win0_8.index t (0 : Fin 4) * 1 ≤ (i 0 : Nat) ∧ (i 0 : Nat) < win0_8.index t (0 : Fin 4) * 1 + 1 := h 0
    have h1 : win0_8.index t (1 : Fin 4) * 1 ≤ (i 1 : Nat) ∧ (i 1 : Nat) < win0_8.index t (1 : Fin 4) * 1 + 1 := h 1
    omega
  · match a with
    | ⟨0, _⟩ => show win0_8.index t (0 : Fin 4) * 1 ≤ (i 0 : Nat) ∧ (i 0 : Nat) < win0_8.index t (0 : Fin 4) * 1 + 1; omega
    | ⟨1, _⟩ => show win0_8.index t (1 : Fin 4) * 1 ≤ (i 1 : Nat) ∧ (i 1 : Nat) < win0_8.index t (1 : Fin 4) * 1 + 1; omega
    | ⟨2, _⟩ => show win0_8.index t (2 : Fin 4) * 2 ≤ (i 2 : Nat) ∧ (i 2 : Nat) < win0_8.index t (2 : Fin 4) * 2 + 2; omega
    | ⟨3, _⟩ => show win0_8.index t (3 : Fin 4) * 512 ≤ (i 3 : Nat) ∧ (i 3 : Nat) < win0_8.index t (3 : Fin 4) * 512 + 512; omega

/-- The points' blocks cover this result, -/
theorem cover8 (i : S2x32x2x512.Idx) :
    ∃ t : Fin cfg0.N, (cfg0.win 8).flush t = true ∧ i ∈ ((cfg0.win 8).blk t).view.set := by
  have h0 : (i 0 : Nat) < 2 := (i 0).isLt
  have h1 : (i 1 : Nat) < 32 := (i 1).isLt
  have hN : cfg0.N = 64 := N_0
  refine ⟨⟨(i 0 : Nat) * 32 + (i 1 : Nat), by omega⟩, flush0_8 _, ?_⟩
  rw [mem_blk8]
  dsimp only
  omega

/-- so it ends holding that array. -/
theorem final8 (c : Dev nD) : (dats m 0 c).arrAt 8 cfg0.N = G8 m c :=
  (dats m 0 c).arrAt_eq_of_cover 8 (G8 m c) (fun t _ => flushed_eq8 m c t) cover8

/-- The run, read: the five results are those functions of the arguments, the arguments are unchanged. -/
theorem run : θ_run defs (onTc (τ := τ) (main (F := Ideal))) ⟨m, fun _ => 0, ρ⟩ fun r => ∀ c : Dev nD,
      r.2.mem ((c : Thread nD τ).loc main_v1_0) = G4 m c
      ∧ r.2.mem ((c : Thread nD τ).loc main_v1_1) = G5 m c
      ∧ r.2.mem ((c : Thread nD τ).loc main_v1_2) = G6 m c
      ∧ r.2.mem ((c : Thread nD τ).loc main_v1_3) = G7 m c
      ∧ r.2.mem ((c : Thread nD τ).loc main_v1_4) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c),
    (h c).2.2.2.1.trans (final7 m c), (h c).2.2.2.2.1.trans (final8 m c), (h c).2.2.2.2.2⟩) (Value.run_blocks m ρ)

end Cert.Proof.Inproj

end
-- ==== Proof.InprojRefValue.lean ====
/- The input projection's reference, read at an index. -/
module

public import proofs.«01_k».proof.Proof.Gen.InprojRefIdeal.Run
public import proofs.«01_k».proof.Proof.InprojValue
public import Idealize.ShloMosaic.Lib.Pointwise

@[expose] public section

set_option maxRecDepth 16384

noncomputable section

namespace Cert.Proof.Inproj

open Idealize.ShloMosaic Idealize.ShloMosaic.Pointwise Cert.InprojRefIdeal Cert.InprojRefIdeal.Gen
open scoped BigOperators

/-- The reference's modulated input. -/
def rH (x : FVec Ideal S2x16384x2048 .f32) (sc sh : FVec Ideal S2x1x2048 .f32) : FVec Ideal S2x16384x2048 .f32 :=
  addf (mulf x (broadcastInDim S2x16384x2048 ![0, 1, 2] bcast_S2x1x2048_S2x16384x2048_0_1_2 (addf (broadcastInDim S2x1x2048 ![] bcast_S_S2x1x2048 (constant S_ .f32 0x3F800000#32)) sc))) (broadcastInDim S2x16384x2048 ![0, 1, 2] bcast_S2x1x2048_S2x16384x2048_0_1_2 sh)

/-- The reference's product with the weights. -/
def rZ (h : FVec Ideal S2x16384x2048 .f32) (w : FVec Ideal S2048x4608 .f32) : FVec Ideal S2x16384x4608 .f32 :=
  Host.dotGeneral dot_S2x16384x2048_S2048x4608_S2x16384x4608_2_0_01_1_n_n none h w

/-- The reference's modulated input at an index. -/
theorem rH_apply (x : FVec Ideal S2x16384x2048 .f32) (sc sh : FVec Ideal S2x1x2048 .f32) (b : Fin 2) (t : Fin 16384)
    (k : Fin 2048) : rH x sc sh (ix3 b t k) = hAt x sc sh b t k := by
  unfold hAt
  pointwise [rH]

/-- The reference's product with the weights at an index. -/
theorem rZ_apply (x : FVec Ideal S2x16384x2048 .f32) (sc sh : FVec Ideal S2x1x2048 .f32) (w : FVec Ideal S2048x4608 .f32)
    (b : Fin 2) (t : Fin 16384) (e : Fin 4608) : rZ (rH x sc sh) w (ix3 b t e) = zAt x sc sh w b t e := by
  have h : ∀ y : FVec Ideal S2x16384x2048 .f32, rZ y w (ix3 b t e) = ∑ k, y (ix3 b t k) * w (ix2 k e) := by
    intro y
    pointwise [rZ]
  rw [h]
  exact Finset.sum_congr rfl fun k _ => by rw [rH_apply]

/-- The reference's first branch's result, from the product. -/
def rA (z : FVec Ideal S2x16384x4608 .f32) : FVec Ideal S2x16384x1536 .f32 :=
  (concatenate S2x16384x1536 2 [⟨S2x16384x512, ((mulf (extractStridedSlice S2x16384x512 ![0, 0, 0] z slices_S2x16384x4608_S2x16384x512_0_0_0) (broadcastInDim S2x16384x512 ![] bcast_S_S2x16384x512 (constant S_ .f32 0x3E000000#32))) : (⟨S2x16384x512, .f32⟩ : BufTy).Contents (Elt Ideal))⟩, ⟨S2x16384x512, ((extractStridedSlice S2x16384x512 ![0, 0, 512] z slices_S2x16384x4608_S2x16384x512_0_0_512) : (⟨S2x16384x512, .f32⟩ : BufTy).Contents (Elt Ideal))⟩, ⟨S2x16384x512, ((extractStridedSlice S2x16384x512 ![0, 0, 1024] z slices_S2x16384x4608_S2x16384x512_0_0_1024) : (⟨S2x16384x512, .f32⟩ : BufTy).Contents (Elt Ideal))⟩] concatenates_S2x16384x512_S2x16384x512_S2x16384x512_S2x16384x1536_d2 : (⟨S2x16384x1536, .f32⟩ : BufTy).Contents (Elt Ideal))

/-- That result at an index. -/
theorem rA_apply (z : FVec Ideal S2x16384x4608 .f32) (b : Fin 2) (t : Fin 16384) (e : Fin 1536) :
    rA z (ix3 b t e) = if e.val < 512 then z (ix3 b t ⟨0 + e.val, by omega⟩) * qs else z (ix3 b t ⟨0 + e.val, by omega⟩) := by
  unfold qs
  have hz : ∀ (n n' : Nat) (hn : n < 4608) (hn' : n' < 4608), n = n' → z (ix3 b t ⟨n, hn⟩) = z (ix3 b t ⟨n', hn'⟩) := by
    intro n n' hn hn' h; subst h; rfl
  pointwise [rA]
  split_ifs <;> first | rfl | exact hz _ _ _ _ (by omega) | omega

/-- The reference's middle branches' result, from the product. -/
def rP (z : FVec Ideal S2x16384x4608 .f32) : FVec Ideal S2x16384x1536 .f32 :=
  (concatenate S2x16384x1536 2 [⟨S2x16384x512, ((extractStridedSlice S2x16384x512 ![0, 0, 1536] z slices_S2x16384x4608_S2x16384x512_0_0_1536) : (⟨S2x16384x512, .f32⟩ : BufTy).Contents (Elt Ideal))⟩, ⟨S2x16384x512, ((extractStridedSlice S2x16384x512 ![0, 0, 2048] z slices_S2x16384x4608_S2x16384x512_0_0_2048) : (⟨S2x16384x512, .f32⟩ : BufTy).Contents (Elt Ideal))⟩, ⟨S2x16384x512, ((extractStridedSlice S2x16384x512 ![0, 0, 2560] z slices_S2x16384x4608_S2x16384x512_0_0_2560) : (⟨S2x16384x512, .f32⟩ : BufTy).Contents (Elt Ideal))⟩] concatenates_S2x16384x512_S2x16384x512_S2x16384x512_S2x16384x1536_d2 : (⟨S2x16384x1536, .f32⟩ : BufTy).Contents (Elt Ideal))

/-- That result at an index. -/
theorem rP_apply (z : FVec Ideal S2x16384x4608 .f32) (b : Fin 2) (t : Fin 16384) (e : Fin 1536) :
    rP z (ix3 b t e) = z (ix3 b t ⟨1536 + e.val, by omega⟩) := by

  have hz : ∀ (n n' : Nat) (hn : n < 4608) (hn' : n' < 4608), n = n' → z (ix3 b t ⟨n, hn⟩) = z (ix3 b t ⟨n', hn'⟩) := by
    intro n n' hn hn' h; subst h; rfl
  pointwise [rP]
  split_ifs <;> first | rfl | exact hz _ _ _ _ (by omega) | omega

/-- The reference's last branch's result, from the product. -/
def rD (z : FVec Ideal S2x16384x4608 .f32) : FVec Ideal S2x16384x1536 .f32 :=
  (concatenate S2x16384x1536 2 [⟨S2x16384x512, ((mulf (extractStridedSlice S2x16384x512 ![0, 0, 3072] z slices_S2x16384x4608_S2x16384x512_0_0_3072) (broadcastInDim S2x16384x512 ![] bcast_S_S2x16384x512 (constant S_ .f32 0x3E000000#32))) : (⟨S2x16384x512, .f32⟩ : BufTy).Contents (Elt Ideal))⟩, ⟨S2x16384x512, ((extractStridedSlice S2x16384x512 ![0, 0, 3584] z slices_S2x16384x4608_S2x16384x512_0_0_3584) : (⟨S2x16384x512, .f32⟩ : BufTy).Contents (Elt Ideal))⟩, ⟨S2x16384x512, ((extractStridedSlice S2x16384x512 ![0, 0, 4096] z slices_S2x16384x4608_S2x16384x512_0_0_4096) : (⟨S2x16384x512, .f32⟩ : BufTy).Contents (Elt Ideal))⟩] concatenates_S2x16384x512_S2x16384x512_S2x16384x512_S2x16384x1536_d2 : (⟨S2x16384x1536, .f32⟩ : BufTy).Contents (Elt Ideal))

/-- That result at an index. -/
theorem rD_apply (z : FVec Ideal S2x16384x4608 .f32) (b : Fin 2) (t : Fin 16384) (e : Fin 1536) :
    rD z (ix3 b t e) = if e.val < 512 then z (ix3 b t ⟨3072 + e.val, by omega⟩) * qs else z (ix3 b t ⟨3072 + e.val, by omega⟩) := by
  unfold qs
  have hz : ∀ (n n' : Nat) (hn : n < 4608) (hn' : n' < 4608), n = n' → z (ix3 b t ⟨n, hn⟩) = z (ix3 b t ⟨n', hn'⟩) := by
    intro n n' hn hn' h; subst h; rfl
  pointwise [rD]
  split_ifs <;> first | rfl | exact hz _ _ _ _ (by omega) | omega

/-- The reference's key means, from the product. -/
def rM (z : FVec Ideal S2x16384x4608 .f32) : FVec Ideal S2x32x2x512 .f32 :=
  Host.divf (Host.reduceAdd (shapeCast _ (extractStridedSlice S2x16384x512 ![0, 0, 3584] z slices_S2x16384x4608_S2x16384x512_0_0_3584) shapeCasts_S2x16384x512_S2x32x2x256x512) (constant S_ .f32 0x00000000#32) reducesTo_S2x32x2x256x512_S2x32x2x512_d3 h_S_) (broadcastInDim S2x32x2x512 ![] bcast_S_S2x32x2x512 (constant S_ .f32 0x43800000#32))

/-- The key means at an index. -/
theorem rM_apply (z : FVec Ideal S2x16384x4608 .f32) (b : Fin 2) (i : Fin 32) (a : Fin 2) (e : Fin 512) :
    rM z (ix4 b i a e) =
      Ideal.div (∑ r : Fin 256, z (ix3 b ⟨i.val * 512 + (a.val * 256 + r.val), by omega⟩ ⟨3584 + e.val, by omega⟩)) nk := by
  unfold nk
  pointwise [rM]
  simp only [Nat.add_assoc]

/-- The reference's first result is the modulated input. -/
theorem ref4 (x : FVec Ideal S2x16384x2048 .f32) (sc sh : FVec Ideal S2x1x2048 .f32) :
    truncf (F := Ideal) (s := S2x16384x2048) (φ := .f32) .bf16 (rH x sc sh) bitsLt_bf16_f32 = g4 x sc sh := by
  funext (j : S2x16384x2048.Idx)
  obtain ⟨b, t, k, rfl⟩ : ∃ (b : Fin 2) (t : Fin 16384) (k : Fin 2048), j = ix3 b t k := ⟨j 0, j 1, j 2, eq_ix3 j⟩
  exact rH_apply x sc sh b t k

/-- The reference's second result is the first branch's queries (scaled), keys and values. -/
theorem ref5 (x : FVec Ideal S2x16384x2048 .f32) (sc sh : FVec Ideal S2x1x2048 .f32) (w : FVec Ideal S2048x4608 .f32) :
    truncf (F := Ideal) (s := S2x16384x1536) (φ := .f32) .bf16 (rA (rZ (rH x sc sh) w)) bitsLt_bf16_f32 = g5 x sc sh w := by
  funext (j : S2x16384x1536.Idx)
  obtain ⟨b, t, e, rfl⟩ : ∃ (b : Fin 2) (t : Fin 16384) (e : Fin 1536), j = ix3 b t e := ⟨j 0, j 1, j 2, eq_ix3 j⟩
  show rA (rZ (rH x sc sh) w) (ix3 b t e) = qAt x sc sh w 0 (by omega) b t e
  rw [rA_apply, rZ_apply]
  rfl

/-- The reference's third result is the middle branches' three pieces. -/
theorem ref6 (x : FVec Ideal S2x16384x2048 .f32) (sc sh : FVec Ideal S2x1x2048 .f32) (w : FVec Ideal S2048x4608 .f32) :
    rP (rZ (rH x sc sh) w) = g6 x sc sh w := by
  funext (j : S2x16384x1536.Idx)
  obtain ⟨b, t, e, rfl⟩ : ∃ (b : Fin 2) (t : Fin 16384) (e : Fin 1536), j = ix3 b t e := ⟨j 0, j 1, j 2, eq_ix3 j⟩
  show rP (rZ (rH x sc sh) w) (ix3 b t e) = zAt x sc sh w b t ⟨1536 + e.val, by omega⟩
  rw [rP_apply, rZ_apply]

/-- The reference's fourth result is the last branch's queries (scaled), keys and values. -/
theorem ref7 (x : FVec Ideal S2x16384x2048 .f32) (sc sh : FVec Ideal S2x1x2048 .f32) (w : FVec Ideal S2048x4608 .f32) :
    truncf (F := Ideal) (s := S2x16384x1536) (φ := .f32) .bf16 (rD (rZ (rH x sc sh) w)) bitsLt_bf16_f32 = g7 x sc sh w := by
  funext (j : S2x16384x1536.Idx)
  obtain ⟨b, t, e, rfl⟩ : ∃ (b : Fin 2) (t : Fin 16384) (e : Fin 1536), j = ix3 b t e := ⟨j 0, j 1, j 2, eq_ix3 j⟩
  show rD (rZ (rH x sc sh) w) (ix3 b t e) = qAt x sc sh w 3072 (by omega) b t e
  rw [rD_apply, rZ_apply]
  rfl

/-- The reference's fifth result is the last branch's key means. -/
theorem ref8 (x : FVec Ideal S2x16384x2048 .f32) (sc sh : FVec Ideal S2x1x2048 .f32) (w : FVec Ideal S2048x4608 .f32) : rM (rZ (rH x sc sh) w) = g8 x sc sh w := by
  funext (j : S2x32x2x512.Idx)
  obtain ⟨b, i, a, e, rfl⟩ : ∃ (b : Fin 2) (i : Fin 32) (a : Fin 2) (e : Fin 512), j = ix4 b i a e := ⟨j 0, j 1, j 2, j 3, eq_ix4 j⟩
  show rM (rZ (rH x sc sh) w) (ix4 b i a e) = mAt x sc sh w b i a e
  rw [rM_apply]
  unfold mAt
  simp only [rZ_apply]

end Cert.Proof.Inproj

end
-- ==== Proof.ExpertsMath.lean ====
/- What the experts call and its reference both compute, and the reads of tables both use: a gather of a table's entries
   and of an array's leading planes at an index, and the small arithmetic of block numbers held in words. -/
module

public import Idealize.ShloMosaic.Lib.ValueIdxCore
public import Idealize.ShloMosaic.Lib.Pointwise

@[expose] public section

set_option maxRecDepth 16384

noncomputable section

namespace Cert.Proof.Experts

open Idealize.ShloMosaic Idealize.ShloMosaic.Pointwise
open scoped BigOperators

variable {α : Type}

/-- Entries of a table picked by a column of indices. -/
abbrev pickDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Such a pick at an index: the table at the index word, read signed and clamped into the table. -/
theorem pick_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (t : Fin R) :
    Host.gather (pickDims N R wf) x idx (ix1 t) = x (ix1 ⟨min (idx (ix2 t 0)).toInt.toNat (N - 1), by omega⟩) := by
  unfold Host.gather
  congr 1
  funext a
  obtain rfl : a = 0 := Subsingleton.elim _ _
  refine Fin.ext ?_
  show (pickDims N R wf).start (ix1 t) idx 0 + (pickDims N R wf).batchCoord (ix1 t) 0 + (pickDims N R wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]
  have hsi : (pickDims N R wf).siIdx (ix1 t) ⟨List.idxOf (0 : Fin 1) (pickDims N R wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- Planes of an array picked by a column of indices. -/
abbrev planeDims (N R A B : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Such a pick at an index: the plane at the index word, read signed and clamped into the array. -/
theorem plane_apply {N R A B w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (t : Fin R) (p : Fin A) (q : Fin B) :
    Host.gather (planeDims N R A B wf) x idx (ix3 t p q)
      = x (ix3 ⟨min (idx (ix2 t 0)).toInt.toNat (N - 1), by omega⟩ p q) := by
  unfold Host.gather
  congr 1
  funext a
  refine Fin.ext ?_
  show (planeDims N R A B wf).start (ix3 t p q) idx a + (planeDims N R A B wf).batchCoord (ix3 t p q) a
    + (planeDims N R A B wf).offCoord (ix3 t p q) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (planeDims N R A B wf).startIndexMap from List.mem_singleton.mpr rfl)]
    have hsi : (planeDims N R A B wf).siIdx (ix3 t p q) ⟨List.idxOf (⟨0, by decide⟩ : Fin 3) (planeDims N R A B wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  | ⟨1, _⟩ =>
    unfold GatherDims.start
    rw [dif_neg (show ¬ (⟨1, by decide⟩ : Fin 3) ∈ (planeDims N R A B wf).startIndexMap from by
      intro h; exact Nat.succ_ne_zero _ (congrArg Fin.val (List.mem_singleton.mp h))), Nat.zero_add]
    rfl
  | ⟨2, _⟩ =>
    unfold GatherDims.start
    rw [dif_neg (show ¬ (⟨2, by decide⟩ : Fin 3) ∈ (planeDims N R A B wf).startIndexMap from by
      intro h; exact Nat.succ_ne_zero _ (congrArg Fin.val (List.mem_singleton.mp h))), Nat.zero_add]
    rfl

/-- A word at least zero and below a small bound is that bound's word of a small number. -/
theorem word_of_range (w : BitVec 32) (N : Nat) (hN : N < 2 ^ 31) (h0 : IntOp.cmpi .sge w 0#32 = 1#1)
    (h1 : IntOp.cmpi .slt w (BitVec.ofNat 32 N) = 1#1) : ∃ k : Fin N, w = BitVec.ofNat 32 k.val := by
  have hb : ∀ p : Bool, BitVec.ofBool p = 1#1 → p = true := by decide
  have e0 := hb _ h0
  have e1 := hb _ h1
  have e0' : (0#32).toInt ≤ w.toInt := by simpa [BitVec.sle] using e0
  have e1' : w.toInt < (BitVec.ofNat 32 N).toInt := by simpa [BitVec.slt] using e1
  have hw : w.toNat < N := by
    rw [BitVec.toInt_eq_toNat_cond] at e0' e1'
    rw [BitVec.toInt_eq_toNat_cond] at e0' e1'
    have hN' : (BitVec.ofNat 32 N).toNat = N := by rw [BitVec.toNat_ofNat]; omega
    have := w.isLt
    simp only [hN', BitVec.toNat_ofNat] at e0' e1'
    split_ifs at e0' e1' <;> omega
  exact ⟨⟨w.toNat, hw⟩, by simp⟩

/-- Of a disjunction with "unused", a used block has the other side. -/
theorem of_ori {a n : BitVec 32} {x : BitVec 1} (hu : IntOp.cmpi .slt a n = 1#1) (h : IntOp.ori (IntOp.cmpi .sge a n) x = 1#1) :
    x = 1#1 := by
  have hb : ∀ p : Bool, BitVec.ofBool p = 1#1 → p = true := by decide
  have e : a.slt n = true := hb _ hu
  have h0 : IntOp.cmpi .sge a n = 0#1 := by
    show BitVec.ofBool (n.sle a) = 0#1
    rw [BitVec.sle_eq_not_slt, e]
    rfl
  rw [h0] at h
  revert x
  decide

/-- The last used block at most, of a block number, where few blocks are used: a used block, and the block itself if it is used. -/
theorem last_small : ∀ (n : Fin 145) (b : Fin 144), 1 ≤ n.val →
    (IntOp.minsi (BitVec.ofNat 32 b.val) (IntOp.subi (BitVec.ofNat 32 n.val) 1#32)).toNat < 144
    ∧ IntOp.cmpi .slt (IntOp.minsi (BitVec.ofNat 32 b.val) (IntOp.subi (BitVec.ofNat 32 n.val) 1#32)) (BitVec.ofNat 32 n.val) = 1#1
    ∧ (IntOp.cmpi .slt (BitVec.ofNat 32 b.val) (BitVec.ofNat 32 n.val) = 1#1 →
      IntOp.minsi (BitVec.ofNat 32 b.val) (IntOp.subi (BitVec.ofNat 32 n.val) 1#32) = BitVec.ofNat 32 b.val) := by
  decide +kernel

/-- A small number's word is below a larger one's. -/
theorem slt_of_lt (b : Fin 144) (w : BitVec 32) (h1 : b.val < w.toNat) (h2 : w.toNat < 2 ^ 31) : (BitVec.ofNat 32 b.val).slt w = true := by
  have hb := b.isLt
  have e1 : (BitVec.ofNat 32 b.val).toNat = b.val := by rw [BitVec.toNat_ofNat]; omega
  rw [BitVec.slt_iff_toInt_lt, BitVec.toInt_eq_toNat_cond, BitVec.toInt_eq_toNat_cond, e1]
  split_ifs <;> omega

/-- The same for any number of used blocks, one at least. -/
theorem last_spec (w : BitVec 32) (h : IntOp.cmpi .sge w 1#32 = 1#1) (b : Fin 144) :
    (IntOp.minsi (BitVec.ofNat 32 b.val) (IntOp.subi w 1#32)).toNat < 144
    ∧ IntOp.cmpi .slt (IntOp.minsi (BitVec.ofNat 32 b.val) (IntOp.subi w 1#32)) w = 1#1
    ∧ (IntOp.cmpi .slt (BitVec.ofNat 32 b.val) w = 1#1 → IntOp.minsi (BitVec.ofNat 32 b.val) (IntOp.subi w 1#32) = BitVec.ofNat 32 b.val) := by
  have hb : ∀ p : Bool, BitVec.ofBool p = 1#1 → p = true := by decide
  have e0 := hb _ h
  have e0' : (1#32).toInt ≤ w.toInt := by simpa [BitVec.sle] using e0
  have c1 : (1#32).toInt = 1 := by decide
  have hw : 1 ≤ w.toNat ∧ w.toNat < 2 ^ 31 := by
    rw [c1, BitVec.toInt_eq_toNat_cond] at e0'
    have := w.isLt
    split_ifs at e0' <;> omega
  by_cases hs : w.toNat < 145
  · have hk : w = BitVec.ofNat 32 (⟨w.toNat, hs⟩ : Fin 145).val := by simp
    rw [hk]
    exact last_small ⟨w.toNat, hs⟩ b hw.1
  · have hbl := b.isLt
    have hsub : (IntOp.subi w 1#32).toNat = w.toNat - 1 := by
      show (w - 1#32).toNat = _
      rw [BitVec.toNat_sub]
      have : (1#32).toNat = 1 := rfl
      rw [this]
      omega
    have hmin : IntOp.minsi (BitVec.ofNat 32 b.val) (IntOp.subi w 1#32) = BitVec.ofNat 32 b.val := by
      show (if (BitVec.ofNat 32 b.val).slt (IntOp.subi w 1#32) then _ else _) = _
      rw [if_pos (slt_of_lt b _ (by rw [hsub]; omega) (by rw [hsub]; omega))]
    rw [hmin]
    refine ⟨?_, ?_, fun _ => rfl⟩
    · rw [BitVec.toNat_ofNat]; omega
    · show BitVec.ofBool ((BitVec.ofNat 32 b.val).slt w) = 1#1
      rw [slt_of_lt b w (by omega) hw.2]
      rfl

/-- A word below 144 is one of the blocks' numbers, and reads as itself. -/
theorem block_word (w : BitVec 32) (h : w.toNat < 144) : BitVec.ofNat 32 (min w.toInt.toNat (144 - 1)) = w := by
  have e : w.toInt = (w.toNat : Int) := by rw [BitVec.toInt_eq_toNat_cond]; split_ifs <;> omega
  rw [e, Int.toNat_natCast, Nat.min_eq_left (by omega)]
  simp

theorem small_toNat : ∀ e : Fin 16, (BitVec.ofNat 32 e.val).toNat = e.val ∧ (BitVec.ofNat 32 e.val).toInt.toNat = e.val := by
  decide +kernel

theorem block_toNat : ∀ e : Fin 144, (BitVec.ofNat 32 e.val).toNat = e.val ∧ (BitVec.ofNat 32 e.val).toInt.toNat = e.val := by
  decide +kernel

/-- One row through one expert: the gate's product through its own logistic function, times the up projection, times
    the down projection. -/
def ffn (x : Fin 2048 → EReal) (wg wu : Fin 2048 → Fin 1408 → EReal) (wd : Fin 1408 → Fin 2048 → EReal) (e : Fin 2048) : EReal :=
  ∑ f, ((∑ d, x d * wg d f) * Ideal.div 1 (1 + Ideal.exp (-(∑ d, x d * wg d f))) * (∑ d, x d * wu d f)) * wd f e

end Cert.Proof.Experts

end
-- ==== Proof.ExpertsIdealKit.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

/-! The experts call's run: what its two branches leave in the output block, and that it stops with its arguments unchanged. -/

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
/-- Window 4 (result 0 (%6)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_v5) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)
/-! ## @main up to the region -/

/-- Core `c`'s TensorCore buffers when the region is entered: after the host operations `hostOps0`, `hostOps0_1`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S144 .i32 := Memref.whole main_v5
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The kernel body on any staging memrefs: a subtype the run finds -/

/-- One staging buffer of output window 4, through which its contents are stated (`View.read_writes_of_cover`: the
    choice does not matter). -/
abbrev VO0_4 : View sig .tc .vmem S512x2048 .f32 := (Memref.whole cc0_stg4_0 : Memref sig .tc .vmem S512x2048 .f32).view
/-- Each window's current staging memref at point `t`, spelled as the pipeline passes it (`bodyAt0`), and its wholeness. -/
abbrev ms0_0 (hO : Ok m) (t : Fin (cfgM m hO).N) : Memref sig .tc .vmem S512x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x1408 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x1408 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1408x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x2048 .f32 := spec0_4.stage ((cfgM m hO).slots t 4)
abbrev hs0_4 (hO : Ok m) (t : Fin (cfgM m hO).N) : (ms0_4 m hO t).IsWhole := hstage0_4 (((cfgM m hO).slots t 4).cast nbuf0_4)

/-! ## The two conditions -/

/-- Where the first condition holds the second does not. -/
theorem cond2_ne (i : grid0.Coords) (v : BitVec 32) (h : k0_cond1 i v = 1#1) : ¬ k0_cond2 i v = 1#1 := by
  revert h; unfold k0_cond1 k0_cond2; dsimp only
  generalize Scalar.cmpi .slt (BitVec.ofNat 32 (i 0).val) v = b
  revert b; decide
/-- Where the first condition fails the second holds. -/
theorem cond2_of (i : grid0.Coords) (v : BitVec 32) (h : ¬ k0_cond1 i v = 1#1) : k0_cond2 i v = 1#1 := by
  revert h; unfold k0_cond1 k0_cond2; dsimp only
  generalize Scalar.cmpi .slt (BitVec.ofNat 32 (i 0).val) v = b
  revert b; decide

end Cert.ExpertsIdeal.Gen

end
-- ==== Proof.ExpertsIdealFrame.lean ====
module

public import proofs.«01_k».proof.Proof.ExpertsIdealKit
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.VecWindow
public import Idealize.ShloMosaic.Lib.Pipeline.Value

/-! The experts call's run: what its two branches leave in the output block, and that it stops with its arguments unchanged. -/

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run -/

/-- The number of used blocks, as the body reads it from its table. -/
def word0 (c : Dev nD) (xt1 : TbBuf0 (F := F) c tbM0_1) : BitVec 32 :=
  View.readAt (Elt F) tbM0_1.view (Rect.unit (s := S1) ![0] S1.size inb_S1_S1_0).toLoadRect xt1 (Shape.Idx.first (by decide))

/-- What the body leaves in the output block: the feed-forward of its input blocks where the block is used, zeros elsewhere. -/
def out0_4 (i : grid0.Coords) (w : BitVec 32) (x0 : Vec F S512x2048 .f32) (x1 : Vec F S1x2048x1408 .bf16) (x2 : Vec F S1x2048x1408 .bf16)
    (x3 : Vec F S1x1408x2048 .bf16) : Vec F S512x2048 .f32 :=
  if k0_cond1 i w = 1#1 then k0_pay1 x0 x1 x2 x3 else k0_pay2

/-- The output block read back after the two branches. -/
theorem read_branches (i : grid0.Coords) (w : BitVec 32) (arg7 : Memref sig .tc .vmem S512x2048 .f32) (f4 : arg7.view.ty.Contents (Elt F))
    (P1 P2 : Vec F S512x2048 .f32) :
    arg7.view.read (Elt F)
      (if hc : k0_cond2 i w = 1#1 then
        arg7.view.writes (Elt F)
          (if hc : k0_cond1 i w = 1#1 then
            arg7.view.writes (Elt F) f4 [⟨Rect.unit (s := S512x2048) ![0, 0] S512x2048.size inb_S512x2048_S512x2048_0_0, P1⟩] else f4)
          [⟨Rect.unit (s := S512x2048) ![0, 0] S512x2048.size inb_S512x2048_S512x2048_0_0, P2⟩]
      else if hc : k0_cond1 i w = 1#1 then
        arg7.view.writes (Elt F) f4 [⟨Rect.unit (s := S512x2048) ![0, 0] S512x2048.size inb_S512x2048_S512x2048_0_0, P1⟩] else f4)
      = if k0_cond1 i w = 1#1 then P1 else P2 := by
  by_cases h : k0_cond1 i w = 1#1
  · rw [dif_neg (cond2_ne i w h), dif_pos h, if_pos h]; exact View.read_writes_full _ _ _ _ _
  · rw [dif_pos (cond2_of i w h), if_neg h]; exact View.read_writes_full _ _ _ _ _

set_option maxHeartbeats 1000000 in
/-- The body on whole staging memrefs, the inputs' at their contents and the output's at anything, runs to the continuation holding
    the inputs' and the tables as they were and the output's at `out0_4`. -/
theorem kernelRun0 (c : Dev nD) (E : Set ℕ) (K : PUnit → sProp 𝕄) (i : grid0.Coords) (arg3 : Memref sig .tc .vmem S512x2048 .f32) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1x1408x2048 .bf16) (harg6 : arg6.IsWhole) (arg7 : Memref sig .tc .vmem S512x2048 .f32) (harg7 : arg7.IsWhole)
    (x0 : Vec F S512x2048 .f32) (x1 : Vec F S1x2048x1408 .bf16) (x2 : Vec F S1x2048x1408 .bf16) (x3 : Vec F S1x1408x2048 .bf16) (xt0 : TbBuf0 (F := F) c tbM0_0) (xt1 : TbBuf0 (F := F) c tbM0_1) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (out0_4 i (word0 c xt1) x0 x1 x2 x3) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7) K := by
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr
      swap; · iexact H4
      ipureintro
      refine (read_branches i (word0 c xt1) arg7 f4 _ _).trans ?_
      unfold out0_4
      rw [View.readAt_full, View.readAt_full, View.readAt_full, View.readAt_full, harg3.read_unread, harg4.read_unread, harg5.read_unread, harg6.read_unread]
    isplitl [HT0]; · iexact HT0
    iexact HT1

/-! ## What the outputs hold after each point -/

/-- What the outputs' staging buffers hold after the body at point `t`: the run's contents at
    the point's memrefs and input blocks. -/
def outsAt0 (hO : Ok m) (c : Dev nD) (t : Fin (cfgM m hO).N) : Vec F S512x2048 .f32 :=
  out0_4 (grid0.coords t) (word0 c (tbl m 1)) (iblk m hO c 0 t) (iblk m hO c 1 t) (iblk m hO c 2 t) (iblk m hO c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩⟩
  iapply (kernelRun0 c Set.univ _ (grid0.coords t) _ (hs0_0 m hO t) _ (hs0_1 m hO t) _ (hs0_2 m hO t) _ (hs0_3 m hO t) _ (hs0_4 m hO t) (iblk m hO c 0 t) (iblk m hO c 1 t) (iblk m hO c 2 t) (iblk m hO c 3 t) (tbl m 0) (tbl m 1))
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- No point is idle for the output: one of the two branches stores it. -/
theorem live0_4 (a : (pcfg0 (F := F)).Adm) (i : grid0.Coords) : (cfg0 a).idle 4 i = false := by
  show (!(k0_cond1 i (a.1.atD 1 ![0]) == 1#1) && !(k0_cond2 i (a.1.atD 1 ![0]) == 1#1)) = false
  by_cases h : k0_cond1 i (a.1.atD 1 ![0]) = 1#1
  · rw [h]; rfl
  · rw [cond2_of i _ h, Bool.and_eq_false_iff]; exact .inr rfl

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  have hi : (cfgM m hO).idle (4 : Fin 5) ((cfgM m hO).grid.coords t) = false := live0_4 (adm m hO) _
  rw [hi]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_ExpertsIdeal`'s statement (Defs.lean) at any `F` — Proof.lean cites it at `Bits`:
    `theorem Cert.Proof.claim : Cert.Claim := ⟨Cert.ExpertsIdeal.Gen.facts, fun m ρ _ => Cert.ExpertsIdeal.Gen.frame m ρ⟩`; here for every contents of the PREFETCHED TABLES, UNDER `Gen.Ok m` (the pipeline's side condition of
    them), which Proof.lean proves from the precondition: `⟨…, fun m ρ h => Cert.ExpertsIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Gen

end
-- ==== Proof.ExpertsBlock.lean ====
/- The experts call's body, read at an index. -/
module

public import proofs.«01_k».proof.Proof.ExpertsIdealFrame
public import proofs.«01_k».proof.Proof.ExpertsMath
public import Idealize.ShloMosaic.Lib.Pointwise

@[expose] public section

set_option maxRecDepth 16384

noncomputable section

namespace Cert.Proof.Experts

open Idealize.ShloMosaic Idealize.ShloMosaic.Pointwise Cert.ExpertsIdeal Cert.ExpertsIdeal.Gen
open scoped BigOperators

variable (x0 : Vec Ideal S512x2048 .f32) (x1 x2 : Vec Ideal S1x2048x1408 .bf16) (x3 : Vec Ideal S1x1408x2048 .bf16)

/-- What the body stores for a used block. -/
theorem pay1_apply (p : Fin 512) (e : Fin 2048) : k0_pay1 x0 x1 x2 x3 (ix2 p e)
    = ∑ f, ((∑ d, x0 (ix2 p d) * x1 (ix3 0 d f)) * Ideal.div 1 (1 + Ideal.exp (-(∑ d, x0 (ix2 p d) * x1 (ix3 0 d f))))
        * (∑ d, x0 (ix2 p d) * x2 (ix3 0 d f))) * x3 (ix3 0 f e) := by
  have h : k0_pay1 x0 x1 x2 x3 (ix2 p e)
    = ∑ f, ((∑ d, x0 (ix2 p d) * x1 (ix3 0 d f)) * Ideal.div 1 (1 + Ideal.exp (0 - (∑ d, x0 (ix2 p d) * x1 (ix3 0 d f))))
        * (∑ d, x0 (ix2 p d) * x2 (ix3 0 d f))) * x3 (ix3 0 f e) := by
    pointwise [k0_pay1]
  rw [h]
  simp only [zero_sub]

/-- What the body stores for a block past the used ones. -/
theorem pay2_apply (p : Fin 512) (e : Fin 2048) : k0_pay2 (F := Ideal) (ix2 p e) = 0 := by
  pointwise [k0_pay2]

end Cert.Proof.Experts

end
-- ==== Proof.ExpertsIdealTables.lean ====
/- The tables the experts call prefetches, read off the launch memory, and the call's side condition from the
   precondition: every block the tables name lies inside its array. -/
module

public import proofs.«01_k».proof.Proof.ExpertsIdealFrame
public import proofs.«01_k».proof.Proof.ExpertsMath
public import proofs.«01_k».proof.Pre_expert_tables
public import Idealize.ShloMosaic.Lib.Pointwise

@[expose] public section

set_option maxRecDepth 16384

noncomputable section

namespace Cert.Proof.ExpertsIdealTables

open Idealize.ShloMosaic Idealize.ShloMosaic.TcCoe Idealize.ShloMosaic.Pointwise Idealize.ShloMosaic.Tactic Cert.ExpertsIdeal Cert.ExpertsIdeal.Gen Cert.Proof.Experts

variable {F : FTy → Type} [FloatOps F]
variable (m : (ℓ : Loc nD τ sig) → Buf (Elt F) ℓ)

/-- The blocks' experts and the number of used blocks, as launched. -/
abbrev a0 (c : Dev nD) : IVec S144 32 := m ((c : Thread nD τ).loc main_arg0)
abbrev a1 (c : Dev nD) : IVec S1 32 := m ((c : Thread nD τ).loc main_arg1)

/-- The last used block at most, for every block: the host's column of indices. -/
def lastCol (n : IVec S1 32) : IVec S144x1 32 :=
  broadcastInDim S144x1 ![0] bcast_S144_S144x1_0 (minsi (iotaInDim S144 32 0) (broadcastInDim S144 ![] bcast_S_S144 (subi (shapeCast S_ n shapeCasts_S1_S_) (constantI S_ 32 1#32))))

theorem lastCol_apply (n : IVec S1 32) (b : Fin 144) :
    lastCol n (ix2 b 0) = IntOp.minsi (BitVec.ofNat 32 b.val) (IntOp.subi (n (ix1 0)) 1#32) := by
  pointwise [lastCol]

/-- The first table as the region finds it. -/
theorem V_table (c : Dev nD) : @Eq (IVec S144 32) (V m c main_v5)
    (Host.gather gather_S144_S144x1_S144_n_0_n_n_0_1_1 (a0 m c) (lastCol (a1 m c))) := by
  show StableHlo.after (List.flatten [hostOps0, hostOps0_1]) _ _ = _
  simp only [hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> rfl

theorem V_table_apply (c : Dev nD) (b : Fin 144) : (V m c main_v5 : IVec S144 32) (ix1 b)
    = a0 m c (ix1 ⟨min (IntOp.minsi (BitVec.ofNat 32 b.val) (IntOp.subi (a1 m c (ix1 0)) 1#32)).toInt.toNat (144 - 1), by omega⟩) := by
  refine (congrFun (V_table m c) (ix1 b)).trans ?_
  refine (pick_apply (N := 144) (R := 144) (by decide) gather_S144_S144x1_S144_n_0_n_n_0_1_1.wf (a0 m c) (lastCol (a1 m c)) b).trans ?_
  exact congrArg (fun i => a0 m c (ix1 i)) (Fin.ext (congrArg (fun z : BitVec 32 => min z.toInt.toNat (144 - 1)) (lastCol_apply (a1 m c) b)))

/-- The coordinate of a point, as a block number. -/
def blk (i : grid0.Coords) : Fin 144 := ⟨(i 0).val, (i 0).isLt⟩

/-- What the first row block's index map reads of the second table: the number of used blocks. -/
theorem at1 : (tbl m).at 1 (Rect.unit (s := S1) ![0] S1.size inb_S1_S1_0) numel1_S1 = a1 m 0 (ix1 0) := by
  show (V m 0 main_arg1 : IVec S1 32) _ = _
  rw [V_main_arg1]
  refine congrArg (a1 m 0) (funext fun a => Fin.ext ?_)
  match a with
  | ⟨0, _⟩ => rfl

/-- What the weights' index maps read of the first table: the block's entry. -/
theorem at0 (i : grid0.Coords) :
    (tbl m).at 0 (Rect.unit (s := S144) (k0_off1 i) S1.size (k0_off1_inb i)) numel1_S1 = (V m 0 main_v5 : IVec S144 32) (ix1 (blk i)) := by
  show (V m 0 main_v5 : IVec S144 32) _ = _
  refine congrArg (V m 0 main_v5 : IVec S144 32) (funext fun a => Fin.ext ?_)
  match a with
  | ⟨0, _⟩ =>
    show (BitVec.ofNat 32 (blk i).val).toNat + 1 * 0 = (blk i).val
    rw [(block_toNat (blk i)).1]
    omega

/-- What the precondition says, read: one block at least is used, and the used blocks' experts are below sixteen. -/
def Small : Prop := (∀ b : Fin 144, IntOp.cmpi .slt (BitVec.ofNat 32 b.val) (a1 m 0 (ix1 0)) = 1#1 → ∃ e : Fin 16, a0 m 0 (ix1 b) = BitVec.ofNat 32 e.val)
  ∧ IntOp.cmpi .sge (a1 m 0 (ix1 0)) 1#32 = 1#1

theorem small_of_pre [Cert.Pre_expert_tables.Facts] (x2 : FVec F S73728x2048 .f32) (x3 x4 : FVec F S16x2048x1408 .bf16)
    (x5 : FVec F S16x1408x2048 .bf16)
    (h : (Cert.Pre_expert_tables.fn (F := F) (a0 m 0) (a1 m 0) x2 x3 x4 x5).1 = (fun _ => 1#1)
      ∧ (Cert.Pre_expert_tables.fn (F := F) (a0 m 0) (a1 m 0) x2 x3 x4 x5).2.1 = (fun _ => 1#1)
      ∧ (Cert.Pre_expert_tables.fn (F := F) (a0 m 0) (a1 m 0) x2 x3 x4 x5).2.2 = (fun _ => 1#1)) : Small m := by
  have e1 : ∀ b : Fin 144, (Cert.Pre_expert_tables.fn (F := F) (a0 m 0) (a1 m 0) x2 x3 x4 x5).1 (ix1 b)
      = IntOp.ori (IntOp.cmpi .sge (BitVec.ofNat 32 b.val) (a1 m 0 (ix1 0))) (IntOp.cmpi .sge (a0 m 0 (ix1 b)) 0#32) := by
    intro b
    pointwise [Cert.Pre_expert_tables.fn]
  have e2 : ∀ b : Fin 144, (Cert.Pre_expert_tables.fn (F := F) (a0 m 0) (a1 m 0) x2 x3 x4 x5).2.1 (ix1 b)
      = IntOp.ori (IntOp.cmpi .sge (BitVec.ofNat 32 b.val) (a1 m 0 (ix1 0))) (IntOp.cmpi .slt (a0 m 0 (ix1 b)) 16#32) := by
    intro b
    pointwise [Cert.Pre_expert_tables.fn]
  exact ⟨fun b hu => word_of_range _ 16 (by decide) (of_ori hu ((e1 b).symm.trans (congrFun h.1 (ix1 b))))
    (of_ori hu ((e2 b).symm.trans (congrFun h.2.1 (ix1 b)))), congrFun h.2.2 (ix1 0)⟩

variable {m}

/-- The row block a point reads lies among the blocks. -/
theorem row_lt (h : Small m) (i : grid0.Coords) :
    (IntOp.minsi (BitVec.ofNat 32 (i 0).val) (IntOp.subi (a1 m 0 (ix1 0)) 1#32)).toNat < 144 :=
  (last_spec _ h.2 (blk i)).1

/-- The expert a point reads is one of the sixteen. -/
theorem expert_lt (h : Small m) (b : Fin 144) : ((V m 0 main_v5 : IVec S144 32) (ix1 b)).toNat < 16 := by
  rw [V_table_apply]
  obtain ⟨h1, h2, -⟩ := last_spec (a1 m 0 (ix1 0)) h.2 b
  obtain ⟨e, he⟩ := h.1 ⟨min (IntOp.minsi (BitVec.ofNat 32 b.val) (IntOp.subi (a1 m 0 (ix1 0)) 1#32)).toInt.toNat (144 - 1), by omega⟩
    ((congrArg (fun w => IntOp.cmpi .slt w (a1 m 0 (ix1 0))) (block_word _ h1)).trans h2)
  rw [he, (small_toNat e).1]
  exact e.isLt

theorem tr0 (i : grid0.Coords) : cc0_transform_0 inb_S1_S1_0 numel1_S1 (tbl m) i
    = ![(IntOp.minsi (BitVec.ofNat 32 (i 0).val) (IntOp.subi (a1 m 0 (ix1 0)) 1#32)).toNat, 0] := by
  rw [← at1 m]
  rfl
theorem tr1 (i : grid0.Coords) : cc0_transform_1 k0_off1_inb numel1_S1 (tbl m) i = ![((V m 0 main_v5 : IVec S144 32) (ix1 (blk i))).toNat, 0, 0] := by
  rw [← at0 m i]
  rfl
theorem tr2 (i : grid0.Coords) : cc0_transform_2 k0_off1_inb numel1_S1 (tbl m) i = ![((V m 0 main_v5 : IVec S144 32) (ix1 (blk i))).toNat, 0, 0] := by
  rw [← at0 m i]
  rfl
theorem tr3 (i : grid0.Coords) : cc0_transform_3 k0_off1_inb numel1_S1 (tbl m) i = ![((V m 0 main_v5 : IVec S144 32) (ix1 (blk i))).toNat, 0, 0] := by
  rw [← at0 m i]
  rfl

/-- The call's side condition. -/
theorem ok (h : Small m) : Ok m := by
  refine ⟨fun i => ⟨?_, .inl rfl⟩, fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [tr0 (m := m) i]
    have h0 := row_lt h i
    intro a
    match a with
    | ⟨0, _⟩ => show ((IntOp.minsi (BitVec.ofNat 32 (i 0).val) (IntOp.subi (a1 m 0 (ix1 0)) 1#32)).toNat + 1) * 512 ≤ 73728; omega
    | ⟨1, _⟩ => show (0 + 1) * 2048 ≤ 2048; omega
  · rw [tr1 (m := m) i]
    have h0 := expert_lt h (blk i)
    intro a
    match a with
    | ⟨0, _⟩ => show (((V m 0 main_v5 : IVec S144 32) (ix1 (blk i))).toNat + 1) * 1 ≤ 16; omega
    | ⟨1, _⟩ => show (0 + 1) * 2048 ≤ 2048; omega
    | ⟨2, _⟩ => show (0 + 1) * 1408 ≤ 1408; omega
  · rw [tr2 (m := m) i]
    have h0 := expert_lt h (blk i)
    intro a
    match a with
    | ⟨0, _⟩ => show (((V m 0 main_v5 : IVec S144 32) (ix1 (blk i))).toNat + 1) * 1 ≤ 16; omega
    | ⟨1, _⟩ => show (0 + 1) * 2048 ≤ 2048; omega
    | ⟨2, _⟩ => show (0 + 1) * 1408 ≤ 1408; omega
  · rw [tr3 (m := m) i]
    have h0 := expert_lt h (blk i)
    intro a
    match a with
    | ⟨0, _⟩ => show (((V m 0 main_v5 : IVec S144 32) (ix1 (blk i))).toNat + 1) * 1 ≤ 16; omega
    | ⟨1, _⟩ => show (0 + 1) * 1408 ≤ 1408; omega
    | ⟨2, _⟩ => show (0 + 1) * 2048 ≤ 2048; omega

end Cert.Proof.ExpertsIdealTables

end
-- ==== Proof.ExpertsRefValue.lean ====
/- The experts call's reference, read at an index. -/
module

public import proofs.«01_k».proof.Proof.Gen.ExpertsRefIdeal.Run
public import proofs.«01_k».proof.Proof.ExpertsMath
public import Idealize.ShloMosaic.Lib.Pointwise

@[expose] public section

set_option maxRecDepth 16384

noncomputable section

namespace Cert.Proof.Experts

open Idealize.ShloMosaic Idealize.ShloMosaic.Pointwise Cert.ExpertsRefIdeal Cert.ExpertsRefIdeal.Gen
open scoped BigOperators

/-- The reference's experts' planes, one per block. -/
def rW (w : FVec Ideal S16x2048x1408 .bf16) (a0 : IVec S144 32) : FVec Ideal S144x2048x1408 .bf16 :=
  Host.gather gather_S16x2048x1408_S144x1_S144x2048x1408_12_0_n_n_0_1_120481408 w (broadcastInDim S144x1 ![0] bcast_S144_S144x1_0 a0)

def rD (w : FVec Ideal S16x1408x2048 .bf16) (a0 : IVec S144 32) : FVec Ideal S144x1408x2048 .bf16 :=
  Host.gather gather_S16x1408x2048_S144x1_S144x1408x2048_12_0_n_n_0_1_114082048 w (broadcastInDim S144x1 ![0] bcast_S144_S144x1_0 a0)

/-- The plane a block reads. -/
def ex (a0 : IVec S144 32) (b : Fin 144) : Fin 16 := ⟨min (a0 (ix1 b)).toInt.toNat (16 - 1), by omega⟩

theorem col_apply (a0 : IVec S144 32) (b : Fin 144) : broadcastInDim S144x1 ![0] bcast_S144_S144x1_0 a0 (ix2 b 0) = a0 (ix1 b) := by
  pointwise []

theorem rW_apply (w : FVec Ideal S16x2048x1408 .bf16) (a0 : IVec S144 32) (b : Fin 144) (d : Fin 2048) (f : Fin 1408) :
    rW w a0 (ix3 b d f) = w (ix3 (ex a0 b) d f) := by
  unfold rW
  refine (plane_apply (N := 16) (R := 144) (A := 2048) (B := 1408) (by decide)
    gather_S16x2048x1408_S144x1_S144x2048x1408_12_0_n_n_0_1_120481408.wf w _ b d f).trans ?_
  exact congrArg (fun i => w (ix3 i d f)) (Fin.ext (congrArg (fun z : BitVec 32 => min z.toInt.toNat (16 - 1)) (col_apply a0 b)))

theorem rD_apply (w : FVec Ideal S16x1408x2048 .bf16) (a0 : IVec S144 32) (b : Fin 144) (d : Fin 1408) (f : Fin 2048) :
    rD w a0 (ix3 b d f) = w (ix3 (ex a0 b) d f) := by
  unfold rD
  refine (plane_apply (N := 16) (R := 144) (A := 1408) (B := 2048) (by decide)
    gather_S16x1408x2048_S144x1_S144x1408x2048_12_0_n_n_0_1_114082048.wf w _ b d f).trans ?_
  exact congrArg (fun i => w (ix3 i d f)) (Fin.ext (congrArg (fun z : BitVec 32 => min z.toInt.toNat (16 - 1)) (col_apply a0 b)))

/-- The reference's result from the planes. -/
def rOut (a1 : IVec S1 32) (x : FVec Ideal S73728x2048 .f32) (wg wu : FVec Ideal S144x2048x1408 .bf16)
    (wd : FVec Ideal S144x1408x2048 .bf16) : FVec Ideal S73728x2048 .f32 :=
  shapeCast _ (select (broadcastInDim S144x512x2048 ![0, 1, 2] bcast_S144x1x1_S144x512x2048_0_1_2 (broadcastInDim S144x1x1 ![0] bcast_S144_S144x1x1_0 (cmpi .slt (iotaInDim S144 32 0) (broadcastInDim S144 ![] bcast_S_S144 (shapeCast _ a1 shapeCasts_S1_S_))))) (Host.dotGeneral dot_S144x512x1408_S144x1408x2048_S144x512x2048_2_1_1_2_0_0 none (mulf (mulf (Host.dotGeneral dot_S144x512x2048_S144x2048x1408_S144x512x1408_2_1_1_2_0_0 none (shapeCast _ x shapeCasts_S73728x2048_S144x512x2048) (extf .f32 wg bitsLt_bf16_f32)) (Host.divf (broadcastInDim S144x512x1408 ![] bcast_S_S144x512x1408 (constant S_ .f32 0x3F800000#32)) (addf (broadcastInDim S144x512x1408 ![] bcast_S_S144x512x1408 (constant S_ .f32 0x3F800000#32)) (Host.exp (Host.negf (Host.dotGeneral dot_S144x512x2048_S144x2048x1408_S144x512x1408_2_1_1_2_0_0 none (shapeCast _ x shapeCasts_S73728x2048_S144x512x2048) (extf .f32 wg bitsLt_bf16_f32))))))) (Host.dotGeneral dot_S144x512x2048_S144x2048x1408_S144x512x1408_2_1_1_2_0_0 none (shapeCast _ x shapeCasts_S73728x2048_S144x512x2048) (extf .f32 wu bitsLt_bf16_f32))) (extf .f32 wd bitsLt_bf16_f32)) (broadcastInDim S144x512x2048 ![] bcast_S_S144x512x2048 (id (constant S_ .f32 0x00000000#32)))) shapeCasts_S144x512x2048_S73728x2048

/-- The reference's result at an index: zero past the used blocks. -/
theorem rOut_apply (a1 : IVec S1 32) (x : FVec Ideal S73728x2048 .f32) (wg wu : FVec Ideal S144x2048x1408 .bf16)
    (wd : FVec Ideal S144x1408x2048 .bf16) (b : Fin 144) (p : Fin 512) (e : Fin 2048) :
    rOut a1 x wg wu wd (ix2 ⟨b.val * 512 + p.val, by omega⟩ e)
      = if IntOp.cmpi .slt (BitVec.ofNat 32 b.val) (a1 (ix1 0)) = 1#1 then
          ffn (fun d => x (ix2 ⟨b.val * 512 + p.val, by omega⟩ d)) (fun d f => wg (ix3 b d f)) (fun d f => wu (ix3 b d f))
            (fun f e => wd (ix3 b f e)) e
        else 0 := by
  have hz : id (constant (F := Ideal) S_ .f32 0x00000000#32) ix0 = 0 := by
    show constant (F := Ideal) S_ .f32 0x00000000#32 ix0 = 0
    pointwise []
  have hs : ∀ (c : BitVec 1) (y z : EReal), Scalar.select c y z = if c = 1#1 then y else z := fun c y z => rfl
  refine Eq.trans (b := Scalar.select (IntOp.cmpi .slt (BitVec.ofNat 32 b.val) (a1 (ix1 0)))
    (ffn (fun d => x (ix2 ⟨b.val * 512 + p.val, by omega⟩ d)) (fun d f => wg (ix3 b d f)) (fun d f => wu (ix3 b d f))
            (fun f e => wd (ix3 b f e)) e) (id (constant (F := Ideal) S_ .f32 0x00000000#32) ix0)) ?_ ?_
  · unfold ffn
    pointwise [rOut]
  · rw [hs, hz]

end Cert.Proof.Experts

end
-- ==== Proof.ExpertsValue.lean ====
/- The experts call's result as one function of its arguments. -/
module

public import proofs.«01_k».proof.Proof.ExpertsBlock
public import proofs.«01_k».proof.Proof.ExpertsIdealTables
public import proofs.«01_k».proof.Proof.ExpertsRefValue

@[expose] public section

set_option maxRecDepth 16384

noncomputable section

namespace Cert.Proof.Experts

open Idealize.ShloMosaic Idealize.ShloMosaic.TcCoe Idealize.ShloMosaic.Pointwise Idealize.SL.Sem Cert.ExpertsIdeal Cert.ExpertsIdeal.Gen
open Cert.Proof.ExpertsIdealTables
open scoped BigOperators

/-- The block a row lies in. -/
def blkOf (i : S73728x2048.Idx) : Fin 144 := ⟨(i 0 : Nat) / 512, by have : (i 0 : Nat) < 73728 := (i 0).isLt; omega⟩

/-- The rows of the used blocks through their block's expert, the others zero. -/
def gOut (e0 : IVec S144 32) (n : IVec S1 32) (x : Vec Ideal S73728x2048 .f32) (wg wu : Vec Ideal S16x2048x1408 .bf16)
    (wd : Vec Ideal S16x1408x2048 .bf16) : Vec Ideal S73728x2048 .f32 := fun i =>
  if IntOp.cmpi .slt (BitVec.ofNat 32 (blkOf i).val) (n (ix1 0)) = 1#1 then
    ffn (fun d => x (ix2 (i 0) d)) (fun d f => wg (ix3 (ex e0 (blkOf i)) d f)) (fun d f => wu (ix3 (ex e0 (blkOf i)) d f))
      (fun f e => wd (ix3 (ex e0 (blkOf i)) f e)) (i 1)
  else 0

variable (m : (ℓ : Loc nD τ sig) → Buf (Elt Ideal) ℓ) (ρ : Dev nD → PrngReg)

/-- The result of device `c`'s arguments. -/
def G (c : Dev nD) : Vec Ideal S73728x2048 .f32 :=
  gOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

variable {m}

/-- The number of used blocks, as the body loads it. -/
theorem word_eq (c : Dev nD) : word0 c (tbl m 1) = a1 m 0 (ix1 0) := by
  show (V m 0 main_arg1 : IVec S1 32) _ = _
  rw [V_main_arg1]
  refine congrArg (a1 m 0) (funext fun a => Fin.ext ?_)
  match a with
  | ⟨0, _⟩ => rfl

/-- The body's condition: the point's block is used. -/
theorem cond_iff (i : grid0.Coords) (w : BitVec 32) : k0_cond1 i w = 1#1 ↔ IntOp.cmpi .slt (BitVec.ofNat 32 (i 0).val) w = 1#1 := by
  have hb : ∀ b : BitVec 1, Scalar.cmpi .ne (Scalar.extui b : BitVec 32) 0#32 = 1#1 ↔ b = 1#1 := by decide
  exact hb _

variable (hS : Small m)

theorem coord0 : ∀ t : Fin grid0.N, (grid0.coords t 0).val = t.val := by decide +kernel

/-- The point's block number. -/
def pb (t : Fin (cfgM m (ok hS)).N) : Fin 144 := ⟨t.val, t.isLt⟩

theorem blk_coords (t : Fin (cfgM m (ok hS)).N) : blk (grid0.coords t) = pb hS t := Fin.ext (coord0 t)

theorem i0 (t : Fin (cfgM m (ok hS)).N) : ((cfgM m (ok hS)).win 0).index t
    = ![(IntOp.minsi (BitVec.ofNat 32 (grid0.coords t 0).val) (IntOp.subi (a1 m 0 (ix1 0)) 1#32)).toNat, 0] := tr0 (grid0.coords t)
theorem i1 (t : Fin (cfgM m (ok hS)).N) : ((cfgM m (ok hS)).win 1).index t = ![((V m 0 main_v5 : IVec S144 32) (ix1 (blk (grid0.coords t)))).toNat, 0, 0] := tr1 (grid0.coords t)
theorem i2 (t : Fin (cfgM m (ok hS)).N) : ((cfgM m (ok hS)).win 2).index t = ![((V m 0 main_v5 : IVec S144 32) (ix1 (blk (grid0.coords t)))).toNat, 0, 0] := tr2 (grid0.coords t)
theorem i3 (t : Fin (cfgM m (ok hS)).N) : ((cfgM m (ok hS)).win 3).index t = ![((V m 0 main_v5 : IVec S144 32) (ix1 (blk (grid0.coords t)))).toNat, 0, 0] := tr3 (grid0.coords t)
theorem i4' : ∀ t : Fin grid0.N, cc0_transform_4 (grid0.coords t) 0 = t.val ∧ cc0_transform_4 (grid0.coords t) 1 = 0 := by decide +kernel
theorem i4 (t : Fin (cfgM m (ok hS)).N) : ((cfgM m (ok hS)).win 4).index t (0 : Fin 2) = t.val ∧ ((cfgM m (ok hS)).win 4).index t (1 : Fin 2) = 0 := i4' t

/-- A used block's number is no later than the last used one's, so the table's entry there is the block's own expert. -/
theorem used_last (hS : Small m) (b : Fin 144) (hu : IntOp.cmpi .slt (BitVec.ofNat 32 b.val) (a1 m 0 (ix1 0)) = 1#1) :
    IntOp.minsi (BitVec.ofNat 32 b.val) (IntOp.subi (a1 m 0 (ix1 0)) 1#32) = BitVec.ofNat 32 b.val :=
  (last_spec _ hS.2 b).2.2 hu

theorem used_expert (hS : Small m) (b : Fin 144) (hu : IntOp.cmpi .slt (BitVec.ofNat 32 b.val) (a1 m 0 (ix1 0)) = 1#1) :
    ((V m 0 main_v5 : IVec S144 32) (ix1 b)).toNat = (ex (a0 m 0) b).val := by
  rw [V_table_apply]
  have key : ∀ (w : BitVec 32) (_ : w = BitVec.ofNat 32 b.val) (h : min w.toInt.toNat (144 - 1) < 144),
      (a0 m 0 (ix1 ⟨min w.toInt.toNat (144 - 1), h⟩)).toNat = (ex (a0 m 0) b).val := by
    intro w hw h
    subst hw
    have hb : (⟨min (BitVec.ofNat 32 b.val).toInt.toNat (144 - 1), h⟩ : Fin 144) = b := by
      refine Fin.ext ?_
      show min (BitVec.ofNat 32 b.val).toInt.toNat (144 - 1) = b.val
      rw [(block_toNat b).2]
      have := b.isLt
      omega
    rw [hb]
    obtain ⟨e, he⟩ := hS.1 b hu
    show _ = min (a0 m 0 (ix1 b)).toInt.toNat (16 - 1)
    rw [he, (small_toNat e).1, (small_toNat e).2]
    have := e.isLt
    omega
  exact key _ (used_last hS b hu) _

/-- Row `p` of block `b`. -/
def rowOf (b : Fin 144) (p : Fin 512) : Fin 73728 := ⟨b.val * 512 + p.val, by omega⟩

theorem iblk0 (t : Fin (cfgM m (ok hS)).N) (hu : IntOp.cmpi .slt (BitVec.ofNat 32 (pb hS t).val) (a1 m 0 (ix1 0)) = 1#1)
    (p : Fin 512) (k : Fin 2048) :
    iblk m (ok hS) 0 0 t (ix2 p k) = m (((0 : Dev nD) : Thread nD τ).loc main_arg2) (ix2 (rowOf (pb hS t) p) k) := by
  have e := i0 hS t
  have e0 := congrFun e (0 : Fin 2)
  have e1 := congrFun e (1 : Fin 2)
  have e0' : ((cfgM m (ok hS)).win 0).index t (0 : Fin 2) = t.val := by
    refine e0.trans ?_
    show (IntOp.minsi (BitVec.ofNat 32 (grid0.coords t 0).val) (IntOp.subi (a1 m 0 (ix1 0)) 1#32)).toNat = _
    rw [coord0 t]
    refine (congrArg BitVec.toNat (used_last hS (pb hS t) hu)).trans (block_toNat (pb hS t)).1
  have e1' : ((cfgM m (ok hS)).win 0).index t (1 : Fin 2) = 0 := e1
  clear e0 e1 e
  rw [← V_main_arg2 m 0]
  show V m 0 main_arg2 ((((cfgM m (ok hS)).win 0).blk t).view.emb (ix2 p k)) = _
  congr 1; funext a; apply Fin.ext
  match a with
  | ⟨0, _⟩ => show ((cfgM m (ok hS)).win 0).index t (0 : Fin 2) * 512 + 1 * p.val = t.val * 512 + p.val; omega
  | ⟨1, _⟩ => show ((cfgM m (ok hS)).win 0).index t (1 : Fin 2) * 2048 + 1 * k.val = k.val; omega

theorem iblk1 (t : Fin (cfgM m (ok hS)).N) (hu : IntOp.cmpi .slt (BitVec.ofNat 32 (pb hS t).val) (a1 m 0 (ix1 0)) = 1#1)
    (d : Fin 2048) (f : Fin 1408) :
    iblk m (ok hS) 0 1 t (ix3 0 d f) = m (((0 : Dev nD) : Thread nD τ).loc main_arg3) (ix3 (ex (a0 m 0) (pb hS t)) d f) := by
  have e := i1 hS t
  have e0 := congrFun e (0 : Fin 3)
  have e0' : ((cfgM m (ok hS)).win 1).index t (0 : Fin 3) = (ex (a0 m 0) (pb hS t)).val := by
    refine e0.trans ?_
    show ((V m 0 main_v5 : IVec S144 32) (ix1 (blk (grid0.coords t)))).toNat = _
    rw [blk_coords hS t]
    exact used_expert hS (pb hS t) hu
  have e1' : ((cfgM m (ok hS)).win 1).index t (1 : Fin 3) = 0 := congrFun e (1 : Fin 3)
  have e2' : ((cfgM m (ok hS)).win 1).index t (2 : Fin 3) = 0 := congrFun e (2 : Fin 3)
  rw [← V_main_arg3 m 0]
  show V m 0 main_arg3 ((((cfgM m (ok hS)).win 1).blk t).view.emb (ix3 0 d f)) = _
  congr 1; funext a; apply Fin.ext
  match a with
  | ⟨0, _⟩ => show ((cfgM m (ok hS)).win 1).index t (0 : Fin 3) * 1 + 1 * 0 = (ex (a0 m 0) (pb hS t)).val; omega
  | ⟨1, _⟩ => show ((cfgM m (ok hS)).win 1).index t (1 : Fin 3) * 2048 + 1 * d.val = d.val; omega
  | ⟨2, _⟩ => show ((cfgM m (ok hS)).win 1).index t (2 : Fin 3) * 1408 + 1 * f.val = f.val; omega

theorem iblk2 (t : Fin (cfgM m (ok hS)).N) (hu : IntOp.cmpi .slt (BitVec.ofNat 32 (pb hS t).val) (a1 m 0 (ix1 0)) = 1#1)
    (d : Fin 2048) (f : Fin 1408) :
    iblk m (ok hS) 0 2 t (ix3 0 d f) = m (((0 : Dev nD) : Thread nD τ).loc main_arg4) (ix3 (ex (a0 m 0) (pb hS t)) d f) := by
  have e := i2 hS t
  have e0 := congrFun e (0 : Fin 3)
  have e0' : ((cfgM m (ok hS)).win 2).index t (0 : Fin 3) = (ex (a0 m 0) (pb hS t)).val := by
    refine e0.trans ?_
    show ((V m 0 main_v5 : IVec S144 32) (ix1 (blk (grid0.coords t)))).toNat = _
    rw [blk_coords hS t]
    exact used_expert hS (pb hS t) hu
  have e1' : ((cfgM m (ok hS)).win 2).index t (1 : Fin 3) = 0 := congrFun e (1 : Fin 3)
  have e2' : ((cfgM m (ok hS)).win 2).index t (2 : Fin 3) = 0 := congrFun e (2 : Fin 3)
  rw [← V_main_arg4 m 0]
  show V m 0 main_arg4 ((((cfgM m (ok hS)).win 2).blk t).view.emb (ix3 0 d f)) = _
  congr 1; funext a; apply Fin.ext
  match a with
  | ⟨0, _⟩ => show ((cfgM m (ok hS)).win 2).index t (0 : Fin 3) * 1 + 1 * 0 = (ex (a0 m 0) (pb hS t)).val; omega
  | ⟨1, _⟩ => show ((cfgM m (ok hS)).win 2).index t (1 : Fin 3) * 2048 + 1 * d.val = d.val; omega
  | ⟨2, _⟩ => show ((cfgM m (ok hS)).win 2).index t (2 : Fin 3) * 1408 + 1 * f.val = f.val; omega

theorem iblk3 (t : Fin (cfgM m (ok hS)).N) (hu : IntOp.cmpi .slt (BitVec.ofNat 32 (pb hS t).val) (a1 m 0 (ix1 0)) = 1#1)
    (d : Fin 1408) (f : Fin 2048) :
    iblk m (ok hS) 0 3 t (ix3 0 d f) = m (((0 : Dev nD) : Thread nD τ).loc main_arg5) (ix3 (ex (a0 m 0) (pb hS t)) d f) := by
  have e := i3 hS t
  have e0 := congrFun e (0 : Fin 3)
  have e0' : ((cfgM m (ok hS)).win 3).index t (0 : Fin 3) = (ex (a0 m 0) (pb hS t)).val := by
    refine e0.trans ?_
    show ((V m 0 main_v5 : IVec S144 32) (ix1 (blk (grid0.coords t)))).toNat = _
    rw [blk_coords hS t]
    exact used_expert hS (pb hS t) hu
  have e1' : ((cfgM m (ok hS)).win 3).index t (1 : Fin 3) = 0 := congrFun e (1 : Fin 3)
  have e2' : ((cfgM m (ok hS)).win 3).index t (2 : Fin 3) = 0 := congrFun e (2 : Fin 3)
  rw [← V_main_arg5 m 0]
  show V m 0 main_arg5 ((((cfgM m (ok hS)).win 3).blk t).view.emb (ix3 0 d f)) = _
  congr 1; funext a; apply Fin.ext
  match a with
  | ⟨0, _⟩ => show ((cfgM m (ok hS)).win 3).index t (0 : Fin 3) * 1 + 1 * 0 = (ex (a0 m 0) (pb hS t)).val; omega
  | ⟨1, _⟩ => show ((cfgM m (ok hS)).win 3).index t (1 : Fin 3) * 1408 + 1 * d.val = d.val; omega
  | ⟨2, _⟩ => show ((cfgM m (ok hS)).win 3).index t (2 : Fin 3) * 2048 + 1 * f.val = f.val; omega

/-- The body's result at an index of the block, of the blocks it read. -/
theorem out_apply (i : grid0.Coords) (w : BitVec 32) (x0 : Vec Ideal S512x2048 .f32) (x1 x2 : Vec Ideal S1x2048x1408 .bf16)
    (x3 : Vec Ideal S1x1408x2048 .bf16) (p : Fin 512) (q : Fin 2048) : out0_4 i w x0 x1 x2 x3 (ix2 p q)
      = if IntOp.cmpi .slt (BitVec.ofNat 32 (i 0).val) w = 1#1 then
          ffn (fun d => x0 (ix2 p d)) (fun d f => x1 (ix3 0 d f)) (fun d f => x2 (ix3 0 d f)) (fun f e => x3 (ix3 0 f e)) q
        else 0 := by
  unfold out0_4
  by_cases h : IntOp.cmpi .slt (BitVec.ofNat 32 (i 0).val) w = 1#1
  · rw [if_pos ((cond_iff i w).mpr h), if_pos h, pay1_apply]
    rfl
  · rw [if_neg (fun h' => h ((cond_iff i w).mp h')), if_neg h, pay2_apply]

variable (m) in
/-- The body's result at a point, of blocks holding the entries a used block reads: the result's entry. -/
theorem point_eq (i : grid0.Coords) (b : Fin 144) (hi : (i 0).val = b.val) (w : BitVec 32) (x0 : Vec Ideal S512x2048 .f32)
    (x1 x2 : Vec Ideal S1x2048x1408 .bf16) (x3 : Vec Ideal S1x1408x2048 .bf16) (p : Fin 512) (q : Fin 2048)
    (hw : w = a1 m 0 (ix1 0))
    (h0 : IntOp.cmpi .slt (BitVec.ofNat 32 b.val) (a1 m 0 (ix1 0)) = 1#1 → ∀ d,
      x0 (ix2 p d) = m (((0 : Dev nD) : Thread nD τ).loc main_arg2) (ix2 (rowOf b p) d))
    (h1 : IntOp.cmpi .slt (BitVec.ofNat 32 b.val) (a1 m 0 (ix1 0)) = 1#1 → ∀ d f,
      x1 (ix3 0 d f) = m (((0 : Dev nD) : Thread nD τ).loc main_arg3) (ix3 (ex (a0 m 0) b) d f))
    (h2 : IntOp.cmpi .slt (BitVec.ofNat 32 b.val) (a1 m 0 (ix1 0)) = 1#1 → ∀ d f,
      x2 (ix3 0 d f) = m (((0 : Dev nD) : Thread nD τ).loc main_arg4) (ix3 (ex (a0 m 0) b) d f))
    (h3 : IntOp.cmpi .slt (BitVec.ofNat 32 b.val) (a1 m 0 (ix1 0)) = 1#1 → ∀ d f,
      x3 (ix3 0 d f) = m (((0 : Dev nD) : Thread nD τ).loc main_arg5) (ix3 (ex (a0 m 0) b) d f)) :
    out0_4 i w x0 x1 x2 x3 (ix2 p q) = G m 0 (ix2 (rowOf b p) q) := by
  have hb : blkOf (ix2 (rowOf b p) q) = b := by
    refine Fin.ext ?_
    show (b.val * 512 + p.val) / 512 = b.val
    omega
  rw [out_apply, hw, hi]
  unfold G gOut
  rw [hb]
  by_cases hu : IntOp.cmpi .slt (BitVec.ofNat 32 b.val) (a1 m 0 (ix1 0)) = 1#1
  · refine (if_pos hu).trans (Eq.trans ?_ (if_pos hu).symm)
    rw [funext (h0 hu), funext fun d => funext (h1 hu d), funext fun d => funext (h2 hu d), funext fun f => funext (h3 hu f)]
    rfl
  · exact (if_neg hu).trans (if_neg hu).symm

/-- What point `t` writes back is its block of the result. -/
theorem flushed_eq (t : Fin (cfgM m (ok hS)).N) :
    (dats m (ok hS) 0 0).flushed 4 t = (((cfgM m (ok hS)).win 4).blk t).view.read (Elt Ideal) (G m 0) := by
  obtain ⟨e0, e1⟩ := i4 hS t
  show ((cfgM m (ok hS)).win 4).cut (grid0.coords t) ((dats m (ok hS) 0 0).after 4 t) = _
  rw [after0_4]
  funext (j : S512x2048.Idx)
  obtain ⟨p, q, rfl⟩ : ∃ (p : Fin 512) (q : Fin 2048), j = ix2 p q := ⟨j 0, j 1, eq_ix2 j⟩
  show out0_4 (grid0.coords t) (word0 0 (tbl m 1)) (iblk m (ok hS) 0 0 t) (iblk m (ok hS) 0 1 t) (iblk m (ok hS) 0 2 t) (iblk m (ok hS) 0 3 t) (ix2 p q)
    = G m 0 ((((cfgM m (ok hS)).win 4).blk t).view.emb (ix2 p q))
  have he : (((cfgM m (ok hS)).win 4).blk t).view.emb (ix2 p q) = ix2 (rowOf (pb hS t) p) q := by
    funext a; apply Fin.ext
    match a with
    | ⟨0, _⟩ => show ((cfgM m (ok hS)).win 4).index t (0 : Fin 2) * 512 + 1 * p.val = t.val * 512 + p.val; omega
    | ⟨1, _⟩ => show ((cfgM m (ok hS)).win 4).index t (1 : Fin 2) * 2048 + 1 * q.val = q.val; omega
  rw [he]
  exact point_eq m (grid0.coords t) (pb hS t) (coord0 t) _ _ _ _ _ p q (word_eq 0) (fun hu d => iblk0 hS t hu p d)
    (fun hu d f => iblk1 hS t hu d f) (fun hu d f => iblk2 hS t hu d f) (fun hu d f => iblk3 hS t hu d f)

/-- The points' blocks cover the result, -/
theorem cover (i : S73728x2048.Idx) : ∃ t : Fin (cfgM m (ok hS)).N, ((cfgM m (ok hS)).win 4).flush t = true ∧ i ∈ (((cfgM m (ok hS)).win 4).blk t).view.set := by
  have h0 : (i 0 : Nat) < 73728 := (i 0).isLt
  have h1 : (i 1 : Nat) < 2048 := (i 1).isLt
  have hN : (cfgM m (ok hS)).N = 144 := (by decide +kernel : grid0.N = 144)
  have ht : (i 0 : Nat) / 512 < (cfgM m (ok hS)).N := by rw [hN]; omega
  refine ⟨⟨(i 0 : Nat) / 512, ht⟩, flush0_4 _ _, ?_⟩
  obtain ⟨e0, e1⟩ := i4 hS ⟨(i 0 : Nat) / 512, ht⟩
  have e0' : ((cfgM m (ok hS)).win 4).index ⟨(i 0 : Nat) / 512, ht⟩ (0 : Fin 2) = (i 0 : Nat) / 512 := e0
  clear e0
  show i ∈ ((View.whole main_v6).slice (((cfgM m (ok hS)).win 4).rect ⟨(i 0 : Nat) / 512, ht⟩)).set
  refine Eq.mpr (congrArg (fun s => i ∈ s) (View.set_slice_whole main_v6 (((cfgM m (ok hS)).win 4).rect ⟨(i 0 : Nat) / 512, ht⟩))) ?_
  refine Rect.mem_set_unit.mpr ?_
  intro a
  match a with
  | ⟨0, _⟩ =>
    show ((cfgM m (ok hS)).win 4).index ⟨(i 0 : Nat) / 512, ht⟩ (0 : Fin 2) * 512 ≤ (i 0 : Nat) ∧ (i 0 : Nat) < ((cfgM m (ok hS)).win 4).index ⟨(i 0 : Nat) / 512, ht⟩ (0 : Fin 2) * 512 + 512
    omega
  | ⟨1, _⟩ =>
    show ((cfgM m (ok hS)).win 4).index ⟨(i 0 : Nat) / 512, ht⟩ (1 : Fin 2) * 2048 ≤ (i 1 : Nat) ∧ (i 1 : Nat) < ((cfgM m (ok hS)).win 4).index ⟨(i 0 : Nat) / 512, ht⟩ (1 : Fin 2) * 2048 + 2048
    omega

/-- so it ends holding that array. -/
theorem final : (dats m (ok hS) 0 0).arrAt 4 (cfgM m (ok hS)).N = G m 0 :=
  (dats m (ok hS) 0 0).arrAt_eq_of_cover 4 (G m 0) (fun t _ => flushed_eq hS t) (cover hS)

/-- The experts call runs and ends with its result, its arguments unchanged. -/
theorem run (hS : Small m) : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain rfl : c = 0 := Subsingleton.elim _ _
    exact ⟨((h 0).1 4).trans (final hS),
      ((h 0).2 main_arg0 (by decide : main_arg0 ∈ Pipeline.restRefs sig spec0)).trans (V_main_arg0 m 0),
      ((h 0).2 main_arg1 (by decide : main_arg1 ∈ Pipeline.restRefs sig spec0)).trans (V_main_arg1 m 0),
      ((h 0).1 0).trans (((dats m (ok hS) 0 0).arrAt_in 0 rfl _).trans ((A_eq m (ok hS) 0 0).trans (V_main_arg2 m 0))),
      ((h 0).1 1).trans (((dats m (ok hS) 0 0).arrAt_in 1 rfl _).trans ((A_eq m (ok hS) 0 1).trans (V_main_arg3 m 0))),
      ((h 0).1 2).trans (((dats m (ok hS) 0 0).arrAt_in 2 rfl _).trans ((A_eq m (ok hS) 0 2).trans (V_main_arg4 m 0))),
      ((h 0).1 3).trans (((dats m (ok hS) 0 0).arrAt_in 3 rfl _).trans ((A_eq m (ok hS) 0 3).trans (V_main_arg5 m 0)))⟩)
    (run_main m ρ (ok hS))

/-- The reference's result is that array. -/
theorem ref_eq (e0 : IVec S144 32) (n : IVec S1 32) (x : Vec Ideal S73728x2048 .f32) (wg wu : Vec Ideal S16x2048x1408 .bf16)
    (wd : Vec Ideal S16x1408x2048 .bf16) : rOut n x (rW wg e0) (rW wu e0) (rD wd e0) = gOut e0 n x wg wu wd := by
  funext (i : S73728x2048.Idx)
  obtain ⟨r, q, rfl⟩ : ∃ (r : Fin 73728) (q : Fin 2048), i = ix2 r q := ⟨i 0, i 1, eq_ix2 i⟩
  have hr : r = ⟨(⟨r.val / 512, by omega⟩ : Fin 144).val * 512 + (⟨r.val % 512, by omega⟩ : Fin 512).val, by dsimp only; omega⟩ :=
    Fin.ext (by dsimp only; omega)
  have hb : blkOf (ix2 r q) = ⟨r.val / 512, by omega⟩ := rfl
  refine (congrArg (fun z => rOut n x (rW wg e0) (rW wu e0) (rD wd e0) (ix2 z q)) hr).trans ?_
  refine (rOut_apply n x (rW wg e0) (rW wu e0) (rD wd e0) ⟨r.val / 512, by omega⟩ ⟨r.val % 512, by omega⟩ q).trans ?_
  rw [← hr]
  unfold gOut
  rw [hb]
  simp only [rW_apply, rD_apply]
  rfl

end Cert.Proof.Experts

end
-- ==== Proof.AttnIdealBase.lean ====
module

public import proofs.«01_k».proof.Proof.Gen.AttnIdeal.Frame
public import proofs.«01_k».proof.Proof.Gen.AttnIdeal.Skeleton
public import Idealize.ShloMosaic.Lib.Tactic

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ
/-- The kernel's three scratch buffers: the logits of the two halves, the running maxima, the accumulators. -/
abbrev sM : Memref sig .tc .vmem S2x2048x1024 .f32 := Memref.whole cc0_scratch0
abbrev mM : Memref sig .tc .vmem S2048x1 .f32 := Memref.whole cc0_scratch1
abbrev aM : Memref sig .tc .vmem S2048x256 .f32 := Memref.whole cc0_scratch2

/-- The contents of the three scratch buffers. -/
structure St (F : FTy → Type) where
  s : (⟨S2x2048x1024, .f32⟩ : BufTy).Contents (Elt F)
  m : (⟨S2048x1, .f32⟩ : BufTy).Contents (Elt F)
  a : (⟨S2048x256, .f32⟩ : BufTy).Contents (Elt F)

/-- The staging buffers a point is handed: seven inputs and the output. -/
structure Args where
  arg3 : Memref sig .tc .vmem S4x64 .f32
  harg3 : arg3.IsWhole
  arg4 : Memref sig .tc .vmem S1x128 .f32
  harg4 : arg4.IsWhole
  arg5 : Memref sig .tc .vmem S1x1024x128 .bf16
  harg5 : arg5.IsWhole
  arg6 : Memref sig .tc .vmem S1x16384x128 .bf16
  harg6 : arg6.IsWhole
  arg7 : Memref sig .tc .vmem S1x16384x128 .bf16
  harg7 : arg7.IsWhole
  arg8 : Memref sig .tc .vmem S1x256x256 .f32
  harg8 : arg8.IsWhole
  arg9 : Memref sig .tc .vmem S1x256x256 .f32
  harg9 : arg9.IsWhole
  arg10 : Memref sig .tc .vmem S1x1024x128 .bf16
  harg10 : arg10.IsWhole

/-- What the inputs' staging buffers hold. -/
structure Ins (F : FTy → Type) (c : Dev nD) (A : Args) where
  f3 : Buf (Elt F) (A.arg3.view.loc (c : Thread nD τ))
  f4 : Buf (Elt F) (A.arg4.view.loc (c : Thread nD τ))
  f5 : Buf (Elt F) (A.arg5.view.loc (c : Thread nD τ))
  f6 : Buf (Elt F) (A.arg6.view.loc (c : Thread nD τ))
  f7 : Buf (Elt F) (A.arg7.view.loc (c : Thread nD τ))
  f8 : Buf (Elt F) (A.arg8.view.loc (c : Thread nD τ))
  f9 : Buf (Elt F) (A.arg9.view.loc (c : Thread nD τ))

/-- A state of the point: the scratch buffers and the output's staging buffer. -/
structure St1 (F : FTy → Type) (c : Dev nD) (A : Args) extends St F where
  o : Buf (Elt F) (A.arg10.view.loc (c : Thread nD τ))

variable {c : Dev nD} {A : Args}

/-- The point's buffers held: the inputs at their contents, the output and the scratch at the state's. -/
def held (I : Ins F c A) (σ : St1 F c A) : sProp 𝕄 :=
  iprop((A.arg3.view.loc (c : Thread nD τ) ↦{fullShare} I.f3) ∗ (A.arg4.view.loc (c : Thread nD τ) ↦{fullShare} I.f4) ∗ (A.arg5.view.loc (c : Thread nD τ) ↦{fullShare} I.f5) ∗ (A.arg6.view.loc (c : Thread nD τ) ↦{fullShare} I.f6) ∗ (A.arg7.view.loc (c : Thread nD τ) ↦{fullShare} I.f7) ∗ (A.arg8.view.loc (c : Thread nD τ) ↦{fullShare} I.f8) ∗ (A.arg9.view.loc (c : Thread nD τ) ↦{fullShare} I.f9)
    ∗ (A.arg10.view.loc (c : Thread nD τ) ↦{fullShare} σ.o)
    ∗ (sM.view.loc (c : Thread nD τ) ↦{fullShare} σ.s) ∗ (mM.view.loc (c : Thread nD τ) ↦{fullShare} σ.m)
    ∗ (aM.view.loc (c : Thread nD τ) ↦{fullShare} σ.a))

/-- From the buffers held at a state, the program runs to a result and a state that meet `Q`. -/
def W (I : Ins F c A) {α : Type} (p : Prog (TpuEff nD τ sig (Elt F) Λ₀ .tc) α) (σ : St1 F c A) (Q : α → St1 F c A → Prop) : Prop :=
  ∀ K : α → sProp 𝕄, (∀ r σ', Q r σ' → held I σ' ⊢ K r) →
    held I σ ⊢ wp frame (wpE (defs₀ (F := F)) Variants.none c none) Set.univ p K

variable {I : Ins F c A} {σ : St1 F c A}

/-- A program followed by another. -/
theorem W_bind {α β : Type} {p : Prog (TpuEff nD τ sig (Elt F) Λ₀ .tc) α} {k : α → Prog (TpuEff nD τ sig (Elt F) Λ₀ .tc) β}
    {Q : β → St1 F c A → Prop} (h : W I p σ (fun r σ' => W I (k r) σ' Q)) : W I (p >>= k) σ Q := by
  intro K hK
  rw [wp_bind]
  exact h _ fun r σ' hr => hr K hK

/-- A weaker post. -/
theorem W_mono {α : Type} {p : Prog (TpuEff nD τ sig (Elt F) Λ₀ .tc) α} {Q Q' : α → St1 F c A → Prop} (h : W I p σ Q)
    (hQ : ∀ r σ', Q r σ' → Q' r σ') : W I p σ Q' := fun K hK => h K fun r σ' hr => hK r σ' (hQ r σ' hr)

/-- A program that only returns. -/
theorem W_pure {α : Type} {r : α} {Q : α → St1 F c A → Prop} (h : Q r σ) : W I (pure r) σ Q := by
  intro K hK
  rw [wp_pure]
  exact (hK r σ h).trans fupd_intro

/-- A branch on a decided condition. -/
theorem W_dite {α : Type} {C : Prop} {_ : Decidable C} {p : C → Prog (TpuEff nD τ sig (Elt F) Λ₀ .tc) α} {q : ¬C → Prog (TpuEff nD τ sig (Elt F) Λ₀ .tc) α}
    {Q : α → St1 F c A → Prop} (hp : ∀ h, W I (p h) σ Q) (hq : ∀ h, W I (q h) σ Q) : W I (if h : C then p h else q h) σ Q := by
  by_cases h : C
  · rw [dif_pos h]; exact hp h
  · rw [dif_neg h]; exact hq h

/-- A counted loop without carried values, by an invariant. -/
theorem W_for {w : ℕ} {l : Scf.Loop w} {ok : l.OK} {body : Fin l.trips → Unit → Prog (TpuEff nD τ sig (Elt F) Λ₀ .tc) Unit}
    {Q : Unit → St1 F c A → Prop} (J : ℕ → St1 F c A → Prop) (h0 : J 0 σ)
    (hs : ∀ (k : Fin l.trips) σ, J k.val σ → W I (body k ()) σ (fun _ σ' => J (k.val + 1) σ'))
    (hQ : ∀ σ, J l.trips σ → Q () σ) : W I (Scf.Loop.for l ok () body) σ Q := by
  intro K hK
  refine BIBase.Entails.trans ?_ (Scf.wp_for frame (wpE (defs₀ (F := F)) Variants.none c none) Set.univ l.lb l.ub l.st ok () body
    (fun n _ => iprop(∃ σ, ⌜J n σ⌝ ∗ held I σ)) ?_)
  · iintro H
    isplitl [H]
    · iexists σ; isplitr; · ipureintro; exact h0
      iexact H
    · iintro %acc ⟨%σ', %hJ, H⟩
      iapply (hK acc σ' (hQ σ' hJ)); iexact H
  · intro k acc
    iintro ⟨%σ', %hJ, H⟩
    iapply (hs k σ' hJ (fun _ => iprop(∃ σ, ⌜J (k.val + 1) σ⌝ ∗ held I σ)) (fun r σ'' h => by
      iintro H
      iexists σ''; isplitr; · ipureintro; exact h
      iexact H))
    iexact H

/-- A load through input 3. -/
theorem W_load_in3  {L : LoadRect _} {hl : (A.arg3).view.LoadsAt L}
    {Q : _ → St1 F c A → Prop} (h : ∀ v, v = View.readAt (Elt F) (A.arg3).view L I.f3 → Q v σ) :
    W I (Prog.lift (.load (A.arg3) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := A.arg3) (r := L) (hl := hl) (f := I.f3) (S := Finset.univ) (q := fullShare) (Finset.subset_univ _)) $$ H3
  iintro H3
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through input 4. -/
theorem W_load_in4  {L : LoadRect _} {hl : (A.arg4).view.LoadsAt L}
    {Q : _ → St1 F c A → Prop} (h : ∀ v, v = View.readAt (Elt F) (A.arg4).view L I.f4 → Q v σ) :
    W I (Prog.lift (.load (A.arg4) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := A.arg4) (r := L) (hl := hl) (f := I.f4) (S := Finset.univ) (q := fullShare) (Finset.subset_univ _)) $$ H4
  iintro H4
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through input 5. -/
theorem W_load_in5  {L : LoadRect _} {hl : (A.arg5).view.LoadsAt L}
    {Q : _ → St1 F c A → Prop} (h : ∀ v, v = View.readAt (Elt F) (A.arg5).view L I.f5 → Q v σ) :
    W I (Prog.lift (.load (A.arg5) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := A.arg5) (r := L) (hl := hl) (f := I.f5) (S := Finset.univ) (q := fullShare) (Finset.subset_univ _)) $$ H5
  iintro H5
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through input 6. -/
theorem W_load_in6  {L : LoadRect _} {hl : (A.arg6).view.LoadsAt L}
    {Q : _ → St1 F c A → Prop} (h : ∀ v, v = View.readAt (Elt F) (A.arg6).view L I.f6 → Q v σ) :
    W I (Prog.lift (.load (A.arg6) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := A.arg6) (r := L) (hl := hl) (f := I.f6) (S := Finset.univ) (q := fullShare) (Finset.subset_univ _)) $$ H6
  iintro H6
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through input 7. -/
theorem W_load_in7  {L : LoadRect _} {hl : (A.arg7).view.LoadsAt L}
    {Q : _ → St1 F c A → Prop} (h : ∀ v, v = View.readAt (Elt F) (A.arg7).view L I.f7 → Q v σ) :
    W I (Prog.lift (.load (A.arg7) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := A.arg7) (r := L) (hl := hl) (f := I.f7) (S := Finset.univ) (q := fullShare) (Finset.subset_univ _)) $$ H7
  iintro H7
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through input 8. -/
theorem W_load_in8  {L : LoadRect _} {hl : (A.arg8).view.LoadsAt L}
    {Q : _ → St1 F c A → Prop} (h : ∀ v, v = View.readAt (Elt F) (A.arg8).view L I.f8 → Q v σ) :
    W I (Prog.lift (.load (A.arg8) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := A.arg8) (r := L) (hl := hl) (f := I.f8) (S := Finset.univ) (q := fullShare) (Finset.subset_univ _)) $$ H8
  iintro H8
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through input 9. -/
theorem W_load_in9  {L : LoadRect _} {hl : (A.arg9).view.LoadsAt L}
    {Q : _ → St1 F c A → Prop} (h : ∀ v, v = View.readAt (Elt F) (A.arg9).view L I.f9 → Q v σ) :
    W I (Prog.lift (.load (A.arg9) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := A.arg9) (r := L) (hl := hl) (f := I.f9) (S := Finset.univ) (q := fullShare) (Finset.subset_univ _)) $$ H9
  iintro H9
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through the output. -/
theorem W_load_o  {L : LoadRect _} {hl : (A.arg10).view.LoadsAt L}
    {Q : _ → St1 F c A → Prop} (h : ∀ v, v = View.readAt (Elt F) (A.arg10).view L σ.o → Q v σ) :
    W I (Prog.lift (.load (A.arg10) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := A.arg10) (r := L) (hl := hl) (f := σ.o) (S := Finset.univ) (q := fullShare) (Finset.subset_univ _)) $$ H10
  iintro H10
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through the maxima. -/
theorem W_load_m  {L : LoadRect _} {hl : (mM).view.LoadsAt L}
    {Q : _ → St1 F c A → Prop} (h : ∀ v, v = View.readAt (Elt F) (mM).view L σ.m → Q v σ) :
    W I (Prog.lift (.load (mM) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := mM) (r := L) (hl := hl) (f := σ.m) (S := Finset.univ) (q := fullShare) (Finset.subset_univ _)) $$ H12
  iintro H12
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through the accumulators. -/
theorem W_load_a  {L : LoadRect _} {hl : (aM).view.LoadsAt L}
    {Q : _ → St1 F c A → Prop} (h : ∀ v, v = View.readAt (Elt F) (aM).view L σ.a → Q v σ) :
    W I (Prog.lift (.load (aM) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := aM) (r := L) (hl := hl) (f := σ.a) (S := Finset.univ) (q := fullShare) (Finset.subset_univ _)) $$ H13
  iintro H13
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A load through a view of the logits. -/
theorem W_load_s {R₀ : Rect S2x2048x1024} {h₀ : ∀ a, R₀.stride a = 1} {S : Shape} {hq : R₀.shape.Squeezes S} {L : LoadRect _} {hl : ((sM.slice R₀ h₀).squeeze S hq).view.LoadsAt L}
    {Q : _ → St1 F c A → Prop} (h : ∀ v, v = View.readAt (Elt F) ((sM.slice R₀ h₀).squeeze S hq).view L σ.s → Q v σ) :
    W I (Prog.lift (.load ((sM.slice R₀ h₀).squeeze S hq) L hl)) σ Q := by
  intro K hK
  refine BIBase.Entails.trans ?_ (BIBase.Entails.rfl)
  unfold held
  iintro ⟨H3, H4, H5, H6, H7, H8, H9, H10, H11, H12, H13⟩
  unfold Prog.lift
  iapply (wp_load (defs := defs₀ (F := F)) Variants.none (c : Thread nD τ) none Set.univ (m := (sM.slice R₀ h₀).squeeze S hq) (r := L) (hl := hl) (f := σ.s) (S := Finset.univ) (q := fullShare) (Finset.subset_univ _)) $$ H11
  iintro H11
  iapply (le_wp_ret frame (wpE (defs₀ (F := F)) Variants.none c none) Set.univ _ _)
  iapply (hK _ σ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A store through the output. -/
theorem W_store_o  {r : Rect _} {w : r.shape.Idx → Elt F _} {hx : ((A.arg10).access r).Stores Finset.univ}
    {hm : Finset.univ = Finset.univ ∨ ∀ a, r.stride a = 1} {Q : PUnit → St1 F c A → Prop}
    (h : ∀ σ', σ' = { σ with o := ((A.arg10).access r).write (Elt F) σ.o w Finset.univ } → Q ⟨⟩ σ') :
    W I (Prog.lift (.store (A.arg10) r w Finset.univ hx hm)) σ Q := by
  intro K hK
  unfold held
  iintro ⟨H3, H4, H5, H6, H7, H8, H9, H10, H11, H12, H13⟩
  unfold Prog.lift
  iapply (wp_store (defs := defs₀ (F := F)) Variants.none (c : Thread nD τ) none Set.univ (m := A.arg10) (r := r) (w := w) (hx := hx) (hm := hm) (f := σ.o) (S := Finset.univ) (Finset.subset_univ _)) $$ H10
  iintro H10
  iapply (le_wp_ret frame (wpE (defs₀ (F := F)) Variants.none c none) Set.univ _ _)
  iapply (hK _ _ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A store through the maxima. -/
theorem W_store_m  {r : Rect _} {w : r.shape.Idx → Elt F _} {hx : ((mM).access r).Stores Finset.univ}
    {hm : Finset.univ = Finset.univ ∨ ∀ a, r.stride a = 1} {Q : PUnit → St1 F c A → Prop}
    (h : ∀ σ', σ' = { σ with m := ((mM).access r).write (Elt F) σ.m w Finset.univ } → Q ⟨⟩ σ') :
    W I (Prog.lift (.store (mM) r w Finset.univ hx hm)) σ Q := by
  intro K hK
  unfold held
  iintro ⟨H3, H4, H5, H6, H7, H8, H9, H10, H11, H12, H13⟩
  unfold Prog.lift
  iapply (wp_store (defs := defs₀ (F := F)) Variants.none (c : Thread nD τ) none Set.univ (m := mM) (r := r) (w := w) (hx := hx) (hm := hm) (f := σ.m) (S := Finset.univ) (Finset.subset_univ _)) $$ H12
  iintro H12
  iapply (le_wp_ret frame (wpE (defs₀ (F := F)) Variants.none c none) Set.univ _ _)
  iapply (hK _ _ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A store through the accumulators. -/
theorem W_store_a  {r : Rect _} {w : r.shape.Idx → Elt F _} {hx : ((aM).access r).Stores Finset.univ}
    {hm : Finset.univ = Finset.univ ∨ ∀ a, r.stride a = 1} {Q : PUnit → St1 F c A → Prop}
    (h : ∀ σ', σ' = { σ with a := ((aM).access r).write (Elt F) σ.a w Finset.univ } → Q ⟨⟩ σ') :
    W I (Prog.lift (.store (aM) r w Finset.univ hx hm)) σ Q := by
  intro K hK
  unfold held
  iintro ⟨H3, H4, H5, H6, H7, H8, H9, H10, H11, H12, H13⟩
  unfold Prog.lift
  iapply (wp_store (defs := defs₀ (F := F)) Variants.none (c : Thread nD τ) none Set.univ (m := aM) (r := r) (w := w) (hx := hx) (hm := hm) (f := σ.a) (S := Finset.univ) (Finset.subset_univ _)) $$ H13
  iintro H13
  iapply (le_wp_ret frame (wpE (defs₀ (F := F)) Variants.none c none) Set.univ _ _)
  iapply (hK _ _ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A store through a view of the logits. -/
theorem W_store_s {R₀ : Rect S2x2048x1024} {h₀ : ∀ a, R₀.stride a = 1} {S : Shape} {hq : R₀.shape.Squeezes S} {r : Rect _} {w : r.shape.Idx → Elt F _} {hx : (((sM.slice R₀ h₀).squeeze S hq).access r).Stores Finset.univ}
    {hm : Finset.univ = Finset.univ ∨ ∀ a, r.stride a = 1} {Q : PUnit → St1 F c A → Prop}
    (h : ∀ σ', σ' = { σ with s := (((sM.slice R₀ h₀).squeeze S hq).access r).write (Elt F) σ.s w Finset.univ } → Q ⟨⟩ σ') :
    W I (Prog.lift (.store ((sM.slice R₀ h₀).squeeze S hq) r w Finset.univ hx hm)) σ Q := by
  intro K hK
  unfold held
  iintro ⟨H3, H4, H5, H6, H7, H8, H9, H10, H11, H12, H13⟩
  unfold Prog.lift
  iapply (wp_store (defs := defs₀ (F := F)) Variants.none (c : Thread nD τ) none Set.univ (m := (sM.slice R₀ h₀).squeeze S hq) (r := r) (w := w) (hx := hx) (hm := hm) (f := σ.s) (S := Finset.univ) (Finset.subset_univ _)) $$ H11
  iintro H11
  iapply (le_wp_ret frame (wpE (defs₀ (F := F)) Variants.none c none) Set.univ _ _)
  iapply (hK _ _ (h _ rfl))
  unfold held
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Proof.AttnIdeal

end
-- ==== Proof.AttnIdealFrame.lean ====
module

public import proofs.«01_k».proof.Proof.AttnIdealBase

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable {c : Dev nD} {A : Args} {I : Ins F c A}

/-- The printed part1 leaves the buffers held. -/
theorem fr_part1 (i : grid0.Coords) (v23 : BitVec 32) (k0_h1 : k0_cond1 i = 1#1) (σ : St1 F c A) : W I (k0_part1 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v23 k0_h1) σ (fun _ _ => True) := by
  rw [k0_part1_eq_skeleton]; unfold k0_part1_skel
  try dsimp only
  refine W_bind (W_load_in6 fun _ _ => ?_)
  refine W_bind (W_load_in7 fun _ _ => ?_)
  refine W_bind (W_load_s fun _ _ => ?_)
  refine W_bind (W_load_in9 fun _ _ => ?_)
  refine W_bind (W_load_s fun _ _ => ?_)
  refine W_bind (W_store_s fun σ _ => ?_)
  refine W_bind (W_load_s fun _ _ => ?_)
  exact W_pure trivial

/-- The printed part2 leaves the buffers held. -/
theorem fr_part2 (i : grid0.Coords) (v14 : FVec F S2048x128 .bf16) (v606 : FVec F S1024x128 .bf16) (v620 : FVec F S1024x256 .bf16) (v634 : Vec F S256x1024 .f32) (σ : St1 F c A) : W I (k0_part2 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v606 v620 v634) σ (fun _ _ => True) := by
  rw [k0_part2_eq_skeleton]; unfold k0_part2_skel
  try dsimp only
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  exact W_pure trivial

/-- The printed part3 leaves the buffers held. -/
theorem fr_part3 (i : grid0.Coords) (v14 : FVec F S2048x128 .bf16) (v606 : FVec F S1024x128 .bf16) (v620 : FVec F S1024x256 .bf16) (v666 : Vec F S256x1 .f32) (v669 : FVec F S256x1 .f32) (v671 : FVec F S256x1024 .f32) (σ : St1 F c A) : W I (k0_part3 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v606 v620 v666 v669 v671) σ (fun _ _ => True) := by
  rw [k0_part3_eq_skeleton]; unfold k0_part3_skel
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  exact W_pure trivial

/-- The printed part4 leaves the buffers held. -/
theorem fr_part4 (i : grid0.Coords) (v14 : FVec F S2048x128 .bf16) (v606 : FVec F S1024x128 .bf16) (v620 : FVec F S1024x256 .bf16) (v700 : FVec F S256x1 .f32) (v704 : FVec F S256x1024 .bf16) (v706 : FVec F S256x1 .f32) (v707 : Vec F S256x256 .f32) (σ : St1 F c A) : W I (k0_part4 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v606 v620 v700 v704 v706 v707) σ (fun _ _ => True) := by
  rw [k0_part4_eq_skeleton]; unfold k0_part4_skel
  try dsimp only
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  exact W_pure trivial

/-- The printed part5 leaves the buffers held. -/
theorem fr_part5 (i : grid0.Coords) (v14 : FVec F S2048x128 .bf16) (v606 : FVec F S1024x128 .bf16) (v731 : FVec F S256x1 .f32) (v742 : FVec F S256x256 .f32) (σ : St1 F c A) : W I (k0_part5 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v606 v731 v742) σ (fun _ _ => True) := by
  rw [k0_part5_eq_skeleton]; unfold k0_part5_skel
  try dsimp only
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_in9 fun _ _ => ?_)
  refine W_bind (W_load_s fun _ _ => ?_)
  refine W_bind (W_store_s fun σ _ => ?_)
  refine W_bind (W_load_s fun _ _ => ?_)
  refine W_bind (W_load_m fun _ _ => ?_)
  exact W_pure trivial

/-- The printed part6 leaves the buffers held. -/
theorem fr_part6 (i : grid0.Coords) (v14 : FVec F S2048x128 .bf16) (v606 : FVec F S1024x128 .bf16) (v620 : FVec F S1024x256 .bf16) (v769 : Vec F S256x1024 .f32) (v770 : Vec F S256x1 .f32) (v773 : FVec F S256x1 .f32) (σ : St1 F c A) : W I (k0_part6 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v606 v620 v769 v770 v773) σ (fun _ _ => True) := by
  rw [k0_part6_eq_skeleton]; unfold k0_part6_skel
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  exact W_pure trivial

/-- The printed part7 leaves the buffers held. -/
theorem fr_part7 (i : grid0.Coords) (v14 : FVec F S2048x128 .bf16) (v606 : FVec F S1024x128 .bf16) (v620 : FVec F S1024x256 .bf16) (v804 : FVec F S256x1 .f32) (v808 : FVec F S256x1024 .bf16) (v810 : FVec F S256x1 .f32) (σ : St1 F c A) : W I (k0_part7 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v606 v620 v804 v808 v810) σ (fun _ _ => True) := by
  rw [k0_part7_eq_skeleton]; unfold k0_part7_skel
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  exact W_pure trivial

/-- The printed part8 leaves the buffers held. -/
theorem fr_part8 (i : grid0.Coords) (v14 : FVec F S2048x128 .bf16) (v606 : FVec F S1024x128 .bf16) (v620 : FVec F S1024x256 .bf16) (v835 : FVec F S256x1 .f32) (v846 : FVec F S256x256 .f32) (σ : St1 F c A) : W I (k0_part8 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v606 v620 v835 v846) σ (fun _ _ => True) := by
  rw [k0_part8_eq_skeleton]; unfold k0_part8_skel
  try dsimp only
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  exact W_pure trivial

/-- The printed part9 leaves the buffers held. -/
theorem fr_part9 (i : grid0.Coords) (c0_i32_430 : BitVec 32) (c1_i32_432 : BitVec 32) (k0_t1 : Fin (k0_t1_loop i).trips) (σ : St1 F c A) : W I (k0_part9 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) c0_i32_430 c1_i32_432 k0_t1) σ (fun _ _ => True) := by
  rw [k0_part9_eq_skeleton]; unfold k0_part9_skel
  try dsimp only
  refine W_bind (W_load_in6 fun _ _ => ?_)
  refine W_bind (W_load_in7 fun _ _ => ?_)
  refine W_bind (W_load_s fun _ _ => ?_)
  refine W_bind (W_load_m fun _ _ => ?_)
  refine W_bind (W_load_a fun _ _ => ?_)
  exact W_pure trivial

/-- The printed part10 leaves the buffers held. -/
theorem fr_part10 (i : grid0.Coords) (v14 : FVec F S2048x128 .bf16) (v609 : FVec F S1024x128 .bf16) (v623 : FVec F S1024x256 .bf16) (v630 : FVec F S512x1 .f32) (v634 : FVec F S512x1024 .bf16) (v639 : FVec F S512x256 .f32) (cst_482 : FVec F S512x256 .f32) (σ : St1 F c A) : W I (k0_part10 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v609 v623 v630 v634 v639 cst_482) σ (fun _ _ => True) := by
  rw [k0_part10_eq_skeleton]; unfold k0_part10_skel
  try dsimp only
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  exact W_pure trivial

/-- The printed part11 leaves the buffers held. -/
theorem fr_part11 (i : grid0.Coords) (v14 : FVec F S2048x128 .bf16) (v609 : FVec F S1024x128 .bf16) (v623 : FVec F S1024x256 .bf16) (v661 : FVec F S512x1 .f32) (v675 : FVec F S512x256 .f32) (σ : St1 F c A) : W I (k0_part11 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v609 v623 v661 v675) σ (fun _ _ => True) := by
  rw [k0_part11_eq_skeleton]; unfold k0_part11_skel
  try dsimp only
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- The printed part12 leaves the buffers held. -/
theorem fr_part12 (i : grid0.Coords) (v14 : FVec F S2048x128 .bf16) (v609 : FVec F S1024x128 .bf16) (v623 : FVec F S1024x256 .bf16) (σ : St1 F c A) : W I (k0_part12 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v609 v623) σ (fun _ _ => True) := by
  rw [k0_part12_eq_skeleton]; unfold k0_part12_skel
  try dsimp only
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- The printed part13 leaves the buffers held. -/
theorem fr_part13 (i : grid0.Coords) (k0_t1 : Fin (k0_t1_loop i).trips) (arg14 : BitVec 32) (v742 : FVec F S512x1024 .f32) (σ : St1 F c A) : W I (k0_part13 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) k0_t1 arg14 v742) σ (fun _ _ => True) := by
  rw [k0_part13_eq_skeleton]; unfold k0_part13_skel
  try dsimp only
  refine W_bind (W_load_s fun _ _ => ?_)
  refine W_bind (W_store_s fun σ _ => ?_)
  refine W_bind (W_load_in6 fun _ _ => ?_)
  refine W_bind (W_load_in7 fun _ _ => ?_)
  refine W_bind (W_load_s fun _ _ => ?_)
  refine W_bind (W_load_m fun _ _ => ?_)
  exact W_pure trivial

/-- The printed part14 leaves the buffers held. -/
theorem fr_part14 (i : grid0.Coords) (v14 : FVec F S2048x128 .bf16) (v754 : FVec F S1024x128 .bf16) (v769 : FVec F S1024x256 .bf16) (v776 : FVec F S512x1 .f32) (v780 : FVec F S512x1024 .bf16) (v781 : FVec F S512x1 .f32) (σ : St1 F c A) : W I (k0_part14 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v754 v769 v776 v780 v781) σ (fun _ _ => True) := by
  rw [k0_part14_eq_skeleton]; unfold k0_part14_skel
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  exact W_pure trivial

/-- The printed part15 leaves the buffers held. -/
theorem fr_part15 (i : grid0.Coords) (v14 : FVec F S2048x128 .bf16) (v754 : FVec F S1024x128 .bf16) (v769 : FVec F S1024x256 .bf16) (v807 : FVec F S512x1 .f32) (v811 : FVec F S512x1024 .bf16) (v816 : FVec F S512x256 .f32) (cst_590 : FVec F S512x256 .f32) (σ : St1 F c A) : W I (k0_part15 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v754 v769 v807 v811 v816 cst_590) σ (fun _ _ => True) := by
  rw [k0_part15_eq_skeleton]; unfold k0_part15_skel
  try dsimp only
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  exact W_pure trivial

/-- The printed part16 leaves the buffers held. -/
theorem fr_part16 (i : grid0.Coords) (v14 : FVec F S2048x128 .bf16) (v754 : FVec F S1024x128 .bf16) (v769 : FVec F S1024x256 .bf16) (v838 : FVec F S512x1 .f32) (v852 : FVec F S512x256 .f32) (σ : St1 F c A) : W I (k0_part16 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v754 v769 v838 v852) σ (fun _ _ => True) := by
  rw [k0_part16_eq_skeleton]; unfold k0_part16_skel
  try dsimp only
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- One trip of the loop leaves the buffers held. -/
theorem fr_t1 (i : grid0.Coords) (v14 : FVec F S2048x128 .bf16) (v25 : BitVec 32) (v527 : BitVec 32) (c2_i32 : BitVec 32) (v528 : BitVec 32) (v530 : BitVec 32) (k : Fin (k0_t1_loop i).trips) (σ : St1 F c A) : W I (k0_t1_body i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v25 v527 c2_i32 v528 v530 k ()) σ (fun _ _ => True) := by
  unfold k0_t1_body
  try dsimp only
  refine W_bind (W_mono (fr_part9 _ _ _ _ _) fun _ σ _ => ?_)
  try dsimp only
  refine W_bind (W_mono (fr_part10 _ _ _ _ _ _ _ _ _) fun _ σ _ => ?_)
  try dsimp only
  refine W_bind (W_mono (fr_part11 _ _ _ _ _ _ _) fun _ σ _ => ?_)
  refine W_bind (W_mono (fr_part12 _ _ _ _ _) fun _ σ _ => ?_)
  refine W_bind (W_mono (fr_part13 _ _ _ _ _) fun _ σ _ => ?_)
  try dsimp only
  refine W_bind (W_mono (fr_part14 _ _ _ _ _ _ _ _) fun _ σ _ => ?_)
  try dsimp only
  refine W_bind (W_mono (fr_part15 _ _ _ _ _ _ _ _ _) fun _ σ _ => ?_)
  try dsimp only
  refine W_bind (W_mono (fr_part16 _ _ _ _ _ _ _) fun _ σ _ => ?_)
  refine W_bind (W_load_s fun _ _ => ?_)
  refine W_bind (W_store_s fun σ _ => ?_)
  exact W_pure trivial

/-- The printed part17 leaves the buffers held. -/
theorem fr_part17 (i : grid0.Coords) (v549 : BitVec 32) (c1_i32_433 : BitVec 32) (k0_t2 : Fin (k0_t2_loop i).trips) (σ : St1 F c A) : W I (k0_part17 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v549 c1_i32_433 k0_t2) σ (fun _ _ => True) := by
  rw [k0_part17_eq_skeleton]; unfold k0_part17_skel
  try dsimp only
  refine W_bind (W_load_in6 fun _ _ => ?_)
  refine W_bind (W_load_in7 fun _ _ => ?_)
  refine W_bind (W_load_s fun _ _ => ?_)
  refine W_bind (W_load_m fun _ _ => ?_)
  refine W_bind (W_load_a fun _ _ => ?_)
  exact W_pure trivial

/-- The printed part18 leaves the buffers held. -/
theorem fr_part18 (i : grid0.Coords) (v14 : FVec F S2048x128 .bf16) (v609 : FVec F S1024x128 .bf16) (v623 : FVec F S1024x256 .bf16) (v630 : FVec F S512x1 .f32) (v634 : FVec F S512x1024 .bf16) (v639 : FVec F S512x256 .f32) (cst_482 : FVec F S512x256 .f32) (σ : St1 F c A) : W I (k0_part18 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v609 v623 v630 v634 v639 cst_482) σ (fun _ _ => True) := by
  rw [k0_part18_eq_skeleton]; unfold k0_part18_skel
  try dsimp only
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  exact W_pure trivial

/-- The printed part19 leaves the buffers held. -/
theorem fr_part19 (i : grid0.Coords) (v14 : FVec F S2048x128 .bf16) (v609 : FVec F S1024x128 .bf16) (v623 : FVec F S1024x256 .bf16) (v661 : FVec F S512x1 .f32) (v675 : FVec F S512x256 .f32) (σ : St1 F c A) : W I (k0_part19 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v609 v623 v661 v675) σ (fun _ _ => True) := by
  rw [k0_part19_eq_skeleton]; unfold k0_part19_skel
  try dsimp only
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- The printed part20 leaves the buffers held. -/
theorem fr_part20 (i : grid0.Coords) (v14 : FVec F S2048x128 .bf16) (v609 : FVec F S1024x128 .bf16) (v623 : FVec F S1024x256 .bf16) (σ : St1 F c A) : W I (k0_part20 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v609 v623) σ (fun _ _ => True) := by
  rw [k0_part20_eq_skeleton]; unfold k0_part20_skel
  try dsimp only
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- The printed part21 leaves the buffers held. -/
theorem fr_part21 (i : grid0.Coords) (k0_t2 : Fin (k0_t2_loop i).trips) (arg14 : BitVec 32) (v742 : FVec F S512x1024 .f32) (σ : St1 F c A) : W I (k0_part21 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) k0_t2 arg14 v742) σ (fun _ _ => True) := by
  rw [k0_part21_eq_skeleton]; unfold k0_part21_skel
  try dsimp only
  refine W_bind (W_load_s fun _ _ => ?_)
  refine W_bind (W_store_s fun σ _ => ?_)
  refine W_bind (W_load_in6 fun _ _ => ?_)
  refine W_bind (W_load_in7 fun _ _ => ?_)
  refine W_bind (W_load_s fun _ _ => ?_)
  refine W_bind (W_load_m fun _ _ => ?_)
  exact W_pure trivial

/-- The printed part22 leaves the buffers held. -/
theorem fr_part22 (i : grid0.Coords) (v14 : FVec F S2048x128 .bf16) (v754 : FVec F S1024x128 .bf16) (v769 : FVec F S1024x256 .bf16) (v776 : FVec F S512x1 .f32) (v780 : FVec F S512x1024 .bf16) (v781 : FVec F S512x1 .f32) (σ : St1 F c A) : W I (k0_part22 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v754 v769 v776 v780 v781) σ (fun _ _ => True) := by
  rw [k0_part22_eq_skeleton]; unfold k0_part22_skel
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  exact W_pure trivial

/-- The printed part23 leaves the buffers held. -/
theorem fr_part23 (i : grid0.Coords) (v14 : FVec F S2048x128 .bf16) (v754 : FVec F S1024x128 .bf16) (v769 : FVec F S1024x256 .bf16) (v807 : FVec F S512x1 .f32) (v811 : FVec F S512x1024 .bf16) (v816 : FVec F S512x256 .f32) (cst_590 : FVec F S512x256 .f32) (σ : St1 F c A) : W I (k0_part23 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v754 v769 v807 v811 v816 cst_590) σ (fun _ _ => True) := by
  rw [k0_part23_eq_skeleton]; unfold k0_part23_skel
  try dsimp only
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  exact W_pure trivial

/-- The printed part24 leaves the buffers held. -/
theorem fr_part24 (i : grid0.Coords) (v14 : FVec F S2048x128 .bf16) (v754 : FVec F S1024x128 .bf16) (v769 : FVec F S1024x256 .bf16) (v838 : FVec F S512x1 .f32) (v852 : FVec F S512x256 .f32) (σ : St1 F c A) : W I (k0_part24 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v754 v769 v838 v852) σ (fun _ _ => True) := by
  rw [k0_part24_eq_skeleton]; unfold k0_part24_skel
  try dsimp only
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- One trip of the loop leaves the buffers held. -/
theorem fr_t2 (i : grid0.Coords) (v14 : FVec F S2048x128 .bf16) (v25 : BitVec 32) (v527 : BitVec 32) (c2_i32 : BitVec 32) (v528 : BitVec 32) (v530 : BitVec 32) (v549 : BitVec 32) (k : Fin (k0_t2_loop i).trips) (σ : St1 F c A) : W I (k0_t2_body i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v25 v527 c2_i32 v528 v530 v549 k ()) σ (fun _ _ => True) := by
  unfold k0_t2_body
  try dsimp only
  refine W_bind (W_mono (fr_part17 _ _ _ _ _) fun _ σ _ => ?_)
  try dsimp only
  refine W_bind (W_mono (fr_part18 _ _ _ _ _ _ _ _ _) fun _ σ _ => ?_)
  try dsimp only
  refine W_bind (W_mono (fr_part19 _ _ _ _ _ _ _) fun _ σ _ => ?_)
  refine W_bind (W_mono (fr_part20 _ _ _ _ _) fun _ σ _ => ?_)
  refine W_bind (W_mono (fr_part21 _ _ _ _ _) fun _ σ _ => ?_)
  try dsimp only
  refine W_bind (W_mono (fr_part22 _ _ _ _ _ _ _ _) fun _ σ _ => ?_)
  try dsimp only
  refine W_bind (W_mono (fr_part23 _ _ _ _ _ _ _ _ _) fun _ σ _ => ?_)
  try dsimp only
  refine W_bind (W_mono (fr_part24 _ _ _ _ _ _ _) fun _ σ _ => ?_)
  refine W_bind (W_load_s fun _ _ => ?_)
  refine W_bind (W_store_s fun σ _ => ?_)
  exact W_pure trivial

/-- The printed part25 leaves the buffers held. -/
theorem fr_part25 (i : grid0.Coords) (v550 : BitVec 32) (k0_h2 : k0_cond2 i = 1#1) (σ : St1 F c A) : W I (k0_part25 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v550 k0_h2) σ (fun _ _ => True) := by
  rw [k0_part25_eq_skeleton]; unfold k0_part25_skel
  try dsimp only
  refine W_bind (W_load_in6 fun _ _ => ?_)
  refine W_bind (W_load_in7 fun _ _ => ?_)
  refine W_bind (W_load_s fun _ _ => ?_)
  refine W_bind (W_load_m fun _ _ => ?_)
  refine W_bind (W_load_a fun _ _ => ?_)
  refine W_bind (W_load_a fun _ _ => ?_)
  exact W_pure trivial

/-- The printed part26 leaves the buffers held. -/
theorem fr_part26 (i : grid0.Coords) (v14 : FVec F S2048x128 .bf16) (v608 : FVec F S1024x128 .bf16) (v621 : FVec F S1024x256 .bf16) (v628 : FVec F S512x1 .f32) (v639 : FVec F S512x256 .f32) (v640 : Vec F S512x256 .f32) (σ : St1 F c A) : W I (k0_part26 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v608 v621 v628 v639 v640) σ (fun _ _ => True) := by
  rw [k0_part26_eq_skeleton]; unfold k0_part26_skel
  try dsimp only
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  exact W_pure trivial

/-- The printed part27 leaves the buffers held. -/
theorem fr_part27 (i : grid0.Coords) (v14 : FVec F S2048x128 .bf16) (v608 : FVec F S1024x128 .bf16) (v621 : FVec F S1024x256 .bf16) (v659 : FVec F S512x1 .f32) (σ : St1 F c A) : W I (k0_part27 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v608 v621 v659) σ (fun _ _ => True) := by
  rw [k0_part27_eq_skeleton]; unfold k0_part27_skel
  try dsimp only
  refine W_bind (W_store_m fun σ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- The printed part28 leaves the buffers held. -/
theorem fr_part28 (i : grid0.Coords) (v14 : FVec F S2048x128 .bf16) (v608 : FVec F S1024x128 .bf16) (v621 : FVec F S1024x256 .bf16) (v709 : FVec F S512x1024 .f32) (σ : St1 F c A) : W I (k0_part28 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v608 v621 v709) σ (fun _ _ => True) := by
  rw [k0_part28_eq_skeleton]; unfold k0_part28_skel
  try dsimp only
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  exact W_pure trivial

/-- The printed part29 leaves the buffers held. -/
theorem fr_part29 (i : grid0.Coords) (v550 : BitVec 32) (k0_h2 : k0_cond2 i = 1#1) (v745 : FVec F S512x1024 .f32) (σ : St1 F c A) : W I (k0_part29 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v550 k0_h2 v745) σ (fun _ _ => True) := by
  rw [k0_part29_eq_skeleton]; unfold k0_part29_skel
  try dsimp only
  refine W_bind (W_store_s fun σ _ => ?_)
  refine W_bind (W_load_in7 fun _ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  exact W_pure trivial

/-- The printed part30 leaves the buffers held. -/
theorem fr_part30 (i : grid0.Coords) (v759 : FVec F S1024x256 .bf16) (v766 : FVec F S512x1 .f32) (σ : St1 F c A) : W I (k0_part30 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v759 v766) σ (fun _ _ => True) := by
  rw [k0_part30_eq_skeleton]; unfold k0_part30_skel
  try dsimp only
  refine W_bind (W_store_m fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_load_m fun _ _ => ?_)
  exact W_pure trivial

/-- The printed part31 leaves the buffers held. -/
theorem fr_part31 (i : grid0.Coords) (v759 : FVec F S1024x256 .bf16) (v811 : Vec F S512x1 .f32) (v814 : FVec F S512x1 .f32) (v818 : FVec F S512x1024 .bf16) (σ : St1 F c A) : W I (k0_part31 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v759 v811 v814 v818) σ (fun _ _ => True) := by
  rw [k0_part31_eq_skeleton]; unfold k0_part31_skel
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  exact W_pure trivial

/-- The printed part32 leaves the buffers held. -/
theorem fr_part32 (i : grid0.Coords) (v550 : BitVec 32) (k0_h3 : k0_cond3 i = 1#1) (σ : St1 F c A) : W I (k0_part32 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v550 k0_h3) σ (fun _ _ => True) := by
  rw [k0_part32_eq_skeleton]; unfold k0_part32_skel
  try dsimp only
  refine W_bind (W_load_in7 fun _ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- The printed part33 leaves the buffers held. -/
theorem fr_part33 (i : grid0.Coords) (v615 : FVec F S1024x256 .bf16) (σ : St1 F c A) : W I (k0_part33 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v615) σ (fun _ _ => True) := by
  rw [k0_part33_eq_skeleton]; unfold k0_part33_skel
  try dsimp only
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_load_m fun _ _ => ?_)
  exact W_pure trivial

/-- The printed part34 leaves the buffers held. -/
theorem fr_part34 (i : grid0.Coords) (v550 : BitVec 32) (k0_h3 : k0_cond3 i = 1#1) (σ : St1 F c A) : W I (k0_part34 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v550 k0_h3) σ (fun _ _ => True) := by
  rw [k0_part34_eq_skeleton]; unfold k0_part34_skel
  try dsimp only
  refine W_bind (W_mono (fr_part32 _ _ _ _) fun _ σ _ => ?_)
  refine W_bind (W_mono (fr_part33 _ _ _) fun _ σ _ => ?_)
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  exact W_pure trivial

/-- The printed part35 leaves the buffers held. -/
theorem fr_part35 (i : grid0.Coords) (σ : St1 F c A) : W I (k0_part35 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _)) σ (fun _ _ => True) := by
  rw [k0_part35_eq_skeleton]; unfold k0_part35_skel
  try dsimp only
  refine W_bind (W_load_in5 fun _ _ => ?_)
  refine W_bind (W_load_m fun _ _ => ?_)
  refine W_bind (W_store_m fun σ _ => ?_)
  refine W_bind (W_load_a fun _ _ => ?_)
  refine W_bind (W_store_a fun σ _ => ?_)
  refine W_bind (W_load_in6 fun _ _ => ?_)
  exact W_pure trivial

/-- The printed part36 leaves the buffers held. -/
theorem fr_part36 (i : grid0.Coords) (v14 : FVec F S2048x128 .bf16) (v31 : FVec F S1024x128 .bf16) (v34 : FVec F S256x256 .f32) (σ : St1 F c A) : W I (k0_part36 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v31 v34) σ (fun _ _ => True) := by
  rw [k0_part36_eq_skeleton]; unfold k0_part36_skel
  try dsimp only
  refine W_bind (W_load_s fun _ _ => ?_)
  refine W_bind (W_store_s fun σ _ => ?_)
  refine W_bind (W_load_s fun _ _ => ?_)
  refine W_bind (W_store_s fun σ _ => ?_)
  refine W_bind (W_load_s fun _ _ => ?_)
  refine W_bind (W_store_s fun σ _ => ?_)
  refine W_bind (W_load_s fun _ _ => ?_)
  refine W_bind (W_store_s fun σ _ => ?_)
  exact W_pure trivial

/-- The printed part37 leaves the buffers held. -/
theorem fr_part37 (i : grid0.Coords) (v14 : FVec F S2048x128 .bf16) (v23 : BitVec 32) (v31 : FVec F S1024x128 .bf16) (v65 : FVec F S256x256 .f32) (σ : St1 F c A) : W I (k0_part37 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v23 v31 v65) σ (fun _ _ => True) := by
  rw [k0_part37_eq_skeleton]; unfold k0_part37_skel
  try dsimp only
  refine W_bind (W_load_s fun _ _ => ?_)
  refine W_bind (W_store_s fun σ _ => ?_)
  refine W_bind (W_load_s fun _ _ => ?_)
  refine W_bind (W_store_s fun σ _ => ?_)
  refine W_bind (W_load_s fun _ _ => ?_)
  refine W_bind (W_store_s fun σ _ => ?_)
  refine W_bind (W_load_s fun _ _ => ?_)
  refine W_bind (W_store_s fun σ _ => ?_)
  exact W_pure trivial

/-- The printed part38 leaves the buffers held. -/
theorem fr_part38 (i : grid0.Coords) (v23 : BitVec 32) (v96 : BitVec 32) (σ : St1 F c A) : W I (k0_part38 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v23 v96) σ (fun _ _ => True) := by
  rw [k0_part38_eq_skeleton]; unfold k0_part38_skel
  try dsimp only
  refine W_bind (W_load_in6 fun _ _ => ?_)
  refine W_bind (W_load_in7 fun _ _ => ?_)
  refine W_bind (W_load_s fun _ _ => ?_)
  refine W_bind (W_load_in8 fun _ _ => ?_)
  refine W_bind (W_load_s fun _ _ => ?_)
  refine W_bind (W_store_s fun σ _ => ?_)
  refine W_bind (W_load_s fun _ _ => ?_)
  exact W_pure trivial

/-- The printed part39 leaves the buffers held. -/
theorem fr_part39 (i : grid0.Coords) (v14 : FVec F S2048x128 .bf16) (v100 : FVec F S1024x128 .bf16) (v114 : FVec F S1024x256 .bf16) (v128 : Vec F S256x256 .f32) (σ : St1 F c A) : W I (k0_part39 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v100 v114 v128) σ (fun _ _ => True) := by
  rw [k0_part39_eq_skeleton]; unfold k0_part39_skel
  try dsimp only
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_in8 fun _ _ => ?_)
  exact W_pure trivial

/-- The printed part40 leaves the buffers held. -/
theorem fr_part40 (i : grid0.Coords) (v160 : Vec F S256x256 .f32) (v161 : Vec F S1x256x256 .f32) (σ : St1 F c A) : W I (k0_part40 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v160 v161) σ (fun _ _ => True) := by
  rw [k0_part40_eq_skeleton]; unfold k0_part40_skel
  try dsimp only
  refine W_bind (W_load_s fun _ _ => ?_)
  refine W_bind (W_store_s fun σ _ => ?_)
  refine W_bind (W_load_s fun _ _ => ?_)
  refine W_bind (W_load_in9 fun _ _ => ?_)
  refine W_bind (W_load_s fun _ _ => ?_)
  refine W_bind (W_store_s fun σ _ => ?_)
  refine W_bind (W_load_s fun _ _ => ?_)
  refine W_bind (W_load_m fun _ _ => ?_)
  exact W_pure trivial

/-- The printed part41 leaves the buffers held. -/
theorem fr_part41 (i : grid0.Coords) (v14 : FVec F S2048x128 .bf16) (v100 : FVec F S1024x128 .bf16) (v114 : FVec F S1024x256 .bf16) (v186 : FVec F S256x1 .f32) (v190 : FVec F S256x512 .bf16) (v192 : FVec F S256x1 .f32) (σ : St1 F c A) : W I (k0_part41 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v100 v114 v186 v190 v192) σ (fun _ _ => True) := by
  rw [k0_part41_eq_skeleton]; unfold k0_part41_skel
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_in8 fun _ _ => ?_)
  refine W_bind (W_load_s fun _ _ => ?_)
  refine W_bind (W_store_s fun σ _ => ?_)
  exact W_pure trivial

/-- The printed part42 leaves the buffers held. -/
theorem fr_part42 (i : grid0.Coords) (v114 : FVec F S1024x256 .bf16) (σ : St1 F c A) : W I (k0_part42 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v114) σ (fun _ _ => True) := by
  rw [k0_part42_eq_skeleton]; unfold k0_part42_skel
  try dsimp only
  refine W_bind (W_load_s fun _ _ => ?_)
  refine W_bind (W_load_in9 fun _ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  exact W_pure trivial

/-- The printed part43 leaves the buffers held. -/
theorem fr_part43 (i : grid0.Coords) (v14 : FVec F S2048x128 .bf16) (v100 : FVec F S1024x128 .bf16) (v240 : FVec F S256x1 .f32) (σ : St1 F c A) : W I (k0_part43 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v100 v240) σ (fun _ _ => True) := by
  rw [k0_part43_eq_skeleton]; unfold k0_part43_skel
  try dsimp only
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_in8 fun _ _ => ?_)
  refine W_bind (W_load_s fun _ _ => ?_)
  refine W_bind (W_store_s fun σ _ => ?_)
  refine W_bind (W_load_s fun _ _ => ?_)
  refine W_bind (W_load_in9 fun _ _ => ?_)
  exact W_pure trivial

/-- The printed part44 leaves the buffers held. -/
theorem fr_part44 (i : grid0.Coords) (v14 : FVec F S2048x128 .bf16) (v100 : FVec F S1024x128 .bf16) (v114 : FVec F S1024x256 .bf16) (v282 : FVec F S256x256 .f32) (σ : St1 F c A) : W I (k0_part44 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v100 v114 v282) σ (fun _ _ => True) := by
  rw [k0_part44_eq_skeleton]; unfold k0_part44_skel
  try dsimp only
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- The printed part45 leaves the buffers held. -/
theorem fr_part45 (i : grid0.Coords) (v114 : FVec F S1024x256 .bf16) (v313 : FVec F S256x1024 .f32) (σ : St1 F c A) : W I (k0_part45 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v114 v313) σ (fun _ _ => True) := by
  rw [k0_part45_eq_skeleton]; unfold k0_part45_skel
  try dsimp only
  refine W_bind (W_load_s fun _ _ => ?_)
  refine W_bind (W_store_s fun σ _ => ?_)
  refine W_bind (W_load_s fun _ _ => ?_)
  refine W_bind (W_load_in8 fun _ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  exact W_pure trivial

/-- The printed part46 leaves the buffers held. -/
theorem fr_part46 (i : grid0.Coords) (v14 : FVec F S2048x128 .bf16) (v100 : FVec F S1024x128 .bf16) (v336 : FVec F S256x1 .f32) (v348 : FVec F S256x256 .f32) (σ : St1 F c A) : W I (k0_part46 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v100 v336 v348) σ (fun _ _ => True) := by
  rw [k0_part46_eq_skeleton]; unfold k0_part46_skel
  try dsimp only
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_bind (W_load_s fun _ _ => ?_)
  refine W_bind (W_load_in8 fun _ _ => ?_)
  refine W_bind (W_load_s fun _ _ => ?_)
  refine W_bind (W_store_s fun σ _ => ?_)
  refine W_bind (W_load_s fun _ _ => ?_)
  exact W_pure trivial

/-- The printed part47 leaves the buffers held. -/
theorem fr_part47 (i : grid0.Coords) (v14 : FVec F S2048x128 .bf16) (v114 : FVec F S1024x256 .bf16) (v375 : Vec F S256x256 .f32) (σ : St1 F c A) : W I (k0_part47 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v114 v375) σ (fun _ _ => True) := by
  rw [k0_part47_eq_skeleton]; unfold k0_part47_skel
  try dsimp only
  refine W_bind (W_load_in9 fun _ _ => ?_)
  refine W_bind (W_load_s fun _ _ => ?_)
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  exact W_pure trivial

/-- The printed part48 leaves the buffers held. -/
theorem fr_part48 (i : grid0.Coords) (v100 : FVec F S1024x128 .bf16) (v409 : FVec F S256x128 .bf16) (cst_315 : FVec F S256x1024 .f32) (σ : St1 F c A) : W I (k0_part48 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v100 v409 cst_315) σ (fun _ _ => True) := by
  rw [k0_part48_eq_skeleton]; unfold k0_part48_skel
  try dsimp only
  refine W_bind (W_load_s fun _ _ => ?_)
  refine W_bind (W_store_s fun σ _ => ?_)
  refine W_bind (W_load_s fun _ _ => ?_)
  refine W_bind (W_load_in8 fun _ _ => ?_)
  refine W_bind (W_load_s fun _ _ => ?_)
  refine W_bind (W_store_s fun σ _ => ?_)
  refine W_bind (W_load_s fun _ _ => ?_)
  refine W_bind (W_load_in9 fun _ _ => ?_)
  refine W_bind (W_load_s fun _ _ => ?_)
  exact W_pure trivial

/-- The printed part49 leaves the buffers held. -/
theorem fr_part49 (i : grid0.Coords) (v14 : FVec F S2048x128 .bf16) (v100 : FVec F S1024x128 .bf16) (v114 : FVec F S1024x256 .bf16) (v432 : FVec F S256x256 .f32) (σ : St1 F c A) : W I (k0_part49 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v100 v114 v432) σ (fun _ _ => True) := by
  rw [k0_part49_eq_skeleton]; unfold k0_part49_skel
  try dsimp only
  refine W_bind (W_store_s fun σ _ => ?_)
  refine W_bind (W_load_s fun _ _ => ?_)
  refine W_bind (W_load_m fun _ _ => ?_)
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  exact W_pure trivial

/-- The printed part50 leaves the buffers held. -/
theorem fr_part50 (i : grid0.Coords) (σ : St1 F c A) : W I (k0_part50 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _)) σ (fun _ _ => True) := by
  rw [k0_part50_eq_skeleton]; unfold k0_part50_skel
  try dsimp only
  refine W_bind (W_load_s fun _ _ => ?_)
  refine W_bind (W_load_in8 fun _ _ => ?_)
  refine W_bind (W_load_s fun _ _ => ?_)
  refine W_bind (W_store_s fun σ _ => ?_)
  refine W_bind (W_load_s fun _ _ => ?_)
  refine W_bind (W_load_in9 fun _ _ => ?_)
  refine W_bind (W_load_s fun _ _ => ?_)
  refine W_bind (W_store_s fun σ _ => ?_)
  refine W_bind (W_load_s fun _ _ => ?_)
  refine W_bind (W_load_m fun _ _ => ?_)
  exact W_pure trivial

/-- The printed part51 leaves the buffers held. -/
theorem fr_part51 (i : grid0.Coords) (arg2 : BitVec 32) (v14 : FVec F S2048x128 .bf16) (v23 : BitVec 32) (v25 : BitVec 32) (v100 : FVec F S1024x128 .bf16) (v114 : FVec F S1024x256 .bf16) (v494 : Vec F S256x1024 .f32) (v495 : Vec F S256x1 .f32) (σ : St1 F c A) : W I (k0_part51 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) arg2 v14 v23 v25 v100 v114 v494 v495) σ (fun _ _ => True) := by
  rw [k0_part51_eq_skeleton]; unfold k0_part51_skel
  try dsimp only
  refine W_bind (W_load_a fun _ _ => ?_)
  refine W_bind (W_load_a fun _ _ => ?_)
  refine W_bind (W_store_a fun σ _ => ?_)
  refine W_bind (W_load_m fun _ _ => ?_)
  refine W_bind (W_store_m fun σ _ => ?_)
  refine W_bind (W_load_s fun _ _ => ?_)
  refine W_bind (W_store_s fun σ _ => ?_)
  refine W_dite (fun h => ?_) (fun h => ?_)
  ·
    refine W_bind (W_mono (fr_part1 _ _ _ _) fun _ σ _ => ?_)
    try dsimp only
    refine W_bind (W_mono (fr_part2 _ _ _ _ _ _) fun _ σ _ => ?_)
    try dsimp only
    refine W_bind (W_mono (fr_part3 _ _ _ _ _ _ _ _) fun _ σ _ => ?_)
    try dsimp only
    refine W_bind (W_mono (fr_part4 _ _ _ _ _ _ _ _ _) fun _ σ _ => ?_)
    try dsimp only
    refine W_bind (W_mono (fr_part5 _ _ _ _ _ _) fun _ σ _ => ?_)
    try dsimp only
    refine W_bind (W_mono (fr_part6 _ _ _ _ _ _ _ _) fun _ σ _ => ?_)
    try dsimp only
    refine W_bind (W_mono (fr_part7 _ _ _ _ _ _ _ _) fun _ σ _ => ?_)
    try dsimp only
    refine W_bind (W_mono (fr_part8 _ _ _ _ _ _ _) fun _ σ _ => ?_)
    refine W_bind (W_load_m fun _ _ => ?_)
    refine W_bind (W_store_m fun σ _ => ?_)
    refine W_bind (W_load_s fun _ _ => ?_)
    refine W_bind (W_store_s fun σ _ => ?_)
    exact W_pure trivial
  ·
    exact W_pure trivial

/-- The printed part52 leaves the buffers held. -/
theorem fr_part52 (i : grid0.Coords) (v14 : FVec F S2048x128 .bf16) (v25 : BitVec 32) (v527 : BitVec 32) (c2_i32 : BitVec 32) (v528 : BitVec 32) (v530 : BitVec 32) (σ : St1 F c A) : W I (k0_part52 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v25 v527 c2_i32 v528 v530) σ (fun _ _ => True) := by
  rw [k0_part52_eq_skeleton]; unfold k0_part52_skel
  try dsimp only
  refine W_bind (W_for (fun _ _ => True) trivial (fun k σ _ => fr_t1 _ _ _ _ _ _ _ k σ) fun σ _ => ?_)
  refine W_bind (W_for (fun _ _ => True) trivial (fun k σ _ => fr_t2 _ _ _ _ _ _ _ _ k σ) fun σ _ => ?_)
  refine W_dite (fun h => ?_) (fun h => ?_)
  ·
    refine W_bind (W_mono (fr_part25 _ _ _ _) fun _ σ _ => ?_)
    try dsimp only
    refine W_bind (W_mono (fr_part26 _ _ _ _ _ _ _ _) fun _ σ _ => ?_)
    refine W_bind (W_mono (fr_part27 _ _ _ _ _ _) fun _ σ _ => ?_)
    refine W_bind (W_mono (fr_part28 _ _ _ _ _ _) fun _ σ _ => ?_)
    refine W_bind (W_mono (fr_part29 _ _ _ _ _) fun _ σ _ => ?_)
    try dsimp only
    refine W_bind (W_mono (fr_part30 _ _ _ _) fun _ σ _ => ?_)
    try dsimp only
    refine W_bind (W_mono (fr_part31 _ _ _ _ _ _) fun _ σ _ => ?_)
    refine W_bind (W_store_m fun σ _ => ?_)
    refine W_dite (fun h => ?_) (fun h => ?_)
    ·
      refine W_bind (W_mono (fr_part34 _ _ _ _) fun _ σ _ => ?_)
      refine W_bind (W_store_m fun σ _ => ?_)
      refine W_bind (W_load_a fun _ _ => ?_)
      exact W_pure trivial
    ·
      refine W_bind (W_load_a fun _ _ => ?_)
      exact W_pure trivial
  ·
    refine W_dite (fun h => ?_) (fun h => ?_)
    ·
      refine W_bind (W_mono (fr_part34 _ _ _ _) fun _ σ _ => ?_)
      refine W_bind (W_store_m fun σ _ => ?_)
      refine W_bind (W_load_a fun _ _ => ?_)
      exact W_pure trivial
    ·
      refine W_bind (W_load_a fun _ _ => ?_)
      exact W_pure trivial

/-- The printed part53 leaves the buffers held. -/
theorem fr_part53 (i : grid0.Coords) (σ : St1 F c A) : W I (k0_part53 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _)) σ (fun _ _ => True) := by
  rw [k0_part53_eq_skeleton]; unfold k0_part53_skel
  try dsimp only
  refine W_bind (W_mono (fr_part35 _ _) fun _ σ _ => ?_)
  try dsimp only
  refine W_bind (W_mono (fr_part36 _ _ _ _ _) fun _ σ _ => ?_)
  refine W_bind (W_mono (fr_part37 _ _ _ _ _ _) fun _ σ _ => ?_)
  refine W_bind (W_mono (fr_part38 _ _ _ _) fun _ σ _ => ?_)
  try dsimp only
  refine W_bind (W_mono (fr_part39 _ _ _ _ _ _) fun _ σ _ => ?_)
  try dsimp only
  refine W_bind (W_mono (fr_part40 _ _ _ _) fun _ σ _ => ?_)
  try dsimp only
  refine W_bind (W_mono (fr_part41 _ _ _ _ _ _ _ _) fun _ σ _ => ?_)
  refine W_bind (W_mono (fr_part42 _ _ _) fun _ σ _ => ?_)
  refine W_bind (W_mono (fr_part43 _ _ _ _ _) fun _ σ _ => ?_)
  refine W_bind (W_mono (fr_part44 _ _ _ _ _ _) fun _ σ _ => ?_)
  refine W_bind (W_mono (fr_part45 _ _ _ _) fun _ σ _ => ?_)
  try dsimp only
  refine W_bind (W_mono (fr_part46 _ _ _ _ _ _) fun _ σ _ => ?_)
  refine W_bind (W_mono (fr_part47 _ _ _ _ _) fun _ σ _ => ?_)
  try dsimp only
  refine W_bind (W_mono (fr_part48 _ _ _ _ _) fun _ σ _ => ?_)
  refine W_bind (W_mono (fr_part49 _ _ _ _ _ _) fun _ σ _ => ?_)
  refine W_bind (W_mono (fr_part50 _ _) fun _ σ _ => ?_)
  try dsimp only
  refine W_bind (W_mono (fr_part51 _ _ _ _ _ _ _ _ _ _) fun _ σ _ => ?_)
  try dsimp only
  refine W_bind (W_mono (fr_part52 _ _ _ _ _ _ _ _) fun _ σ _ => ?_)
  refine W_bind (W_load_in3 fun _ _ => ?_)
  refine W_bind (W_load_in3 fun _ _ => ?_)
  refine W_bind (W_load_in3 fun _ _ => ?_)
  refine W_bind (W_load_in3 fun _ _ => ?_)
  exact W_pure trivial

/-- The body leaves the buffers held. -/
theorem fr_body (i : grid0.Coords) (σ : St1 F c A) : W I (cc0_diff_attention i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _)) σ (fun _ _ => True) := by
  rw [cc0_diff_attention_eq_skeleton]; unfold cc0_diff_attention_skel
  try dsimp only
  refine W_bind (W_mono (fr_part53 _ _) fun _ σ _ => ?_)
  try dsimp only
  refine W_bind (W_load_in4 fun _ _ => ?_)
  refine W_bind (W_load_o fun _ _ => ?_)
  refine W_bind (W_store_o fun σ _ => ?_)
  exact W_pure trivial

end Cert.Proof.AttnIdeal

end
-- ==== Proof.AttnIdealLaunch.lean ====
module

public import proofs.«01_k».proof.Proof.AttnIdealFrame
public import Idealize.ShloMosaic.Lib.Pipeline.Frame
public import Idealize.ShloMosaic.Lib.Pipeline.FrameBody

@[expose] public section

set_option maxRecDepth 16384

noncomputable section

namespace Cert.Proof.AttnIdeal

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F] [Named F]

local notation "𝕄" => MT nD τ sig Unit (Elt F) ℕ (UR sig nD τ) ℕ

/-- A point's triple over what its staging buffers read, for any property of the block it leaves in the output
    that the program establishes from every state. -/
theorem sound_kernel (c : Dev nD) (A : Args) (i : grid0.Coords) (x3 : S4x64.Idx → Elt F .f32) (x4 : S1x128.Idx → Elt F .f32) (x5 : S1x1024x128.Idx → Elt F .bf16) (x6 : S1x16384x128.Idx → Elt F .bf16) (x7 : S1x16384x128.Idx → Elt F .bf16) (x8 : S1x256x256.Idx → Elt F .f32) (x9 : S1x256x256.Idx → Elt F .f32)
    (P : (S1x1024x128.Idx → Elt F .bf16) → Prop)
    (hW : ∀ (I : Ins F c A) (σ : St1 F c A), A.arg3.view.read (Elt F) I.f3 = x3 → A.arg4.view.read (Elt F) I.f4 = x4 → A.arg5.view.read (Elt F) I.f5 = x5 → A.arg6.view.read (Elt F) I.f6 = x6 → A.arg7.view.read (Elt F) I.f7 = x7 → A.arg8.view.read (Elt F) I.f8 = x8 → A.arg9.view.read (Elt F) I.f9 = x9 →
      W I (cc0_diff_attention i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _)) σ (fun _ σ' => P (A.arg10.view.read (Elt F) σ'.o)))
    (K : PUnit → sProp 𝕄) :
    iprop(owns (c : Thread nD τ) A.arg3 fullShare x3 ∗ owns (c : Thread nD τ) A.arg4 fullShare x4 ∗ owns (c : Thread nD τ) A.arg5 fullShare x5 ∗ owns (c : Thread nD τ) A.arg6 fullShare x6 ∗ owns (c : Thread nD τ) A.arg7 fullShare x7 ∗ owns (c : Thread nD τ) A.arg8 fullShare x8 ∗ owns (c : Thread nD τ) A.arg9 fullShare x9 ∗ (∃ d, owns (c : Thread nD τ) A.arg10 fullShare d) ∗ ((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f))
        ∗ (iprop(owns (c : Thread nD τ) A.arg3 fullShare x3 ∗ owns (c : Thread nD τ) A.arg4 fullShare x4 ∗ owns (c : Thread nD τ) A.arg5 fullShare x5 ∗ owns (c : Thread nD τ) A.arg6 fullShare x6 ∗ owns (c : Thread nD τ) A.arg7 fullShare x7 ∗ owns (c : Thread nD τ) A.arg8 fullShare x8 ∗ owns (c : Thread nD τ) A.arg9 fullShare x9 ∗ (∃ d, ⌜P d⌝ ∗ owns (c : Thread nD τ) A.arg10 fullShare d) ∗ ((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f))) -∗ K ⟨⟩))
      ⊢ wp frame (wpE (defs₀ (F := F)) Variants.none c none) Set.univ (cc0_diff_attention i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _)) K := by
  unfold owns
  simp only [A.harg3.set_eq_univ, A.harg4.set_eq_univ, A.harg5.set_eq_univ, A.harg6.set_eq_univ, A.harg7.set_eq_univ, A.harg8.set_eq_univ, A.harg9.set_eq_univ, A.harg10.set_eq_univ]
  iintro ⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨⟨%s0, H11⟩, ⟨%s1, H12⟩, ⟨%s2, H13⟩⟩, Hk⟩
  have hw := hW ⟨f3, f4, f5, f6, f7, f8, f9⟩ ⟨⟨s0, s1, s2⟩, f10⟩ h3 h4 h5 h6 h7 h8 h9
    (fun _ => iprop(∃ σ', ⌜P (A.arg10.view.read (Elt F) σ'.o)⌝ ∗ held ⟨f3, f4, f5, f6, f7, f8, f9⟩ σ')) (fun r σ' h => by
      iintro H; iexists σ'; isplitr; · ipureintro; exact h
      iexact H)
  iapply (wp_wand_r frame (wpE (defs₀ (F := F)) Variants.none c none) Set.univ)
  isplitr [Hk]
  · iapply hw
    unfold held
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %r ⟨%σ, %hP, H⟩
  unfold held
  icases H with ⟨H3, H4, H5, H6, H7, H8, H9, H10, H11, H12, H13⟩
  iapply Hk
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists _; isplitr; · ipureintro; exact hP
    iexists _; isplitr; swap; · iexact H10
    ipureintro; rfl
  isplitl [H11]; · iexists _; iexact H11
  isplitl [H12]; · iexists _; iexact H12
  iexists _; iexact H13

/-- The staging buffers at point `t`. -/
def argsAt (t : Fin cfg0.N) : Args where
  arg3 := win0_0.stage (cfg0.slots t 0)
  harg3 := hstage0_0 ((cfg0.slots t 0).cast nbuf0_0)
  arg4 := win0_1.stage (cfg0.slots t 1)
  harg4 := hstage0_1 ((cfg0.slots t 1).cast nbuf0_1)
  arg5 := win0_2.stage (cfg0.slots t 2)
  harg5 := hstage0_2 ((cfg0.slots t 2).cast nbuf0_2)
  arg6 := win0_3.stage (cfg0.slots t 3)
  harg6 := hstage0_3 ((cfg0.slots t 3).cast nbuf0_3)
  arg7 := win0_4.stage (cfg0.slots t 4)
  harg7 := hstage0_4 ((cfg0.slots t 4).cast nbuf0_4)
  arg8 := win0_5.stage (cfg0.slots t 5)
  harg8 := hstage0_5 ((cfg0.slots t 5).cast nbuf0_5)
  arg9 := win0_6.stage (cfg0.slots t 6)
  harg9 := hstage0_6 ((cfg0.slots t 6).cast nbuf0_6)
  arg10 := win0_7.stage (cfg0.slots t 7)
  harg10 := hstage0_7 ((cfg0.slots t 7).cast nbuf0_7)

variable (m : (ℓ : Loc nD τ sig) → Buf (Elt F) ℓ) (ρ : Dev nD → PrngReg)

/-- The proof data on core `c`, the block the body leaves in the output named by `O`: each input's block in place, the
    scratch buffers at anything between points. -/
def dats (O : Dev nD → Fin cfg0.N → S1x1024x128.Idx → Elt F .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => O c t
  Φ _ := Pipeline.ΦA spec0 c
  q w := Pipeline.shareOf spec0 w
  owed _ := 0

variable (O : Dev nD → Fin cfg0.N → S1x1024x128.Idx → Elt F .bf16)

theorem A_eq (c : Dev nD) (w : Fin cfg0.W) : (dats m O 0 c).A w = V m c (Pipeline.arrRef spec0 w) := by dsimp only [dats]
theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = iblk m c 4 t := by dsimp only [dats]
theorem after0_5 (c : Dev nD) (t : Fin cfg0.N) : (dats m O 0 c).after 5 t = iblk m c 5 t := by dsimp only [dats]
theorem after0_6 (c : Dev nD) (t : Fin cfg0.N) : (dats m O 0 c).after 6 t = iblk m c 6 t := by dsimp only [dats]
theorem after0_7 (c : Dev nD) (t : Fin cfg0.N) : (dats m O 0 c).after 7 t = O c t := by dsimp only [dats]
theorem before0_0 (c : Dev nD) (t : Fin cfg0.N) (d) : (dats m O 0 c).before 0 t d = iblk m c 0 t :=
  before0_0_of m (dats m O 0 c) (A_eq m O c 0) (after0_0 m O c) t d
theorem before0_1 (c : Dev nD) (t : Fin cfg0.N) (d) : (dats m O 0 c).before 1 t d = iblk m c 1 t :=
  before0_1_of m (dats m O 0 c) (A_eq m O c 1) (after0_1 m O c) t d
theorem before0_2 (c : Dev nD) (t : Fin cfg0.N) (d) : (dats m O 0 c).before 2 t d = iblk m c 2 t :=
  before0_2_of m (dats m O 0 c) (A_eq m O c 2) (after0_2 m O c) t d
theorem before0_3 (c : Dev nD) (t : Fin cfg0.N) (d) : (dats m O 0 c).before 3 t d = iblk m c 3 t :=
  before0_3_of m (dats m O 0 c) (A_eq m O c 3) (after0_3 m O c) t d
theorem before0_4 (c : Dev nD) (t : Fin cfg0.N) (d) : (dats m O 0 c).before 4 t d = iblk m c 4 t :=
  before0_4_of m (dats m O 0 c) (A_eq m O c 4) (after0_4 m O c) t d
theorem before0_5 (c : Dev nD) (t : Fin cfg0.N) (d) : (dats m O 0 c).before 5 t d = iblk m c 5 t :=
  before0_5_of m (dats m O 0 c) (A_eq m O c 5) (after0_5 m O c) t d
theorem before0_6 (c : Dev nD) (t : Fin cfg0.N) (d) : (dats m O 0 c).before 6 t d = iblk m c 6 t :=
  before0_6_of m (dats m O 0 c) (A_eq m O c 6) (after0_6 m O c) t d

/-- What the body is called with at point `t`, the output at anything. -/
def bodyPre (c : Dev nD) (t : Fin cfg0.N) : sProp 𝕄 :=
  iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ d, owns (c : Thread nD τ) (st0_3 t) fullShare ((dats m O 0 c).before 3 t d))
    ∗ (∃ d, owns (c : Thread nD τ) (st0_4 t) fullShare ((dats m O 0 c).before 4 t d))
    ∗ (∃ d, owns (c : Thread nD τ) (st0_5 t) fullShare ((dats m O 0 c).before 5 t d))
    ∗ (∃ d, owns (c : Thread nD τ) (st0_6 t) fullShare ((dats m O 0 c).before 6 t d))
    ∗ (∃ d, owns (c : Thread nD τ) (st0_7 t) fullShare d))
/-- and what it returns. -/
def bodyPost (c : Dev nD) (t : Fin cfg0.N) : sProp 𝕄 :=
  iprop((dats m O 0 c).Φ t.succ ∗ (dats m O 0 c).owesAt () t.succ
    ∗ (owns (c : Thread nD τ) (st0_0 t) fullShare ((dats m O 0 c).after 0 t))
    ∗ (owns (c : Thread nD τ) (st0_1 t) fullShare ((dats m O 0 c).after 1 t))
    ∗ (owns (c : Thread nD τ) (st0_2 t) fullShare ((dats m O 0 c).after 2 t))
    ∗ (owns (c : Thread nD τ) (st0_3 t) fullShare ((dats m O 0 c).after 3 t))
    ∗ (owns (c : Thread nD τ) (st0_4 t) fullShare ((dats m O 0 c).after 4 t))
    ∗ (owns (c : Thread nD τ) (st0_5 t) fullShare ((dats m O 0 c).after 5 t))
    ∗ (owns (c : Thread nD τ) (st0_6 t) fullShare ((dats m O 0 c).after 6 t))
    ∗ (∃ d, owns (c : Thread nD τ) (st0_7 t) fullShare d))

/-- The body at the point: the invariant opened, the point's triple, the invariant closed. -/
theorem sound_body (c : Dev nD) (t : Fin cfg0.N) :
    bodyPre m O c t ⊢ wp frame (wpE (defs₀ (F := F)) Variants.none c none) Set.univ (bodyAt0 t) (fun _ => bodyPost m O c t) := by
  unfold bodyPre bodyPost
  simp only [before0_0, before0_1, before0_2, before0_3, before0_4, before0_5, before0_6]
  rw [show (dats m O 0 c).Φ t.succ = (dats m O 0 c).Φ t.castSucc from rfl,
    show (dats m O 0 c).owesAt () t.succ = (dats m O 0 c).owesAt () t.castSucc from rfl,
    show (dats m O 0 c).Φ t.castSucc = iprop(Pipeline.scopedRest spec0 c ∗ ∃ r, prngReg c r) from rfl, scopedRest0_eq,
    after0_0, after0_1, after0_2, after0_3, after0_4, after0_5, after0_6]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (argsAt t) (grid0.coords t) (iblk m c 0 t) (iblk m c 1 t) (iblk m c 2 t) (iblk m c 3 t) (iblk m c 4 t) (iblk m c 5 t) (iblk m c 6 t) (fun _ => True) (fun I σ _ _ _ _ _ _ _ => W_mono (fr_body _ _) fun _ _ _ => trivial) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, ⟨%e7, %hP, H7⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- What the body is called with at point `t`, the output at what the data names. -/
def bodyPreV (c : Dev nD) (t : Fin cfg0.N) : sProp 𝕄 :=
  iprop((dats m O 0 c).Φ t.castSucc ∗ (dats m O 0 c).owesAt () t.castSucc
    ∗ (∃ d, owns (c : Thread nD τ) (st0_0 t) fullShare ((dats m O 0 c).before 0 t d))
    ∗ (∃ d, owns (c : Thread nD τ) (st0_1 t) fullShare ((dats m O 0 c).before 1 t d))
    ∗ (∃ d, owns (c : Thread nD τ) (st0_2 t) fullShare ((dats m O 0 c).before 2 t d))
    ∗ (∃ d, owns (c : Thread nD τ) (st0_3 t) fullShare ((dats m O 0 c).before 3 t d))
    ∗ (∃ d, owns (c : Thread nD τ) (st0_4 t) fullShare ((dats m O 0 c).before 4 t d))
    ∗ (∃ d, owns (c : Thread nD τ) (st0_5 t) fullShare ((dats m O 0 c).before 5 t d))
    ∗ (∃ d, owns (c : Thread nD τ) (st0_6 t) fullShare ((dats m O 0 c).before 6 t d))
    ∗ (∃ d, owns (c : Thread nD τ) (st0_7 t) fullShare ((dats m O 0 c).before 7 t d)))
/-- and what it returns. -/
def bodyPostV (c : Dev nD) (t : Fin cfg0.N) : sProp 𝕄 :=
  iprop((dats m O 0 c).Φ t.succ ∗ (dats m O 0 c).owesAt () t.succ
    ∗ (owns (c : Thread nD τ) (st0_0 t) fullShare ((dats m O 0 c).after 0 t))
    ∗ (owns (c : Thread nD τ) (st0_1 t) fullShare ((dats m O 0 c).after 1 t))
    ∗ (owns (c : Thread nD τ) (st0_2 t) fullShare ((dats m O 0 c).after 2 t))
    ∗ (owns (c : Thread nD τ) (st0_3 t) fullShare ((dats m O 0 c).after 3 t))
    ∗ (owns (c : Thread nD τ) (st0_4 t) fullShare ((dats m O 0 c).after 4 t))
    ∗ (owns (c : Thread nD τ) (st0_5 t) fullShare ((dats m O 0 c).after 5 t))
    ∗ (owns (c : Thread nD τ) (st0_6 t) fullShare ((dats m O 0 c).after 6 t))
    ∗ (owns (c : Thread nD τ) (st0_7 t) fullShare ((dats m O 0 c).after 7 t)))

/-- The body at the point: the invariant opened, the point's triple, the invariant closed. -/
theorem sound_bodyV (c : Dev nD) (t : Fin cfg0.N)
    (hW : ∀ (I : Ins F c (argsAt t)) (σ : St1 F c (argsAt t)), (argsAt t).arg3.view.read (Elt F) I.f3 = iblk m c 0 t → (argsAt t).arg4.view.read (Elt F) I.f4 = iblk m c 1 t → (argsAt t).arg5.view.read (Elt F) I.f5 = iblk m c 2 t → (argsAt t).arg6.view.read (Elt F) I.f6 = iblk m c 3 t → (argsAt t).arg7.view.read (Elt F) I.f7 = iblk m c 4 t → (argsAt t).arg8.view.read (Elt F) I.f8 = iblk m c 5 t → (argsAt t).arg9.view.read (Elt F) I.f9 = iblk m c 6 t →
      W I (bodyAt0 t) σ (fun _ σ' => (argsAt t).arg10.view.read (Elt F) σ'.o = O c t)) :
    bodyPreV m O c t ⊢ wp frame (wpE (defs₀ (F := F)) Variants.none c none) Set.univ (bodyAt0 t) (fun _ => bodyPostV m O c t) := by
  unfold bodyPreV bodyPostV
  simp only [before0_0, before0_1, before0_2, before0_3, before0_4, before0_5, before0_6]
  rw [show (dats m O 0 c).Φ t.succ = (dats m O 0 c).Φ t.castSucc from rfl,
    show (dats m O 0 c).owesAt () t.succ = (dats m O 0 c).owesAt () t.castSucc from rfl,
    show (dats m O 0 c).Φ t.castSucc = iprop(Pipeline.scopedRest spec0 c ∗ ∃ r, prngReg c r) from rfl, scopedRest0_eq,
    after0_0, after0_1, after0_2, after0_3, after0_4, after0_5, after0_6, after0_7]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c (argsAt t) (grid0.coords t) (iblk m c 0 t) (iblk m c 1 t) (iblk m c 2 t) (iblk m c 3 t) (iblk m c 4 t) (iblk m c 5 t) (iblk m c 6 t) (fun d => d = O c t) hW _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, ⟨%e7, %hP, H7⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [← hP]; iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The output window alone is forgotten. -/
def forgets0 : Fin 8 → Bool := fun w => match w with | ⟨7, _⟩ => true | _ => false

/-- The library's body obligation with the output forgotten. -/
theorem body_obligation (c : Dev nD) :
    BodyObligation (dats (F := F) m O 0 c) (defs₀ (F := F)) Variants.none () Set.univ forgets0 := fun t => by
  rw [bigSep_W0, bigSep_W0, defs₀_row]
  exact triple_restated (sound_body m O c t) rfl .rfl fun _ => .rfl

/-- The library's body obligation with the output named. -/
theorem body_obligationV (c : Dev nD)
    (hW : ∀ t (I : Ins F c (argsAt t)) (σ : St1 F c (argsAt t)), (argsAt t).arg3.view.read (Elt F) I.f3 = iblk m c 0 t → (argsAt t).arg4.view.read (Elt F) I.f4 = iblk m c 1 t → (argsAt t).arg5.view.read (Elt F) I.f5 = iblk m c 2 t → (argsAt t).arg6.view.read (Elt F) I.f6 = iblk m c 3 t → (argsAt t).arg7.view.read (Elt F) I.f7 = iblk m c 4 t → (argsAt t).arg8.view.read (Elt F) I.f8 = iblk m c 5 t → (argsAt t).arg9.view.read (Elt F) I.f9 = iblk m c 6 t →
      W I (bodyAt0 t) σ (fun _ σ' => (argsAt t).arg10.view.read (Elt F) σ'.o = O c t)) :
    BodyObligation (dats (F := F) m O 0 c) (defs₀ (F := F)) Variants.none () Set.univ := fun t => by
  rw [bigSep_W0, bigSep_W0, defs₀_row]
  exact triple_restated (sound_bodyV m O c t (hW t)) rfl .rfl fun _ => .rfl

set_option backward.isDefEq.respectTransparency.types false in
set_option maxHeartbeats 800000 in
/-- The run with the output forgotten: every weakly fair execution terminates, every input array and every other
    unscoped buffer ends as the region found it, every semaphore counter at zero. -/
theorem run_main : θ_run defs (onTc (τ := τ) (main (F := F))) (s₀ m ρ)
    (fun r => Pipeline.RDat.FramePost (cfgs 0) (fun c => (dats m O 0 c).toRForget forgets0) (V m) r ∧ r.2.sem = fun _ => 0) :=
  Pipeline.θ_run_frame_forget_shared (Q' := _) cfgs (dats m O) (0 : Fin 1) launch₀0 defs₀ Variants.none forgets0 m ρ main
    (hbody := fun c => (body_obligation m O c).loose) (hq := fun _ _ _ => rfl)
    (howed := fun _ _ => rfl) (V := V m) (hmain := hmain m Variants.none) (hA := A_eq m O) (hΦ := fun _ _ => rfl)

set_option backward.isDefEq.respectTransparency.types false in
set_option maxHeartbeats 800000 in
/-- The run with the output named: every array of the pipeline ends at what the data computes for it. -/
theorem run_mainV
    (hW : ∀ c t (I : Ins F c (argsAt t)) (σ : St1 F c (argsAt t)), (argsAt t).arg3.view.read (Elt F) I.f3 = iblk m c 0 t → (argsAt t).arg4.view.read (Elt F) I.f4 = iblk m c 1 t → (argsAt t).arg5.view.read (Elt F) I.f5 = iblk m c 2 t → (argsAt t).arg6.view.read (Elt F) I.f6 = iblk m c 3 t → (argsAt t).arg7.view.read (Elt F) I.f7 = iblk m c 4 t → (argsAt t).arg8.view.read (Elt F) I.f8 = iblk m c 5 t → (argsAt t).arg9.view.read (Elt F) I.f9 = iblk m c 6 t →
      W I (bodyAt0 t) σ (fun _ σ' => (argsAt t).arg10.view.read (Elt F) σ'.o = O c t)) :
    θ_run defs (onTc (τ := τ) (main (F := F))) (s₀ m ρ) (Pipeline.FramePost cfgs (dats m O) 0 (V m)) :=
  Pipeline.θ_run_frame_shared cfgs (dats m O) (0 : Fin 1) launch₀0 defs₀ Variants.none m ρ main
    (hbody := fun c => (body_obligationV m O c (hW c)).loose) (hq := fun _ _ _ => rfl)
    (howed := fun _ _ => rfl) (V := V m) (hmain := hmain m Variants.none) (hA := A_eq m O) (hΦ := fun _ _ => rfl)

/-- An input array read off the run with the output forgotten. -/
theorem in_arr {r : PUnit × MemSt nD τ sig (Elt F)}
    (h : Pipeline.RDat.FramePost (cfgs 0) (fun c => (dats m O 0 c).toRForget forgets0) (V m) r) (c : Dev nD) (w : Fin 8)
    (hf : forgets0 w = false) (hin : (spec0 w).isOut = false) :
    r.2.mem ((spec0 w).arr.view.loc (c.tc : Thread nD τ)) = V m c (Pipeline.arrRef spec0 w) :=
  ((Dat.toRForget_arrAt_iff (dats m O 0 c) hf _ _).mp ((h c).1 w)).trans (((dats m O 0 c).arrAt_in w hin _).trans (A_eq m O c w))

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(in_arr m _ h.1 c 0 rfl rfl).trans (V_main_arg0 m c),
      (in_arr m _ h.1 c 1 rfl rfl).trans (V_main_arg1 m c),
      (in_arr m _ h.1 c 4 rfl rfl).trans (V_main_arg2 m c),
      ((h.1 c).2 main_arg3 (Pipeline.mem_restRefs_of main_arg3 (by decide) (by decide))).trans (V_main_arg3 m c),
      (in_arr m _ h.1 c 6 rfl rfl).trans (V_main_arg4 m c)⟩, h.2⟩)
    (run_main m ρ (fun _ t => Pipeline.Dat.unnamed (cfg := cfg0) 7 t))

end Cert.Proof.AttnIdeal

end
-- ==== Proof.AttnSel.lean ====
/- The reference's masks as conditions on the positions' numbers. -/
module

public import Idealize.ShloMosaic.Lib.Pointwise

@[expose] public section

set_option maxRecDepth 16384

noncomputable section

namespace Cert.Proof.AttnSel

open Idealize.ShloMosaic

/-- The causal mask keeps the keys at or before the query. -/
theorem sel_sge (t x : Fin 16384) (a b : EReal) :
    Scalar.select (IntOp.cmpi .sge (IntOp.subi (BitVec.ofNat 32 t.val) (BitVec.ofNat 32 x.val)) 0#32) a b = if x.val ≤ t.val then a else b := by
  have ht := t.isLt
  have hx := x.isLt
  by_cases h : x.val ≤ t.val
  · rw [if_pos h]
    have e : IntOp.subi (BitVec.ofNat 32 t.val) (BitVec.ofNat 32 x.val) = BitVec.ofNat 32 (t.val - x.val) := by
      unfold IntOp.subi
      apply BitVec.eq_of_toNat_eq
      simp only [BitVec.toNat_sub, BitVec.toNat_ofNat]
      omega
    rw [e]
    have hs : (0#32).sle (BitVec.ofNat 32 (t.val - x.val)) = true := by
      rw [BitVec.sle_iff_toInt_le]
      simp only [BitVec.toInt_eq_toNat_cond, BitVec.toNat_ofNat]
      omega
    simp [Scalar.select, IntOp.cmpi, hs]
  · rw [if_neg h]
    have e : IntOp.subi (BitVec.ofNat 32 t.val) (BitVec.ofNat 32 x.val) = BitVec.ofNat 32 (2 ^ 32 - (x.val - t.val)) := by
      unfold IntOp.subi
      apply BitVec.eq_of_toNat_eq
      simp only [BitVec.toNat_sub, BitVec.toNat_ofNat]
      omega
    rw [e]
    have hs : (0#32).sle (BitVec.ofNat 32 (2 ^ 32 - (x.val - t.val))) = false := by
      rw [Bool.eq_false_iff, ne_eq, BitVec.sle_iff_toInt_le]
      simp only [BitVec.toInt_eq_toNat_cond, BitVec.toNat_ofNat]
      omega
    unfold Scalar.select IntOp.cmpi
    rw [if_neg]
    simp only [hs]
    decide

/-- Two block numbers below `2 ^ 32` are compared as numbers. -/
theorem sel_eq (p q : ℕ) (hp : p < 2 ^ 32) (hq : q < 2 ^ 32) (a b : EReal) :
    Scalar.select (IntOp.cmpi .eq (BitVec.ofNat 32 p) (BitVec.ofNat 32 q)) a b = if p = q then a else b := by
  have e : (BitVec.ofNat 32 p = BitVec.ofNat 32 q) ↔ p = q := by
    constructor
    · intro h
      have := congrArg BitVec.toNat h
      simp only [BitVec.toNat_ofNat] at this
      omega
    · rintro rfl
      rfl
  by_cases h : p = q
  · rw [if_pos h]
    simp [Scalar.select, IntOp.cmpi, h]
  · rw [if_neg h]
    unfold Scalar.select IntOp.cmpi
    rw [if_neg]
    have h' : (BitVec.ofNat 32 p == BitVec.ofNat 32 q) = false := beq_eq_false_iff_ne.mpr fun g => h (e.1 g)
    simp only [h']
    decide

theorem add_one (q : ℕ) (hq : q < 65536) : IntOp.addi (BitVec.ofNat 32 q) 1#32 = BitVec.ofNat 32 (q + 1) := by
  unfold IntOp.addi
  apply BitVec.eq_of_toNat_eq
  simp only [BitVec.toNat_add, BitVec.toNat_ofNat]
  omega

end Cert.Proof.AttnSel

end
-- ==== Proof.AttnRw.lean ====
/- The three scratch buffers read at numbers, and what a load reads of them and a store writes to them. -/
module

public import proofs.«01_k».proof.Proof.AttnIdealBase
public import Idealize.ShloMosaic.Lib.Pointwise

@[expose] public section

set_option maxRecDepth 16384

noncomputable section

namespace Cert.Proof.AttnIdeal

open Idealize.ShloMosaic Idealize.ShloMosaic.Pointwise Cert.AttnIdeal Cert.AttnIdeal.Gen
open scoped BigOperators

/-- A running maximum, by row number. -/
def gM (f : S2048x1.Idx → EReal) (R : ℕ) : EReal := if h : R < 2048 then f (ix2 ⟨R, h⟩ 0) else 0
/-- An accumulator's entry, by row and column number. -/
def gA (f : S2048x256.Idx → EReal) (R c : ℕ) : EReal := if h : R < 2048 ∧ c < 256 then f (ix2 ⟨R, h.1⟩ ⟨c, h.2⟩) else 0
/-- A logit, by half, row and column number. -/
def gS (f : S2x2048x1024.Idx → EReal) (b : Fin 2) (R q : ℕ) : EReal :=
  if h : R < 2048 ∧ q < 1024 then f (ix3 b ⟨R, h.1⟩ ⟨q, h.2⟩) else 0

theorem rdM {r0 n : ℕ} {inb : ∀ a, ![r0, 0] a + (![n, 1] : Fin 2 → ℕ) a ≤ S2048x1.size a} {f : (⟨S2048x1, .f32⟩ : BufTy).Contents (Elt Ideal)}
    (p : Fin n) :
    View.readAt (Elt Ideal) mM.view (Rect.unit (s := S2048x1) ![r0, 0] ![n, 1] inb).toLoadRect f (ix2 p 0) = gM f (r0 + p) := by
  have h0 : r0 + n ≤ 2048 := inb 0
  have hp := p.isLt
  unfold gM
  rw [dif_pos (by omega), View.readAt_apply]
  show f _ = f _
  congr 1
  funext a
  apply Fin.ext
  match a with
  | ⟨0, _⟩ => show r0 + 1 * p.val = r0 + p.val; omega
  | ⟨1, _⟩ => rfl

theorem rdA {r0 n : ℕ} {inb : ∀ a, ![r0, 0] a + (![n, 256] : Fin 2 → ℕ) a ≤ S2048x256.size a} {f : (⟨S2048x256, .f32⟩ : BufTy).Contents (Elt Ideal)}
    (p : Fin n) (q : Fin 256) :
    View.readAt (Elt Ideal) aM.view (Rect.unit (s := S2048x256) ![r0, 0] ![n, 256] inb).toLoadRect f (ix2 p q) = gA f (r0 + p) q := by
  have h0 : r0 + n ≤ 2048 := inb 0
  have hp := p.isLt
  unfold gA
  rw [dif_pos ⟨by omega, q.isLt⟩, View.readAt_apply]
  show f _ = f _
  congr 1
  funext a
  apply Fin.ext
  match a with
  | ⟨0, _⟩ => show r0 + 1 * p.val = r0 + p.val; omega
  | ⟨1, _⟩ => show 0 + 1 * q.val = q.val; omega

theorem embS {b : Fin 2} {r0 c0 n k : ℕ} {inb0 : ∀ a, ![b.val, 0, 0] a + (![1, 2048, 1024] : Fin 3 → ℕ) a ≤ S2x2048x1024.size a} {hst hsq}
    {inb : ∀ a, ![r0, c0] a + (![n, k] : Fin 2 → ℕ) a ≤ S2048x1024.size a} (p : Fin n) (q : Fin k) :
    ((((sM.slice (Rect.unit (s := S2x2048x1024) ![b.val, 0, 0] ![1, 2048, 1024] inb0) hst).squeeze S2048x1024 hsq).access
      (Rect.unit (s := S2048x1024) ![r0, c0] ![n, k] inb)).emb (ix2 p q : (⟨2, ![n, k]⟩ : Shape).Idx) : S2x2048x1024.Idx)
      = ix3 b ⟨r0 + p.val, by have h0 : r0 + n ≤ 2048 := inb 0; have := p.isLt; omega⟩
          ⟨c0 + q.val, by have h0 : c0 + k ≤ 1024 := inb 1; have := q.isLt; omega⟩ := by
  show (Rect.unit (s := S2x2048x1024) ![b.val, 0, 0] ![1, 2048, 1024] inb0).emb
      (Shape.reshapeEquiv hsq.numel_eq ((Rect.unit (s := S2048x1024) ![r0, c0] ![n, k] inb).emb (ix2 p q))) = _
  rw [Shape.reshapeEquiv_cons_one]
  funext a
  apply Fin.ext
  match a with
  | ⟨0, _⟩ => show b.val + 1 * 0 = b.val; omega
  | ⟨1, _⟩ => show 0 + 1 * (r0 + 1 * p.val) = r0 + p.val; omega
  | ⟨2, _⟩ => show 0 + 1 * (c0 + 1 * q.val) = c0 + q.val; omega

theorem rdS {b : Fin 2} {r0 c0 n k : ℕ} {inb0 : ∀ a, ![b.val, 0, 0] a + (![1, 2048, 1024] : Fin 3 → ℕ) a ≤ S2x2048x1024.size a} {hst hsq}
    {inb : ∀ a, ![r0, c0] a + (![n, k] : Fin 2 → ℕ) a ≤ S2048x1024.size a} {f : (⟨S2x2048x1024, .f32⟩ : BufTy).Contents (Elt Ideal)}
    (p : Fin n) (q : Fin k) :
    View.readAt (Elt Ideal) ((sM.slice (Rect.unit (s := S2x2048x1024) ![b.val, 0, 0] ![1, 2048, 1024] inb0) hst).squeeze S2048x1024 hsq).view
      (Rect.unit (s := S2048x1024) ![r0, c0] ![n, k] inb).toLoadRect f (ix2 p q) = gS f b (r0 + p) (c0 + q) := by
  have h0 : r0 + n ≤ 2048 := inb 0
  have h1 : c0 + k ≤ 1024 := inb 1
  have hp := p.isLt
  have hq := q.isLt
  unfold gS
  rw [dif_pos ⟨by omega, by omega⟩, View.readAt_apply]
  show f (((sM.slice (Rect.unit (s := S2x2048x1024) ![b.val, 0, 0] ![1, 2048, 1024] inb0) hst).squeeze S2048x1024 hsq).view.emb _) = f _
  congr 1
  exact embS (b := b) (inb0 := inb0) (hst := hst) (hsq := hsq) (inb := inb) p q

/-- The place of an accessed logit. -/
theorem embS' {b : Fin 2} {r0 c0 n k : ℕ} {inb0 : ∀ a, ![b.val, 0, 0] a + (![1, 2048, 1024] : Fin 3 → ℕ) a ≤ S2x2048x1024.size a} {hst hsq}
    {inb : ∀ a, ![r0, c0] a + (![n, k] : Fin 2 → ℕ) a ≤ S2048x1024.size a} (x : (⟨2, ![n, k]⟩ : Shape).Idx) :
    ((((sM.slice (Rect.unit (s := S2x2048x1024) ![b.val, 0, 0] ![1, 2048, 1024] inb0) hst).squeeze S2048x1024 hsq).access
      (Rect.unit (s := S2048x1024) ![r0, c0] ![n, k] inb)).emb x : S2x2048x1024.Idx)
      = ix3 b ⟨r0 + (x 0).val, by have h0 : r0 + n ≤ 2048 := inb 0; have : (x 0).val < n := (x 0).isLt; omega⟩
          ⟨c0 + (x 1).val, by have h0 : c0 + k ≤ 1024 := inb 1; have : (x 1).val < k := (x 1).isLt; omega⟩ := by
  rw [eq_ix2 x]
  exact embS (b := b) (inb0 := inb0) (hst := hst) (hsq := hsq) (inb := inb) _ _

/-- What a store leaves of a running maximum: the payload in the stored rows, the old contents elsewhere. -/
theorem wrM {r0 n : ℕ} {inb : ∀ a, ![r0, 0] a + (![n, 1] : Fin 2 → ℕ) a ≤ S2048x1.size a} {f : (⟨S2048x1, .f32⟩ : BufTy).Contents (Elt Ideal)}
    {w : (⟨2, ![n, 1]⟩ : Shape).Idx → EReal} (R : ℕ) :
    gM ((mM.access (Rect.unit (s := S2048x1) ![r0, 0] ![n, 1] inb)).write (Elt Ideal) f w Finset.univ) R
      = if h : r0 ≤ R ∧ R < r0 + n then w (ix2 ⟨R - r0, by omega⟩ 0) else gM f R := by
  have h0 : r0 + n ≤ 2048 := inb 0
  have he : ∀ x : (⟨2, ![n, 1]⟩ : Shape).Idx, ((mM.access (Rect.unit (s := S2048x1) ![r0, 0] ![n, 1] inb)).emb x : S2048x1.Idx)
      = ix2 ⟨r0 + (x 0).val, by have : (x 0).val < n := (x 0).isLt; omega⟩ 0 := by
    intro x
    funext a
    apply Fin.ext
    match a with
    | ⟨0, _⟩ => show r0 + 1 * (x 0).val = r0 + (x 0).val; omega
    | ⟨1, _⟩ => have : (x 1).val < 1 := (x 1).isLt; show 0 + 1 * (x 1).val = 0; omega
  unfold gM
  by_cases hR : R < 2048
  · rw [dif_pos hR]
    by_cases h : r0 ≤ R ∧ R < r0 + n
    · rw [dif_pos h]
      have e : (ix2 ⟨R, hR⟩ 0 : S2048x1.Idx) = (mM.access (Rect.unit (s := S2048x1) ![r0, 0] ![n, 1] inb)).emb
          (ix2 (⟨R - r0, by omega⟩ : Fin n) (0 : Fin 1)) := by
        rw [he]; congr 1; apply Fin.ext; show R = r0 + (R - r0); omega
      rw [e]
      exact View.write_emb_of_mem (v := mM.access (Rect.unit (s := S2048x1) ![r0, 0] ![n, 1] inb)) (Val := Elt Ideal) f w (Finset.mem_univ _)
    · rw [dif_neg h, dif_pos hR]
      apply View.write_of_not_mem
      intro hm
      obtain ⟨x, _, hx⟩ := Finset.mem_map.mp hm
      have hx' := (he x).symm.trans hx
      have := congrArg (fun i : S2048x1.Idx => (i 0).val) hx'
      have h2 : r0 + (x 0).val = R := this
      have : (x 0).val < n := (x 0).isLt
      omega
  · rw [dif_neg hR, dif_neg (by omega), dif_neg hR]

/-- What a store leaves of the accumulators. -/
theorem wrA {r0 n : ℕ} {inb : ∀ a, ![r0, 0] a + (![n, 256] : Fin 2 → ℕ) a ≤ S2048x256.size a} {f : (⟨S2048x256, .f32⟩ : BufTy).Contents (Elt Ideal)}
    {w : (⟨2, ![n, 256]⟩ : Shape).Idx → EReal} (R c : ℕ) (hc : c < 256) :
    gA ((aM.access (Rect.unit (s := S2048x256) ![r0, 0] ![n, 256] inb)).write (Elt Ideal) f w Finset.univ) R c
      = if h : r0 ≤ R ∧ R < r0 + n then w (ix2 ⟨R - r0, by omega⟩ ⟨c, hc⟩) else gA f R c := by
  have h0 : r0 + n ≤ 2048 := inb 0
  have he : ∀ x : (⟨2, ![n, 256]⟩ : Shape).Idx, ((aM.access (Rect.unit (s := S2048x256) ![r0, 0] ![n, 256] inb)).emb x : S2048x256.Idx)
      = ix2 ⟨r0 + (x 0).val, by have : (x 0).val < n := (x 0).isLt; omega⟩ (x 1) := by
    intro x
    funext a
    apply Fin.ext
    match a with
    | ⟨0, _⟩ => show r0 + 1 * (x 0).val = r0 + (x 0).val; omega
    | ⟨1, _⟩ => show 0 + 1 * (x 1).val = (x 1).val; omega
  unfold gA
  by_cases hR : R < 2048
  · rw [dif_pos ⟨hR, hc⟩]
    by_cases h : r0 ≤ R ∧ R < r0 + n
    · rw [dif_pos h]
      have e : (ix2 ⟨R, hR⟩ ⟨c, hc⟩ : S2048x256.Idx) = (aM.access (Rect.unit (s := S2048x256) ![r0, 0] ![n, 256] inb)).emb
          (ix2 (⟨R - r0, by omega⟩ : Fin n) (⟨c, hc⟩ : Fin 256)) := by
        rw [he]; congr 1; apply Fin.ext; show R = r0 + (R - r0); omega
      rw [e]
      exact View.write_emb_of_mem (v := aM.access (Rect.unit (s := S2048x256) ![r0, 0] ![n, 256] inb)) (Val := Elt Ideal) f w (Finset.mem_univ _)
    · rw [dif_neg h, dif_pos ⟨hR, hc⟩]
      apply View.write_of_not_mem
      intro hm
      obtain ⟨x, _, hx⟩ := Finset.mem_map.mp hm
      have hx' := (he x).symm.trans hx
      have := congrArg (fun i : S2048x256.Idx => (i 0).val) hx'
      have h2 : r0 + (x 0).val = R := this
      have : (x 0).val < n := (x 0).isLt
      omega
  · rw [dif_neg (by omega), dif_neg (by omega), dif_neg (by omega)]

/-- What a store leaves of the logits. -/
theorem wrS {b : Fin 2} {r0 c0 n k : ℕ} {inb0 : ∀ a, ![b.val, 0, 0] a + (![1, 2048, 1024] : Fin 3 → ℕ) a ≤ S2x2048x1024.size a} {hst hsq}
    {inb : ∀ a, ![r0, c0] a + (![n, k] : Fin 2 → ℕ) a ≤ S2048x1024.size a} {f : (⟨S2x2048x1024, .f32⟩ : BufTy).Contents (Elt Ideal)}
    {w : (⟨2, ![n, k]⟩ : Shape).Idx → EReal} (b' : Fin 2) (R q : ℕ) :
    gS ((((sM.slice (Rect.unit (s := S2x2048x1024) ![b.val, 0, 0] ![1, 2048, 1024] inb0) hst).squeeze S2048x1024 hsq).access
      (Rect.unit (s := S2048x1024) ![r0, c0] ![n, k] inb)).write (Elt Ideal) f w Finset.univ) b' R q
      = if h : b' = b ∧ (r0 ≤ R ∧ R < r0 + n) ∧ c0 ≤ q ∧ q < c0 + k then w (ix2 ⟨R - r0, by omega⟩ ⟨q - c0, by omega⟩) else gS f b' R q := by
  have h0 : r0 + n ≤ 2048 := inb 0
  have h1 : c0 + k ≤ 1024 := inb 1
  unfold gS
  by_cases hR : R < 2048 ∧ q < 1024
  · rw [dif_pos hR]
    by_cases h : b' = b ∧ (r0 ≤ R ∧ R < r0 + n) ∧ c0 ≤ q ∧ q < c0 + k
    · rw [dif_pos h]
      have e : (ix3 b' ⟨R, hR.1⟩ ⟨q, hR.2⟩ : S2x2048x1024.Idx)
          = (((sM.slice (Rect.unit (s := S2x2048x1024) ![b.val, 0, 0] ![1, 2048, 1024] inb0) hst).squeeze S2048x1024 hsq).access
              (Rect.unit (s := S2048x1024) ![r0, c0] ![n, k] inb)).emb
          (ix2 (⟨R - r0, by omega⟩ : Fin n) (⟨q - c0, by omega⟩ : Fin k)) := by
        rw [embS']
        funext a
        apply Fin.ext
        match a with
        | ⟨0, _⟩ => show b'.val = b.val; rw [h.1]
        | ⟨1, _⟩ => show R = r0 + (R - r0); omega
        | ⟨2, _⟩ => show q = c0 + (q - c0); omega
      rw [e]
      exact View.write_emb_of_mem (v := (((sM.slice (Rect.unit (s := S2x2048x1024) ![b.val, 0, 0] ![1, 2048, 1024] inb0) hst).squeeze S2048x1024 hsq).access
              (Rect.unit (s := S2048x1024) ![r0, c0] ![n, k] inb))) (Val := Elt Ideal) f w (Finset.mem_univ _)
    · rw [dif_neg h, dif_pos hR]
      apply View.write_of_not_mem
      intro hm
      obtain ⟨x, _, hx⟩ := Finset.mem_map.mp hm
      have hx' := (embS' x).symm.trans hx
      have e0 : b = b' := congrArg (fun i : S2x2048x1024.Idx => (i 0)) hx'
      have e1 : r0 + (x 0).val = R := congrArg (fun i : S2x2048x1024.Idx => (i 1).val) hx'
      have e2 : c0 + (x 1).val = q := congrArg (fun i : S2x2048x1024.Idx => (i 2).val) hx'
      have : (x 0).val < n := (x 0).isLt
      have : (x 1).val < k := (x 1).isLt
      exact h ⟨e0.symm, by omega⟩
  · rw [dif_neg hR, dif_neg (by omega), dif_neg hR]

end Cert.Proof.AttnIdeal

end
-- ==== Proof.AttnFlash.lean ====
/- A softmax-weighted sum kept over a growing set of keys: the running maximum and the sum of exponentials relative to it,
   over the extended reals. -/
module

public import Idealize.ShloMosaic.Lib.Pointwise

@[expose] public section

set_option maxRecDepth 16384

noncomputable section

namespace Cert.Proof.Flash

open Idealize.ShloMosaic
open scoped BigOperators

/-- An exponential is never negative. -/
theorem exp_nonneg (x : EReal) : 0 ≤ Ideal.exp x := by
  induction x with
  | bot => simp
  | top => simp
  | coe r => rw [Ideal.exp_coe]; exact_mod_cast (Real.exp_pos r).le

/-- The exponential of a difference `a - b` with `a ≤ b` is finite. -/
theorem exp_sub_ne_top {a b : EReal} (h : a ≤ b) : Ideal.exp (a - b) ≠ ⊤ := by
  induction a with
  | bot => simp
  | top =>
    obtain rfl : b = ⊤ := top_le_iff.mp h
    simp [sub_eq_add_neg]
  | coe r =>
    induction b with
    | bot => simp at h
    | top => simp [sub_eq_add_neg]
    | coe s => rw [← EReal.coe_sub, Ideal.exp_coe]; exact EReal.coe_ne_top _

/-- The change of the reference point: from `M` to a greater `M'`. -/
theorem exp_shift {s M M' : EReal} (h1 : s ≤ M) (h2 : M ≤ M') :
    Ideal.exp (M - M') * Ideal.exp (s - M) = Ideal.exp (s - M') := by
  induction s with
  | bot => simp [sub_eq_add_neg]
  | top =>
    obtain rfl : M = ⊤ := top_le_iff.mp h1
    obtain rfl : M' = ⊤ := top_le_iff.mp h2
    simp [sub_eq_add_neg]
  | coe r =>
    induction M with
    | bot => simp at h1
    | top =>
      obtain rfl : M' = ⊤ := top_le_iff.mp h2
      simp [sub_eq_add_neg]
    | coe m =>
      induction M' with
      | bot => simp at h2
      | top => simp [sub_eq_add_neg]
      | coe m' =>
        rw [← EReal.coe_sub, ← EReal.coe_sub, ← EReal.coe_sub, Ideal.exp_coe, Ideal.exp_coe, Ideal.exp_coe, ← EReal.coe_mul,
          ← Real.exp_add]
        congr 2
        ring

/-- A finite nonnegative factor goes under a sum. -/
theorem mul_sum {ι : Type} (S : Finset ι) {a : EReal} (h0 : 0 ≤ a) (ht : a ≠ ⊤) (f : ι → EReal) :
    a * ∑ j ∈ S, f j = ∑ j ∈ S, a * f j := by
  classical
  induction S using Finset.induction_on with
  | empty => simp
  | insert x S hx ih => rw [Finset.sum_insert hx, Finset.sum_insert hx, EReal.left_distrib_of_nonneg_of_ne_top h0 ht, ih]

/-- The sum over a set of keys of the exponentials relative to the set's maximum, each times the key's value. -/
def acc (sc va : ℕ → EReal) (S : Finset ℕ) : EReal := ∑ j ∈ S, Ideal.exp (sc j - S.sup sc) * va j

/-- The step: what is kept for `S`, rescaled, plus the sum over the new keys is what is kept for the union. -/
theorem acc_union (sc va : ℕ → EReal) (S T : Finset ℕ) (hd : Disjoint S T) :
    Ideal.exp (S.sup sc - max (S.sup sc) (T.sup sc)) * acc sc va S
      + ∑ j ∈ T, Ideal.exp (sc j - max (S.sup sc) (T.sup sc)) * va j = acc sc va (S ∪ T) := by
  have hu : (S ∪ T).sup sc = max (S.sup sc) (T.sup sc) := Finset.sup_union
  unfold acc
  rw [hu, Finset.sum_union hd, mul_sum _ (exp_nonneg _) (exp_sub_ne_top (le_max_left _ _))]
  congr 1
  refine Finset.sum_congr rfl fun j hj => ?_
  rw [← mul_assoc, exp_shift (Finset.le_sup hj) (le_max_left _ _)]

/-- A sum over `Fin n` of a function of the number `b + q` is the sum over the numbers from `b` on. -/
theorem sum_fin (b n : ℕ) (f : ℕ → EReal) : ∑ q : Fin n, f (b + q.val) = ∑ j ∈ Finset.Ico b (b + n), f j := by
  rw [Finset.sum_Ico_eq_sum_range, Nat.add_sub_cancel_left, Finset.sum_range]

/-- A maximum over `Fin n` of a function of the number `b + q`, started from the least value, is the maximum over the
    numbers from `b` on. -/
theorem fold_fin (b n : ℕ) (f : ℕ → EReal) :
    Finset.fold max ⊥ (fun q : Fin n => f (b + q.val)) Finset.univ = (Finset.Ico b (b + n)).sup f := by
  have h1 : Finset.fold max ⊥ (fun q : Fin n => f (b + q.val)) Finset.univ = Finset.univ.sup fun q : Fin n => f (b + q.val) := rfl
  rw [h1]
  apply le_antisymm
  · refine Finset.sup_le fun q _ => ?_
    exact Finset.le_sup (f := f) (Finset.mem_Ico.mpr ⟨Nat.le_add_right _ _, by have := q.isLt; omega⟩)
  · refine Finset.sup_le fun j hj => ?_
    obtain ⟨h1, h2⟩ := Finset.mem_Ico.mp hj
    have := Finset.le_sup (f := fun q : Fin n => f (b + q.val)) (Finset.mem_univ (⟨j - b, by omega⟩ : Fin n))
    simpa [Nat.add_sub_cancel' h1] using this

/-- The pattern of minus infinity. -/
theorem ofBits_neg_inf : Ideal.ofBits .f32 4286578688#32 = ⊥ := by
  show Ideal.ieee 8 23 4286578688#32 = ⊥
  unfold Ideal.ieee
  have h1 : (BitVec.extractLsb' 23 8 (4286578688#32 : BitVec 32)).toNat = 2 ^ 8 - 1 := by decide
  have h2 : (BitVec.extractLsb' 0 23 (4286578688#32 : BitVec 32)).toNat = 0 := by decide
  have h3 : (BitVec.extractLsb' (8 + 23) 1 (4286578688#32 : BitVec 32) == 1#1) = true := by decide
  simp only [h1, h2, h3, if_true]

end Cert.Proof.Flash

end
-- ==== Proof.AttnChunk.lean ====
/- One chunk of rows of the attention kernel's tile step: what the running maxima, the accumulators and the logits hold
   before and after it. -/
module

public import proofs.«01_k».proof.Proof.AttnRw
public import proofs.«01_k».proof.Proof.AttnFlash

@[expose] public section

set_option maxRecDepth 16384
set_option maxHeartbeats 1000000

noncomputable section

namespace Cert.Proof.AttnIdeal

open Idealize.ShloMosaic Idealize.ShloMosaic.Pointwise Cert.AttnIdeal Cert.AttnIdeal.Gen Cert.Proof.Flash
open scoped BigOperators

/-- What a grid point's blocks hold, by number: the query tile's number, the two halves of masked queries, the keys, the
    values, and the two bias tiles. -/
structure Dat where
  i : ℕ
  qq : ℕ → ℕ → EReal
  K : ℕ → ℕ → EReal
  V : ℕ → ℕ → EReal
  bd : ℕ → ℕ → EReal
  bp : ℕ → ℕ → EReal

/-- Row `R`'s product with key `j`. -/
def Dat.dot (D : Dat) (R j : ℕ) : EReal := ∑ d : Fin 128, D.qq R d.val * D.K j d.val
/-- The values with a column of ones beside them. -/
def Dat.va (D : Dat) (j c : ℕ) : EReal := if c < 128 then D.V j c else if c = 128 then 1 else 0
/-- How many keys of its own tile row `R` is computed with. -/
def nkD (R : ℕ) : ℕ := R % 1024 / 256 * 256 + 256
/-- Row `R`'s logit at key `j`: the product, with the bias tile of the two near key blocks. -/
def Dat.sc (D : Dat) (R j : ℕ) : EReal :=
  if j / 256 = (1024 * D.i + R % 1024) / 256 then D.dot R j + D.bd (R % 256) (j % 256)
  else if j / 256 + 1 = (1024 * D.i + R % 1024) / 256 then D.dot R j + D.bp (R % 256) (j % 256)
  else D.dot R j

/-- The logits of the current tile with a bias tile added at row `r0`, column `c0`. -/
def upd (W : ℕ → ℕ → EReal) (r0 c0 : ℕ) (b : ℕ → ℕ → EReal) (R q : ℕ) : EReal :=
  if (r0 ≤ R ∧ R < r0 + 256) ∧ c0 ≤ q ∧ q < c0 + 256 then W R q + b (R - r0) (q - c0) else W R q

variable {c : Dev nD} {A : Args} {I : Ins Ideal c A}

/-- Row `R` holds the running maximum and the accumulators of the keys `S`. -/
def Fl (D : Dat) (σ : St1 Ideal c A) (R : ℕ) (S : Finset ℕ) : Prop :=
  gM σ.m R = S.sup (D.sc R) ∧ ∀ q < 256, gA σ.a R q = acc (D.sc R) (fun j => D.va j q) S

/-- The state inside a tile: rows below `r0` have taken in the current tile's keys `[bc, bc + nkc R)`, the others hold the
    current tile's logits `W` still to be taken in; rows below `rn` hold the next tile's products. -/
structure TI (D : Dat) (cur nxt : Fin 2) (S : ℕ → Finset ℕ) (bc : ℕ) (nkc : ℕ → ℕ) (bn : ℕ) (nkn : ℕ → ℕ) (r0 rn : ℕ)
    (W : ℕ → ℕ → EReal) (σ : St1 Ideal c A) : Prop where
  fl : ∀ R < 2048, Fl D σ R (if R < r0 then S R ∪ Finset.Ico bc (bc + nkc R) else S R)
  cr : ∀ R, r0 ≤ R → R < 2048 → ∀ q < nkc R, gS σ.s cur R q = W R q
  nx : ∀ R < rn, ∀ q < nkn R, gS σ.s nxt R q = D.dot R (bn + q)

/-- The current tile's logits before any bias is added. -/
def Dat.raw (D : Dat) (bc R q : ℕ) : EReal := D.dot R (bc + q)

/-- The chunk's step on the maxima and the accumulators, in numbers. -/
theorem step {D : Dat} {cur nxt : Fin 2} {S : ℕ → Finset ℕ} {bc : ℕ} {nkc : ℕ → ℕ} {bn : ℕ} {nkn : ℕ → ℕ} {r0 rn rc nk : ℕ}
    {W : ℕ → ℕ → EReal} {σ σ' : St1 Ideal c A} (T : TI D cur nxt S bc nkc bn nkn r0 rn W σ)
    (hd : ∀ R, Disjoint (S R) (Finset.Ico bc (bc + nkc R)))
    (hn : ∀ R, r0 ≤ R → R < r0 + rc → nkc R = nk)
    (hW1 : ∀ R q, r0 ≤ R → R < r0 + rc → q < nk → W R q = D.sc R (bc + q))
    (hW2 : ∀ R q, r0 + rc ≤ R → R < 2048 → q < nkc R → W R q = D.raw bc R q)
    (hr : r0 + rc ≤ 2048)
    (hs' : σ'.s = σ.s)
    (hm' : ∀ R, gM σ'.m R = if r0 ≤ R ∧ R < r0 + rc then
      max (gM σ.m R) (Finset.fold max ⊥ (fun q : Fin nk => gS σ.s cur R q.val) Finset.univ) else gM σ.m R)
    (ha' : ∀ R x, x < 256 → gA σ'.a R x = if r0 ≤ R ∧ R < r0 + rc then
      Ideal.exp (gM σ.m R - max (gM σ.m R) (Finset.fold max ⊥ (fun q : Fin nk => gS σ.s cur R q.val) Finset.univ)) * gA σ.a R x
      + ∑ q : Fin nk, Ideal.exp (gS σ.s cur R q.val - max (gM σ.m R) (Finset.fold max ⊥ (fun q : Fin nk => gS σ.s cur R q.val) Finset.univ))
        * D.va (bc + q.val) x else gA σ.a R x) :
    TI D cur nxt S bc nkc bn nkn (r0 + rc) rn (D.raw bc) σ' := by
  refine ⟨fun R hR => ?_, fun R h1 h2 q hq => ?_, fun R h1 q hq => ?_⟩
  · have hf := T.fl R hR
    by_cases h0 : R < r0
    · rw [if_pos h0] at hf
      rw [if_pos (by omega)]
      refine ⟨?_, fun x hx => ?_⟩
      · rw [hm', if_neg (by omega)]; exact hf.1
      · rw [ha' R x hx, if_neg (by omega)]; exact hf.2 x hx
    · rw [if_neg h0] at hf
      by_cases h1 : R < r0 + rc
      · rw [if_pos h1]
        have hsv : ∀ q : Fin nk, gS σ.s cur R q.val = D.sc R (bc + q.val) := fun q => by
          rw [T.cr R (by omega) hR q.val (by rw [hn R (by omega) h1]; exact q.isLt), hW1 R q.val (by omega) h1 q.isLt]
        have hf1 : Finset.fold max ⊥ (fun q : Fin nk => gS σ.s cur R q.val) Finset.univ = (Finset.Ico bc (bc + nkc R)).sup (D.sc R) := by
          rw [hn R (by omega) h1, ← fold_fin]
          congr 1
          exact funext hsv
        refine ⟨?_, fun x hx => ?_⟩
        · rw [hm', if_pos ⟨by omega, h1⟩, hf.1, hf1]
          exact Finset.sup_union.symm
        · rw [ha' R x hx, if_pos ⟨by omega, h1⟩, hf.1, hf1, hf.2 x hx]
          have := acc_union (D.sc R) (fun j => D.va j x) (S R) (Finset.Ico bc (bc + nkc R)) (hd R)
          rw [← this]
          congr 1
          rw [hn R (by omega) h1, ← sum_fin bc nk (fun j => Ideal.exp (D.sc R j - max ((S R).sup (D.sc R)) ((Finset.Ico bc (bc + nk)).sup (D.sc R))) * D.va j x)]
          refine Finset.sum_congr rfl fun q _ => ?_
          rw [hsv]
      · rw [if_neg h1]
        refine ⟨?_, fun x hx => ?_⟩
        · rw [hm', if_neg (by omega)]; exact hf.1
        · rw [ha' R x hx, if_neg (by omega)]; exact hf.2 x hx
  · rw [hs', T.cr R (by omega) h2 q hq, hW2 R q h1 h2 hq]
  · rw [hs']; exact T.nx R h1 q hq

/-- A store of a chunk of the next tile's products. -/
theorem next {D : Dat} {cur nxt : Fin 2} {S : ℕ → Finset ℕ} {bc : ℕ} {nkc : ℕ → ℕ} {bn : ℕ} {nkn : ℕ → ℕ} {r0 rn rc nk : ℕ}
    {W : ℕ → ℕ → EReal} {σ σ' : St1 Ideal c A} (T : TI D cur nxt S bc nkc bn nkn r0 rn W σ)
    {inb0 : ∀ a, ![nxt.val, 0, 0] a + (![1, 2048, 1024] : Fin 3 → ℕ) a ≤ S2x2048x1024.size a} {hst hsq}
    {inb : ∀ a, ![rn, 0] a + (![rc, nk] : Fin 2 → ℕ) a ≤ S2048x1024.size a} {w : (⟨2, ![rc, nk]⟩ : Shape).Idx → EReal}
    (h : σ' = { σ with s := (((sM.slice (Rect.unit (s := S2x2048x1024) ![nxt.val, 0, 0] ![1, 2048, 1024] inb0) hst).squeeze S2048x1024 hsq).access
      (Rect.unit (s := S2048x1024) ![rn, 0] ![rc, nk] inb)).write (Elt Ideal) σ.s w Finset.univ })
    (hw : ∀ (p : Fin rc) (q : Fin nk), w (ix2 p q) = D.dot (rn + p.val) (bn + q.val))
    (hne : cur ≠ nxt) (hn : ∀ R, rn ≤ R → R < rn + rc → nkn R ≤ nk) :
    TI D cur nxt S bc nkc bn nkn r0 (rn + rc) W σ' := by
  subst h
  refine ⟨T.fl, fun R h1 h2 q hq => ?_, fun R h1 q hq => ?_⟩
  · refine (wrS (f := σ.s) (w := w) (b := nxt) (inb0 := inb0) (hst := hst) (hsq := hsq) (inb := inb) cur R q).trans ?_
    rw [dif_neg (fun h => hne h.1)]
    exact T.cr R h1 h2 q hq
  · refine (wrS (f := σ.s) (w := w) (b := nxt) (inb0 := inb0) (hst := hst) (hsq := hsq) (inb := inb) nxt R q).trans ?_
    by_cases h0 : R < rn
    · rw [dif_neg (by omega)]; exact T.nx R h0 q hq
    · have := hn R (by omega) h1
      rw [dif_pos ⟨rfl, ⟨by omega, h1⟩, by omega, by omega⟩]
      refine (hw _ _).trans ?_
      congr 1
      · show rn + (R - rn) = R; omega

/-- A store of a bias tile's sum into the current tile's logits. -/
theorem patch {D : Dat} {cur nxt : Fin 2} {S : ℕ → Finset ℕ} {bc : ℕ} {nkc : ℕ → ℕ} {bn : ℕ} {nkn : ℕ → ℕ} {r0 rn : ℕ}
    {W : ℕ → ℕ → EReal} {σ σ' : St1 Ideal c A} (T : TI D cur nxt S bc nkc bn nkn r0 rn W σ) {rp cp : ℕ}
    {inb0 : ∀ a, ![cur.val, 0, 0] a + (![1, 2048, 1024] : Fin 3 → ℕ) a ≤ S2x2048x1024.size a} {hst hsq}
    {inb : ∀ a, ![rp, cp] a + (![256, 256] : Fin 2 → ℕ) a ≤ S2048x1024.size a} {w v : (⟨2, ![256, 256]⟩ : Shape).Idx → EReal}
    (h : σ' = { σ with s := (((sM.slice (Rect.unit (s := S2x2048x1024) ![cur.val, 0, 0] ![1, 2048, 1024] inb0) hst).squeeze S2048x1024 hsq).access
      (Rect.unit (s := S2048x1024) ![rp, cp] ![256, 256] inb)).write (Elt Ideal) σ.s w Finset.univ })
    (hv : v = View.readAt (Elt Ideal) ((sM.slice (Rect.unit (s := S2x2048x1024) ![cur.val, 0, 0] ![1, 2048, 1024] inb0) hst).squeeze S2048x1024 hsq).view
      (Rect.unit (s := S2048x1024) ![rp, cp] ![256, 256] inb).toLoadRect σ.s)
    {b : ℕ → ℕ → EReal} {vb : Vec Ideal S1x256x256 .f32}
    (hw : w = k0_pay191 v vb) (hb : ∀ p q : Fin 256, vb (ix3 0 p q) = b p.val q.val)
    (hne : cur ≠ nxt) :
    TI D cur nxt S bc nkc bn nkn r0 rn (upd W rp cp b) σ' := by
  subst h
  have hw' : ∀ p q : Fin 256, w (ix2 p q) = gS σ.s cur (rp + p.val) (cp + q.val) + b p.val q.val := by
    intro p q
    subst hw
    rw [← hb, ← rdS (inb0 := inb0) (hst := hst) (hsq := hsq) (inb := inb) p q, ← hv]
    pointwise [k0_pay191]
  have h0 : rp + 256 ≤ 2048 := inb 0
  refine ⟨T.fl, fun R h1 h2 q hq => ?_, fun R h1 q hq => ?_⟩
  · refine (wrS (f := σ.s) (w := w) (b := cur) (inb0 := inb0) (hst := hst) (hsq := hsq) (inb := inb) cur R q).trans ?_
    unfold upd
    by_cases h3 : (rp ≤ R ∧ R < rp + 256) ∧ cp ≤ q ∧ q < cp + 256
    · rw [dif_pos ⟨rfl, h3⟩, if_pos h3]
      refine (hw' _ _).trans ?_
      have e1 : rp + (R - rp) = R := by omega
      have e2 : cp + (q - cp) = q := by omega
      show gS σ.s cur (rp + (R - rp)) (cp + (q - cp)) + b (R - rp) (q - cp) = _
      rw [e1, e2, T.cr R h1 h2 q hq]
    · rw [dif_neg (fun h => h3 h.2), if_neg h3]
      exact T.cr R h1 h2 q hq
  · refine (wrS (f := σ.s) (w := w) (b := cur) (inb0 := inb0) (hst := hst) (hsq := hsq) (inb := inb) nxt R q).trans ?_
    rw [dif_neg (fun h => hne h.1.symm)]
    exact T.nx R h1 q hq

/-- The step of a chunk of 256 rows and 256 keys. -/
theorem flash_256_256 {D : Dat} {cur nxt : Fin 2} {S : ℕ → Finset ℕ} {bc : ℕ} {nkc : ℕ → ℕ} {bn : ℕ} {nkn : ℕ → ℕ} {r0 rn : ℕ}
    {W : ℕ → ℕ → EReal} {σ σ1 σ2 : St1 Ideal c A} (T : TI D cur nxt S bc nkc bn nkn r0 rn W σ)
    {inb0 : ∀ a, ![cur.val, 0, 0] a + (![1, 2048, 1024] : Fin 3 → ℕ) a ≤ S2x2048x1024.size a} {hst hsq}
    {inbs : ∀ a, ![r0, 0] a + (![256, 256] : Fin 2 → ℕ) a ≤ S2048x1024.size a}
    {inbm : ∀ a, ![r0, 0] a + (![256, 1] : Fin 2 → ℕ) a ≤ S2048x1.size a}
    {inba : ∀ a, ![r0, 0] a + (![256, 256] : Fin 2 → ℕ) a ≤ S2048x256.size a}
    {vs : Vec Ideal S256x256 .f32} {vm : Vec Ideal S256x1 .f32} {vl wa : Vec Ideal S256x256 .f32} {va : FVec Ideal S1024x256 .bf16}
    {wm : Vec Ideal S256x1 .f32}
    (hs : vs = View.readAt (Elt Ideal) ((sM.slice (Rect.unit (s := S2x2048x1024) ![cur.val, 0, 0] ![1, 2048, 1024] inb0) hst).squeeze S2048x1024 hsq).view
      (Rect.unit (s := S2048x1024) ![r0, 0] ![256, 256] inbs).toLoadRect σ.s)
    (hm : vm = View.readAt (Elt Ideal) mM.view (Rect.unit (s := S2048x1) ![r0, 0] ![256, 1] inbm).toLoadRect σ.m)
    (hl : vl = View.readAt (Elt Ideal) aM.view (Rect.unit (s := S2048x256) ![r0, 0] ![256, 256] inba).toLoadRect σ.a)
    (h1 : σ1 = { σ with a := (aM.access (Rect.unit (s := S2048x256) ![r0, 0] ![256, 256] inba)).write (Elt Ideal) σ.a wa Finset.univ })
    (h2 : σ2 = { σ1 with m := (mM.access (Rect.unit (s := S2048x1) ![r0, 0] ![256, 1] inbm)).write (Elt Ideal) σ1.m wm Finset.univ })
    (hwa : wa = k0_pay193 va vs vm vl) (hwm : wm = k0_pay194 vs vm)
    (hva : ∀ (q : Fin 1024) (x : Fin 256), va (ix2 q x) = D.va (bc + q.val) x.val)
    (hd : ∀ R, Disjoint (S R) (Finset.Ico bc (bc + nkc R)))
    (hn : ∀ R, r0 ≤ R → R < r0 + 256 → nkc R = 256)
    (hW1 : ∀ R q, r0 ≤ R → R < r0 + 256 → q < 256 → W R q = D.sc R (bc + q))
    (hW2 : ∀ R q, r0 + 256 ≤ R → R < 2048 → q < nkc R → W R q = D.raw bc R q) :
    TI D cur nxt S bc nkc bn nkn (r0 + 256) rn (D.raw bc) σ2 := by
  subst h2; subst h1
  have h0 : r0 + 256 ≤ 2048 := inbm 0
  have es : ∀ p q, vs (ix2 p q) = gS σ.s cur (r0 + p.val) q.val := fun p q => by
    rw [hs]
    refine (rdS (inb0 := inb0) (hst := hst) (hsq := hsq) (inb := inbs) p q).trans ?_
    rw [Nat.zero_add]
  have em : ∀ p, vm (ix2 p 0) = gM σ.m (r0 + p.val) := fun p => by rw [hm]; exact rdM (inb := inbm) p
  have el : ∀ p q, vl (ix2 p q) = gA σ.a (r0 + p.val) q.val := fun p q => by rw [hl]; exact rdA (inb := inba) p q
  refine step T hd hn hW1 hW2 h0 rfl (fun R => ?_) (fun R x hx => ?_)
  · refine (wrM (f := σ.m) (w := wm) (inb := inbm) R).trans ?_
    by_cases h : r0 ≤ R ∧ R < r0 + 256
    · rw [dif_pos h, if_pos h, hwm]
      have e : r0 + (R - r0) = R := by omega
      pointwise [k0_pay192, k0_pay193, k0_pay194]
      rw [em]
      simp only [es, e, ofBits_neg_inf]
    · rw [dif_neg h, if_neg h]
  · refine (wrA (f := σ.a) (w := wa) (inb := inba) R x hx).trans ?_
    by_cases h : r0 ≤ R ∧ R < r0 + 256
    · rw [dif_pos h, if_pos h, hwa]
      have e : r0 + (R - r0) = R := by omega
      pointwise [k0_pay192, k0_pay193, k0_pay194]
      simp only [em, es, el, hva, e, ofBits_neg_inf]
    · rw [dif_neg h, if_neg h]

/-- The step of a chunk of 256 rows and 512 keys. -/
theorem flash_256_512 {D : Dat} {cur nxt : Fin 2} {S : ℕ → Finset ℕ} {bc : ℕ} {nkc : ℕ → ℕ} {bn : ℕ} {nkn : ℕ → ℕ} {r0 rn : ℕ}
    {W : ℕ → ℕ → EReal} {σ σ1 σ2 : St1 Ideal c A} (T : TI D cur nxt S bc nkc bn nkn r0 rn W σ)
    {inb0 : ∀ a, ![cur.val, 0, 0] a + (![1, 2048, 1024] : Fin 3 → ℕ) a ≤ S2x2048x1024.size a} {hst hsq}
    {inbs : ∀ a, ![r0, 0] a + (![256, 512] : Fin 2 → ℕ) a ≤ S2048x1024.size a}
    {inbm : ∀ a, ![r0, 0] a + (![256, 1] : Fin 2 → ℕ) a ≤ S2048x1.size a}
    {inba : ∀ a, ![r0, 0] a + (![256, 256] : Fin 2 → ℕ) a ≤ S2048x256.size a}
    {vs : Vec Ideal S256x512 .f32} {vm : Vec Ideal S256x1 .f32} {vl wa : Vec Ideal S256x256 .f32} {va : FVec Ideal S1024x256 .bf16}
    {wm : Vec Ideal S256x1 .f32}
    (hs : vs = View.readAt (Elt Ideal) ((sM.slice (Rect.unit (s := S2x2048x1024) ![cur.val, 0, 0] ![1, 2048, 1024] inb0) hst).squeeze S2048x1024 hsq).view
      (Rect.unit (s := S2048x1024) ![r0, 0] ![256, 512] inbs).toLoadRect σ.s)
    (hm : vm = View.readAt (Elt Ideal) mM.view (Rect.unit (s := S2048x1) ![r0, 0] ![256, 1] inbm).toLoadRect σ.m)
    (hl : vl = View.readAt (Elt Ideal) aM.view (Rect.unit (s := S2048x256) ![r0, 0] ![256, 256] inba).toLoadRect σ.a)
    (h1 : σ1 = { σ with a := (aM.access (Rect.unit (s := S2048x256) ![r0, 0] ![256, 256] inba)).write (Elt Ideal) σ.a wa Finset.univ })
    (h2 : σ2 = { σ1 with m := (mM.access (Rect.unit (s := S2048x1) ![r0, 0] ![256, 1] inbm)).write (Elt Ideal) σ1.m wm Finset.univ })
    (hwa : wa = k0_pay201 va (k0_pay199 vs vm) (k0_pay200 vs vm) vl) (hwm : wm = k0_pay202 (k0_pay198 vs vm))
    (hva : ∀ (q : Fin 1024) (x : Fin 256), va (ix2 q x) = D.va (bc + q.val) x.val)
    (hd : ∀ R, Disjoint (S R) (Finset.Ico bc (bc + nkc R)))
    (hn : ∀ R, r0 ≤ R → R < r0 + 256 → nkc R = 512)
    (hW1 : ∀ R q, r0 ≤ R → R < r0 + 256 → q < 512 → W R q = D.sc R (bc + q))
    (hW2 : ∀ R q, r0 + 256 ≤ R → R < 2048 → q < nkc R → W R q = D.raw bc R q) :
    TI D cur nxt S bc nkc bn nkn (r0 + 256) rn (D.raw bc) σ2 := by
  subst h2; subst h1
  have h0 : r0 + 256 ≤ 2048 := inbm 0
  have es : ∀ p q, vs (ix2 p q) = gS σ.s cur (r0 + p.val) q.val := fun p q => by
    rw [hs]
    refine (rdS (inb0 := inb0) (hst := hst) (hsq := hsq) (inb := inbs) p q).trans ?_
    rw [Nat.zero_add]
  have em : ∀ p, vm (ix2 p 0) = gM σ.m (r0 + p.val) := fun p => by rw [hm]; exact rdM (inb := inbm) p
  have el : ∀ p q, vl (ix2 p q) = gA σ.a (r0 + p.val) q.val := fun p q => by rw [hl]; exact rdA (inb := inba) p q
  refine step T hd hn hW1 hW2 h0 rfl (fun R => ?_) (fun R x hx => ?_)
  · refine (wrM (f := σ.m) (w := wm) (inb := inbm) R).trans ?_
    by_cases h : r0 ≤ R ∧ R < r0 + 256
    · rw [dif_pos h, if_pos h, hwm]
      have e : r0 + (R - r0) = R := by omega
      pointwise [k0_pay201, k0_pay199, k0_pay200, k0_pay198, k0_pay202]
      rw [em]
      simp only [es, e, ofBits_neg_inf]
    · rw [dif_neg h, if_neg h]
  · refine (wrA (f := σ.a) (w := wa) (inb := inba) R x hx).trans ?_
    by_cases h : r0 ≤ R ∧ R < r0 + 256
    · rw [dif_pos h, if_pos h, hwa]
      have e : r0 + (R - r0) = R := by omega
      pointwise [k0_pay201, k0_pay199, k0_pay200, k0_pay198, k0_pay202]
      simp only [em, es, el, hva, e, ofBits_neg_inf]
    · rw [dif_neg h, if_neg h]

/-- The step of a chunk of 256 rows and 768 keys. -/
theorem flash_256_768 {D : Dat} {cur nxt : Fin 2} {S : ℕ → Finset ℕ} {bc : ℕ} {nkc : ℕ → ℕ} {bn : ℕ} {nkn : ℕ → ℕ} {r0 rn : ℕ}
    {W : ℕ → ℕ → EReal} {σ σ1 σ2 : St1 Ideal c A} (T : TI D cur nxt S bc nkc bn nkn r0 rn W σ)
    {inb0 : ∀ a, ![cur.val, 0, 0] a + (![1, 2048, 1024] : Fin 3 → ℕ) a ≤ S2x2048x1024.size a} {hst hsq}
    {inbs : ∀ a, ![r0, 0] a + (![256, 768] : Fin 2 → ℕ) a ≤ S2048x1024.size a}
    {inbm : ∀ a, ![r0, 0] a + (![256, 1] : Fin 2 → ℕ) a ≤ S2048x1.size a}
    {inba : ∀ a, ![r0, 0] a + (![256, 256] : Fin 2 → ℕ) a ≤ S2048x256.size a}
    {vs : Vec Ideal S256x768 .f32} {vm : Vec Ideal S256x1 .f32} {vl wa : Vec Ideal S256x256 .f32} {va : FVec Ideal S1024x256 .bf16}
    {wm : Vec Ideal S256x1 .f32}
    (hs : vs = View.readAt (Elt Ideal) ((sM.slice (Rect.unit (s := S2x2048x1024) ![cur.val, 0, 0] ![1, 2048, 1024] inb0) hst).squeeze S2048x1024 hsq).view
      (Rect.unit (s := S2048x1024) ![r0, 0] ![256, 768] inbs).toLoadRect σ.s)
    (hm : vm = View.readAt (Elt Ideal) mM.view (Rect.unit (s := S2048x1) ![r0, 0] ![256, 1] inbm).toLoadRect σ.m)
    (hl : vl = View.readAt (Elt Ideal) aM.view (Rect.unit (s := S2048x256) ![r0, 0] ![256, 256] inba).toLoadRect σ.a)
    (h1 : σ1 = { σ with a := (aM.access (Rect.unit (s := S2048x256) ![r0, 0] ![256, 256] inba)).write (Elt Ideal) σ.a wa Finset.univ })
    (h2 : σ2 = { σ1 with m := (mM.access (Rect.unit (s := S2048x1) ![r0, 0] ![256, 1] inbm)).write (Elt Ideal) σ1.m wm Finset.univ })
    (hwa : wa = k0_pay207 va vs vm vl) (hwm : wm = k0_pay208 (k0_pay206 vs vm))
    (hva : ∀ (q : Fin 1024) (x : Fin 256), va (ix2 q x) = D.va (bc + q.val) x.val)
    (hd : ∀ R, Disjoint (S R) (Finset.Ico bc (bc + nkc R)))
    (hn : ∀ R, r0 ≤ R → R < r0 + 256 → nkc R = 768)
    (hW1 : ∀ R q, r0 ≤ R → R < r0 + 256 → q < 768 → W R q = D.sc R (bc + q))
    (hW2 : ∀ R q, r0 + 256 ≤ R → R < 2048 → q < nkc R → W R q = D.raw bc R q) :
    TI D cur nxt S bc nkc bn nkn (r0 + 256) rn (D.raw bc) σ2 := by
  subst h2; subst h1
  have h0 : r0 + 256 ≤ 2048 := inbm 0
  have es : ∀ p q, vs (ix2 p q) = gS σ.s cur (r0 + p.val) q.val := fun p q => by
    rw [hs]
    refine (rdS (inb0 := inb0) (hst := hst) (hsq := hsq) (inb := inbs) p q).trans ?_
    rw [Nat.zero_add]
  have em : ∀ p, vm (ix2 p 0) = gM σ.m (r0 + p.val) := fun p => by rw [hm]; exact rdM (inb := inbm) p
  have el : ∀ p q, vl (ix2 p q) = gA σ.a (r0 + p.val) q.val := fun p q => by rw [hl]; exact rdA (inb := inba) p q
  refine step T hd hn hW1 hW2 h0 rfl (fun R => ?_) (fun R x hx => ?_)
  · refine (wrM (f := σ.m) (w := wm) (inb := inbm) R).trans ?_
    by_cases h : r0 ≤ R ∧ R < r0 + 256
    · rw [dif_pos h, if_pos h, hwm]
      have e : r0 + (R - r0) = R := by omega
      pointwise [k0_pay206, k0_pay207, k0_pay208]
      rw [em]
      simp only [es, e, ofBits_neg_inf]
    · rw [dif_neg h, if_neg h]
  · refine (wrA (f := σ.a) (w := wa) (inb := inba) R x hx).trans ?_
    by_cases h : r0 ≤ R ∧ R < r0 + 256
    · rw [dif_pos h, if_pos h, hwa]
      have e : r0 + (R - r0) = R := by omega
      pointwise [k0_pay206, k0_pay207, k0_pay208]
      simp only [em, es, el, hva, e, ofBits_neg_inf]
    · rw [dif_neg h, if_neg h]

/-- The step of a chunk of 256 rows and 1024 keys. -/
theorem flash_256_1024 {D : Dat} {cur nxt : Fin 2} {S : ℕ → Finset ℕ} {bc : ℕ} {nkc : ℕ → ℕ} {bn : ℕ} {nkn : ℕ → ℕ} {r0 rn : ℕ}
    {W : ℕ → ℕ → EReal} {σ σ1 σ2 : St1 Ideal c A} (T : TI D cur nxt S bc nkc bn nkn r0 rn W σ)
    {inb0 : ∀ a, ![cur.val, 0, 0] a + (![1, 2048, 1024] : Fin 3 → ℕ) a ≤ S2x2048x1024.size a} {hst hsq}
    {inbs : ∀ a, ![r0, 0] a + (![256, 1024] : Fin 2 → ℕ) a ≤ S2048x1024.size a}
    {inbm : ∀ a, ![r0, 0] a + (![256, 1] : Fin 2 → ℕ) a ≤ S2048x1.size a}
    {inba : ∀ a, ![r0, 0] a + (![256, 256] : Fin 2 → ℕ) a ≤ S2048x256.size a}
    {vs : Vec Ideal S256x1024 .f32} {vm : Vec Ideal S256x1 .f32} {vl wa : Vec Ideal S256x256 .f32} {va : FVec Ideal S1024x256 .bf16}
    {wm : Vec Ideal S256x1 .f32}
    (hs : vs = View.readAt (Elt Ideal) ((sM.slice (Rect.unit (s := S2x2048x1024) ![cur.val, 0, 0] ![1, 2048, 1024] inb0) hst).squeeze S2048x1024 hsq).view
      (Rect.unit (s := S2048x1024) ![r0, 0] ![256, 1024] inbs).toLoadRect σ.s)
    (hm : vm = View.readAt (Elt Ideal) mM.view (Rect.unit (s := S2048x1) ![r0, 0] ![256, 1] inbm).toLoadRect σ.m)
    (hl : vl = View.readAt (Elt Ideal) aM.view (Rect.unit (s := S2048x256) ![r0, 0] ![256, 256] inba).toLoadRect σ.a)
    (h1 : σ1 = { σ with a := (aM.access (Rect.unit (s := S2048x256) ![r0, 0] ![256, 256] inba)).write (Elt Ideal) σ.a wa Finset.univ })
    (h2 : σ2 = { σ1 with m := (mM.access (Rect.unit (s := S2048x1) ![r0, 0] ![256, 1] inbm)).write (Elt Ideal) σ1.m wm Finset.univ })
    (hwa : wa = k0_pay6 va vs vm vl) (hwm : wm = k0_pay7 vs vm)
    (hva : ∀ (q : Fin 1024) (x : Fin 256), va (ix2 q x) = D.va (bc + q.val) x.val)
    (hd : ∀ R, Disjoint (S R) (Finset.Ico bc (bc + nkc R)))
    (hn : ∀ R, r0 ≤ R → R < r0 + 256 → nkc R = 1024)
    (hW1 : ∀ R q, r0 ≤ R → R < r0 + 256 → q < 1024 → W R q = D.sc R (bc + q))
    (hW2 : ∀ R q, r0 + 256 ≤ R → R < 2048 → q < nkc R → W R q = D.raw bc R q) :
    TI D cur nxt S bc nkc bn nkn (r0 + 256) rn (D.raw bc) σ2 := by
  subst h2; subst h1
  have h0 : r0 + 256 ≤ 2048 := inbm 0
  have es : ∀ p q, vs (ix2 p q) = gS σ.s cur (r0 + p.val) q.val := fun p q => by
    rw [hs]
    refine (rdS (inb0 := inb0) (hst := hst) (hsq := hsq) (inb := inbs) p q).trans ?_
    rw [Nat.zero_add]
  have em : ∀ p, vm (ix2 p 0) = gM σ.m (r0 + p.val) := fun p => by rw [hm]; exact rdM (inb := inbm) p
  have el : ∀ p q, vl (ix2 p q) = gA σ.a (r0 + p.val) q.val := fun p q => by rw [hl]; exact rdA (inb := inba) p q
  refine step T hd hn hW1 hW2 h0 rfl (fun R => ?_) (fun R x hx => ?_)
  · refine (wrM (f := σ.m) (w := wm) (inb := inbm) R).trans ?_
    by_cases h : r0 ≤ R ∧ R < r0 + 256
    · rw [dif_pos h, if_pos h, hwm]
      have e : r0 + (R - r0) = R := by omega
      pointwise [k0_pay5, k0_pay6, k0_pay7]
      rw [em]
      simp only [es, e, ofBits_neg_inf]
    · rw [dif_neg h, if_neg h]
  · refine (wrA (f := σ.a) (w := wa) (inb := inba) R x hx).trans ?_
    by_cases h : r0 ≤ R ∧ R < r0 + 256
    · rw [dif_pos h, if_pos h, hwa]
      have e : r0 + (R - r0) = R := by omega
      pointwise [k0_pay5, k0_pay6, k0_pay7]
      simp only [em, es, el, hva, e, ofBits_neg_inf]
    · rw [dif_neg h, if_neg h]

/-- The step of a chunk of 512 rows and 1024 keys. -/
theorem flash_512_1024 {D : Dat} {cur nxt : Fin 2} {S : ℕ → Finset ℕ} {bc : ℕ} {nkc : ℕ → ℕ} {bn : ℕ} {nkn : ℕ → ℕ} {r0 rn : ℕ}
    {W : ℕ → ℕ → EReal} {σ σ1 σ2 : St1 Ideal c A} (T : TI D cur nxt S bc nkc bn nkn r0 rn W σ)
    {inb0 : ∀ a, ![cur.val, 0, 0] a + (![1, 2048, 1024] : Fin 3 → ℕ) a ≤ S2x2048x1024.size a} {hst hsq}
    {inbs : ∀ a, ![r0, 0] a + (![512, 1024] : Fin 2 → ℕ) a ≤ S2048x1024.size a}
    {inbm : ∀ a, ![r0, 0] a + (![512, 1] : Fin 2 → ℕ) a ≤ S2048x1.size a}
    {inba : ∀ a, ![r0, 0] a + (![512, 256] : Fin 2 → ℕ) a ≤ S2048x256.size a}
    {vs : Vec Ideal S512x1024 .f32} {vm : Vec Ideal S512x1 .f32} {vl wa : Vec Ideal S512x256 .f32} {va : FVec Ideal S1024x256 .bf16}
    {wm : Vec Ideal S512x1 .f32}
    (hs : vs = View.readAt (Elt Ideal) ((sM.slice (Rect.unit (s := S2x2048x1024) ![cur.val, 0, 0] ![1, 2048, 1024] inb0) hst).squeeze S2048x1024 hsq).view
      (Rect.unit (s := S2048x1024) ![r0, 0] ![512, 1024] inbs).toLoadRect σ.s)
    (hm : vm = View.readAt (Elt Ideal) mM.view (Rect.unit (s := S2048x1) ![r0, 0] ![512, 1] inbm).toLoadRect σ.m)
    (hl : vl = View.readAt (Elt Ideal) aM.view (Rect.unit (s := S2048x256) ![r0, 0] ![512, 256] inba).toLoadRect σ.a)
    (h1 : σ1 = { σ with a := (aM.access (Rect.unit (s := S2048x256) ![r0, 0] ![512, 256] inba)).write (Elt Ideal) σ.a wa Finset.univ })
    (h2 : σ2 = { σ1 with m := (mM.access (Rect.unit (s := S2048x1) ![r0, 0] ![512, 1] inbm)).write (Elt Ideal) σ1.m wm Finset.univ })
    (hwa : wa = k0_pay56 va vs vm vl) (hwm : wm = k0_pay57 vs vm)
    (hva : ∀ (q : Fin 1024) (x : Fin 256), va (ix2 q x) = D.va (bc + q.val) x.val)
    (hd : ∀ R, Disjoint (S R) (Finset.Ico bc (bc + nkc R)))
    (hn : ∀ R, r0 ≤ R → R < r0 + 512 → nkc R = 1024)
    (hW1 : ∀ R q, r0 ≤ R → R < r0 + 512 → q < 1024 → W R q = D.sc R (bc + q))
    (hW2 : ∀ R q, r0 + 512 ≤ R → R < 2048 → q < nkc R → W R q = D.raw bc R q) :
    TI D cur nxt S bc nkc bn nkn (r0 + 512) rn (D.raw bc) σ2 := by
  subst h2; subst h1
  have h0 : r0 + 512 ≤ 2048 := inbm 0
  have es : ∀ p q, vs (ix2 p q) = gS σ.s cur (r0 + p.val) q.val := fun p q => by
    rw [hs]
    refine (rdS (inb0 := inb0) (hst := hst) (hsq := hsq) (inb := inbs) p q).trans ?_
    rw [Nat.zero_add]
  have em : ∀ p, vm (ix2 p 0) = gM σ.m (r0 + p.val) := fun p => by rw [hm]; exact rdM (inb := inbm) p
  have el : ∀ p q, vl (ix2 p q) = gA σ.a (r0 + p.val) q.val := fun p q => by rw [hl]; exact rdA (inb := inba) p q
  refine step T hd hn hW1 hW2 h0 rfl (fun R => ?_) (fun R x hx => ?_)
  · refine (wrM (f := σ.m) (w := wm) (inb := inbm) R).trans ?_
    by_cases h : r0 ≤ R ∧ R < r0 + 512
    · rw [dif_pos h, if_pos h, hwm]
      have e : r0 + (R - r0) = R := by omega
      pointwise [k0_pay55, k0_pay56, k0_pay57]
      rw [em]
      simp only [es, e, ofBits_neg_inf]
    · rw [dif_neg h, if_neg h]
  · refine (wrA (f := σ.a) (w := wa) (inb := inba) R x hx).trans ?_
    by_cases h : r0 ≤ R ∧ R < r0 + 512
    · rw [dif_pos h, if_pos h, hwa]
      have e : r0 + (R - r0) = R := by omega
      pointwise [k0_pay55, k0_pay56, k0_pay57]
      simp only [em, es, el, hva, e, ofBits_neg_inf]
    · rw [dif_neg h, if_neg h]

/-- A chunk's products with a tile of keys, before they are stored. -/
def dotC256 (r0 : ℕ) (h : S2048x128.Slices ![r0, 0] S256x128) (a : FVec Ideal S2048x128 .bf16) (b : FVec Ideal S1024x128 .bf16) : FVec Ideal S256x1024 .f32 :=
  shapeCast S256x1024 (matmul dot_S256x128_S1024x128_S256x1024_1_1_0_0_n_n none (extractStridedSlice S256x128 ![r0, 0] a h) b
    (constant S256x1024 .f32 0x00000000#32)) shapeCasts_S256x1024_S256x1024

theorem dotC256_apply {D : Dat} {bn : ℕ} (r0 : ℕ) (h : S2048x128.Slices ![r0, 0] S256x128) {a : FVec Ideal S2048x128 .bf16} {b : FVec Ideal S1024x128 .bf16}
    (ha : ∀ (R : Fin 2048) (d : Fin 128), a (ix2 R d) = D.qq R.val d.val) (hb : ∀ (q : Fin 1024) (d : Fin 128), b (ix2 q d) = D.K (bn + q.val) d.val)
    {w : (⟨2, ![256, 1024]⟩ : Shape).Idx → EReal} (hw : w = dotC256 r0 h a b)
    (p : Fin 256) (q : Fin 1024) : w (ix2 p q) = D.dot (r0 + p.val) (bn + q.val) := by
  subst hw
  unfold Dat.dot
  pointwise [dotC256]
  simp only [ha, hb]

/-- A chunk's products with a tile of keys, before they are stored. -/
def dotC512 (r0 : ℕ) (h : S2048x128.Slices ![r0, 0] S512x128) (a : FVec Ideal S2048x128 .bf16) (b : FVec Ideal S1024x128 .bf16) : FVec Ideal S512x1024 .f32 :=
  shapeCast S512x1024 (matmul dot_S512x128_S1024x128_S512x1024_1_1_0_0_n_n none (extractStridedSlice S512x128 ![r0, 0] a h) b
    (constant S512x1024 .f32 0x00000000#32)) shapeCasts_S512x1024_S512x1024

theorem dotC512_apply {D : Dat} {bn : ℕ} (r0 : ℕ) (h : S2048x128.Slices ![r0, 0] S512x128) {a : FVec Ideal S2048x128 .bf16} {b : FVec Ideal S1024x128 .bf16}
    (ha : ∀ (R : Fin 2048) (d : Fin 128), a (ix2 R d) = D.qq R.val d.val) (hb : ∀ (q : Fin 1024) (d : Fin 128), b (ix2 q d) = D.K (bn + q.val) d.val)
    {w : (⟨2, ![512, 1024]⟩ : Shape).Idx → EReal} (hw : w = dotC512 r0 h a b)
    (p : Fin 512) (q : Fin 1024) : w (ix2 p q) = D.dot (r0 + p.val) (bn + q.val) := by
  subst hw
  unfold Dat.dot
  pointwise [dotC512]
  simp only [ha, hb]

end Cert.Proof.AttnIdeal

end
-- ==== Proof.AttnDat.lean ====
/- What a grid point of the attention kernel reads: its query tile, the keys and values of its head, and the two bias
   tiles, by row and column number; and where in the keys and values each of its loads lies. -/
module

public import proofs.«01_k».proof.Proof.AttnChunk

@[expose] public section

set_option maxRecDepth 16384
set_option maxHeartbeats 1000000

noncomputable section

namespace Cert.Proof.AttnIdeal

open Idealize.ShloMosaic Idealize.ShloMosaic.Pointwise Cert.AttnIdeal Cert.AttnIdeal.Gen Cert.Proof.Flash
open scoped BigOperators

variable {c : Dev nD} {A : Args}

/-- An entry of the query tile. -/
def gQ (A : Args) (I : Ins Ideal c A) (p d : ℕ) : EReal :=
  if h : p < 1024 ∧ d < 128 then A.arg5.view.read (Elt Ideal) I.f5 (ix3 0 ⟨p, h.1⟩ ⟨d, h.2⟩) else 0
/-- An entry of the keys. -/
def gK (A : Args) (I : Ins Ideal c A) (j d : ℕ) : EReal :=
  if h : j < 16384 ∧ d < 128 then A.arg6.view.read (Elt Ideal) I.f6 (ix3 0 ⟨j, h.1⟩ ⟨d, h.2⟩) else 0
/-- An entry of the values. -/
def gV (A : Args) (I : Ins Ideal c A) (j d : ℕ) : EReal :=
  if h : j < 16384 ∧ d < 128 then A.arg7.view.read (Elt Ideal) I.f7 (ix3 0 ⟨j, h.1⟩ ⟨d, h.2⟩) else 0
/-- An entry of the bias tile of a row's own block. -/
def gD (A : Args) (I : Ins Ideal c A) (p q : ℕ) : EReal :=
  if h : p < 256 ∧ q < 256 then A.arg8.view.read (Elt Ideal) I.f8 (ix3 0 ⟨p, h.1⟩ ⟨q, h.2⟩) else 0
/-- An entry of the bias tile of the block before a row's own. -/
def gP (A : Args) (I : Ins Ideal c A) (p q : ℕ) : EReal :=
  if h : p < 256 ∧ q < 256 then A.arg9.view.read (Elt Ideal) I.f9 (ix3 0 ⟨p, h.1⟩ ⟨q, h.2⟩) else 0

/-- The numbers of a grid point. -/
def datI (i : ℕ) (I : Ins Ideal c A) : Dat where
  i := i
  qq R d := if R < 1024 then (if d < 64 then gQ A I R d else 0) else (if 64 ≤ d then gQ A I (R - 1024) d else 0)
  K := gK A I
  V := gV A I
  bd := gD A I
  bp := gP A I

variable {I : Ins Ideal c A}

theorem ofBits_zero_b : Ideal.ofBits .bf16 0x0000#16 = (0 : EReal) := Ideal.ofBits_zero .bf16

theorem qq_of {i : ℕ} {v : Vec Ideal S1x1024x128 .bf16} {inb : ∀ a, ![0, 0, 0] a + (![1, 1024, 128] : Fin 3 → ℕ) a ≤ S1x1024x128.size a}
    (h : v = View.readAt (Elt Ideal) A.arg5.view (Rect.unit (s := S1x1024x128) ![0, 0, 0] ![1, 1024, 128] inb).toLoadRect I.f5)
    (R : Fin 2048) (d : Fin 128) : k0_pay175 v (ix2 R d) = (datI i I).qq R.val d.val := by
  have hv : ∀ (p : Fin 1024) (d : Fin 128), v (ix3 0 p d) = gQ A I p.val d.val := by
    intro p d
    subst h
    unfold gQ
    rw [dif_pos ⟨p.isLt, d.isLt⟩, View.readAt_apply]
    congr 1
    funext a
    apply Fin.ext
    match a with
    | ⟨0, _⟩ => rfl
    | ⟨1, _⟩ => show 0 + 1 * p.val = p.val; omega
    | ⟨2, _⟩ => show 0 + 1 * d.val = d.val; omega
  have h1 : Scalar.select (IntOp.cmpi .slt (BitVec.ofNat 32 d.val) 64#32) = fun (a b : EReal) => if d.val < 64 then a else b := by
    have h : IntOp.cmpi .slt (BitVec.ofNat 32 d.val) 64#32 = if d.val < 64 then 1#1 else 0#1 := by
      revert d; decide +kernel
    rw [h]
    funext a b
    split_ifs <;> rfl
  have h2 : Scalar.select (IntOp.cmpi .sge (BitVec.ofNat 32 d.val) 64#32) = fun (a b : EReal) => if 64 ≤ d.val then a else b := by
    have h : IntOp.cmpi .sge (BitVec.ofNat 32 d.val) 64#32 = if 64 ≤ d.val then 1#1 else 0#1 := by
      clear h1
      revert d; decide +kernel
    rw [h]
    funext a b
    split_ifs <;> rfl
  unfold datI
  pointwise [k0_pay175]
  by_cases hR : R.val < 1024
  · simp only [hR, dite_true, if_true]
    simp only [hv, h1, ofBits_zero_b]
  · simp only [hR, dite_false, if_false]
    simp only [hv, h2, ofBits_zero_b]

theorem k_of {i n : ℕ} {off : Fin 3 → ℕ} {v : Vec Ideal S1x1024x128 .bf16} {inb : ∀ a, off a + (![1, 1024, 128] : Fin 3 → ℕ) a ≤ S1x16384x128.size a}
    (h : v = View.readAt (Elt Ideal) A.arg6.view (Rect.unit (s := S1x16384x128) off ![1, 1024, 128] inb).toLoadRect I.f6)
    (ho : off = ![0, n, 0]) (q : Fin 1024) (d : Fin 128) : k0_pay178 v (ix2 q d) = (datI i I).K (n + q.val) d.val := by
  subst ho
  have h1 : n + 1024 ≤ 16384 := inb 1
  have hq := q.isLt
  have hv : v (ix3 0 q d) = gK A I (n + q.val) d.val := by
    subst h
    unfold gK
    rw [dif_pos ⟨by omega, d.isLt⟩, View.readAt_apply]
    congr 1
    funext a
    apply Fin.ext
    match a with
    | ⟨0, _⟩ => rfl
    | ⟨1, _⟩ => show n + 1 * q.val = n + q.val; omega
    | ⟨2, _⟩ => show 0 + 1 * d.val = d.val; omega
  show _ = gK A I (n + q.val) d.val
  rw [← hv]
  pointwise [k0_pay178]

theorem va_of {i n : ℕ} {off : Fin 3 → ℕ} {v : Vec Ideal S1x1024x128 .bf16} {inb : ∀ a, off a + (![1, 1024, 128] : Fin 3 → ℕ) a ≤ S1x16384x128.size a}
    (h : v = View.readAt (Elt Ideal) A.arg7.view (Rect.unit (s := S1x16384x128) off ![1, 1024, 128] inb).toLoadRect I.f7)
    (ho : off = ![0, n, 0]) (q : Fin 1024) (x : Fin 256) : k0_pay3 v (ix2 q x) = (datI i I).va (n + q.val) x.val := by
  subst ho
  have h1 : n + 1024 ≤ 16384 := inb 1
  have hq := q.isLt
  have hv : ∀ d : Fin 128, v (ix3 0 q d) = gV A I (n + q.val) d.val := by
    intro d
    subst h
    unfold gV
    rw [dif_pos ⟨by omega, d.isLt⟩, View.readAt_apply]
    congr 1
    funext a
    apply Fin.ext
    match a with
    | ⟨0, _⟩ => rfl
    | ⟨1, _⟩ => show n + 1 * q.val = n + q.val; omega
    | ⟨2, _⟩ => show 0 + 1 * d.val = d.val; omega
  unfold datI Dat.va
  pointwise [k0_pay3]
  by_cases hx : x.val < 128
  · simp only [hx, dite_true, if_true]
    exact hv _
  · simp only [hx, dite_false, if_false]
    have h : IntOp.cmpi .eq (BitVec.ofNat 32 (x.val - 128)) 0#32 = if x.val = 128 then 1#1 else 0#1 := by
      have : ∀ x : Fin 256, ¬ x.val < 128 → IntOp.cmpi .eq (BitVec.ofNat 32 (x.val - 128)) 0#32 = if x.val = 128 then 1#1 else 0#1 := by decide +kernel
      exact this x hx
    rw [h]
    split_ifs <;> rfl

theorem bd_of {i : ℕ} {v : Vec Ideal S1x256x256 .f32} {inb : ∀ a, ![0, 0, 0] a + (![1, 256, 256] : Fin 3 → ℕ) a ≤ S1x256x256.size a}
    (h : v = View.readAt (Elt Ideal) A.arg8.view (Rect.unit (s := S1x256x256) ![0, 0, 0] ![1, 256, 256] inb).toLoadRect I.f8)
    (p q : Fin 256) : v (ix3 0 p q) = (datI i I).bd p.val q.val := by
  subst h
  show _ = gD A I p.val q.val
  unfold gD
  rw [dif_pos ⟨p.isLt, q.isLt⟩, View.readAt_apply]
  congr 1
  funext a
  apply Fin.ext
  match a with
  | ⟨0, _⟩ => rfl
  | ⟨1, _⟩ => show 0 + 1 * p.val = p.val; omega
  | ⟨2, _⟩ => show 0 + 1 * q.val = q.val; omega

theorem bp_of {i : ℕ} {v : Vec Ideal S1x256x256 .f32} {inb : ∀ a, ![0, 0, 0] a + (![1, 256, 256] : Fin 3 → ℕ) a ≤ S1x256x256.size a}
    (h : v = View.readAt (Elt Ideal) A.arg9.view (Rect.unit (s := S1x256x256) ![0, 0, 0] ![1, 256, 256] inb).toLoadRect I.f9)
    (p q : Fin 256) : v (ix3 0 p q) = (datI i I).bp p.val q.val := by
  subst h
  show _ = gP A I p.val q.val
  unfold gP
  rw [dif_pos ⟨p.isLt, q.isLt⟩, View.readAt_apply]
  congr 1
  funext a
  apply Fin.ext
  match a with
  | ⟨0, _⟩ => rfl
  | ⟨1, _⟩ => show 0 + 1 * p.val = p.val; omega
  | ⟨2, _⟩ => show 0 + 1 * q.val = q.val; omega

theorem off1_eq (i : grid0.Coords) : k0_off1 i = ![0, 1024 * (i 2).val, 0] := by
  have h : ∀ x : Fin 16, k0_off1 (fun a => match a with | ⟨0, _⟩ => (0 : Fin 2) | ⟨1, _⟩ => (0 : Fin 4) | ⟨2, _⟩ => x) = ![0, 1024 * x.val, 0] := by decide +kernel
  exact h (i 2)
theorem off2_eq (i : grid0.Coords) : k0_off2 i = ![0, 1024 * ((i 2).val - 1), 0] := by
  have h : ∀ x : Fin 16, k0_off2 (fun a => match a with | ⟨0, _⟩ => (0 : Fin 2) | ⟨1, _⟩ => (0 : Fin 4) | ⟨2, _⟩ => x) = ![0, 1024 * (x.val - 1), 0] := by decide +kernel
  exact h (i 2)

theorem cond1_iff (i : grid0.Coords) : k0_cond1 i = 1#1 ↔ 1 ≤ (i 2).val := by
  have h : ∀ x : Fin 16, k0_cond1 (fun a => match a with | ⟨0, _⟩ => (0 : Fin 2) | ⟨1, _⟩ => (0 : Fin 4) | ⟨2, _⟩ => x) = 1#1 ↔ 1 ≤ x.val := by decide +kernel
  exact h (i 2)
theorem off3_eq (i : grid0.Coords) (h1 : 1 ≤ (i 2).val) : k0_off3 i = ![0, 1024 * ((i 2).val - 1), 0] := by
  have h : ∀ x : Fin 16, 1 ≤ x.val → k0_off3 (fun a => match a with | ⟨0, _⟩ => (0 : Fin 2) | ⟨1, _⟩ => (0 : Fin 4) | ⟨2, _⟩ => x) = ![0, 1024 * (x.val - 1), 0] := by decide +kernel
  exact h (i 2) h1
/-- How many pairs of far tiles the loop takes. -/
theorem trips1_eq (i : grid0.Coords) : (k0_t1_loop i).trips = ((i 2).val - 2) / 2 := by
  have h : ∀ x : Fin 16, (k0_t1_loop (fun a => match a with | ⟨0, _⟩ => (0 : Fin 2) | ⟨1, _⟩ => (0 : Fin 4) | ⟨2, _⟩ => x)).trips = (x.val - 2) / 2 := by decide +kernel
  exact h (i 2)
theorem trips2_eq (i : grid0.Coords) : (k0_t2_loop i).trips = 0 := by
  have h : ∀ x : Fin 16, (k0_t2_loop (fun a => match a with | ⟨0, _⟩ => (0 : Fin 2) | ⟨1, _⟩ => (0 : Fin 4) | ⟨2, _⟩ => x)).trips = 0 := by decide +kernel
  exact h (i 2)
theorem off4_eq (i : grid0.Coords) (k : Fin (k0_t1_loop i).trips) :
    k0_off4 i k 1#32 = ![0, 1024 * (2 * k.val + 1), 0] ∧ k0_off4 i k 2#32 = ![0, 1024 * (2 * k.val + 2), 0] ∧ k0_off5 i k = ![0, 1024 * (2 * k.val), 0] := by
  have h : ∀ x : Fin 16, ∀ k : Fin (k0_t1_loop (fun a => match a with | ⟨0, _⟩ => (0 : Fin 2) | ⟨1, _⟩ => (0 : Fin 4) | ⟨2, _⟩ => x)).trips,
      k0_off4 (fun a => match a with | ⟨0, _⟩ => (0 : Fin 2) | ⟨1, _⟩ => (0 : Fin 4) | ⟨2, _⟩ => x) k 1#32 = ![0, 1024 * (2 * k.val + 1), 0]
      ∧ k0_off4 (fun a => match a with | ⟨0, _⟩ => (0 : Fin 2) | ⟨1, _⟩ => (0 : Fin 4) | ⟨2, _⟩ => x) k 2#32 = ![0, 1024 * (2 * k.val + 2), 0]
      ∧ k0_off5 (fun a => match a with | ⟨0, _⟩ => (0 : Fin 2) | ⟨1, _⟩ => (0 : Fin 4) | ⟨2, _⟩ => x) k = ![0, 1024 * (2 * k.val), 0] := by decide +kernel
  exact h (i 2) k
/-- Two far tiles are left after the loop. -/
theorem cond2_iff (i : grid0.Coords) : k0_cond2 i = 1#1 ↔ (i 2).val - 1 - 2 * (((i 2).val - 2) / 2) = 2 := by
  have h : ∀ x : Fin 16, k0_cond2 (fun a => match a with | ⟨0, _⟩ => (0 : Fin 2) | ⟨1, _⟩ => (0 : Fin 4) | ⟨2, _⟩ => x) = 1#1 ↔ x.val - 1 - 2 * ((x.val - 2) / 2) = 2 := by decide +kernel
  exact h (i 2)
/-- One far tile is left after the loop. -/
theorem cond3_iff (i : grid0.Coords) : k0_cond3 i = 1#1 ↔ (i 2).val - 1 - 2 * (((i 2).val - 2) / 2) = 1 := by
  have h : ∀ x : Fin 16, k0_cond3 (fun a => match a with | ⟨0, _⟩ => (0 : Fin 2) | ⟨1, _⟩ => (0 : Fin 4) | ⟨2, _⟩ => x) = 1#1 ↔ x.val - 1 - 2 * ((x.val - 2) / 2) = 1 := by decide +kernel
  exact h (i 2)
theorem off8_eq (i : grid0.Coords) (h1 : (i 2).val - 1 - 2 * (((i 2).val - 2) / 2) = 2) :
    k0_off8 i = ![0, 1024 * (2 * (((i 2).val - 2) / 2) + 1), 0] ∧ k0_off9 i = ![0, 1024 * (2 * (((i 2).val - 2) / 2)), 0] := by
  have h : ∀ x : Fin 16, x.val - 1 - 2 * ((x.val - 2) / 2) = 2 → k0_off8 (fun a => match a with | ⟨0, _⟩ => (0 : Fin 2) | ⟨1, _⟩ => (0 : Fin 4) | ⟨2, _⟩ => x) = ![0, 1024 * (2 * ((x.val - 2) / 2) + 1), 0]
      ∧ k0_off9 (fun a => match a with | ⟨0, _⟩ => (0 : Fin 2) | ⟨1, _⟩ => (0 : Fin 4) | ⟨2, _⟩ => x) = ![0, 1024 * (2 * ((x.val - 2) / 2)), 0] := by decide +kernel
  exact h (i 2) h1
theorem off10_eq (i : grid0.Coords) (h1 : (i 2).val - 1 - 2 * (((i 2).val - 2) / 2) = 1) :
    k0_off10 i = ![0, 1024 * (2 * (((i 2).val - 2) / 2)), 0] := by
  have h : ∀ x : Fin 16, x.val - 1 - 2 * ((x.val - 2) / 2) = 1 → k0_off10 (fun a => match a with | ⟨0, _⟩ => (0 : Fin 2) | ⟨1, _⟩ => (0 : Fin 4) | ⟨2, _⟩ => x) = ![0, 1024 * (2 * ((x.val - 2) / 2)), 0] := by decide +kernel
  exact h (i 2) h1

end Cert.Proof.AttnIdeal

end
-- ==== Proof.AttnTile.lean ====
/- The attention kernel's tiles in numbers: which keys each row has taken in, how the state passes from one tile to the
   next, and that the logits a chunk reads are the reference's. -/
module

public import proofs.«01_k».proof.Proof.AttnDat

@[expose] public section

set_option maxRecDepth 16384
set_option maxHeartbeats 1000000

noncomputable section

namespace Cert.Proof.AttnIdeal

open Idealize.ShloMosaic Idealize.ShloMosaic.Pointwise Cert.AttnIdeal Cert.AttnIdeal.Gen Cert.Proof.Flash
open scoped BigOperators

variable {c : Dev nD} {A : Args}

/-- From one tile to the next: the buffers change places. -/
theorem switch {D : Dat} {cur nxt : Fin 2} {S S' : ℕ → Finset ℕ} {bc : ℕ} {nkc : ℕ → ℕ} {bn : ℕ} {nkn : ℕ → ℕ} {r0 rn : ℕ}
    {W : ℕ → ℕ → EReal} {σ : St1 Ideal c A} (T : TI D cur nxt S bc nkc bn nkn r0 rn W σ) (h0 : 2048 ≤ r0) (hn : 2048 ≤ rn)
    (hS : ∀ R, S R ∪ Finset.Ico bc (bc + nkc R) = S' R) (bn' : ℕ) (nkn' : ℕ → ℕ) :
    TI D nxt cur S' bn nkn bn' nkn' 0 0 (D.raw bn) σ := by
  refine ⟨fun R hR => ?_, fun R _ hR q hq => ?_, fun R h => absurd h (Nat.not_lt_zero _)⟩
  · have := T.fl R hR
    rw [if_pos (by omega)] at this
    rw [if_neg (Nat.not_lt_zero _), ← hS]
    exact this
  · exact T.nx R (by omega) q hq

/-- Every row's maximum and accumulators after a tile. -/
theorem done {D : Dat} {cur nxt : Fin 2} {S S' : ℕ → Finset ℕ} {bc : ℕ} {nkc : ℕ → ℕ} {bn : ℕ} {nkn : ℕ → ℕ} {r0 rn : ℕ}
    {W : ℕ → ℕ → EReal} {σ : St1 Ideal c A} (T : TI D cur nxt S bc nkc bn nkn r0 rn W σ) (h0 : 2048 ≤ r0)
    (hS : ∀ R, S R ∪ Finset.Ico bc (bc + nkc R) = S' R) : ∀ R < 2048, Fl D σ R (S' R) := by
  intro R hR
  have := T.fl R hR
  rw [if_pos (by omega)] at this
  rw [← hS]
  exact this

/-- Before anything is taken in. -/
theorem start {D : Dat} {bn : ℕ} {nkn : ℕ → ℕ} {σ0 σ1 σ2 : St1 Ideal c A}
    {inbm : ∀ a, ![0, 0] a + (![2048, 1] : Fin 2 → ℕ) a ≤ S2048x1.size a} {inba : ∀ a, ![0, 0] a + (![2048, 256] : Fin 2 → ℕ) a ≤ S2048x256.size a}
    {wm : Vec Ideal S2048x1 .f32} {wa : Vec Ideal S2048x256 .f32}
    (h1 : σ1 = { σ0 with m := (mM.access (Rect.unit (s := S2048x1) ![0, 0] ![2048, 1] inbm)).write (Elt Ideal) σ0.m wm Finset.univ })
    (h2 : σ2 = { σ1 with a := (aM.access (Rect.unit (s := S2048x256) ![0, 0] ![2048, 256] inba)).write (Elt Ideal) σ1.a wa Finset.univ })
    (hm : wm = k0_pay176 (F := Ideal)) (ha : wa = k0_pay177 (F := Ideal)) :
    TI D 1 0 (fun _ => ∅) 0 (fun _ => 0) bn nkn 2048 0 (D.raw 0) σ2 := by
  have em : σ2.m = σ1.m := by subst h2; rfl
  have ea : σ2.a = (aM.access (Rect.unit (s := S2048x256) ![0, 0] ![2048, 256] inba)).write (Elt Ideal) σ1.a wa Finset.univ := by subst h2; rfl
  have em' : σ1.m = (mM.access (Rect.unit (s := S2048x1) ![0, 0] ![2048, 1] inbm)).write (Elt Ideal) σ0.m wm Finset.univ := by subst h1; rfl
  refine ⟨fun R hR => ?_, fun R _ _ q hq => absurd hq (Nat.not_lt_zero _), fun R h => absurd h (Nat.not_lt_zero _)⟩
  rw [if_pos hR]
  have hS : (∅ : Finset ℕ) ∪ Finset.Ico 0 (0 + 0) = ∅ := by simp
  rw [hS]
  refine ⟨?_, fun q hq => ?_⟩
  · rw [em, em']
    refine (wrM (f := σ0.m) (w := wm) (inb := inbm) R).trans ?_
    rw [dif_pos ⟨Nat.zero_le _, by omega⟩, hm, Finset.sup_empty]
    pointwise [k0_pay176]
    rfl
  · rw [ea]
    refine (wrA (f := σ1.a) (w := wa) (inb := inba) R q hq).trans ?_
    rw [dif_pos ⟨Nat.zero_le _, by omega⟩, ha]
    unfold acc
    rw [Finset.sum_empty]
    pointwise [k0_pay177]

theorem upd_out {W : ℕ → ℕ → EReal} {r0 c0 : ℕ} {b : ℕ → ℕ → EReal} {R q : ℕ} (h : r0 + 256 ≤ R) : upd W r0 c0 b R q = W R q := by
  unfold upd
  rw [if_neg (by omega)]

/-- In the tile of the rows' own keys, first chunk of a half. -/
theorem hWd0 {D : Dat} (rp : ℕ) (h2 : rp % 1024 = 0) (R q : ℕ) (h3 : rp ≤ R) (h4 : R < rp + 256) (h5 : q < 256) :
    upd (D.raw (1024 * D.i)) rp 0 D.bd R q = D.sc R (1024 * D.i + q) := by
  unfold upd Dat.raw Dat.sc
  rw [if_pos (by omega), if_pos (by omega)]
  have e1 : R - rp = R % 256 := by omega
  have e2 : q - 0 = (1024 * D.i + q) % 256 := by omega
  rw [e1, e2]

/-- In the tile of the rows' own keys, the other chunks. -/
theorem hWd {D : Dat} (rp rel rq : ℕ) (h1 : rel = rp % 1024) (h2 : rp % 256 = 0) (h0 : 256 ≤ rel) (hq : rq = rel - 256) (R q : ℕ) (h3 : rp ≤ R) (h4 : R < rp + 256) (h5 : q < rel + 256) :
    upd (upd (D.raw (1024 * D.i)) rp rel D.bd) rp rq D.bp R q = D.sc R (1024 * D.i + q) := by
  unfold upd Dat.raw Dat.sc
  have e1 : R - rp = R % 256 := by omega
  by_cases ha : rel ≤ q
  · have e2 : q - rel = (1024 * D.i + q) % 256 := by omega
    rw [if_neg (by omega), if_pos (by omega), if_pos (by omega), e1, e2]
  · by_cases hb : rel ≤ q + 256
    · have e2 : q - rq = (1024 * D.i + q) % 256 := by omega
      rw [if_pos (by omega), if_neg (by omega), if_neg (by omega), if_pos (by omega), e1, e2]
    · rw [if_neg (by omega), if_neg (by omega), if_neg (by omega), if_neg (by omega)]

/-- In the tile before, first chunk of a half. -/
theorem hWp0 {D : Dat} (hi : 1 ≤ D.i) (rp : ℕ) (h2 : rp % 1024 = 0) (R q : ℕ) (h3 : rp ≤ R) (h4 : R < rp + 256) (h5 : q < 1024) :
    upd (D.raw (1024 * (D.i - 1))) rp 768 D.bp R q = D.sc R (1024 * (D.i - 1) + q) := by
  unfold upd Dat.raw Dat.sc
  have e1 : R - rp = R % 256 := by omega
  by_cases ha : 768 ≤ q
  · have e2 : q - 768 = (1024 * (D.i - 1) + q) % 256 := by omega
    rw [if_pos (by omega), if_neg (by omega), if_pos (by omega), e1, e2]
  · rw [if_neg (by omega), if_neg (by omega), if_neg (by omega)]

/-- In the tile before, the other chunks. -/
theorem hWp {D : Dat} (hi : 1 ≤ D.i) (R q : ℕ) (h2 : 256 ≤ R % 1024) (h5 : q < 1024) :
    D.raw (1024 * (D.i - 1)) R q = D.sc R (1024 * (D.i - 1) + q) := by
  unfold Dat.raw Dat.sc
  rw [if_neg (by omega), if_neg (by omega)]

/-- In a far tile no bias is added. -/
theorem hWf {D : Dat} {bc : ℕ} (hi : bc + 1024 ≤ 1024 * (D.i - 1)) (R q : ℕ) (h5 : q < 1024) :
    D.raw bc R q = D.sc R (bc + q) := by
  unfold Dat.raw Dat.sc
  rw [if_neg (by omega), if_neg (by omega)]

/-- The keys taken in after the two near tiles and `n` far ones. -/
def SF (i n R : ℕ) : Finset ℕ := Finset.Ico (1024 * (i - 1)) (1024 * i + nkD R) ∪ Finset.Ico 0 (1024 * n)

theorem SF_succ {i n m : ℕ} (R : ℕ) (hm : m = n + 1) : SF i n R ∪ Finset.Ico (1024 * n) (1024 * n + 1024) = SF i m R := by
  subst hm
  unfold SF
  ext j
  simp only [Finset.mem_union, Finset.mem_Ico]
  omega

theorem SF_disj {i n : ℕ} (h : n + 1 ≤ i - 1) (R : ℕ) : Disjoint (SF i n R) (Finset.Ico (1024 * n) (1024 * n + 1024)) := by
  unfold SF
  rw [Finset.disjoint_left]
  intro j
  simp only [Finset.mem_union, Finset.mem_Ico]
  omega

theorem SF_all {i n : ℕ} (h : n = i - 1) (R : ℕ) : SF i n R = Finset.Ico 0 (1024 * i + nkD R) := by
  subst h
  unfold SF
  ext j
  simp only [Finset.mem_union, Finset.mem_Ico]
  have : 0 < nkD R := by unfold nkD; omega
  omega

theorem SF_near {i : ℕ} (h : 1 ≤ i) (R : ℕ) :
    Finset.Ico (1024 * i) (1024 * i + nkD R) ∪ Finset.Ico (1024 * (i - 1)) (1024 * (i - 1) + 1024) = SF i 0 R := by
  unfold SF
  ext j
  simp only [Finset.mem_union, Finset.mem_Ico]
  omega

theorem SF_zero {i : ℕ} (h : i = 0) (R : ℕ) : (∅ : Finset ℕ) ∪ Finset.Ico (1024 * i) (1024 * i + nkD R) = SF i 0 R := by
  subst h
  unfold SF
  ext j
  simp

theorem near_disj {i : ℕ} (h : 1 ≤ i) (R : ℕ) :
    Disjoint (Finset.Ico (1024 * i) (1024 * i + nkD R)) (Finset.Ico (1024 * (i - 1)) (1024 * (i - 1) + 1024)) := by
  rw [Finset.disjoint_left]
  intro j
  simp only [Finset.mem_Ico]
  omega

/-- Before far tile `n`, whose products lie in buffer `b`. -/
abbrev FarTI (D : Dat) (b b' : Fin 2) (n : ℕ) (σ : St1 Ideal c A) : Prop :=
  TI D b b' (SF D.i n) (1024 * n) (fun _ => 1024) (1024 * (n + 1)) (fun _ => 1024) 0 0 (D.raw (1024 * n)) σ

/-- The products of a chunk of 256 rows with the first 256 keys of a tile, before they are stored. -/
def dotD256 (r0 : ℕ) (h : S2048x128.Slices ![r0, 0] S256x128) (a : FVec Ideal S2048x128 .bf16) (b : FVec Ideal S1024x128 .bf16) : FVec Ideal S256x256 .f32 :=
  shapeCast S256x256 (matmul dot_S256x128_S256x128_S256x256_1_1_0_0_n_n none (extractStridedSlice S256x128 ![r0, 0] a h)
    (extractStridedSlice S256x128 ![0, 0] b slices_S1024x128_o0_0_S256x128) (constant S256x256 .f32 0x00000000#32)) shapeCasts_S256x256_S256x256

theorem dotD256_apply {D : Dat} {bn : ℕ} (r0 : ℕ) (h : S2048x128.Slices ![r0, 0] S256x128) {a : FVec Ideal S2048x128 .bf16} {b : FVec Ideal S1024x128 .bf16}
    (ha : ∀ (R : Fin 2048) (d : Fin 128), a (ix2 R d) = D.qq R.val d.val) (hb : ∀ (q : Fin 1024) (d : Fin 128), b (ix2 q d) = D.K (bn + q.val) d.val)
    {w : (⟨2, ![256, 256]⟩ : Shape).Idx → EReal} (hw : w = dotD256 r0 h a b)
    (p : Fin 256) (q : Fin 256) : w (ix2 p q) = D.dot (r0 + p.val) (bn + q.val) := by
  subst hw
  unfold Dat.dot
  pointwise [dotD256]
  simp only [ha, hb]

/-- The products of a chunk of 256 rows with the first 512 keys of a tile, before they are stored. -/
def dotD512 (r0 : ℕ) (h : S2048x128.Slices ![r0, 0] S256x128) (a : FVec Ideal S2048x128 .bf16) (b : FVec Ideal S1024x128 .bf16) : FVec Ideal S256x512 .f32 :=
  shapeCast S256x512 (matmul dot_S256x128_S512x128_S256x512_1_1_0_0_n_n none (extractStridedSlice S256x128 ![r0, 0] a h)
    (extractStridedSlice S512x128 ![0, 0] b slices_S1024x128_o0_0_S512x128) (constant S256x512 .f32 0x00000000#32)) shapeCasts_S256x512_S256x512

theorem dotD512_apply {D : Dat} {bn : ℕ} (r0 : ℕ) (h : S2048x128.Slices ![r0, 0] S256x128) {a : FVec Ideal S2048x128 .bf16} {b : FVec Ideal S1024x128 .bf16}
    (ha : ∀ (R : Fin 2048) (d : Fin 128), a (ix2 R d) = D.qq R.val d.val) (hb : ∀ (q : Fin 1024) (d : Fin 128), b (ix2 q d) = D.K (bn + q.val) d.val)
    {w : (⟨2, ![256, 512]⟩ : Shape).Idx → EReal} (hw : w = dotD512 r0 h a b)
    (p : Fin 256) (q : Fin 512) : w (ix2 p q) = D.dot (r0 + p.val) (bn + q.val) := by
  subst hw
  unfold Dat.dot
  pointwise [dotD512]
  simp only [ha, hb]

/-- The products of a chunk of 256 rows with the first 768 keys of a tile, before they are stored. -/
def dotD768 (r0 : ℕ) (h : S2048x128.Slices ![r0, 0] S256x128) (a : FVec Ideal S2048x128 .bf16) (b : FVec Ideal S1024x128 .bf16) : FVec Ideal S256x768 .f32 :=
  shapeCast S256x768 (matmul dot_S256x128_S768x128_S256x768_1_1_0_0_n_n none (extractStridedSlice S256x128 ![r0, 0] a h)
    (extractStridedSlice S768x128 ![0, 0] b slices_S1024x128_o0_0_S768x128) (constant S256x768 .f32 0x00000000#32)) shapeCasts_S256x768_S256x768

theorem dotD768_apply {D : Dat} {bn : ℕ} (r0 : ℕ) (h : S2048x128.Slices ![r0, 0] S256x128) {a : FVec Ideal S2048x128 .bf16} {b : FVec Ideal S1024x128 .bf16}
    (ha : ∀ (R : Fin 2048) (d : Fin 128), a (ix2 R d) = D.qq R.val d.val) (hb : ∀ (q : Fin 1024) (d : Fin 128), b (ix2 q d) = D.K (bn + q.val) d.val)
    {w : (⟨2, ![256, 768]⟩ : Shape).Idx → EReal} (hw : w = dotD768 r0 h a b)
    (p : Fin 256) (q : Fin 768) : w (ix2 p q) = D.dot (r0 + p.val) (bn + q.val) := by
  subst hw
  unfold Dat.dot
  pointwise [dotD768]
  simp only [ha, hb]

end Cert.Proof.AttnIdeal

end
-- ==== Proof.AttnOut.lean ====
/- The block a grid point of the attention kernel leaves in the output, from the blocks it reads. -/
module

public import proofs.«01_k».proof.Proof.AttnTile

@[expose] public section

set_option maxRecDepth 16384
set_option maxHeartbeats 1000000

noncomputable section

namespace Cert.Proof.AttnIdeal

open Idealize.ShloMosaic Idealize.ShloMosaic.TcCoe Idealize.ShloMosaic.Pointwise Cert.AttnIdeal Cert.AttnIdeal.Gen Cert.Proof.Flash
open scoped BigOperators

variable {c : Dev nD} {A : Args} {I : Ins Ideal c A}

/-- The numbers of a grid point, from the blocks it reads: queries, keys, values and the two bias tiles. -/
def datR (i : ℕ) (r5 : S1x1024x128.Idx → EReal) (r6 r7 : S1x16384x128.Idx → EReal) (r8 r9 : S1x256x256.Idx → EReal) : Dat where
  i := i
  qq R d := if R < 1024 then (if d < 64 then (if h : R < 1024 ∧ d < 128 then r5 (ix3 0 ⟨R, h.1⟩ ⟨d, h.2⟩) else 0) else 0)
    else (if 64 ≤ d then (if h : R - 1024 < 1024 ∧ d < 128 then r5 (ix3 0 ⟨R - 1024, h.1⟩ ⟨d, h.2⟩) else 0) else 0)
  K j d := if h : j < 16384 ∧ d < 128 then r6 (ix3 0 ⟨j, h.1⟩ ⟨d, h.2⟩) else 0
  V j d := if h : j < 16384 ∧ d < 128 then r7 (ix3 0 ⟨j, h.1⟩ ⟨d, h.2⟩) else 0
  bd p q := if h : p < 256 ∧ q < 256 then r8 (ix3 0 ⟨p, h.1⟩ ⟨q, h.2⟩) else 0
  bp p q := if h : p < 256 ∧ q < 256 then r9 (ix3 0 ⟨p, h.1⟩ ⟨q, h.2⟩) else 0

theorem datI_eq (i : ℕ) : datI i I = datR i (A.arg5.view.read (Elt Ideal) I.f5) (A.arg6.view.read (Elt Ideal) I.f6)
    (A.arg7.view.read (Elt Ideal) I.f7) (A.arg8.view.read (Elt Ideal) I.f8) (A.arg9.view.read (Elt Ideal) I.f9) := rfl

/-- The accumulators after all tiles: every key a row is computed with, weighed by its distance to the row's maximum. -/
def accV (D : Dat) : Vec Ideal S2048x256 .f32 := fun x =>
  acc (D.sc (x 0).val) (fun j => D.va j (x 1).val) (Finset.Ico 0 (1024 * D.i + nkD (x 0).val))

/-- A row of the four vectors lambda is computed from. -/
def lamRow (r3 : S4x64.Idx → EReal) (k : Fin 4) : Vec Ideal S1x64 .f32 := fun x => r3 (ix2 k (x 1))

/-- The block left in the output. -/
def outB (D : Dat) (r3 : S4x64.Idx → EReal) (r4 : S1x128.Idx → EReal) : Vec Ideal S1x1024x128 .bf16 :=
  k0_pay1 (k0_pay250 (k0_pay249 (accV D)) (lamRow r3 0) (lamRow r3 1) (lamRow r3 2) (lamRow r3 3))
    (k0_pay251 (k0_pay249 (accV D)) (lamRow r3 0) (lamRow r3 1) (lamRow r3 2) (lamRow r3 3)) r4

theorem lam_of {k : Fin 4} {v : Vec Ideal S1x64 .f32} {inb : ∀ a, ![k.val, 0] a + (![1, 64] : Fin 2 → ℕ) a ≤ S4x64.size a}
    (h : v = View.readAt (Elt Ideal) A.arg3.view (Rect.unit (s := S4x64) ![k.val, 0] ![1, 64] inb).toLoadRect I.f3) :
    v = lamRow (A.arg3.view.read (Elt Ideal) I.f3) k := by
  subst h
  funext x
  rw [View.readAt_apply]
  unfold lamRow
  congr 1
  funext a
  apply Fin.ext
  match a with
  | ⟨0, _⟩ =>
    have : (x 0).val < 1 := (x 0).isLt
    show k.val + 1 * (x 0).val = k.val
    omega
  | ⟨1, _⟩ => show 0 + 1 * (x 1).val = (x 1).val; omega

theorem g_of {v : Vec Ideal S1x128 .f32} {inb : ∀ a, ![0, 0] a + (![1, 128] : Fin 2 → ℕ) a ≤ S1x128.size a}
    (h : v = View.readAt (Elt Ideal) A.arg4.view (Rect.unit (s := S1x128) ![0, 0] ![1, 128] inb).toLoadRect I.f4) :
    v = A.arg4.view.read (Elt Ideal) I.f4 := by
  subst h
  funext x
  rw [View.readAt_apply]
  congr 1
  funext a
  apply Fin.ext
  match a with
  | ⟨0, _⟩ => show 0 + 1 * (x 0).val = (x 0).val; omega
  | ⟨1, _⟩ => show 0 + 1 * (x 1).val = (x 1).val; omega

theorem acc_of {D : Dat} {σ : St1 Ideal c A} {v : Vec Ideal S2048x256 .f32} {inb : ∀ a, ![0, 0] a + (![2048, 256] : Fin 2 → ℕ) a ≤ S2048x256.size a}
    (h : v = View.readAt (Elt Ideal) aM.view (Rect.unit (s := S2048x256) ![0, 0] ![2048, 256] inb).toLoadRect σ.a)
    (hf : ∀ R < 2048, Fl D σ R (Finset.Ico 0 (1024 * D.i + nkD R))) : v = accV D := by
  funext x
  have h0 : (x 0).val < 2048 := (x 0).isLt
  have h1 : (x 1).val < 256 := (x 1).isLt
  have hx : x = ix2 (⟨(x 0).val, h0⟩ : Fin 2048) (⟨(x 1).val, h1⟩ : Fin 256) := by
    funext a
    match a with
    | ⟨0, _⟩ => rfl
    | ⟨1, _⟩ => rfl
  rw [hx, h]
  refine (rdA (f := σ.a) (inb := inb) _ _).trans ?_
  show gA σ.a (0 + (x 0).val) (x 1).val = _
  rw [Nat.zero_add]
  exact (hf _ h0).2 _ h1

theorem read_whole {inb : ∀ a, ![0, 0, 0] a + (![1, 1024, 128] : Fin 3 → ℕ) a ≤ S1x1024x128.size a} (f : Buf (Elt Ideal) (A.arg10.view.loc (c : Thread nD τ))) :
    A.arg10.view.read (Elt Ideal) f = (A.arg10.access (Rect.unit (s := S1x1024x128) ![0, 0, 0] ![1, 1024, 128] inb)).read (Elt Ideal) f := by
  funext x
  have hr : (Rect.unit (s := S1x1024x128) ![0, 0, 0] ![1, 1024, 128] inb).emb x = x := by
    funext a
    apply Fin.ext
    match a with
    | ⟨0, _⟩ => show 0 + 1 * (x 0).val = (x 0).val; omega
    | ⟨1, _⟩ => show 0 + 1 * (x 1).val = (x 1).val; omega
    | ⟨2, _⟩ => show 0 + 1 * (x 2).val = (x 2).val; omega
  exact congrArg (A.arg10.view.read (Elt Ideal) f) hr.symm

/-- Storing the whole output block leaves it. -/
theorem out_of {σ σ' : St1 Ideal c A} {w : Vec Ideal S1x1024x128 .bf16} {inb : ∀ a, ![0, 0, 0] a + (![1, 1024, 128] : Fin 3 → ℕ) a ≤ S1x1024x128.size a}
    (h : σ' = { σ with o := (A.arg10.access (Rect.unit (s := S1x1024x128) ![0, 0, 0] ![1, 1024, 128] inb)).write (Elt Ideal) σ.o w Finset.univ }) :
    A.arg10.view.read (Elt Ideal) σ'.o = w := by
  rw [read_whole (inb := inb), h]
  exact View.read_write_univ (v := A.arg10.access (Rect.unit (s := S1x1024x128) ![0, 0, 0] ![1, 1024, 128] inb)) (Val := Elt Ideal) σ.o w

end Cert.Proof.AttnIdeal

end
-- ==== Proof.AttnBlock.lean ====
/- The attention kernel's output block at one element. -/
module

public import proofs.«01_k».proof.Proof.AttnOut

@[expose] public section

set_option maxRecDepth 16384

noncomputable section

namespace Cert.Proof.AttnIdeal

open Idealize.ShloMosaic Idealize.ShloMosaic.TcCoe Idealize.ShloMosaic.Pointwise Cert.AttnIdeal Cert.AttnIdeal.Gen Cert.Proof.Flash
open scoped BigOperators

/-- The factor of the second map, from the four vectors. -/
def lamK (r3 : S4x64.Idx → EReal) : EReal :=
  Ideal.exp (∑ x : Fin 64, r3 (ix2 0 x) * r3 (ix2 1 x)) - Ideal.exp (∑ x : Fin 64, r3 (ix2 2 x) * r3 (ix2 3 x))
    + Ideal.ofBits .f32 1045220557#32

/-- The two maps' rows divided by their sums of weights, and subtracted. -/
def odK (a : FVec Ideal S2048x256 .f32) (lm : EReal) (p q : ℕ) : EReal :=
  if h : p < 1024 ∧ q < 128 then
    Ideal.div (a (ix2 ⟨p, by omega⟩ ⟨q, by omega⟩)) (a (ix2 ⟨p, by omega⟩ ⟨128, by omega⟩))
      - lm * Ideal.div (a (ix2 ⟨1024 + p, by omega⟩ ⟨q, by omega⟩)) (a (ix2 ⟨1024 + p, by omega⟩ ⟨128, by omega⟩))
  else 0

/-- Normalization over a head's 128 columns, its gain, and the constant factor. -/
def nrmK (o : ℕ → EReal) (g : EReal) (q : ℕ) : EReal :=
  o q * Ideal.rsqrt (Ideal.div (∑ x : Fin 128, o x.val * o x.val) (Ideal.ofBits .f32 1124073472#32) + Ideal.ofBits .f32 925353388#32)
    * g * Ideal.ofBits .f32 1061997773#32

theorem pay249_at (a : Vec Ideal S2048x256 .f32) (R : Fin 2048) (q : Fin 128) :
    k0_pay249 a (ix2 R q) = Ideal.div (a (ix2 R ⟨q.val, by omega⟩)) (a (ix2 R ⟨128, by omega⟩)) := by
  pointwise [k0_pay249]

theorem pay250_at (d : FVec Ideal S2048x128 .f32) (a0 a1 a2 a3 : Vec Ideal S1x64 .f32) (p : Fin 1024) (q : Fin 128) :
    k0_pay250 d a0 a1 a2 a3 (ix2 p q) = d (ix2 ⟨p.val, by omega⟩ q)
      - (Ideal.exp (∑ x : Fin 64, a0 (ix2 0 x) * a1 (ix2 0 x)) - Ideal.exp (∑ x : Fin 64, a2 (ix2 0 x) * a3 (ix2 0 x)) + Ideal.ofBits .f32 1045220557#32)
        * d (ix2 ⟨1024 + p.val, by omega⟩ q) := by
  pointwise [k0_pay250]

theorem pay251_at (d : FVec Ideal S2048x128 .f32) (a0 a1 a2 a3 : Vec Ideal S1x64 .f32) (p : Fin 1024) (q : Fin 128) :
    k0_pay251 d a0 a1 a2 a3 (ix2 p q) = Ideal.rsqrt (Ideal.div (∑ x : Fin 128, k0_pay250 d a0 a1 a2 a3 (ix2 p x) * k0_pay250 d a0 a1 a2 a3 (ix2 p x))
      (Ideal.ofBits .f32 1124073472#32) + Ideal.ofBits .f32 925353388#32) := by
  pointwise [k0_pay251]

theorem pay1_at (u v : FVec Ideal S1024x128 .f32) (g : Vec Ideal S1x128 .f32) (p : Fin 1024) (q : Fin 128) :
    k0_pay1 u v g (ix3 0 p q) = u (ix2 p q) * v (ix2 p q) * g (ix2 0 q) * Ideal.ofBits .f32 1061997773#32 := by
  pointwise [k0_pay1]

/-- The block at row `p`, column `q`. -/
theorem outB_at (D : Dat) (r3 : S4x64.Idx → EReal) (r4 : S1x128.Idx → EReal) (p : Fin 1024) (q : Fin 128) :
    outB D r3 r4 (ix3 0 p q) = nrmK (odK (accV D) (lamK r3) p.val) (r4 (ix2 0 q)) q.val := by
  have ho : ∀ x : Fin 128, k0_pay250 (k0_pay249 (accV D)) (lamRow r3 0) (lamRow r3 1) (lamRow r3 2) (lamRow r3 3) (ix2 p x)
      = odK (accV D) (lamK r3) p.val x.val := by
    intro x
    rw [pay250_at, pay249_at, pay249_at]
    unfold odK
    rw [dif_pos ⟨p.isLt, x.isLt⟩]
    rfl
  unfold outB
  rw [pay1_at, pay251_at, ho]
  simp only [ho]
  unfold nrmK
  rfl

end Cert.Proof.AttnIdeal

end
-- ==== Proof.AttnMath.lean ====
/- Two softmax maps subtracted: dividing each map's weighted sum by its sum of weights and subtracting is the weighted sum of
   the subtracted maps, where the logits, the values and the factor are finite. -/
module

public import proofs.«01_k».proof.Proof.AttnFlash

@[expose] public section

set_option maxRecDepth 16384

noncomputable section

namespace Cert.Proof.Flash

open Idealize.ShloMosaic
open scoped BigOperators

/-- Logits over `n` keys: none is `⊤`, one is finite, and from key `N` on all are masked. -/
structure Ok (n N : ℕ) (L : ℕ → EReal) : Prop where
  le : N ≤ n
  ne_top : ∀ j < n, L j ≠ ⊤
  rest : ∀ j < n, N ≤ j → L j = ⊥
  some : ∃ j < n, L j ≠ ⊥

variable {n N : ℕ} {L : ℕ → EReal}

/-- The greatest logit is finite. -/
theorem Ok.sup_real (h : Ok n N L) : ∃ μ : ℝ, (Finset.Ico 0 n).sup L = (μ : EReal) := by
  have h1 : (Finset.Ico 0 n).sup L ≠ ⊤ := by
    apply ne_of_lt
    rw [Finset.sup_lt_iff bot_lt_top]
    intro j hj
    exact lt_top_iff_ne_top.mpr (h.ne_top j (Finset.mem_Ico.mp hj).2)
  have h2 : (Finset.Ico 0 n).sup L ≠ ⊥ := by
    obtain ⟨j, hj, hb⟩ := h.some
    intro e
    have : L j ≤ (Finset.Ico 0 n).sup L := Finset.le_sup (f := L) (Finset.mem_Ico.mpr ⟨Nat.zero_le _, hj⟩)
    rw [e] at this
    exact hb (le_bot_iff.mp this)
  exact ⟨_, (EReal.coe_toReal h1 h2).symm⟩

/-- The masked keys do not count for the greatest logit. -/
theorem Ok.sup_eq (h : Ok n N L) : (Finset.Ico 0 N).sup L = (Finset.Ico 0 n).sup L := by
  apply le_antisymm
  · exact Finset.sup_mono (Finset.Ico_subset_Ico (le_refl _) h.le)
  · apply Finset.sup_le
    intro j hj
    have hj := (Finset.mem_Ico.mp hj).2
    by_cases hN : j < N
    · exact Finset.le_sup (f := L) (Finset.mem_Ico.mpr ⟨Nat.zero_le _, hN⟩)
    · rw [h.rest j hj (by omega)]
      exact bot_le

/-- The weights are finite, and their sum is a finite number other than zero. -/
theorem Ok.weights (h : Ok n N L) : ∃ (r : ℕ → ℝ) (σ : ℝ), σ ≠ 0 ∧ (∀ j < n, Ideal.exp (L j - (Finset.Ico 0 n).sup L) = (r j : EReal))
    ∧ (∑ j : Fin n, r j.val) = σ ∧ ∀ j < n, N ≤ j → r j = 0 := by
  obtain ⟨μ, hμ⟩ := h.sup_real
  have hr : ∀ j < n, ∃ r : ℝ, Ideal.exp (L j - (μ : EReal)) = (r : EReal) ∧ 0 ≤ r ∧ (L j ≠ ⊥ → 0 < r) ∧ (L j = ⊥ → r = 0) := by
    intro j hj
    by_cases hb : L j = ⊥
    · refine ⟨0, ?_, le_refl _, fun g => absurd hb g, fun _ => rfl⟩
      rw [hb, sub_eq_add_neg, EReal.bot_add, Ideal.exp_bot]
      rfl
    · have he := EReal.coe_toReal (h.ne_top j hj) hb
      refine ⟨Real.exp ((L j).toReal - μ), ?_, (Real.exp_pos _).le, fun _ => Real.exp_pos _, fun g => absurd g hb⟩
      rw [← he, ← EReal.coe_sub, Ideal.exp_coe, EReal.toReal_coe]
  classical
  choose! r hr1 hr2 hr3 hr4 using hr
  refine ⟨r, _, ?_, fun j hj => by rw [hμ]; exact hr1 j hj, rfl, fun j hj hN => hr4 j hj (h.rest j hj hN)⟩
  obtain ⟨j, hj, hb⟩ := h.some
  have : 0 < ∑ j : Fin n, r j.val :=
    Finset.sum_pos' (fun i _ => hr2 i.val i.isLt) ⟨⟨j, hj⟩, Finset.mem_univ _, hr3 j hj hb⟩
  exact this.ne'

/-- The weighted sum over the unmasked keys is the one over all keys. -/
theorem Ok.acc_eq (h : Ok n N L) (va : ℕ → EReal) :
    acc L va (Finset.Ico 0 N) = ∑ j : Fin n, Ideal.exp (L j.val - (Finset.Ico 0 n).sup L) * va j.val := by
  obtain ⟨r, σ, -, hr, -, h0⟩ := h.weights
  unfold acc
  rw [h.sup_eq]
  have e := sum_fin 0 n (fun j => Ideal.exp (L j - (Finset.Ico 0 n).sup L) * va j)
  simp only [Nat.zero_add] at e
  rw [e]
  apply Finset.sum_subset (Finset.Ico_subset_Ico (le_refl _) h.le)
  intro j hj hN
  have hj := (Finset.mem_Ico.mp hj).2
  have hN : N ≤ j := by
    by_contra hc
    exact hN (Finset.mem_Ico.mpr ⟨Nat.zero_le _, by omega⟩)
  rw [hr j hj, h0 j hj hN]
  simp

/-- The reference's way of taking the greatest logit. -/
theorem fold_sup (n : ℕ) (L : ℕ → EReal) : max ⊥ (Finset.fold max ⊥ (fun j : Fin n => L j.val) Finset.univ) = (Finset.Ico 0 n).sup L := by
  have := fold_fin 0 n L
  simp only [Nat.zero_add] at this
  rw [this]
  exact bot_sup_eq _

/-- One softmax weight. -/
def sm (n : ℕ) (L : ℕ → EReal) (j : ℕ) : EReal :=
  Ideal.div (Ideal.exp (L j - max ⊥ (Finset.fold max ⊥ (fun k : Fin n => L k.val) Finset.univ)))
    (∑ x : Fin n, Ideal.exp (L x.val - max ⊥ (Finset.fold max ⊥ (fun k : Fin n => L k.val) Finset.univ)))

theorem coe_sum {ι : Type} (S : Finset ι) (f : ι → ℝ) : (∑ j ∈ S, (f j : EReal)) = ((∑ j ∈ S, f j : ℝ) : EReal) := by
  classical
  induction S using Finset.induction_on with
  | empty => simp
  | insert x S hx ih => rw [Finset.sum_insert hx, Finset.sum_insert hx, ih, EReal.coe_add]

/-- Dividing each map's weighted sum by its sum of weights and subtracting is the weighted sum of the subtracted maps. -/
theorem diff {n N0 N1 : ℕ} {L0 L1 v : ℕ → EReal} {lam : EReal} (h0 : Ok n N0 L0) (h1 : Ok n N1 L1)
    (hv : ∀ j < n, ∃ r : ℝ, v j = (r : EReal)) (hl : ∃ r : ℝ, lam = (r : EReal)) :
    Ideal.div (acc L0 v (Finset.Ico 0 N0)) (acc L0 (fun _ => 1) (Finset.Ico 0 N0))
      - lam * Ideal.div (acc L1 v (Finset.Ico 0 N1)) (acc L1 (fun _ => 1) (Finset.Ico 0 N1))
      = ∑ j : Fin n, (sm n L0 j.val - lam * sm n L1 j.val) * v j.val := by
  choose! w hw using hv
  obtain ⟨l, rfl⟩ := hl
  unfold sm
  rw [h0.acc_eq, h0.acc_eq, h1.acc_eq, h1.acc_eq, fold_sup, fold_sup]
  obtain ⟨r, σ, hσ, hr, hs, -⟩ := h0.weights
  obtain ⟨r', σ', hσ', hr', hs', -⟩ := h1.weights
  have e1 : ∀ j : Fin n, Ideal.exp (L0 j.val - (Finset.Ico 0 n).sup L0) = (r j.val : EReal) := fun j => hr j.val j.isLt
  have e2 : ∀ j : Fin n, Ideal.exp (L1 j.val - (Finset.Ico 0 n).sup L1) = (r' j.val : EReal) := fun j => hr' j.val j.isLt
  have e3 : ∀ j : Fin n, v j.val = (w j.val : EReal) := fun j => hw j.val j.isLt
  have c : ∀ f : Fin n → ℝ, (∑ j, (f j : EReal)) = ((∑ j, f j : ℝ) : EReal) := fun f => coe_sum _ f
  simp only [e1, e2, e3, mul_one, ← EReal.coe_mul, c, hs, hs', Ideal.div_coe hσ, Ideal.div_coe hσ', ← EReal.coe_sub]
  congr 1
  simp only [sub_mul, Finset.sum_sub_distrib, Finset.sum_mul, Finset.mul_sum]
  congr 1 <;> (apply Finset.sum_congr rfl; intros; ring)

end Cert.Proof.Flash

end
-- ==== Proof.AttnRefValue.lean ====
/- The attention's reference at one element. -/
module

public import proofs.«01_k».proof.Proof.Gen.AttnRefIdeal.Run
public import proofs.«01_k».proof.Proof.AttnSel
public import proofs.«01_k».proof.Proof.AttnMath

@[expose] public section

set_option maxRecDepth 16384
noncomputable section
namespace Cert.Proof.AttnRef
open Idealize.ShloMosaic Idealize.ShloMosaic.TcCoe Idealize.ShloMosaic.Pointwise Idealize.SL.Sem Cert.AttnRefIdeal Cert.AttnRefIdeal.Gen Cert.Proof.Flash Cert.Proof.AttnSel
open scoped BigOperators

/-- The joint array of queries, keys and values by number. -/
def X (x2 : S2x16384x1536.Idx → EReal) (b : Fin 2) (t e : ℕ) : EReal :=
  if h : t < 16384 ∧ e < 1536 then x2 (ix3 b ⟨t, h.1⟩ ⟨e, h.2⟩) else 0

/-- A bias tile by number. -/
def Y (x : S4x256x256.Idx → EReal) (h p q : ℕ) : EReal :=
  if g : h < 4 ∧ p < 256 ∧ q < 256 then x (ix3 ⟨h, g.1⟩ ⟨p, g.2.1⟩ ⟨q, g.2.2⟩) else 0

theorem toX (x2 : S2x16384x1536.Idx → EReal) (b : Fin 2) (t : Fin 16384) (e : ℕ) (h : e < 1536) :
    x2 (ix3 b t ⟨e, h⟩) = X x2 b t.val e := by
  unfold X
  rw [dif_pos ⟨t.isLt, h⟩]

theorem toY (x : S4x256x256.Idx → EReal) (h p q : ℕ) (h1 : h < 4) (h2 : p < 256) (h3 : q < 256) :
    x (ix3 ⟨h, h1⟩ ⟨p, h2⟩ ⟨q, h3⟩) = Y x h p q := by
  unfold Y
  rw [dif_pos ⟨h1, h2, h3⟩]

/-- A query's logit at a key in one map: the product over the map's 64 columns, from column `o` of the queries, with the bias
    of the two near blocks; masked after the query. -/
def lg (x2 : S2x16384x1536.Idx → EReal) (x3 x4 : S4x256x256.Idx → EReal) (b : Fin 2) (h o t j : ℕ) : EReal :=
  if j ≤ t then
    ∑ d : Fin 64, X x2 b t (o + d.val) * X x2 b j (512 + (o + d.val))
      + if t / 256 = j / 256 then Y x3 h (t % 256) (j % 256)
        else if t / 256 = j / 256 + 1 then Y x4 h (t % 256) (j % 256) else 0
  else ⊥

/-- The factor of the second map. -/
def lam (x0 : S4x64.Idx → EReal) : EReal :=
  Ideal.exp (∑ x : Fin 64, x0 (ix2 0 x) * x0 (ix2 1 x)) - Ideal.exp (∑ x : Fin 64, x0 (ix2 2 x) * x0 (ix2 3 x))
    + Ideal.ofBits .f32 1045220557#32

/-- The attention's weighted sum of values before normalization. -/
def od (x0 : S4x64.Idx → EReal) (x2 : S2x16384x1536.Idx → EReal) (x3 x4 : S4x256x256.Idx → EReal) (b : Fin 2) (h t q : ℕ) : EReal :=
  ∑ j : Fin 16384, (sm 16384 (lg x2 x3 x4 b h (h * 128) t) j.val - lam x0 * sm 16384 (lg x2 x3 x4 b h (h * 128 + 64) t) j.val)
    * X x2 b j.val (1024 + (h * 128 + q))

/-- Normalization over a head's 128 columns, its gain, and the constant factor. -/
def nrm (o : ℕ → EReal) (g : EReal) (q : ℕ) : EReal :=
  o q * Ideal.rsqrt (Ideal.div (∑ x : Fin 128, o x.val * o x.val) (Ideal.ofBits .f32 1124073472#32) + Ideal.ofBits .f32 925353388#32)
    * g * Ideal.ofBits .f32 1061997773#32

/-- The logit spelled out. -/
theorem l_at (x2 : S2x16384x1536.Idx → EReal) (x3 x4 : S4x256x256.Idx → EReal) (b : Fin 2) (h o t j : ℕ) :
    (if j ≤ t then ∑ d : Fin 64, X x2 b t (o + d.val) * X x2 b j (512 + (o + d.val))
        + (if t / 256 = j / 256 then Y x3 h (t % 256) (j % 256) else if t / 256 = j / 256 + 1 then Y x4 h (t % 256) (j % 256) else 0)
      else ⊥) = lg x2 x3 x4 b h o t j := by
  unfold lg
  rfl

theorem lam_at (x0 : S4x64.Idx → EReal) : Ideal.exp (∑ x : Fin 64, x0 (ix2 0 x) * x0 (ix2 1 x)) - Ideal.exp (∑ x : Fin 64, x0 (ix2 2 x) * x0 (ix2 3 x))
      + Ideal.ofBits .f32 1045220557#32 = lam x0 := by
  unfold lam
  rfl

theorem sm_at (L : ℕ → EReal) (x : Fin 16384) : Ideal.div (Ideal.exp (L x.val - max ⊥ (Finset.fold max ⊥ (fun k : Fin 16384 => L k.val) Finset.univ)))
      (∑ y : Fin 16384, Ideal.exp (L y.val - max ⊥ (Finset.fold max ⊥ (fun k : Fin 16384 => L k.val) Finset.univ))) = sm 16384 L x.val := by
  unfold sm
  rfl

theorem od_at (x0 : S4x64.Idx → EReal) (x2 : S2x16384x1536.Idx → EReal) (x3 x4 : S4x256x256.Idx → EReal) (b : Fin 2) (h t q : ℕ) :
    (∑ j : Fin 16384, (sm 16384 (lg x2 x3 x4 b h (h * 128) t) j.val - lam x0 * sm 16384 (lg x2 x3 x4 b h (h * 128 + 64) t) j.val)
      * X x2 b j.val (1024 + (h * 128 + q))) = od x0 x2 x3 x4 b h t q := by
  unfold od
  rfl

/-- The reference's bias of a query and a key position. -/
def Bv (x3 x4 : FVec Ideal S4x256x256 .f32) : FVec Ideal S4x16384x16384 .f32 :=
  shapeCast _ (select (broadcastInDim S4x64x256x64x256 ![1, 2, 3, 4] bcast_S64x256x64x256_S4x64x256x64x256_1_2_3_4 (cmpi .eq (iotaInDim S64x256x64x256 32 0) (iotaInDim S64x256x64x256 32 2))) (broadcastInDim S4x64x256x64x256 ![0, 1, 2, 3, 4] bcast_S4x1x256x1x256_S4x64x256x64x256_0_1_2_3_4 (broadcastInDim S4x1x256x1x256 ![0, 2, 4] bcast_S4x256x256_S4x1x256x1x256_0_2_4 x3)) (select (broadcastInDim S4x64x256x64x256 ![1, 2, 3, 4] bcast_S64x256x64x256_S4x64x256x64x256_1_2_3_4 (cmpi .eq (iotaInDim S64x256x64x256 32 0) (addi (iotaInDim S64x256x64x256 32 2) (broadcastInDim S64x256x64x256 ![] bcast_S_S64x256x64x256 (constantI S_ 32 1#32))))) (broadcastInDim S4x64x256x64x256 ![0, 1, 2, 3, 4] bcast_S4x1x256x1x256_S4x64x256x64x256_0_1_2_3_4 (broadcastInDim S4x1x256x1x256 ![0, 2, 4] bcast_S4x256x256_S4x1x256x1x256_0_2_4 x4)) (broadcastInDim S4x64x256x64x256 ![] bcast_S_S4x64x256x64x256 (id (constant S_ .f32 0x00000000#32))))) shapeCasts_S4x64x256x64x256_S4x16384x16384

/-- The reference's logits of the two maps. -/
def Lv (x2 : FVec Ideal S2x16384x1536 .bf16) (B : FVec Ideal S4x16384x16384 .f32) : FVec Ideal S2x2x4x16384x16384 .f32 :=
  select (broadcastInDim S2x2x4x16384x16384 ![3, 4] bcast_S16384x16384_S2x2x4x16384x16384_3_4 (cmpi .sge (subi (iotaInDim S16384x16384 32 0) (iotaInDim S16384x16384 32 1)) (broadcastInDim S16384x16384 ![] bcast_S_S16384x16384 (constantI S_ 32 0#32)))) (addf (Host.dotGeneral dot_S2x2x4x16384x64_S2x2x4x16384x64_S2x2x4x16384x16384_4_4_3_3_012_012 none (transpose S2x2x4x16384x64 [3, 0, 2, 1, 4] (shapeCast _ (extractStridedSlice S2x16384x512 ![0, 0, 0] (extf .f32 x2 bitsLt_bf16_f32) slices_S2x16384x1536_S2x16384x512_0_0_0) shapeCasts_S2x16384x512_S2x16384x4x2x64) transposes_S2x16384x4x2x64_S2x2x4x16384x64_3_0_2_1_4) (transpose S2x2x4x16384x64 [3, 0, 2, 1, 4] (shapeCast _ (extractStridedSlice S2x16384x512 ![0, 0, 512] (extf .f32 x2 bitsLt_bf16_f32) slices_S2x16384x1536_S2x16384x512_0_0_512) shapeCasts_S2x16384x512_S2x16384x4x2x64) transposes_S2x16384x4x2x64_S2x2x4x16384x64_3_0_2_1_4)) (broadcastInDim S2x2x4x16384x16384 ![0, 1, 2, 3, 4] bcast_S1x1x4x16384x16384_S2x2x4x16384x16384_0_1_2_3_4 (broadcastInDim S1x1x4x16384x16384 ![2, 3, 4] bcast_S4x16384x16384_S1x1x4x16384x16384_2_3_4 B))) (broadcastInDim S2x2x4x16384x16384 ![] bcast_S_S2x2x4x16384x16384 (id (constant S_ .f32 0xFF800000#32)))

/-- The reference's greatest logit of each query. -/
def Mv (L : FVec Ideal S2x2x4x16384x16384 .f32) : FVec Ideal S2x2x4x16384 .f32 :=
  maximumf (broadcastInDim S2x2x4x16384 ![] bcast_S_S2x2x4x16384 (constant S_ .f32 0xFF800000#32)) (Host.reduce FloatOps.maximumf L (constant S_ .f32 0xFF800000#32) reducesTo_S2x2x4x16384x16384_S2x2x4x16384_d4 h_S_)

/-- The reference's exponentials. -/
def Ev (L : FVec Ideal S2x2x4x16384x16384 .f32) (M : FVec Ideal S2x2x4x16384 .f32) : FVec Ideal S2x2x4x16384x16384 .f32 :=
  Host.exp (subf L (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 M)))

/-- The reference's division by the sum of the exponentials. -/
def Pv (E : FVec Ideal S2x2x4x16384x16384 .f32) : FVec Ideal S2x2x4x16384x16384 .f32 :=
  Host.divf E (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (Host.reduceAdd E (constant S_ .f32 0x00000000#32) reducesTo_S2x2x4x16384x16384_S2x2x4x16384_d4 h_S_)))

/-- The reference's subtracted maps times the values. -/
def Ov (x0 : FVec Ideal S4x64 .f32) (x2 : FVec Ideal S2x16384x1536 .bf16) (P : FVec Ideal S2x2x4x16384x16384 .f32) : FVec Ideal S2x4x16384x128 .f32 :=
  Host.dotGeneral dot_S2x4x16384x16384_S2x4x16384x128_S2x4x16384x128_3_2_2_3_01_01 none (subf (shapeCast _ (extractStridedSlice S1x2x4x16384x16384 ![0, 0, 0, 0, 0] P slices_S2x2x4x16384x16384_S1x2x4x16384x16384_0_0_0_0_0) shapeCasts_S1x2x4x16384x16384_S2x4x16384x16384) (mulf (broadcastInDim S2x4x16384x16384 ![] bcast_S_S2x4x16384x16384 (addf (subf (Host.exp (Host.reduceAdd (mulf (shapeCast _ (extractStridedSlice S1x64 ![0, 0] x0 slices_S4x64_S1x64_0_0) shapeCasts_S1x64_S64) (shapeCast _ (extractStridedSlice S1x64 ![1, 0] x0 slices_S4x64_S1x64_1_0) shapeCasts_S1x64_S64)) (constant S_ .f32 0x00000000#32) reducesTo_S64_S_d0 h_S_)) (Host.exp (Host.reduceAdd (mulf (shapeCast _ (extractStridedSlice S1x64 ![2, 0] x0 slices_S4x64_S1x64_2_0) shapeCasts_S1x64_S64) (shapeCast _ (extractStridedSlice S1x64 ![3, 0] x0 slices_S4x64_S1x64_3_0) shapeCasts_S1x64_S64)) (constant S_ .f32 0x00000000#32) reducesTo_S64_S_d0 h_S_))) (constant S_ .f32 0x3E4CCCCD#32))) (shapeCast _ (extractStridedSlice S1x2x4x16384x16384 ![1, 0, 0, 0, 0] P slices_S2x2x4x16384x16384_S1x2x4x16384x16384_1_0_0_0_0) shapeCasts_S1x2x4x16384x16384_S2x4x16384x16384))) (transpose S2x4x16384x128 [0, 2, 1, 3] (shapeCast _ (extractStridedSlice S2x16384x512 ![0, 0, 1024] (extf .f32 x2 bitsLt_bf16_f32) slices_S2x16384x1536_S2x16384x512_0_0_1024) shapeCasts_S2x16384x512_S2x16384x4x128) transposes_S2x16384x4x128_S2x4x16384x128_0_2_1_3)

/-- The reference's normalization. -/
def Nv (x1 : FVec Ideal S1x128 .f32) (O : FVec Ideal S2x4x16384x128 .f32) : FVec Ideal S2x16384x512 .bf16 :=
  truncf .bf16 (shapeCast _ (transpose S2x16384x4x128 [0, 2, 1, 3] (mulf (mulf (mulf O (broadcastInDim S2x4x16384x128 ![0, 1, 2, 3] bcast_S2x4x16384x1_S2x4x16384x128_0_1_2_3 (Host.rsqrt (addf (Host.divf (broadcastInDim S2x4x16384x1 ![0, 1, 2] bcast_S2x4x16384_S2x4x16384x1_0_1_2 (Host.reduceAdd (mulf O O) (constant S_ .f32 0x00000000#32) reducesTo_S2x4x16384x128_S2x4x16384_d3 h_S_)) (broadcastInDim S2x4x16384x1 ![] bcast_S_S2x4x16384x1 (constant S_ .f32 0x43000000#32))) (broadcastInDim S2x4x16384x1 ![] bcast_S_S2x4x16384x1 (constant S_ .f32 0x3727C5AC#32)))))) (broadcastInDim S2x4x16384x128 ![0, 1, 2, 3] bcast_S1x1x1x128_S2x4x16384x128_0_1_2_3 (broadcastInDim S1x1x1x128 ![3] bcast_S128_S1x1x1x128_3 (shapeCast _ x1 shapeCasts_S1x128_S128)))) (broadcastInDim S2x4x16384x128 ![] bcast_S_S2x4x16384x128 (constant S_ .f32 0x3F4CCCCD#32))) transposes_S2x4x16384x128_S2x16384x4x128_0_2_1_3) shapeCasts_S2x16384x4x128_S2x16384x512) bitsLt_bf16_f32

/-- The reference's result is its five steps. -/
theorem res_eq (m : (ℓ : Loc nD τ sig) → Buf (Elt Ideal) ℓ) (c : Dev nD) : Value.res_main_v84 m c
    = Nv (m ((c.tc : Thread nD τ).loc main_arg1)) (Ov (m ((c.tc : Thread nD τ).loc main_arg0)) (m ((c.tc : Thread nD τ).loc main_arg2))
      (Pv (Ev (Lv (m ((c.tc : Thread nD τ).loc main_arg2)) (Bv (m ((c.tc : Thread nD τ).loc main_arg3)) (m ((c.tc : Thread nD τ).loc main_arg4)))) (Mv (Lv (m ((c.tc : Thread nD τ).loc main_arg2)) (Bv (m ((c.tc : Thread nD τ).loc main_arg3)) (m ((c.tc : Thread nD τ).loc main_arg4)))))))) := rfl

set_option maxHeartbeats 4000000 in
theorem Bv_at (x3 x4 : FVec Ideal S4x256x256 .f32) (h : Fin 4) (t j : Fin 16384) :
    Bv x3 x4 (ix3 h t j) = if t.val / 256 = j.val / 256 then Y x3 h.val (t.val % 256) (j.val % 256)
        else if t.val / 256 = j.val / 256 + 1 then Y x4 h.val (t.val % 256) (j.val % 256) else 0 := by
  have e1 := sel_eq (t.val / 256) (j.val / 256) (by omega) (by omega)
  have e2 := sel_eq (t.val / 256) (j.val / 256 + 1) (by omega) (by omega)
  have e3 := add_one (j.val / 256) (by omega)
  have hz : id (constant S_ .f32 0#32 : FVec Ideal S_ .f32) ix0 = 0 := Ideal.ofBits_zero .f32
  pointwise [Bv]
  rw [e3, e1, e2, hz]
  rw [← toY x3 h.val (t.val % 256) (j.val % 256) h.isLt (by omega) (by omega), ← toY x4 h.val (t.val % 256) (j.val % 256) h.isLt (by omega) (by omega)]

set_option maxHeartbeats 4000000 in
theorem Lv_at (x2 : FVec Ideal S2x16384x1536 .bf16) (B : FVec Ideal S4x16384x16384 .f32) (mm b : Fin 2) (h : Fin 4) (t j : Fin 16384) :
    Lv x2 B (ix5 mm b h t j) = if j.val ≤ t.val then
      ∑ d : Fin 64, X x2 b t.val (h.val * 128 + mm.val * 64 + d.val) * X x2 b j.val (512 + (h.val * 128 + mm.val * 64 + d.val)) + B (ix3 h t j) else ⊥ := by
  have e1 := sel_sge t j
  have hi : id (constant S_ .f32 4286578688#32 : FVec Ideal S_ .f32) ix0 = ⊥ := ofBits_neg_inf
  pointwise [Lv]
  rw [e1, hi]
  simp only [toX]

/-- A maximum over the last of five axes, at any sizes. -/
theorem red_gen {a b c d n : ℕ} (v : (⟨5, ![a, b, c, d, n]⟩ : Shape).Idx → EReal) (init : S_.Idx → EReal)
    (h : (⟨5, ![a, b, c, d, n]⟩ : Shape).ReducesTo [4] ⟨4, ![a, b, c, d]⟩) (hu : 0 < S_.numel) (i : Fin a) (j : Fin b) (k : Fin c) (l : Fin d) :
    Host.reduce (α := Ideal .f32) FloatOps.maximumf v init h hu (ix4 i j k l)
      = Finset.fold max (init (Shape.Idx.first hu)) (fun q : Fin n => v (ix5 i j k l q)) Finset.univ := by
  simp only [pointwise]

theorem max_at (A B : FVec Ideal S2x2x4x16384 .f32) (x : S2x2x4x16384.Idx) : maximumf A B x = max (A x) (B x) := rfl

theorem bc_at (w : BitVec 32) (x : S2x2x4x16384.Idx) :
    broadcastInDim S2x2x4x16384 ![] bcast_S_S2x2x4x16384 (constant S_ .f32 w : FVec Ideal S_ .f32) x = Ideal.ofBits .f32 w := rfl

theorem Mv_at (L : FVec Ideal S2x2x4x16384x16384 .f32) (mm b : Fin 2) (h : Fin 4) (t : Fin 16384) (L0 : ℕ → EReal)
    (hL : ∀ j : Fin 16384, L (ix5 mm b h t j) = L0 j.val) : Mv L (ix4 mm b h t) = max ⊥ (Finset.fold max ⊥ (fun k : Fin 16384 => L0 k.val) Finset.univ) := by
  have e : Finset.fold max ⊥ (fun k : Fin 16384 => L (ix5 mm b h t k)) Finset.univ = Finset.fold max ⊥ (fun k : Fin 16384 => L0 k.val) Finset.univ :=
    congrArg (fun f => Finset.fold max ⊥ f Finset.univ) (funext hL)
  rw [← e]
  unfold Mv
  have g := red_gen L (constant S_ .f32 0xFF800000#32 : FVec Ideal S_ .f32) reducesTo_S2x2x4x16384x16384_S2x2x4x16384_d4 h_S_ mm b h t
  have hb : (constant S_ .f32 0xFF800000#32 : FVec Ideal S_ .f32) (Shape.Idx.first h_S_) = ⊥ := ofBits_neg_inf
  rw [hb] at g
  rw [← g, max_at, bc_at, ofBits_neg_inf]

set_option maxHeartbeats 4000000 in
theorem Ev_at (L : FVec Ideal S2x2x4x16384x16384 .f32) (M : FVec Ideal S2x2x4x16384 .f32) (mm b : Fin 2) (h : Fin 4) (t j : Fin 16384) :
    Ev L M (ix5 mm b h t j) = Ideal.exp (L (ix5 mm b h t j) - M (ix4 mm b h t)) := by
  pointwise [Ev]

set_option maxHeartbeats 4000000 in
theorem Pv_at (E : FVec Ideal S2x2x4x16384x16384 .f32) (mm b : Fin 2) (h : Fin 4) (t j : Fin 16384) :
    Pv E (ix5 mm b h t j) = Ideal.div (E (ix5 mm b h t j)) (∑ x : Fin 16384, E (ix5 mm b h t x)) := by
  pointwise [Pv]

theorem Sv_at (L : FVec Ideal S2x2x4x16384x16384 .f32) (mm b : Fin 2) (h : Fin 4) (t j : Fin 16384) (L0 : ℕ → EReal)
    (hL : ∀ j : Fin 16384, L (ix5 mm b h t j) = L0 j.val) : Pv (Ev L (Mv L)) (ix5 mm b h t j) = sm 16384 L0 j.val := by
  rw [Pv_at]
  simp only [Ev_at, Mv_at L mm b h t L0 hL, hL]
  unfold sm
  with_reducible rfl

set_option maxHeartbeats 4000000 in
theorem Ov_at (x0 : FVec Ideal S4x64 .f32) (x2 : FVec Ideal S2x16384x1536 .bf16) (P : FVec Ideal S2x2x4x16384x16384 .f32) (b : Fin 2) (h : Fin 4) (t : Fin 16384) (q : Fin 128)
    (s0 s1 : ℕ → EReal) (h0 : ∀ j : Fin 16384, P (ix5 0 b h t j) = s0 j.val) (h1 : ∀ j : Fin 16384, P (ix5 1 b h t j) = s1 j.val) :
    Ov x0 x2 P (ix4 b h t q) = ∑ j : Fin 16384, (s0 j.val - lam x0 * s1 j.val) * X x2 b j.val (1024 + (h.val * 128 + q.val)) := by
  pointwise [Ov]
  simp only [h0, h1, toX]
  unfold lam
  rfl

set_option maxHeartbeats 4000000 in
theorem Nv_at (x1 : FVec Ideal S1x128 .f32) (O : FVec Ideal S2x4x16384x128 .f32) (b : Fin 2) (t : Fin 16384) (e : Fin 512) (o : ℕ → EReal)
    (hO : ∀ q : Fin 128, O (ix4 b ⟨e.val / 128, by omega⟩ t q) = o q.val) :
    Nv x1 O (ix3 b t e) = nrm o (x1 (ix2 0 ⟨e.val % 128, by omega⟩)) (e.val % 128) := by
  pointwise [Nv]
  simp only [hO]
  unfold nrm
  rfl

/-- The reference at one element. -/
theorem ref_at (m : (ℓ : Loc nD τ sig) → Buf (Elt Ideal) ℓ) (c : Dev nD) (b : Fin 2) (t : Fin 16384) (e : Fin 512) :
    Value.res_main_v84 m c (ix3 b t e) = nrm (od (m ((c.tc : Thread nD τ).loc main_arg0)) (m ((c.tc : Thread nD τ).loc main_arg2))
      (m ((c.tc : Thread nD τ).loc main_arg3)) (m ((c.tc : Thread nD τ).loc main_arg4)) b (e.val / 128) t.val)
      (m ((c.tc : Thread nD τ).loc main_arg1) (ix2 0 ⟨e.val % 128, by omega⟩)) (e.val % 128) := by
  rw [congrFun (res_eq m c) _]
  refine Nv_at _ _ b t e _ fun q => ?_
  refine Ov_at _ _ _ b ⟨e.val / 128, by omega⟩ t q _ _ (fun j => Sv_at _ 0 b _ t j _ fun k => ?_) (fun j => Sv_at _ 1 b _ t j _ fun k => ?_)
  · rw [Lv_at, Bv_at]
    rfl
  · rw [Lv_at, Bv_at]
    rfl

end Cert.Proof.AttnRef

end
-- ==== Proof.AttnLink.lean ====
/- The attention kernel's block against the reference: the running softmax over the unmasked keys is the reference's softmax. -/
module

public import proofs.«01_k».proof.Proof.AttnBlock
public import proofs.«01_k».proof.Proof.AttnRefValue

@[expose] public section

set_option maxRecDepth 16384

noncomputable section

namespace Cert.Proof.AttnIdeal

open Idealize.ShloMosaic Idealize.ShloMosaic.Pointwise Cert.AttnIdeal Cert.AttnIdeal.Gen Cert.Proof.Flash Cert.Proof.AttnRef
open scoped BigOperators

/-- Kept sums agree where the logits and the values do. -/
theorem acc_congr {sc L va va' : ℕ → EReal} {S : Finset ℕ} (h : ∀ j ∈ S, sc j = L j) (hv : ∀ j ∈ S, va j = va' j) : acc sc va S = acc L va' S := by
  unfold acc
  rw [Finset.sup_congr rfl h]
  exact Finset.sum_congr rfl fun j hj => by rw [h j hj, hv j hj]

/-- An array without infinities. -/
def Real' {ι : Type} (f : ι → EReal) : Prop := ∀ i, ∃ r : ℝ, f i = (r : EReal)

theorem real_mul {a b : EReal} (ha : ∃ r : ℝ, a = (r : EReal)) (hb : ∃ r : ℝ, b = (r : EReal)) : ∃ r : ℝ, a * b = (r : EReal) := by
  obtain ⟨x, rfl⟩ := ha
  obtain ⟨y, rfl⟩ := hb
  exact ⟨x * y, (EReal.coe_mul x y).symm⟩

theorem real_add {a b : EReal} (ha : ∃ r : ℝ, a = (r : EReal)) (hb : ∃ r : ℝ, b = (r : EReal)) : ∃ r : ℝ, a + b = (r : EReal) := by
  obtain ⟨x, rfl⟩ := ha
  obtain ⟨y, rfl⟩ := hb
  exact ⟨x + y, (EReal.coe_add x y).symm⟩

theorem real_sub {a b : EReal} (ha : ∃ r : ℝ, a = (r : EReal)) (hb : ∃ r : ℝ, b = (r : EReal)) : ∃ r : ℝ, a - b = (r : EReal) := by
  obtain ⟨x, rfl⟩ := ha
  obtain ⟨y, rfl⟩ := hb
  exact ⟨x - y, (EReal.coe_sub x y).symm⟩

theorem real_exp {a : EReal} (ha : ∃ r : ℝ, a = (r : EReal)) : ∃ r : ℝ, Ideal.exp a = (r : EReal) := by
  obtain ⟨x, rfl⟩ := ha
  exact ⟨Real.exp x, Ideal.exp_coe x⟩

theorem real_sum {ι : Type} (S : Finset ι) (f : ι → EReal) (h : ∀ i, ∃ r : ℝ, f i = (r : EReal)) : ∃ r : ℝ, ∑ i ∈ S, f i = (r : EReal) := by
  choose g hg using h
  exact ⟨∑ i ∈ S, g i, by rw [← coe_sum]; exact Finset.sum_congr rfl fun i _ => hg i⟩

theorem ofBits_real : ∃ r : ℝ, Ideal.ofBits .f32 1045220557#32 = (r : EReal) := by
  refine ⟨_, (EReal.coe_toReal ?_ ?_).symm⟩ <;> simp [Ideal.ofBits, Ideal.ieee, -EReal.coe_mul]

variable {x0 : S4x64.Idx → EReal} {x2 : S2x16384x1536.Idx → EReal} {x3 x4 : S4x256x256.Idx → EReal} {b : Fin 2} {h i : ℕ}

theorem X_real (hx : Real' x2) (t e : ℕ) : ∃ r : ℝ, X x2 b t e = (r : EReal) := by
  unfold X
  split
  · exact hx _
  · exact ⟨0, rfl⟩

theorem Y_real {x : S4x256x256.Idx → EReal} (hx : Real' x) (h p q : ℕ) : ∃ r : ℝ, Y x h p q = (r : EReal) := by
  unfold Y
  split
  · exact hx _
  · exact ⟨0, rfl⟩

theorem lam_real (hx : Real' x0) : ∃ r : ℝ, lam x0 = (r : EReal) := by
  unfold lam
  exact real_add (real_sub (real_exp (real_sum _ _ fun x => real_mul (hx _) (hx _))) (real_exp (real_sum _ _ fun x => real_mul (hx _) (hx _)))) ofBits_real

/-- An unmasked logit is finite. -/
theorem lg_real (h2 : Real' x2) (h3 : Real' x3) (h4 : Real' x4) {o t j : ℕ} (hj : j ≤ t) : ∃ r : ℝ, lg x2 x3 x4 b h o t j = (r : EReal) := by
  unfold lg
  rw [if_pos hj]
  refine real_add (real_sum _ _ fun d => real_mul (X_real h2 _ _) (X_real h2 _ _)) ?_
  split
  · exact Y_real h3 _ _ _
  · split
    · exact Y_real h4 _ _ _
    · exact ⟨0, rfl⟩

/-- The reference's logits of a query are finite up to the query and masked after it. -/
theorem lg_ok (h2 : Real' x2) (h3 : Real' x3) (h4 : Real' x4) {o t N : ℕ} (ht : t < N) (hN : N ≤ 16384) :
    Ok 16384 N (lg x2 x3 x4 b h o t) where
  le := hN
  ne_top j _ := by
    by_cases hj : j ≤ t
    · obtain ⟨r, hr⟩ := lg_real (b := b) (h := h) (o := o) h2 h3 h4 hj
      rw [hr]
      exact EReal.coe_ne_top r
    · unfold lg
      rw [if_neg hj]
      exact bot_ne_top
  rest j _ hNj := by
    unfold lg
    rw [if_neg (by omega)]
  some := ⟨t, by omega, by
    obtain ⟨r, hr⟩ := lg_real (b := b) (h := h) (o := o) h2 h3 h4 (le_refl t)
    rw [hr]
    exact EReal.coe_ne_bot r⟩

/-- What the blocks of head `h`, query tile `i` of batch `b` hold. -/
structure Blk (x2 : S2x16384x1536.Idx → EReal) (x3 x4 : S4x256x256.Idx → EReal) (b : Fin 2) (h i : ℕ) (r5 : S1x1024x128.Idx → EReal)
    (r6 r7 : S1x16384x128.Idx → EReal) (r8 r9 : S1x256x256.Idx → EReal) : Prop where
  q : ∀ (p : Fin 1024) (d : Fin 128), r5 (ix3 0 p d) = X x2 b (1024 * i + p.val) (h * 128 + d.val)
  k : ∀ (j : Fin 16384) (d : Fin 128), r6 (ix3 0 j d) = X x2 b j.val (512 + (h * 128 + d.val))
  v : ∀ (j : Fin 16384) (d : Fin 128), r7 (ix3 0 j d) = X x2 b j.val (1024 + (h * 128 + d.val))
  d : ∀ p q : Fin 256, r8 (ix3 0 p q) = if q.val ≤ p.val then Y x3 h p.val q.val else ⊥
  p : ∀ p q : Fin 256, r9 (ix3 0 p q) = Y x4 h p.val q.val

variable {r5 : S1x1024x128.Idx → EReal} {r6 r7 : S1x16384x128.Idx → EReal} {r8 r9 : S1x256x256.Idx → EReal}

theorem dot_lo (B : Blk x2 x3 x4 b h i r5 r6 r7 r8 r9) {p j : ℕ} (hp : p < 1024) (hj : j < 16384) : (datR i r5 r6 r7 r8 r9).dot p j
    = ∑ d : Fin 64, X x2 b (1024 * i + p) (h * 128 + d.val) * X x2 b j (512 + (h * 128 + d.val)) := by
  unfold Dat.dot
  have e := Fin.sum_univ_add (a := 64) (b := 64) (fun d : Fin (64 + 64) => (datR i r5 r6 r7 r8 r9).qq p d.val * (datR i r5 r6 r7 r8 r9).K j d.val)
  refine e.trans ?_
  have z : ∑ d : Fin 64, (datR i r5 r6 r7 r8 r9).qq p (Fin.natAdd 64 d).val * (datR i r5 r6 r7 r8 r9).K j (Fin.natAdd 64 d).val = 0 := by
    refine Finset.sum_eq_zero fun d _ => ?_
    have hd : (Fin.natAdd 64 d).val = 64 + d.val := rfl
    show (if p < 1024 then (if (Fin.natAdd 64 d).val < 64 then _ else 0) else _) * _ = (0 : EReal)
    rw [if_pos hp, if_neg (by omega), zero_mul]
  rw [z, add_zero]
  refine Finset.sum_congr rfl fun d _ => ?_
  have hd : (Fin.castAdd 64 d).val = d.val := rfl
  have hdl := d.isLt
  rw [hd]
  show (if p < 1024 then (if d.val < 64 then (if g : p < 1024 ∧ d.val < 128 then r5 (ix3 0 ⟨p, g.1⟩ ⟨d.val, g.2⟩) else 0) else 0) else _)
    * (if g : j < 16384 ∧ d.val < 128 then r6 (ix3 0 ⟨j, g.1⟩ ⟨d.val, g.2⟩) else 0) = _
  rw [if_pos hp, if_pos hdl, dif_pos ⟨hp, by omega⟩, dif_pos ⟨hj, by omega⟩, B.q, B.k]

theorem dot_hi (B : Blk x2 x3 x4 b h i r5 r6 r7 r8 r9) {p j : ℕ} (hp : p < 1024) (hj : j < 16384) : (datR i r5 r6 r7 r8 r9).dot (1024 + p) j
    = ∑ d : Fin 64, X x2 b (1024 * i + p) (h * 128 + 64 + d.val) * X x2 b j (512 + (h * 128 + 64 + d.val)) := by
  unfold Dat.dot
  have e := Fin.sum_univ_add (a := 64) (b := 64) (fun d : Fin (64 + 64) => (datR i r5 r6 r7 r8 r9).qq (1024 + p) d.val * (datR i r5 r6 r7 r8 r9).K j d.val)
  refine e.trans ?_
  have z : ∑ d : Fin 64, (datR i r5 r6 r7 r8 r9).qq (1024 + p) (Fin.castAdd 64 d).val * (datR i r5 r6 r7 r8 r9).K j (Fin.castAdd 64 d).val = 0 := by
    refine Finset.sum_eq_zero fun d _ => ?_
    have hd : (Fin.castAdd 64 d).val = d.val := rfl
    have hdl := d.isLt
    show (if 1024 + p < 1024 then _ else (if 64 ≤ (Fin.castAdd 64 d).val then _ else 0)) * _ = (0 : EReal)
    rw [if_neg (by omega), if_neg (by omega), zero_mul]
  rw [z, zero_add]
  refine Finset.sum_congr rfl fun d _ => ?_
  have hd : (Fin.natAdd 64 d).val = 64 + d.val := rfl
  have hdl := d.isLt
  have hpp : 1024 + p - 1024 = p := by omega
  rw [hd]
  show (if 1024 + p < 1024 then _ else (if 64 ≤ 64 + d.val then (if g : 1024 + p - 1024 < 1024 ∧ 64 + d.val < 128 then r5 (ix3 0 ⟨1024 + p - 1024, g.1⟩ ⟨64 + d.val, g.2⟩) else 0) else 0))
    * (if g : j < 16384 ∧ 64 + d.val < 128 then r6 (ix3 0 ⟨j, g.1⟩ ⟨64 + d.val, g.2⟩) else 0) = _
  rw [if_neg (by omega), if_pos (by omega), dif_pos ⟨by omega, by omega⟩, dif_pos ⟨hj, by omega⟩, B.q, B.k]
  dsimp only
  rw [hpp, ← Nat.add_assoc (h * 128) 64 d.val]

/-- A row's logit at an unmasked tile's key is the reference's, its product given. -/
theorem sc_of (B : Blk x2 x3 x4 b h i r5 r6 r7 r8 r9) {R p j o : ℕ} (hR : R = p ∨ R = 1024 + p) (hp : p < 1024) (hi : i < 16) (hj : j < 1024 * i + nkD p)
    (hd : (datR i r5 r6 r7 r8 r9).dot R j = ∑ d : Fin 64, X x2 b (1024 * i + p) (o + d.val) * X x2 b j (512 + (o + d.val))) :
    (datR i r5 r6 r7 r8 r9).sc R j = lg x2 x3 x4 b h o (1024 * i + p) j := by
  unfold nkD at hj
  have e1 : R % 1024 = p := by omega
  have e2 : R % 256 = (1024 * i + p) % 256 := by omega
  have l1 : (1024 * i + p) % 256 < 256 := Nat.mod_lt _ (by omega)
  have l2 : j % 256 < 256 := Nat.mod_lt _ (by omega)
  have hbd : (datR i r5 r6 r7 r8 r9).bd ((1024 * i + p) % 256) (j % 256) = if j % 256 ≤ (1024 * i + p) % 256 then Y x3 h ((1024 * i + p) % 256) (j % 256) else ⊥ := by
    show (if g : (1024 * i + p) % 256 < 256 ∧ j % 256 < 256 then r8 (ix3 0 ⟨(1024 * i + p) % 256, g.1⟩ ⟨j % 256, g.2⟩) else 0) = _
    rw [dif_pos ⟨l1, l2⟩, B.d]
  have hbp : (datR i r5 r6 r7 r8 r9).bp ((1024 * i + p) % 256) (j % 256) = Y x4 h ((1024 * i + p) % 256) (j % 256) := by
    show (if g : (1024 * i + p) % 256 < 256 ∧ j % 256 < 256 then r9 (ix3 0 ⟨(1024 * i + p) % 256, g.1⟩ ⟨j % 256, g.2⟩) else 0) = _
    rw [dif_pos ⟨l1, l2⟩, B.p]
  have hD : (datR i r5 r6 r7 r8 r9).i = i := rfl
  unfold Dat.sc lg
  rw [hD, e1, e2, hd, hbd, hbp]
  by_cases c1 : j / 256 = (1024 * i + p) / 256
  · rw [if_pos c1, if_pos c1.symm]
    by_cases c2 : j ≤ 1024 * i + p
    · rw [if_pos (by omega), if_pos c2]
    · rw [if_neg (by omega), if_neg c2, EReal.add_bot]
  · have c3 : j ≤ 1024 * i + p := by omega
    have c4 : ¬ (1024 * i + p) / 256 = j / 256 := fun g => c1 g.symm
    rw [if_neg c1, if_pos c3, if_neg c4]
    by_cases c2 : j / 256 + 1 = (1024 * i + p) / 256
    · rw [if_pos c2, if_pos c2.symm]
    · have c5 : ¬ (1024 * i + p) / 256 = j / 256 + 1 := fun g => c2 g.symm
      rw [if_neg c2, if_neg c5, add_zero]

/-- Row `p` of the block before normalization, column `q`: the reference's weighted sum. -/
theorem od_eq (h0 : Real' x0) (h2 : Real' x2) (h3 : Real' x3) (h4 : Real' x4) (B : Blk x2 x3 x4 b h i r5 r6 r7 r8 r9) (hi : i < 16) {p q : ℕ} (hp : p < 1024) (hq : q < 128) :
    odK (accV (datR i r5 r6 r7 r8 r9)) (lamK x0) p q = od x0 x2 x3 x4 b h (1024 * i + p) q := by
  have hN : 1024 * i + nkD p ≤ 16384 := by unfold nkD; omega
  have ht : 1024 * i + p < 1024 * i + nkD p := by unfold nkD; omega
  have hn : nkD (1024 + p) = nkD p := by unfold nkD; omega
  have s0 : ∀ j ∈ Finset.Ico 0 (1024 * i + nkD p), (datR i r5 r6 r7 r8 r9).sc p j = lg x2 x3 x4 b h (h * 128) (1024 * i + p) j := fun j hj => by
    have hj := (Finset.mem_Ico.mp hj).2
    exact sc_of B (Or.inl rfl) hp hi hj (dot_lo B hp (by omega))
  have s1 : ∀ j ∈ Finset.Ico 0 (1024 * i + nkD p), (datR i r5 r6 r7 r8 r9).sc (1024 + p) j = lg x2 x3 x4 b h (h * 128 + 64) (1024 * i + p) j := fun j hj => by
    have hj := (Finset.mem_Ico.mp hj).2
    exact sc_of B (Or.inr rfl) hp hi hj (dot_hi B hp (by omega))
  have vq : ∀ j ∈ Finset.Ico 0 (1024 * i + nkD p), (datR i r5 r6 r7 r8 r9).va j q = X x2 b j (1024 + (h * 128 + q)) := fun j hj => by
    have hj := (Finset.mem_Ico.mp hj).2
    unfold Dat.va
    rw [if_pos hq]
    show (if g : j < 16384 ∧ q < 128 then r7 (ix3 0 ⟨j, g.1⟩ ⟨q, g.2⟩) else 0) = _
    rw [dif_pos ⟨by omega, hq⟩, B.v]
  have v1 : ∀ j ∈ Finset.Ico 0 (1024 * i + nkD p), (datR i r5 r6 r7 r8 r9).va j 128 = (fun _ => (1 : EReal)) j := fun j _ => by
    unfold Dat.va
    rw [if_neg (by omega), if_pos rfl]
  have a0 : accV (datR i r5 r6 r7 r8 r9) (ix2 ⟨p, by omega⟩ ⟨q, by omega⟩) = _ := acc_congr s0 vq
  have a1 : accV (datR i r5 r6 r7 r8 r9) (ix2 ⟨p, by omega⟩ ⟨128, by omega⟩) = _ := acc_congr s0 v1
  have a2 : accV (datR i r5 r6 r7 r8 r9) (ix2 ⟨1024 + p, by omega⟩ ⟨q, by omega⟩) = _ :=
    (congrArg (fun n => acc ((datR i r5 r6 r7 r8 r9).sc (1024 + p)) (fun j => (datR i r5 r6 r7 r8 r9).va j q) (Finset.Ico 0 (1024 * i + n))) hn).trans (acc_congr s1 vq)
  have a3 : accV (datR i r5 r6 r7 r8 r9) (ix2 ⟨1024 + p, by omega⟩ ⟨128, by omega⟩) = _ :=
    (congrArg (fun n => acc ((datR i r5 r6 r7 r8 r9).sc (1024 + p)) (fun j => (datR i r5 r6 r7 r8 r9).va j 128) (Finset.Ico 0 (1024 * i + n))) hn).trans (acc_congr s1 v1)
  unfold odK od
  rw [dif_pos ⟨hp, hq⟩, a0, a1, a2, a3]
  have hl : lamK x0 = lam x0 := rfl
  rw [hl]
  exact diff (lg_ok h2 h3 h4 ht hN) (lg_ok h2 h3 h4 ht hN) (fun j _ => X_real h2 _ _) (lam_real h0)

/-- The block at row `p`, column `q` is the reference's formula. -/
theorem block_eq {x1 : S1x128.Idx → EReal} (h0 : Real' x0) (h2 : Real' x2) (h3 : Real' x3) (h4 : Real' x4) (B : Blk x2 x3 x4 b h i r5 r6 r7 r8 r9) (hi : i < 16) (p : Fin 1024) (q : Fin 128) :
    outB (datR i r5 r6 r7 r8 r9) x0 x1 (ix3 0 p q) = nrm (od x0 x2 x3 x4 b h (1024 * i + p.val)) (x1 (ix2 0 q)) q.val := by
  rw [outB_at]
  unfold nrmK nrm
  rw [od_eq h0 h2 h3 h4 B hi p.isLt q.isLt]
  have e : ∀ x : Fin 128, odK (accV (datR i r5 r6 r7 r8 r9)) (lamK x0) p.val x.val = od x0 x2 x3 x4 b h (1024 * i + p.val) x.val :=
    fun x => od_eq h0 h2 h3 h4 B hi p.isLt x.isLt
  simp only [e]

end Cert.Proof.AttnIdeal

end
-- ==== Proof.AttnPre.lean ====
/- The precondition of the attention's value claim, read: arrays without infinities are arrays of real numbers. -/
module

public import proofs.«01_k».proof.Pre_attn_args_finite
public import proofs.«01_k».proof.Proof.AttnLink

@[expose] public section

set_option maxRecDepth 16384

noncomputable section

namespace Cert.Proof.AttnIdeal

open Idealize.ShloMosaic Idealize.ShloMosaic.Pointwise Cert.AttnIdeal Cert.Proof.Flash

theorem real_of {x : EReal} (h1 : x < ⊤) (h2 : ⊥ < x) : ∃ r : ℝ, x = (r : EReal) :=
  ⟨x.toReal, (EReal.coe_toReal h1.ne h2.ne').symm⟩

theorem and_one (a b : BitVec 1) (h : IntOp.andi a b = 1#1) : a = 1#1 ∧ b = 1#1 := by
  revert a b
  decide

theorem ofBool_one (p : Bool) (h : BitVec.ofBool p = 1#1) : p = true := by
  revert p
  decide

/-- A number below plus infinity and above minus infinity is real. -/
theorem real_of_cmp (x y z : EReal) (hy : y = ⊤) (hz : z = ⊥) (h : IntOp.andi (Ideal.cmp .olt x y) (Ideal.cmp .ogt x z) = 1#1) :
    ∃ r : ℝ, x = (r : EReal) := by
  obtain ⟨h1, h2⟩ := and_one _ _ h
  subst hy hz
  refine real_of ?_ ?_
  · exact of_decide_eq_true (ofBool_one _ h1)
  · exact of_decide_eq_true (ofBool_one _ h2)

theorem pinf32 : Ideal.ofBits .f32 0x7F800000#32 = ⊤ := by simp [Ideal.ofBits, Ideal.ieee]
theorem ninf32 : Ideal.ofBits .f32 0xFF800000#32 = ⊥ := by simp [Ideal.ofBits, Ideal.ieee]
theorem pinf16 : Ideal.ofBits .bf16 0x7F80#16 = ⊤ := by simp [Ideal.ofBits, Ideal.ieee]
theorem ninf16 : Ideal.ofBits .bf16 0xFF80#16 = ⊥ := by simp [Ideal.ofBits, Ideal.ieee]

/-- Where the precondition holds, the lambda vectors, the queries, keys and values, and the two bias tiles are real. -/
theorem pre_real [Cert.Pre_attn_args_finite.Facts] (x0 : FVec Ideal S4x64 .f32) (x1 : FVec Ideal S1x128 .f32) (x2 : FVec Ideal S2x16384x1536 .bf16)
    (x3 x4 : FVec Ideal S4x256x256 .f32)
    (h : (Cert.Pre_attn_args_finite.fn (F := Ideal) x0 x1 x2 x3 x4).1 = (fun _ => 1#1)
      ∧ (Cert.Pre_attn_args_finite.fn (F := Ideal) x0 x1 x2 x3 x4).2.1 = (fun _ => 1#1)
      ∧ (Cert.Pre_attn_args_finite.fn (F := Ideal) x0 x1 x2 x3 x4).2.2.1 = (fun _ => 1#1)
      ∧ (Cert.Pre_attn_args_finite.fn (F := Ideal) x0 x1 x2 x3 x4).2.2.2 = (fun _ => 1#1)) :
    Real' x0 ∧ Real' x2 ∧ Real' x3 ∧ Real' x4 :=
  ⟨fun i => real_of_cmp (x0 i) (Ideal.ofBits .f32 0x7F800000#32) (Ideal.ofBits .f32 0xFF800000#32) pinf32 ninf32 (congrFun h.1 i),
   fun i => real_of_cmp (x2 i) (Ideal.ofBits .bf16 0x7F80#16) (Ideal.ofBits .bf16 0xFF80#16) pinf16 ninf16 (congrFun h.2.1 i),
   fun i => real_of_cmp (x3 i) (Ideal.ofBits .f32 0x7F800000#32) (Ideal.ofBits .f32 0xFF800000#32) pinf32 ninf32 (congrFun h.2.2.1 i),
   fun i => real_of_cmp (x4 i) (Ideal.ofBits .f32 0x7F800000#32) (Ideal.ofBits .f32 0xFF800000#32) pinf32 ninf32 (congrFun h.2.2.2 i)⟩

end Cert.Proof.AttnIdeal

end
-- ==== Proof.AttnArr.lean ====
/- The attention kernel's result array under the blocks its points leave, as one function of its argument arrays. -/
module

public import proofs.«01_k».proof.Proof.AttnIdealLaunch
public import proofs.«01_k».proof.Proof.AttnSel
public import proofs.«01_k».proof.Proof.AttnLink
public import proofs.«01_k».proof.Proof.AttnPre
public import Idealize.ShloMosaic.Lib.StableHlo.Run

@[expose] public section

set_option maxRecDepth 16384

noncomputable section

namespace Cert.Proof.AttnIdeal

open Idealize.ShloMosaic Idealize.ShloMosaic.TcCoe Idealize.ShloMosaic.Pointwise Idealize.SL.Sem Cert.AttnIdeal Cert.AttnIdeal.Gen Cert.Proof.Flash Cert.Proof.AttnRef
open scoped BigOperators

variable (m : (ℓ : Loc nD τ sig) → Buf (Elt Ideal) ℓ) (ρ : Dev nD → PrngReg)

/-! ## The array the call reads that the host prepares -/

/-- The bias tile of the diagonal blocks as the call finds it: the argument's entries up to the diagonal, masked after it. -/
theorem V_bias (c : Dev nD) (a : Fin 4) (p q : Fin 256) :
    V m c main_v9 (ix3 a p q) = if q.val ≤ p.val then m ((c : Thread nD τ).loc main_arg3) (ix3 a p q) else (⊥ : EReal) := by
  have h : @Eq (FVec Ideal S4x256x256 .f32) (V m c main_v9)
      (select (broadcastInDim S4x256x256 ![1, 2] bcast_S256x256_S4x256x256_1_2
          (cmpi .sge (subi (broadcastInDim S256x256 ![0, 1] bcast_S256x1_S256x256_0_1 (broadcastInDim S256x1 ![0] bcast_S256_S256x1_0 (iotaInDim S256 32 0)))
            (broadcastInDim S256x256 ![0, 1] bcast_S1x256_S256x256_0_1 (broadcastInDim S1x256 ![1] bcast_S256_S1x256_1 (iotaInDim S256 32 0))))
          (broadcastInDim S256x256 ![] bcast_S_S256x256 (constantI S_ 32 0#32))))
        (m ((c : Thread nD τ).loc main_arg3))
        (broadcastInDim S4x256x256 ![] bcast_S_S4x256x256 (constant (F := Ideal) S_ .f32 0xFF800000#32))) := by
    show StableHlo.after ([hostOps0, hostOps0_1].flatten) _ _ = _
    simp only [hostOps0, hostOps0_1, List.flatten_cons, List.flatten_nil, List.append_nil, List.cons_append, List.nil_append]
    after_results_simp <;> rfl
  refine (congrFun h _).trans ?_
  show Scalar.select (IntOp.cmpi .sge (IntOp.subi (BitVec.ofNat 32 p.val) (BitVec.ofNat 32 q.val)) 0#32) (m ((c : Thread nD τ).loc main_arg3) (ix3 a p q)) (Ideal.ofBits .f32 0xFF800000#32) = _
  rw [AttnSel.sel_sge ⟨p.val, by omega⟩ ⟨q.val, by omega⟩, ninf32]

/-! ## Which entries a point's blocks are: batch `t / 64`, head `t / 16 % 4`, query tile `t % 16` -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val / 64 ∧ win0_2.index t (1 : Fin 3) = t.val % 16 ∧ win0_2.index t (2 : Fin 3) = t.val / 16 % 4 :=
  (by decide +kernel : ∀ t : Fin grid0.N, _)
theorem idx3 : ∀ t : Fin cfg0.N, win0_3.index t (0 : Fin 3) = t.val / 64 ∧ win0_3.index t (1 : Fin 3) = 0 ∧ win0_3.index t (2 : Fin 3) = 4 + t.val / 16 % 4 :=
  (by decide +kernel : ∀ t : Fin grid0.N, _)
theorem idx4 : ∀ t : Fin cfg0.N, win0_4.index t (0 : Fin 3) = t.val / 64 ∧ win0_4.index t (1 : Fin 3) = 0 ∧ win0_4.index t (2 : Fin 3) = 8 + t.val / 16 % 4 :=
  (by decide +kernel : ∀ t : Fin grid0.N, _)
theorem idx5 : ∀ t : Fin cfg0.N, win0_5.index t (0 : Fin 3) = t.val / 16 % 4 ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val / 16 % 4 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val / 64 ∧ win0_7.index t (1 : Fin 3) = t.val % 16 ∧ win0_7.index t (2 : Fin 3) = t.val / 16 % 4 :=
  (by decide +kernel : ∀ t : Fin grid0.N, _)
theorem crd : ∀ t : Fin cfg0.N, ((grid0.coords t) 2).val = t.val % 16 :=
  (by decide +kernel : ∀ t : Fin grid0.N, _)

theorem N_lt (t : Fin cfg0.N) : t.val < 128 := by
  have h := t.isLt
  have : cfg0.N = 128 := N_0
  omega

/-- The point's batch. -/
def bt (t : Fin cfg0.N) : Fin 2 := ⟨t.val / 64, by have := N_lt t; omega⟩

theorem iblk0 (c : Dev nD) (t : Fin cfg0.N) : iblk m c 0 t = m ((c : Thread nD τ).loc main_arg0) := by
  obtain ⟨e0, e1⟩ := idx0 t
  rw [← V_main_arg0 m c]
  funext (x : S4x64.Idx)
  obtain ⟨p, q, rfl⟩ : ∃ (p : Fin 4) (q : Fin 64), x = ix2 p q := ⟨x 0, x 1, eq_ix2 x⟩
  show V m c main_arg0 (((cfg0.win 0).blk t).view.emb (ix2 p q)) = _
  congr 1; funext a; apply Fin.ext
  match a with
  | ⟨0, _⟩ => show win0_0.index t (0 : Fin 2) * 4 + 1 * p.val = p.val; omega
  | ⟨1, _⟩ => show win0_0.index t (1 : Fin 2) * 64 + 1 * q.val = q.val; omega

theorem iblk1 (c : Dev nD) (t : Fin cfg0.N) : iblk m c 1 t = m ((c : Thread nD τ).loc main_arg1) := by
  obtain ⟨e0, e1⟩ := idx1 t
  rw [← V_main_arg1 m c]
  funext (x : S1x128.Idx)
  obtain ⟨p, q, rfl⟩ : ∃ (p : Fin 1) (q : Fin 128), x = ix2 p q := ⟨x 0, x 1, eq_ix2 x⟩
  show V m c main_arg1 (((cfg0.win 1).blk t).view.emb (ix2 p q)) = _
  congr 1; funext a; apply Fin.ext
  match a with
  | ⟨0, _⟩ => show win0_1.index t (0 : Fin 2) * 1 + 1 * p.val = p.val; omega
  | ⟨1, _⟩ => show win0_1.index t (1 : Fin 2) * 128 + 1 * q.val = q.val; omega

/-- What the point's blocks hold, in terms of the argument arrays. -/
theorem blk (c : Dev nD) (t : Fin cfg0.N) : Blk (m ((c : Thread nD τ).loc main_arg2)) (m ((c : Thread nD τ).loc main_arg3)) (m ((c : Thread nD τ).loc main_arg4))
    (bt t) (t.val / 16 % 4) (t.val % 16) (iblk m c 2 t) (iblk m c 3 t) (iblk m c 4 t) (iblk m c 5 t) (iblk m c 6 t) where
  q p d := by
    obtain ⟨e0, e1, e2⟩ := idx2 t
    have ht := N_lt t
    unfold X
    rw [dif_pos ⟨by omega, by omega⟩, ← V_main_arg2 m c]
    show V m c main_arg2 (((cfg0.win 2).blk t).view.emb (ix3 0 p d)) = _
    congr 1; funext a; apply Fin.ext
    match a with
    | ⟨0, _⟩ => show win0_2.index t (0 : Fin 3) * 1 + 1 * 0 = t.val / 64; omega
    | ⟨1, _⟩ => show win0_2.index t (1 : Fin 3) * 1024 + 1 * p.val = 1024 * (t.val % 16) + p.val; omega
    | ⟨2, _⟩ => show win0_2.index t (2 : Fin 3) * 128 + 1 * d.val = t.val / 16 % 4 * 128 + d.val; omega
  k j d := by
    obtain ⟨e0, e1, e2⟩ := idx3 t
    have ht := N_lt t
    unfold X
    rw [dif_pos ⟨by omega, by omega⟩, ← V_main_arg2 m c]
    show V m c main_arg2 (((cfg0.win 3).blk t).view.emb (ix3 0 j d)) = _
    congr 1; funext a; apply Fin.ext
    match a with
    | ⟨0, _⟩ => show win0_3.index t (0 : Fin 3) * 1 + 1 * 0 = t.val / 64; omega
    | ⟨1, _⟩ => show win0_3.index t (1 : Fin 3) * 16384 + 1 * j.val = j.val; omega
    | ⟨2, _⟩ => show win0_3.index t (2 : Fin 3) * 128 + 1 * d.val = 512 + (t.val / 16 % 4 * 128 + d.val); omega
  v j d := by
    obtain ⟨e0, e1, e2⟩ := idx4 t
    have ht := N_lt t
    unfold X
    rw [dif_pos ⟨by omega, by omega⟩, ← V_main_arg2 m c]
    show V m c main_arg2 (((cfg0.win 4).blk t).view.emb (ix3 0 j d)) = _
    congr 1; funext a; apply Fin.ext
    match a with
    | ⟨0, _⟩ => show win0_4.index t (0 : Fin 3) * 1 + 1 * 0 = t.val / 64; omega
    | ⟨1, _⟩ => show win0_4.index t (1 : Fin 3) * 16384 + 1 * j.val = j.val; omega
    | ⟨2, _⟩ => show win0_4.index t (2 : Fin 3) * 128 + 1 * d.val = 1024 + (t.val / 16 % 4 * 128 + d.val); omega
  d p q := by
    obtain ⟨e0, e1, e2⟩ := idx5 t
    have hh : t.val / 16 % 4 < 4 := by omega
    unfold Y
    rw [dif_pos ⟨hh, p.isLt, q.isLt⟩]
    refine Eq.trans ?_ (V_bias m c ⟨t.val / 16 % 4, hh⟩ p q)
    show V m c main_v9 (((cfg0.win 5).blk t).view.emb (ix3 0 p q)) = _
    congr 1; funext a; apply Fin.ext
    match a with
    | ⟨0, _⟩ => show win0_5.index t (0 : Fin 3) * 1 + 1 * 0 = t.val / 16 % 4; omega
    | ⟨1, _⟩ => show win0_5.index t (1 : Fin 3) * 256 + 1 * p.val = p.val; omega
    | ⟨2, _⟩ => show win0_5.index t (2 : Fin 3) * 256 + 1 * q.val = q.val; omega
  p p q := by
    obtain ⟨e0, e1, e2⟩ := idx6 t
    have hh : t.val / 16 % 4 < 4 := by omega
    unfold Y
    rw [dif_pos ⟨hh, p.isLt, q.isLt⟩, ← V_main_arg4 m c]
    show V m c main_arg4 (((cfg0.win 6).blk t).view.emb (ix3 0 p q)) = _
    congr 1; funext a; apply Fin.ext
    match a with
    | ⟨0, _⟩ => show win0_6.index t (0 : Fin 3) * 1 + 1 * 0 = t.val / 16 % 4; omega
    | ⟨1, _⟩ => show win0_6.index t (1 : Fin 3) * 256 + 1 * p.val = p.val; omega
    | ⟨2, _⟩ => show win0_6.index t (2 : Fin 3) * 256 + 1 * q.val = q.val; omega

/-! ## The result array -/

/-- The block the body leaves at point `t`. -/
def O7 (c : Dev nD) (t : Fin cfg0.N) : S1x1024x128.Idx → Elt Ideal .bf16 :=
  outB (datR ((grid0.coords t) 2).val (iblk m c 2 t) (iblk m c 3 t) (iblk m c 4 t) (iblk m c 5 t) (iblk m c 6 t)) (iblk m c 0 t) (iblk m c 1 t)

/-- The attention of device `c`'s arguments. -/
def G (c : Dev nD) : Vec Ideal S2x16384x512 .bf16 := fun x =>
  nrm (od (m ((c : Thread nD τ).loc main_arg0)) (m ((c : Thread nD τ).loc main_arg2)) (m ((c : Thread nD τ).loc main_arg3)) (m ((c : Thread nD τ).loc main_arg4))
    (x 0) ((x 2).val / 128) (x 1).val) (m ((c : Thread nD τ).loc main_arg1) (ix2 0 ⟨(x 2).val % 128, Nat.mod_lt _ (by omega)⟩)) ((x 2).val % 128)

/-- The arguments the claim needs finite hold real numbers. -/
def Fin' (c : Dev nD) : Prop :=
  Real' (ι := S4x64.Idx) (m ((c : Thread nD τ).loc main_arg0)) ∧ Real' (ι := S2x16384x1536.Idx) (m ((c : Thread nD τ).loc main_arg2))
    ∧ Real' (ι := S4x256x256.Idx) (m ((c : Thread nD τ).loc main_arg3)) ∧ Real' (ι := S4x256x256.Idx) (m ((c : Thread nD τ).loc main_arg4))

/-- What point `t` writes back is its block of the attention of the arguments. -/
theorem flushed_eq (c : Dev nD) (hf : Fin' m c) (t : Fin cfg0.N) :
    (dats m (O7 m) 0 c).flushed 7 t = (win0_7.blk t).view.read (Elt Ideal) (G m c) := by
  obtain ⟨e0, e1, e2⟩ := idx7 t
  have ht := N_lt t
  have hc : (dats m (O7 m) 0 c).flushed 7 t = (cfg0.win 7).cut (grid0.coords t) (O7 m c t) := by
    show (cfg0.win 7).cut (grid0.coords t) ((dats m (O7 m) 0 c).after 7 t) = _
    rw [after0_7]
  rw [hc]
  funext (j : S1x1024x128.Idx)
  obtain ⟨z, p, q, rfl⟩ : ∃ (z : Fin 1) (p : Fin 1024) (q : Fin 128), j = ix3 z p q := ⟨j 0, j 1, j 2, eq_ix3 j⟩
  obtain rfl : z = 0 := Subsingleton.elim _ _
  show O7 m c t (ix3 0 p q) = G m c (((cfg0.win 7).blk t).view.emb (ix3 0 p q))
  have he : ((cfg0.win 7).blk t).view.emb (ix3 0 p q)
      = ix3 (bt t) (⟨1024 * (t.val % 16) + p.val, by omega⟩ : Fin 16384) (⟨t.val / 16 % 4 * 128 + q.val, by omega⟩ : Fin 512) := by
    funext a; apply Fin.ext
    match a with
    | ⟨0, _⟩ => show win0_7.index t (0 : Fin 3) * 1 + 1 * 0 = t.val / 64; omega
    | ⟨1, _⟩ => show win0_7.index t (1 : Fin 3) * 1024 + 1 * p.val = 1024 * (t.val % 16) + p.val; omega
    | ⟨2, _⟩ => show win0_7.index t (2 : Fin 3) * 128 + 1 * q.val = t.val / 16 % 4 * 128 + q.val; omega
  rw [he]
  unfold O7 G
  rw [iblk0, iblk1, crd]
  obtain ⟨h0, h2, h3, h4⟩ := hf
  refine (block_eq h0 h2 h3 h4 (blk m c t) (by omega) p q).trans ?_
  have m1 : (t.val / 16 % 4 * 128 + q.val) / 128 = t.val / 16 % 4 := by omega
  have m2 : (t.val / 16 % 4 * 128 + q.val) % 128 = q.val := by omega
  have m3 : (⟨(t.val / 16 % 4 * 128 + q.val) % 128, Nat.mod_lt _ (by omega)⟩ : Fin 128) = q := Fin.ext m2
  show _ = nrm (od _ _ _ _ (bt t) ((t.val / 16 % 4 * 128 + q.val) / 128) (1024 * (t.val % 16) + p.val))
    (m ((c : Thread nD τ).loc main_arg1) (ix2 0 ⟨(t.val / 16 % 4 * 128 + q.val) % 128, Nat.mod_lt _ (by omega)⟩)) ((t.val / 16 % 4 * 128 + q.val) % 128)
  rw [m1, m3, m2]

/-- An index of the result array is in point `t`'s block exactly when its batch, its query tile and its head are the point's. -/
theorem mem_blk (t : Fin cfg0.N) (i : S2x16384x512.Idx) :
    i ∈ ((cfg0.win 7).blk t).view.set ↔ (i 0 : Nat) = t.val / 64 ∧ (i 1 : Nat) / 1024 = t.val % 16 ∧ (i 2 : Nat) / 128 = t.val / 16 % 4 := by
  obtain ⟨e0, e1, e2⟩ := idx7 t
  show i ∈ ((View.whole main_v10).slice (win0_7.rect t)).set ↔ _
  rw [View.set_slice_whole, Rect.mem_set_unit]
  refine ⟨fun h => ?_, fun h a => ?_⟩
  · have h0 : win0_7.index t (0 : Fin 3) * 1 ≤ (i 0 : Nat) ∧ (i 0 : Nat) < win0_7.index t (0 : Fin 3) * 1 + 1 := h 0
    have h1 : win0_7.index t (1 : Fin 3) * 1024 ≤ (i 1 : Nat) ∧ (i 1 : Nat) < win0_7.index t (1 : Fin 3) * 1024 + 1024 := h 1
    have h2 : win0_7.index t (2 : Fin 3) * 128 ≤ (i 2 : Nat) ∧ (i 2 : Nat) < win0_7.index t (2 : Fin 3) * 128 + 128 := h 2
    omega
  · match a with
    | ⟨0, _⟩ => show win0_7.index t (0 : Fin 3) * 1 ≤ (i 0 : Nat) ∧ (i 0 : Nat) < win0_7.index t (0 : Fin 3) * 1 + 1; omega
    | ⟨1, _⟩ => show win0_7.index t (1 : Fin 3) * 1024 ≤ (i 1 : Nat) ∧ (i 1 : Nat) < win0_7.index t (1 : Fin 3) * 1024 + 1024; omega
    | ⟨2, _⟩ => show win0_7.index t (2 : Fin 3) * 128 ≤ (i 2 : Nat) ∧ (i 2 : Nat) < win0_7.index t (2 : Fin 3) * 128 + 128; omega

/-- The points' blocks cover the result array. -/
theorem cover (i : S2x16384x512.Idx) : ∃ t : Fin cfg0.N, (cfg0.win 7).flush t = true ∧ i ∈ ((cfg0.win 7).blk t).view.set := by
  have h0 : (i 0 : Nat) < 2 := (i 0).isLt
  have h1 : (i 1 : Nat) < 16384 := (i 1).isLt
  have h2 : (i 2 : Nat) < 512 := (i 2).isLt
  have hN : cfg0.N = 128 := N_0
  refine ⟨⟨(i 0 : Nat) * 64 + (i 2 : Nat) / 128 * 16 + (i 1 : Nat) / 1024, by omega⟩, flush0_7 _, ?_⟩
  rw [mem_blk]
  dsimp only
  omega

/-- So the result array ends holding the attention of the arguments, -/
theorem final (c : Dev nD) (hf : Fin' m c) : (dats m (O7 m) 0 c).arrAt 7 cfg0.N = G m c :=
  (dats m (O7 m) 0 c).arrAt_eq_of_cover 7 (G m c) (fun t _ => flushed_eq m c hf t) cover

end Cert.Proof.AttnIdeal

end
-- ==== Proof.AttnNear.lean ====
/- The attention kernel's step from the rows' own tile to the tile before it. -/
module

public import proofs.«01_k».proof.Proof.AttnTile
public import proofs.«01_k».proof.Proof.AttnIdealBase

@[expose] public section

set_option maxRecDepth 16384
set_option maxHeartbeats 4000000

noncomputable section

namespace Cert.Proof.AttnIdeal

open Idealize.ShloMosaic Idealize.ShloMosaic.Pointwise Cert.AttnIdeal Cert.AttnIdeal.Gen Cert.Proof.Flash
open Idealize.ShloMosaic.TcCoe Idealize.ShloMosaic.Tactic
open scoped BigOperators

variable {c : Dev nD} {A : Args} {I : Ins Ideal c A}

/-- The end of the rows' own tile, and the tile before it where there is one. -/
theorem vl_part51 (i : grid0.Coords) (arg2 : BitVec 32) (v14 : FVec Ideal S2048x128 .bf16) (v23 : BitVec 32) (v25 : BitVec 32) (v100 : FVec Ideal S1024x128 .bf16) (v114 : FVec Ideal S1024x256 .bf16) (v494 : Vec Ideal S256x1024 .f32) (v495 : Vec Ideal S256x1 .f32) (σ : St1 Ideal c A)
    (hq : ∀ (R : Fin 2048) (d : Fin 128), v14 (ix2 R d) = (datI (i 2).val I).qq R.val d.val)
    (hk : ∀ (q : Fin 1024) (d : Fin 128), v100 (ix2 q d) = (datI (i 2).val I).K (1024 * ((i 2).val - 1) + q.val) d.val)
    (hva : ∀ (q : Fin 1024) (x : Fin 256), v114 (ix2 q x) = (datI (i 2).val I).va (1024 * (i 2).val + q.val) x.val)
    {inb0 : ∀ a, ![(0 : Fin 2).val, 0, 0] a + (![1, 2048, 1024] : Fin 3 → ℕ) a ≤ S2x2048x1024.size a} {hst hsq}
    {inbs : ∀ a, ![1792, 0] a + (![256, 1024] : Fin 2 → ℕ) a ≤ S2048x1024.size a}
    {inbm : ∀ a, ![1792, 0] a + (![256, 1] : Fin 2 → ℕ) a ≤ S2048x1.size a}
    (hv901 : v494 = View.readAt (Elt Ideal) ((sM.slice (Rect.unit (s := S2x2048x1024) ![(0 : Fin 2).val, 0, 0] ![1, 2048, 1024] inb0) hst).squeeze S2048x1024 hsq).view
      (Rect.unit (s := S2048x1024) ![1792, 0] ![256, 1024] inbs).toLoadRect σ.s)
    (hv902 : v495 = View.readAt (Elt Ideal) mM.view (Rect.unit (s := S2048x1) ![1792, 0] ![256, 1] inbm).toLoadRect σ.m)
    (T : TI (datI (i 2).val I) 0 1 (fun _ => ∅) (1024 * (i 2).val) nkD (1024 * ((i 2).val - 1)) (fun _ => 1024) 1792 1792
      (upd (upd ((datI (i 2).val I).raw (1024 * (datI (i 2).val I).i)) 1792 768 (datI (i 2).val I).bd) 1792 512 (datI (i 2).val I).bp) σ) :
    W I (k0_part51 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) arg2 v14 v23 v25 v100 v114 v494 v495) σ (fun _ σ' => (∀ R < 2048, Fl (datI (i 2).val I) σ' R (SF (i 2).val 0 R)) ∧ (1 ≤ (i 2).val → FarTI (datI (i 2).val I) 0 1 0 σ')) := by
  have hDi : (datI (i 2).val I).i = (i 2).val := rfl
  rw [k0_part51_eq_skeleton]; unfold k0_part51_skel
  try dsimp only
  refine W_bind (W_load_a fun v903 hv903 => ?_)
  refine W_bind (W_load_a fun v904 hv904 => ?_)
  refine W_bind (W_store_a fun σ905 hσ905 => ?_)
  refine W_bind (W_load_m fun v906 hv906 => ?_)
  refine W_bind (W_store_m fun σ907 hσ907 => ?_)
  have T908 : TI ((datI (i 2).val I)) 0 1 _ _ _ _ _ 2048 1792 _ _ := flash_256_1024 T hv901 hv902 hv903 hσ905 hσ907 rfl rfl hva (fun R => Finset.disjoint_empty_left _) (fun R h1 h2 => by unfold nkD; omega) (fun R q h1 h2 h => hWd (D := (datI (i 2).val I)) 1792 768 512 (by decide) (by decide) (by decide) (by decide) R q h1 h2 h) (fun R q h _ _ => (upd_out (by omega)).trans (upd_out (by omega)))
  clear hσ905 hσ907
  clear hv903 hv904 hv906
  refine W_bind (W_load_s fun v909 hv909 => ?_)
  refine W_bind (W_store_s fun σ910 hσ910 => ?_)
  have T911 : TI ((datI (i 2).val I)) 0 1 _ _ _ _ _ 2048 2048 _ _ := next T908 hσ910 (dotC256_apply 1792 slices_S2048x128_o1792_0_S256x128 hq hk rfl) (by decide) (fun _ _ _ => le_refl _)
  clear hσ910
  refine W_dite (fun h => ?_) (fun h => ?_)
  · clear hv901 hv902
    have hi : 1 ≤ (i 2).val := (cond1_iff i).mp h
    have T0 := switch (S' := fun R => Finset.Ico (1024 * (i 2).val) (1024 * (i 2).val + nkD R)) T911 (by decide) (by decide) (fun R => Finset.empty_union _) (1024 * 0) (fun _ => 1024)
    refine W_bind ?_
    rw [k0_part1_eq_skeleton]; unfold k0_part1_skel
    try dsimp only
    refine W_bind (W_load_in6 fun v912 hv912 => ?_)
    have hk912 := k_of (i := (i 2).val) (n := 0) hv912 rfl
    refine W_bind (W_load_in7 fun v913 hv913 => ?_)
    have hva913 := va_of (i := (i 2).val) (n := 1024 * ((i 2).val - 1)) hv913 (off3_eq i hi)
    refine W_bind (W_load_s fun v914 hv914 => ?_)
    refine W_bind (W_load_in9 fun v915 hv915 => ?_)
    refine W_bind (W_load_s fun v916 hv916 => ?_)
    refine W_bind (W_store_s fun σ917 hσ917 => ?_)
    have T918 : TI ((datI (i 2).val I)) 1 0 _ _ _ _ _ 0 0 _ _ := patch T0 hσ917 hv914 (w := _) rfl (bp_of (i := (i 2).val) hv915) (by decide)
    clear hσ917
    refine W_bind (W_load_s fun v919 hv919 => ?_)
    refine W_pure ?_
    try dsimp only
    refine W_bind ?_
    rw [k0_part2_eq_skeleton]; unfold k0_part2_skel
    try dsimp only
    refine W_bind (W_load_m fun v920 hv920 => ?_)
    refine W_bind (W_load_a fun v921 hv921 => ?_)
    refine W_bind (W_load_a fun v922 hv922 => ?_)
    refine W_bind (W_store_a fun σ923 hσ923 => ?_)
    refine W_bind (W_load_m fun v924 hv924 => ?_)
    refine W_bind (W_store_m fun σ925 hσ925 => ?_)
    have T926 : TI ((datI (i 2).val I)) 1 0 _ _ _ _ _ 256 0 _ _ := flash_256_1024 T918 hv919 hv920 hv921 hσ923 hσ925 rfl rfl hva913 (near_disj hi) (fun _ _ _ => rfl) (fun R q h1 h2 h => hWp0 (D := (datI (i 2).val I)) hi 0 (by decide) R q h1 h2 h) (fun R q h _ _ => upd_out (by omega))
    clear hσ923 hσ925
    clear hv909 hv914 hv916 hv919 hv920 hv921 hv922 hv924
    refine W_bind (W_load_s fun v927 hv927 => ?_)
    refine W_bind (W_store_s fun σ928 hσ928 => ?_)
    have T929 : TI ((datI (i 2).val I)) 1 0 _ _ _ _ _ 256 256 _ _ := next T926 hσ928 (dotC256_apply 0 slices_S2048x128_o0_0_S256x128 hq hk912 rfl) (by decide) (fun _ _ _ => le_refl _)
    clear hσ928
    refine W_bind (W_load_s fun v930 hv930 => ?_)
    refine W_bind (W_load_m fun v931 hv931 => ?_)
    refine W_pure ?_
    try dsimp only
    refine W_bind ?_
    rw [k0_part3_eq_skeleton]; unfold k0_part3_skel
    try dsimp only
    refine W_bind (W_load_a fun v932 hv932 => ?_)
    refine W_bind (W_load_a fun v933 hv933 => ?_)
    refine W_bind (W_store_a fun σ934 hσ934 => ?_)
    refine W_bind (W_load_m fun v935 hv935 => ?_)
    refine W_bind (W_store_m fun σ936 hσ936 => ?_)
    have T937 : TI ((datI (i 2).val I)) 1 0 _ _ _ _ _ 512 256 _ _ := flash_256_1024 T929 hv930 hv931 hv932 hσ934 hσ936 rfl rfl hva913 (near_disj hi) (fun _ _ _ => rfl) (fun R q h1 h2 h => hWp (D := (datI (i 2).val I)) hi R q (by omega) h) (fun _ _ _ _ _ => rfl)
    clear hσ934 hσ936
    clear hv927 hv930 hv931 hv932 hv933 hv935
    refine W_bind (W_load_s fun v938 hv938 => ?_)
    refine W_bind (W_store_s fun σ939 hσ939 => ?_)
    have T940 : TI ((datI (i 2).val I)) 1 0 _ _ _ _ _ 512 512 _ _ := next T937 hσ939 (dotC256_apply 256 slices_S2048x128_o256_0_S256x128 hq hk912 rfl) (by decide) (fun _ _ _ => le_refl _)
    clear hσ939
    refine W_bind (W_load_s fun v941 hv941 => ?_)
    refine W_bind (W_load_m fun v942 hv942 => ?_)
    refine W_bind (W_load_a fun v943 hv943 => ?_)
    refine W_pure ?_
    try dsimp only
    refine W_bind ?_
    rw [k0_part4_eq_skeleton]; unfold k0_part4_skel
    try dsimp only
    refine W_bind (W_load_a fun v944 hv944 => ?_)
    refine W_bind (W_store_a fun σ945 hσ945 => ?_)
    refine W_bind (W_load_m fun v946 hv946 => ?_)
    refine W_bind (W_store_m fun σ947 hσ947 => ?_)
    have T948 : TI ((datI (i 2).val I)) 1 0 _ _ _ _ _ 768 512 _ _ := flash_256_1024 T940 hv941 hv942 hv943 hσ945 hσ947 rfl rfl hva913 (near_disj hi) (fun _ _ _ => rfl) (fun R q h1 h2 h => hWp (D := (datI (i 2).val I)) hi R q (by omega) h) (fun _ _ _ _ _ => rfl)
    clear hσ945 hσ947
    clear hv938 hv941 hv942 hv943 hv944 hv946
    refine W_bind (W_load_s fun v949 hv949 => ?_)
    refine W_bind (W_store_s fun σ950 hσ950 => ?_)
    have T951 : TI ((datI (i 2).val I)) 1 0 _ _ _ _ _ 768 768 _ _ := next T948 hσ950 (dotC256_apply 512 slices_S2048x128_o512_0_S256x128 hq hk912 rfl) (by decide) (fun _ _ _ => le_refl _)
    clear hσ950
    refine W_bind (W_load_s fun v952 hv952 => ?_)
    refine W_bind (W_load_m fun v953 hv953 => ?_)
    refine W_bind (W_load_a fun v954 hv954 => ?_)
    refine W_pure ?_
    try dsimp only
    refine W_bind ?_
    rw [k0_part5_eq_skeleton]; unfold k0_part5_skel
    try dsimp only
    refine W_bind (W_load_a fun v955 hv955 => ?_)
    refine W_bind (W_store_a fun σ956 hσ956 => ?_)
    refine W_bind (W_load_m fun v957 hv957 => ?_)
    refine W_bind (W_store_m fun σ958 hσ958 => ?_)
    have T959 : TI ((datI (i 2).val I)) 1 0 _ _ _ _ _ 1024 768 _ _ := flash_256_1024 T951 hv952 hv953 hv954 hσ956 hσ958 rfl rfl hva913 (near_disj hi) (fun _ _ _ => rfl) (fun R q h1 h2 h => hWp (D := (datI (i 2).val I)) hi R q (by omega) h) (fun _ _ _ _ _ => rfl)
    clear hσ956 hσ958
    clear hv949 hv952 hv953 hv954 hv955 hv957
    refine W_bind (W_load_s fun v960 hv960 => ?_)
    refine W_bind (W_store_s fun σ961 hσ961 => ?_)
    have T962 : TI ((datI (i 2).val I)) 1 0 _ _ _ _ _ 1024 1024 _ _ := next T959 hσ961 (dotC256_apply 768 slices_S2048x128_o768_0_S256x128 hq hk912 rfl) (by decide) (fun _ _ _ => le_refl _)
    clear hσ961
    refine W_bind (W_load_s fun v963 hv963 => ?_)
    refine W_bind (W_load_in9 fun v964 hv964 => ?_)
    refine W_bind (W_load_s fun v965 hv965 => ?_)
    refine W_bind (W_store_s fun σ966 hσ966 => ?_)
    have T967 : TI ((datI (i 2).val I)) 1 0 _ _ _ _ _ 1024 1024 _ _ := patch T962 hσ966 hv963 (w := _) rfl (bp_of (i := (i 2).val) hv964) (by decide)
    clear hσ966
    refine W_bind (W_load_s fun v968 hv968 => ?_)
    refine W_bind (W_load_m fun v969 hv969 => ?_)
    refine W_pure ?_
    try dsimp only
    refine W_bind ?_
    rw [k0_part6_eq_skeleton]; unfold k0_part6_skel
    try dsimp only
    refine W_bind (W_load_a fun v970 hv970 => ?_)
    refine W_bind (W_load_a fun v971 hv971 => ?_)
    refine W_bind (W_store_a fun σ972 hσ972 => ?_)
    refine W_bind (W_load_m fun v973 hv973 => ?_)
    refine W_bind (W_store_m fun σ974 hσ974 => ?_)
    have T975 : TI ((datI (i 2).val I)) 1 0 _ _ _ _ _ 1280 1024 _ _ := flash_256_1024 T967 hv968 hv969 hv970 hσ972 hσ974 rfl rfl hva913 (near_disj hi) (fun _ _ _ => rfl) (fun R q h1 h2 h => hWp0 (D := (datI (i 2).val I)) hi 1024 (by decide) R q h1 h2 h) (fun R q h _ _ => upd_out (by omega))
    clear hσ972 hσ974
    clear hv960 hv963 hv965 hv968 hv969 hv970 hv971 hv973
    refine W_bind (W_load_s fun v976 hv976 => ?_)
    refine W_bind (W_store_s fun σ977 hσ977 => ?_)
    have T978 : TI ((datI (i 2).val I)) 1 0 _ _ _ _ _ 1280 1280 _ _ := next T975 hσ977 (dotC256_apply 1024 slices_S2048x128_o1024_0_S256x128 hq hk912 rfl) (by decide) (fun _ _ _ => le_refl _)
    clear hσ977
    refine W_bind (W_load_s fun v979 hv979 => ?_)
    refine W_bind (W_load_m fun v980 hv980 => ?_)
    refine W_pure ?_
    try dsimp only
    refine W_bind ?_
    rw [k0_part7_eq_skeleton]; unfold k0_part7_skel
    try dsimp only
    refine W_bind (W_load_a fun v981 hv981 => ?_)
    refine W_bind (W_load_a fun v982 hv982 => ?_)
    refine W_bind (W_store_a fun σ983 hσ983 => ?_)
    refine W_bind (W_load_m fun v984 hv984 => ?_)
    refine W_bind (W_store_m fun σ985 hσ985 => ?_)
    have T986 : TI ((datI (i 2).val I)) 1 0 _ _ _ _ _ 1536 1280 _ _ := flash_256_1024 T978 hv979 hv980 hv981 hσ983 hσ985 rfl rfl hva913 (near_disj hi) (fun _ _ _ => rfl) (fun R q h1 h2 h => hWp (D := (datI (i 2).val I)) hi R q (by omega) h) (fun _ _ _ _ _ => rfl)
    clear hσ983 hσ985
    clear hv976 hv979 hv980 hv981 hv982 hv984
    refine W_bind (W_load_s fun v987 hv987 => ?_)
    refine W_bind (W_store_s fun σ988 hσ988 => ?_)
    have T989 : TI ((datI (i 2).val I)) 1 0 _ _ _ _ _ 1536 1536 _ _ := next T986 hσ988 (dotC256_apply 1280 slices_S2048x128_o1280_0_S256x128 hq hk912 rfl) (by decide) (fun _ _ _ => le_refl _)
    clear hσ988
    refine W_bind (W_load_s fun v990 hv990 => ?_)
    refine W_bind (W_load_m fun v991 hv991 => ?_)
    refine W_bind (W_load_a fun v992 hv992 => ?_)
    refine W_pure ?_
    try dsimp only
    refine W_bind ?_
    rw [k0_part8_eq_skeleton]; unfold k0_part8_skel
    try dsimp only
    refine W_bind (W_load_a fun v993 hv993 => ?_)
    refine W_bind (W_store_a fun σ994 hσ994 => ?_)
    refine W_bind (W_load_m fun v995 hv995 => ?_)
    refine W_bind (W_store_m fun σ996 hσ996 => ?_)
    have T997 : TI ((datI (i 2).val I)) 1 0 _ _ _ _ _ 1792 1536 _ _ := flash_256_1024 T989 hv990 hv991 hv992 hσ994 hσ996 rfl rfl hva913 (near_disj hi) (fun _ _ _ => rfl) (fun R q h1 h2 h => hWp (D := (datI (i 2).val I)) hi R q (by omega) h) (fun _ _ _ _ _ => rfl)
    clear hσ994 hσ996
    clear hv987 hv990 hv991 hv992 hv993 hv995
    refine W_bind (W_load_s fun v998 hv998 => ?_)
    refine W_bind (W_store_s fun σ999 hσ999 => ?_)
    have T1000 : TI ((datI (i 2).val I)) 1 0 _ _ _ _ _ 1792 1792 _ _ := next T997 hσ999 (dotC256_apply 1536 slices_S2048x128_o1536_0_S256x128 hq hk912 rfl) (by decide) (fun _ _ _ => le_refl _)
    clear hσ999
    refine W_bind (W_load_s fun v1001 hv1001 => ?_)
    refine W_bind (W_load_m fun v1002 hv1002 => ?_)
    refine W_bind (W_load_a fun v1003 hv1003 => ?_)
    refine W_bind (W_load_a fun v1004 hv1004 => ?_)
    refine W_bind (W_store_a fun σ1005 hσ1005 => ?_)
    refine W_pure ?_
    try dsimp only
    refine W_bind (W_load_m fun v1006 hv1006 => ?_)
    refine W_bind (W_store_m fun σ1007 hσ1007 => ?_)
    have T1008 : TI ((datI (i 2).val I)) 1 0 _ _ _ _ _ 2048 1792 _ _ := flash_256_1024 T1000 hv1001 hv1002 hv1003 hσ1005 hσ1007 rfl rfl hva913 (near_disj hi) (fun _ _ _ => rfl) (fun R q h1 h2 h => hWp (D := (datI (i 2).val I)) hi R q (by omega) h) (fun _ _ _ _ _ => rfl)
    clear hσ1005 hσ1007
    clear hv998 hv1001 hv1002 hv1003 hv1004 hv1006
    refine W_bind (W_load_s fun v1009 hv1009 => ?_)
    refine W_bind (W_store_s fun σ1010 hσ1010 => ?_)
    have T1011 : TI ((datI (i 2).val I)) 1 0 _ _ _ _ _ 2048 2048 _ _ := next T1008 hσ1010 (dotC256_apply 1792 slices_S2048x128_o1792_0_S256x128 hq hk912 rfl) (by decide) (fun _ _ _ => le_refl _)
    clear hσ1010
    have T1012 := switch (S' := SF (i 2).val 0) T1011 (by decide) (by decide) (fun R => SF_near hi R) (1024 * (0 + 1)) (fun _ => 1024)
    exact W_pure ⟨fun R hR => by have := T1012.fl R hR; rwa [if_neg (Nat.not_lt_zero _)] at this, fun _ => T1012⟩
  · have hi : ¬ 1 ≤ (i 2).val := fun h' => h ((cond1_iff i).mpr h')
    exact W_pure ⟨done T911 (by decide) (SF_zero (by omega)), fun h => absurd h hi⟩

end Cert.Proof.AttnIdeal

end
-- ==== Proof.AttnLoop.lean ====
/- A trip of the attention kernel's loop over pairs of far tiles. -/
module

public import proofs.«01_k».proof.Proof.AttnTile
public import proofs.«01_k».proof.Proof.AttnIdealBase

@[expose] public section

set_option maxRecDepth 16384
set_option maxHeartbeats 4000000

noncomputable section

namespace Cert.Proof.AttnIdeal

open Idealize.ShloMosaic Idealize.ShloMosaic.Pointwise Cert.AttnIdeal Cert.AttnIdeal.Gen Cert.Proof.Flash
open Idealize.ShloMosaic.TcCoe Idealize.ShloMosaic.Tactic
open scoped BigOperators

variable {c : Dev nD} {A : Args} {I : Ins Ideal c A}

/-- A trip of the loop over pairs of far tiles takes in both tiles' keys. -/
theorem vl_t1 (i : grid0.Coords) (v14 : FVec Ideal S2048x128 .bf16) (v25 : BitVec 32) (v527 : BitVec 32) (c2_i32 : BitVec 32) (v528 : BitVec 32) (v530 : BitVec 32) (k0_t1 : Fin (k0_t1_loop i).trips) (σ : St1 Ideal c A)
    (hq : ∀ (R : Fin 2048) (d : Fin 128), v14 (ix2 R d) = (datI (i 2).val I).qq R.val d.val)
    (T : FarTI (datI (i 2).val I) 0 1 (2 * k0_t1.val) σ) :
    W I (k0_t1_body i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v25 v527 c2_i32 v528 v530 k0_t1 ()) σ (fun _ σ' => FarTI (datI (i 2).val I) 0 1 (2 * (k0_t1.val + 1)) σ') := by
  have hDi : (datI (i 2).val I).i = (i 2).val := rfl
  have hk : k0_t1.val < ((i 2).val - 2) / 2 := by rw [← trips1_eq i]; exact k0_t1.isLt
  have ho := off4_eq i k0_t1
  unfold k0_t1_body
  try dsimp only
  refine W_bind ?_
  rw [k0_part9_eq_skeleton]; unfold k0_part9_skel
  try dsimp only
  refine W_bind (W_load_in6 fun v1 hv1 => ?_)
  have hk1 := k_of (i := (i 2).val) (n := 1024 * (2 * k0_t1.val + 1)) hv1 ho.1
  refine W_bind (W_load_in7 fun v2 hv2 => ?_)
  have hva2 := va_of (i := (i 2).val) (n := 1024 * (2 * k0_t1.val)) hv2 ho.2.2
  refine W_bind (W_load_s fun v3 hv3 => ?_)
  refine W_bind (W_load_m fun v4 hv4 => ?_)
  refine W_bind (W_load_a fun v5 hv5 => ?_)
  refine W_pure ?_
  try dsimp only
  refine W_bind ?_
  rw [k0_part10_eq_skeleton]; unfold k0_part10_skel
  try dsimp only
  refine W_bind (W_load_a fun v6 hv6 => ?_)
  refine W_bind (W_store_a fun σ7 hσ7 => ?_)
  refine W_bind (W_load_m fun v8 hv8 => ?_)
  refine W_bind (W_store_m fun σ9 hσ9 => ?_)
  have T10 : TI ((datI (i 2).val I)) 0 1 _ _ _ _ _ 512 0 _ _ := flash_512_1024 T hv3 hv4 hv5 hσ7 hσ9 rfl rfl hva2 (SF_disj (by omega)) (fun _ _ _ => rfl) (fun R q _ _ h => hWf (D := (datI (i 2).val I)) (show 1024 * (2 * k0_t1.val) + 1024 ≤ 1024 * ((i 2).val - 1) by omega) R q h) (fun _ _ _ _ _ => rfl)
  clear hσ7 hσ9
  clear hv3 hv4 hv5 hv6 hv8
  refine W_bind (W_load_s fun v11 hv11 => ?_)
  refine W_bind (W_store_s fun σ12 hσ12 => ?_)
  have T13 : TI ((datI (i 2).val I)) 0 1 _ _ _ _ _ 512 512 _ _ := next T10 hσ12 (dotC512_apply 0 slices_S2048x128_o0_0_S512x128 hq hk1 rfl) (by decide) (fun _ _ _ => le_refl _)
  clear hσ12
  refine W_bind (W_load_s fun v14 hv14 => ?_)
  refine W_bind (W_load_m fun v15 hv15 => ?_)
  refine W_bind (W_load_a fun v16 hv16 => ?_)
  refine W_bind (W_load_a fun v17 hv17 => ?_)
  refine W_pure ?_
  try dsimp only
  refine W_bind ?_
  rw [k0_part11_eq_skeleton]; unfold k0_part11_skel
  try dsimp only
  refine W_bind (W_store_a fun σ18 hσ18 => ?_)
  refine W_bind (W_load_m fun v19 hv19 => ?_)
  refine W_bind (W_store_m fun σ20 hσ20 => ?_)
  have T21 : TI ((datI (i 2).val I)) 0 1 _ _ _ _ _ 1024 512 _ _ := flash_512_1024 T13 hv14 hv15 hv16 hσ18 hσ20 rfl rfl hva2 (SF_disj (by omega)) (fun _ _ _ => rfl) (fun R q _ _ h => hWf (D := (datI (i 2).val I)) (show 1024 * (2 * k0_t1.val) + 1024 ≤ 1024 * ((i 2).val - 1) by omega) R q h) (fun _ _ _ _ _ => rfl)
  clear hσ18 hσ20
  clear hv11 hv14 hv15 hv16 hv17 hv19
  refine W_bind (W_load_s fun v22 hv22 => ?_)
  refine W_bind (W_store_s fun σ23 hσ23 => ?_)
  have T24 : TI ((datI (i 2).val I)) 0 1 _ _ _ _ _ 1024 1024 _ _ := next T21 hσ23 (dotC512_apply 512 slices_S2048x128_o512_0_S512x128 hq hk1 rfl) (by decide) (fun _ _ _ => le_refl _)
  clear hσ23
  refine W_bind (W_load_s fun v25 hv25 => ?_)
  refine W_bind (W_load_m fun v26 hv26 => ?_)
  refine W_bind (W_load_a fun v27 hv27 => ?_)
  refine W_bind (W_load_a fun v28 hv28 => ?_)
  refine W_bind (W_store_a fun σ29 hσ29 => ?_)
  refine W_bind (W_load_m fun v30 hv30 => ?_)
  refine W_bind (W_store_m fun σ31 hσ31 => ?_)
  have T32 : TI ((datI (i 2).val I)) 0 1 _ _ _ _ _ 1536 1024 _ _ := flash_512_1024 T24 hv25 hv26 hv27 hσ29 hσ31 rfl rfl hva2 (SF_disj (by omega)) (fun _ _ _ => rfl) (fun R q _ _ h => hWf (D := (datI (i 2).val I)) (show 1024 * (2 * k0_t1.val) + 1024 ≤ 1024 * ((i 2).val - 1) by omega) R q h) (fun _ _ _ _ _ => rfl)
  clear hσ29 hσ31
  clear hv22 hv25 hv26 hv27 hv28 hv30
  refine W_pure ?_
  try dsimp only
  refine W_bind ?_
  rw [k0_part12_eq_skeleton]; unfold k0_part12_skel
  try dsimp only
  refine W_bind (W_load_s fun v33 hv33 => ?_)
  refine W_bind (W_store_s fun σ34 hσ34 => ?_)
  have T35 : TI ((datI (i 2).val I)) 0 1 _ _ _ _ _ 1536 1536 _ _ := next T32 hσ34 (dotC512_apply 1024 slices_S2048x128_o1024_0_S512x128 hq hk1 rfl) (by decide) (fun _ _ _ => le_refl _)
  clear hσ34
  refine W_bind (W_load_s fun v36 hv36 => ?_)
  refine W_bind (W_load_m fun v37 hv37 => ?_)
  refine W_bind (W_load_a fun v38 hv38 => ?_)
  refine W_bind (W_load_a fun v39 hv39 => ?_)
  refine W_bind (W_store_a fun σ40 hσ40 => ?_)
  refine W_bind (W_load_m fun v41 hv41 => ?_)
  refine W_bind (W_store_m fun σ42 hσ42 => ?_)
  have T43 : TI ((datI (i 2).val I)) 0 1 _ _ _ _ _ 2048 1536 _ _ := flash_512_1024 T35 hv36 hv37 hv38 hσ40 hσ42 rfl rfl hva2 (SF_disj (by omega)) (fun _ _ _ => rfl) (fun R q _ _ h => hWf (D := (datI (i 2).val I)) (show 1024 * (2 * k0_t1.val) + 1024 ≤ 1024 * ((i 2).val - 1) by omega) R q h) (fun _ _ _ _ _ => rfl)
  clear hσ40 hσ42
  clear hv33 hv36 hv37 hv38 hv39 hv41
  refine W_pure ?_
  try dsimp only
  refine W_bind ?_
  rw [k0_part13_eq_skeleton]; unfold k0_part13_skel
  try dsimp only
  refine W_bind (W_load_s fun v44 hv44 => ?_)
  refine W_bind (W_store_s fun σ45 hσ45 => ?_)
  have T46 : TI ((datI (i 2).val I)) 0 1 _ _ _ _ _ 2048 2048 _ _ := next T43 hσ45 (dotC512_apply 1536 slices_S2048x128_o1536_0_S512x128 hq hk1 rfl) (by decide) (fun _ _ _ => le_refl _)
  clear hσ45
  have T47 := switch (S' := SF (datI (i 2).val I).i (2 * k0_t1.val + 1)) T46 (by decide) (by decide) (fun R => SF_succ R (by omega)) (1024 * (2 * k0_t1.val + 2)) (fun _ => 1024)
  refine W_bind (W_load_in6 fun v48 hv48 => ?_)
  have hk48 := k_of (i := (i 2).val) (n := 1024 * (2 * k0_t1.val + 2)) hv48 ho.2.1
  refine W_bind (W_load_in7 fun v49 hv49 => ?_)
  have hva49 := va_of (i := (i 2).val) (n := 1024 * (2 * k0_t1.val + 1)) hv49 ho.1
  refine W_bind (W_load_s fun v50 hv50 => ?_)
  refine W_bind (W_load_m fun v51 hv51 => ?_)
  refine W_pure ?_
  try dsimp only
  refine W_bind ?_
  rw [k0_part14_eq_skeleton]; unfold k0_part14_skel
  try dsimp only
  refine W_bind (W_load_a fun v52 hv52 => ?_)
  refine W_bind (W_load_a fun v53 hv53 => ?_)
  refine W_bind (W_store_a fun σ54 hσ54 => ?_)
  refine W_bind (W_load_m fun v55 hv55 => ?_)
  refine W_bind (W_store_m fun σ56 hσ56 => ?_)
  have T57 : TI ((datI (i 2).val I)) 1 0 _ _ _ _ _ 512 0 _ _ := flash_512_1024 T47 hv50 hv51 hv52 hσ54 hσ56 rfl rfl hva49 (SF_disj (by omega)) (fun _ _ _ => rfl) (fun R q _ _ h => hWf (D := (datI (i 2).val I)) (show 1024 * (2 * k0_t1.val + 1) + 1024 ≤ 1024 * ((i 2).val - 1) by omega) R q h) (fun _ _ _ _ _ => rfl)
  clear hσ54 hσ56
  clear hv44 hv50 hv51 hv52 hv53 hv55
  refine W_bind (W_load_s fun v58 hv58 => ?_)
  refine W_bind (W_store_s fun σ59 hσ59 => ?_)
  have T60 : TI ((datI (i 2).val I)) 1 0 _ _ _ _ _ 512 512 _ _ := next T57 hσ59 (dotC512_apply 0 slices_S2048x128_o0_0_S512x128 hq hk48 rfl) (by decide) (fun _ _ _ => le_refl _)
  clear hσ59
  refine W_bind (W_load_s fun v61 hv61 => ?_)
  refine W_bind (W_load_m fun v62 hv62 => ?_)
  refine W_bind (W_load_a fun v63 hv63 => ?_)
  refine W_pure ?_
  try dsimp only
  refine W_bind ?_
  rw [k0_part15_eq_skeleton]; unfold k0_part15_skel
  try dsimp only
  refine W_bind (W_load_a fun v64 hv64 => ?_)
  refine W_bind (W_store_a fun σ65 hσ65 => ?_)
  refine W_bind (W_load_m fun v66 hv66 => ?_)
  refine W_bind (W_store_m fun σ67 hσ67 => ?_)
  have T68 : TI ((datI (i 2).val I)) 1 0 _ _ _ _ _ 1024 512 _ _ := flash_512_1024 T60 hv61 hv62 hv63 hσ65 hσ67 rfl rfl hva49 (SF_disj (by omega)) (fun _ _ _ => rfl) (fun R q _ _ h => hWf (D := (datI (i 2).val I)) (show 1024 * (2 * k0_t1.val + 1) + 1024 ≤ 1024 * ((i 2).val - 1) by omega) R q h) (fun _ _ _ _ _ => rfl)
  clear hσ65 hσ67
  clear hv58 hv61 hv62 hv63 hv64 hv66
  refine W_bind (W_load_s fun v69 hv69 => ?_)
  refine W_bind (W_store_s fun σ70 hσ70 => ?_)
  have T71 : TI ((datI (i 2).val I)) 1 0 _ _ _ _ _ 1024 1024 _ _ := next T68 hσ70 (dotC512_apply 512 slices_S2048x128_o512_0_S512x128 hq hk48 rfl) (by decide) (fun _ _ _ => le_refl _)
  clear hσ70
  refine W_bind (W_load_s fun v72 hv72 => ?_)
  refine W_bind (W_load_m fun v73 hv73 => ?_)
  refine W_bind (W_load_a fun v74 hv74 => ?_)
  refine W_bind (W_load_a fun v75 hv75 => ?_)
  refine W_pure ?_
  try dsimp only
  refine W_bind ?_
  rw [k0_part16_eq_skeleton]; unfold k0_part16_skel
  try dsimp only
  refine W_bind (W_store_a fun σ76 hσ76 => ?_)
  refine W_bind (W_load_m fun v77 hv77 => ?_)
  refine W_bind (W_store_m fun σ78 hσ78 => ?_)
  have T79 : TI ((datI (i 2).val I)) 1 0 _ _ _ _ _ 1536 1024 _ _ := flash_512_1024 T71 hv72 hv73 hv74 hσ76 hσ78 rfl rfl hva49 (SF_disj (by omega)) (fun _ _ _ => rfl) (fun R q _ _ h => hWf (D := (datI (i 2).val I)) (show 1024 * (2 * k0_t1.val + 1) + 1024 ≤ 1024 * ((i 2).val - 1) by omega) R q h) (fun _ _ _ _ _ => rfl)
  clear hσ76 hσ78
  clear hv69 hv72 hv73 hv74 hv75 hv77
  refine W_bind (W_load_s fun v80 hv80 => ?_)
  refine W_bind (W_store_s fun σ81 hσ81 => ?_)
  have T82 : TI ((datI (i 2).val I)) 1 0 _ _ _ _ _ 1536 1536 _ _ := next T79 hσ81 (dotC512_apply 1024 slices_S2048x128_o1024_0_S512x128 hq hk48 rfl) (by decide) (fun _ _ _ => le_refl _)
  clear hσ81
  refine W_bind (W_load_s fun v83 hv83 => ?_)
  refine W_bind (W_load_m fun v84 hv84 => ?_)
  refine W_bind (W_load_a fun v85 hv85 => ?_)
  refine W_bind (W_load_a fun v86 hv86 => ?_)
  refine W_bind (W_store_a fun σ87 hσ87 => ?_)
  refine W_bind (W_load_m fun v88 hv88 => ?_)
  refine W_bind (W_store_m fun σ89 hσ89 => ?_)
  have T90 : TI ((datI (i 2).val I)) 1 0 _ _ _ _ _ 2048 1536 _ _ := flash_512_1024 T82 hv83 hv84 hv85 hσ87 hσ89 rfl rfl hva49 (SF_disj (by omega)) (fun _ _ _ => rfl) (fun R q _ _ h => hWf (D := (datI (i 2).val I)) (show 1024 * (2 * k0_t1.val + 1) + 1024 ≤ 1024 * ((i 2).val - 1) by omega) R q h) (fun _ _ _ _ _ => rfl)
  clear hσ87 hσ89
  clear hv80 hv83 hv84 hv85 hv86 hv88
  refine W_pure ?_
  try dsimp only
  refine W_bind (W_load_s fun v91 hv91 => ?_)
  refine W_bind (W_store_s fun σ92 hσ92 => ?_)
  have T93 : TI ((datI (i 2).val I)) 1 0 _ _ _ _ _ 2048 2048 _ _ := next T90 hσ92 (dotC512_apply 1536 slices_S2048x128_o1536_0_S512x128 hq hk48 rfl) (by decide) (fun _ _ _ => le_refl _)
  clear hσ92
  have T94 := switch (S' := SF (datI (i 2).val I).i (2 * k0_t1.val + 2)) T93 (by decide) (by decide) (fun R => SF_succ R (by omega)) (1024 * (2 * k0_t1.val + 3)) (fun _ => 1024)
  exact W_pure T94

end Cert.Proof.AttnIdeal

end
-- ==== Proof.AttnFar.lean ====
/- The attention kernel's far tiles. -/
module

public import proofs.«01_k».proof.Proof.AttnLoop
public import proofs.«01_k».proof.Proof.AttnOut

@[expose] public section

set_option maxRecDepth 16384
set_option maxHeartbeats 4000000

noncomputable section

namespace Cert.Proof.AttnIdeal

open Idealize.ShloMosaic Idealize.ShloMosaic.Pointwise Cert.AttnIdeal Cert.AttnIdeal.Gen Cert.Proof.Flash
open Idealize.ShloMosaic.TcCoe Idealize.ShloMosaic.Tactic
open scoped BigOperators

variable {c : Dev nD} {A : Args} {I : Ins Ideal c A}

/-- The far tiles: after them every row has taken in every key it is computed with. -/
theorem vl_part52 (i : grid0.Coords) (v14 : FVec Ideal S2048x128 .bf16) (v25 : BitVec 32) (v527 : BitVec 32) (c2_i32 : BitVec 32) (v528 : BitVec 32) (v530 : BitVec 32) (σ : St1 Ideal c A)
    (hq : ∀ (R : Fin 2048) (d : Fin 128), v14 (ix2 R d) = (datI (i 2).val I).qq R.val d.val)
    (hF : ∀ R < 2048, Fl (datI (i 2).val I) σ R (SF (i 2).val 0 R)) (hT : 1 ≤ (i 2).val → FarTI (datI (i 2).val I) 0 1 0 σ) :
    W I (k0_part52 i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _) v14 v25 v527 c2_i32 v528 v530) σ (fun r _ => r = k0_pay249 (accV (datI (i 2).val I))) := by
  have hDi : (datI (i 2).val I).i = (i 2).val := rfl
  have hJ : ∀ σ : St1 Ideal c A, (((i 2).val = 0 → ∀ R < 2048, Fl (datI (i 2).val I) σ R (SF (i 2).val 0 R)) ∧ (1 ≤ (i 2).val → FarTI (datI (i 2).val I) 0 1 (2 * (((i 2).val - 2) / 2)) σ)) →
      (i 2).val - 1 - 2 * (((i 2).val - 2) / 2) ≠ 2 → (i 2).val - 1 - 2 * (((i 2).val - 2) / 2) ≠ 1 →
      ∀ R < 2048, Fl (datI (i 2).val I) σ R (Finset.Ico 0 (1024 * (i 2).val + nkD R)) := by
    intro σ h h2 h3 R hR
    by_cases hi : (i 2).val = 0
    · have := h.1 hi R hR
      rwa [SF_all (by omega)] at this
    · have := (h.2 (by omega)).fl R hR
      rw [if_neg (Nat.not_lt_zero _)] at this
      rwa [SF_all (by omega)] at this
  rw [k0_part52_eq_skeleton]; unfold k0_part52_skel
  try dsimp only
  refine W_bind (W_for (fun n σ => ((i 2).val = 0 → ∀ R < 2048, Fl (datI (i 2).val I) σ R (SF (i 2).val 0 R)) ∧ (1 ≤ (i 2).val → FarTI (datI (i 2).val I) 0 1 (2 * n) σ))
    ⟨fun _ => hF, hT⟩ (fun k σ hk => ?_) fun σa ha => ?_)
  · have hlt : k.val < ((i 2).val - 2) / 2 := by rw [← trips1_eq i]; exact k.isLt
    exact W_mono (vl_t1 _ _ _ _ _ _ _ k σ hq (hk.2 (by omega))) fun _ σ' h' => ⟨fun h0 => absurd h0 (by omega), fun _ => h'⟩
  refine W_bind (W_for (fun _ σ => ((i 2).val = 0 → ∀ R < 2048, Fl (datI (i 2).val I) σ R (SF (i 2).val 0 R)) ∧ (1 ≤ (i 2).val → FarTI (datI (i 2).val I) 0 1 (2 * (((i 2).val - 2) / 2)) σ))
    (by rw [trips1_eq i] at ha; exact ha) (fun k σ hk => absurd (trips2_eq i) (by have := k.isLt; omega)) fun σ h0 => ?_)
  clear ha hF hT
  try dsimp only
  refine W_dite (fun h => ?_) (fun h => ?_)
  · have hc := (cond2_iff i).mp h
    have T := h0.2 (by omega)
    have ho := off8_eq i hc
    refine W_bind ?_
    rw [k0_part25_eq_skeleton]; unfold k0_part25_skel
    try dsimp only
    refine W_bind (W_load_in6 fun v1 hv1 => ?_)
    have hk1 := k_of (i := (i 2).val) (n := 1024 * (2 * (((i 2).val - 2) / 2) + 1)) hv1 ho.1
    refine W_bind (W_load_in7 fun v2 hv2 => ?_)
    have hva2 := va_of (i := (i 2).val) (n := 1024 * (2 * (((i 2).val - 2) / 2))) hv2 ho.2
    refine W_bind (W_load_s fun v3 hv3 => ?_)
    refine W_bind (W_load_m fun v4 hv4 => ?_)
    refine W_bind (W_load_a fun v5 hv5 => ?_)
    refine W_bind (W_load_a fun v6 hv6 => ?_)
    refine W_pure ?_
    try dsimp only
    refine W_bind ?_
    rw [k0_part26_eq_skeleton]; unfold k0_part26_skel
    try dsimp only
    refine W_bind (W_store_a fun σ7 hσ7 => ?_)
    refine W_bind (W_load_m fun v8 hv8 => ?_)
    refine W_bind (W_store_m fun σ9 hσ9 => ?_)
    have T10 : TI ((datI (i 2).val I)) 0 1 _ _ _ _ _ 512 0 _ _ := flash_512_1024 T hv3 hv4 hv5 hσ7 hσ9 rfl rfl hva2 (SF_disj (by omega)) (fun _ _ _ => rfl) (fun R q _ _ h => hWf (D := (datI (i 2).val I)) (show 1024 * (2 * (((i 2).val - 2) / 2)) + 1024 ≤ 1024 * ((i 2).val - 1) by omega) R q h) (fun _ _ _ _ _ => rfl)
    clear hσ7 hσ9
    clear hv3 hv4 hv5 hv6 hv8
    refine W_bind (W_load_s fun v11 hv11 => ?_)
    refine W_bind (W_store_s fun σ12 hσ12 => ?_)
    have T13 : TI ((datI (i 2).val I)) 0 1 _ _ _ _ _ 512 512 _ _ := next T10 hσ12 (dotC512_apply 0 slices_S2048x128_o0_0_S512x128 hq hk1 rfl) (by decide) (fun _ _ _ => le_refl _)
    clear hσ12
    refine W_bind (W_load_s fun v14 hv14 => ?_)
    refine W_bind (W_load_m fun v15 hv15 => ?_)
    refine W_bind (W_load_a fun v16 hv16 => ?_)
    refine W_bind (W_load_a fun v17 hv17 => ?_)
    refine W_bind (W_store_a fun σ18 hσ18 => ?_)
    refine W_bind (W_load_m fun v19 hv19 => ?_)
    refine W_pure ?_
    try dsimp only
    refine W_bind ?_
    rw [k0_part27_eq_skeleton]; unfold k0_part27_skel
    try dsimp only
    refine W_bind (W_store_m fun σ20 hσ20 => ?_)
    have T21 : TI ((datI (i 2).val I)) 0 1 _ _ _ _ _ 1024 512 _ _ := flash_512_1024 T13 hv14 hv15 hv16 hσ18 hσ20 rfl rfl hva2 (SF_disj (by omega)) (fun _ _ _ => rfl) (fun R q _ _ h => hWf (D := (datI (i 2).val I)) (show 1024 * (2 * (((i 2).val - 2) / 2)) + 1024 ≤ 1024 * ((i 2).val - 1) by omega) R q h) (fun _ _ _ _ _ => rfl)
    clear hσ18 hσ20
    clear hv11 hv14 hv15 hv16 hv17 hv19
    refine W_bind (W_load_s fun v22 hv22 => ?_)
    refine W_bind (W_store_s fun σ23 hσ23 => ?_)
    have T24 : TI ((datI (i 2).val I)) 0 1 _ _ _ _ _ 1024 1024 _ _ := next T21 hσ23 (dotC512_apply 512 slices_S2048x128_o512_0_S512x128 hq hk1 rfl) (by decide) (fun _ _ _ => le_refl _)
    clear hσ23
    refine W_bind (W_load_s fun v25 hv25 => ?_)
    refine W_bind (W_load_m fun v26 hv26 => ?_)
    refine W_bind (W_load_a fun v27 hv27 => ?_)
    refine W_bind (W_load_a fun v28 hv28 => ?_)
    refine W_bind (W_store_a fun σ29 hσ29 => ?_)
    refine W_bind (W_load_m fun v30 hv30 => ?_)
    refine W_bind (W_store_m fun σ31 hσ31 => ?_)
    have T32 : TI ((datI (i 2).val I)) 0 1 _ _ _ _ _ 1536 1024 _ _ := flash_512_1024 T24 hv25 hv26 hv27 hσ29 hσ31 rfl rfl hva2 (SF_disj (by omega)) (fun _ _ _ => rfl) (fun R q _ _ h => hWf (D := (datI (i 2).val I)) (show 1024 * (2 * (((i 2).val - 2) / 2)) + 1024 ≤ 1024 * ((i 2).val - 1) by omega) R q h) (fun _ _ _ _ _ => rfl)
    clear hσ29 hσ31
    clear hv22 hv25 hv26 hv27 hv28 hv30
    refine W_pure ?_
    try dsimp only
    refine W_bind ?_
    rw [k0_part28_eq_skeleton]; unfold k0_part28_skel
    try dsimp only
    refine W_bind (W_load_s fun v33 hv33 => ?_)
    refine W_bind (W_store_s fun σ34 hσ34 => ?_)
    have T35 : TI ((datI (i 2).val I)) 0 1 _ _ _ _ _ 1536 1536 _ _ := next T32 hσ34 (dotC512_apply 1024 slices_S2048x128_o1024_0_S512x128 hq hk1 rfl) (by decide) (fun _ _ _ => le_refl _)
    clear hσ34
    refine W_bind (W_load_s fun v36 hv36 => ?_)
    refine W_bind (W_load_m fun v37 hv37 => ?_)
    refine W_bind (W_load_a fun v38 hv38 => ?_)
    refine W_bind (W_load_a fun v39 hv39 => ?_)
    refine W_bind (W_store_a fun σ40 hσ40 => ?_)
    refine W_bind (W_load_m fun v41 hv41 => ?_)
    refine W_bind (W_store_m fun σ42 hσ42 => ?_)
    have T43 : TI ((datI (i 2).val I)) 0 1 _ _ _ _ _ 2048 1536 _ _ := flash_512_1024 T35 hv36 hv37 hv38 hσ40 hσ42 rfl rfl hva2 (SF_disj (by omega)) (fun _ _ _ => rfl) (fun R q _ _ h => hWf (D := (datI (i 2).val I)) (show 1024 * (2 * (((i 2).val - 2) / 2)) + 1024 ≤ 1024 * ((i 2).val - 1) by omega) R q h) (fun _ _ _ _ _ => rfl)
    clear hσ40 hσ42
    clear hv33 hv36 hv37 hv38 hv39 hv41
    refine W_bind (W_load_s fun v44 hv44 => ?_)
    refine W_pure ?_
    try dsimp only
    refine W_bind ?_
    rw [k0_part29_eq_skeleton]; unfold k0_part29_skel
    try dsimp only
    refine W_bind (W_store_s fun σ45 hσ45 => ?_)
    have T46 : TI ((datI (i 2).val I)) 0 1 _ _ _ _ _ 2048 2048 _ _ := next T43 hσ45 (dotC512_apply 1536 slices_S2048x128_o1536_0_S512x128 hq hk1 rfl) (by decide) (fun _ _ _ => le_refl _)
    clear hσ45
    have T47 := switch (S' := SF (i 2).val (2 * (((i 2).val - 2) / 2) + 1)) T46 (by decide) (by decide) (fun R => SF_succ R (by omega)) (1024 * (2 * (((i 2).val - 2) / 2) + 2)) (fun _ => 1024)
    refine W_bind (W_load_in7 fun v48 hv48 => ?_)
    have hva48 := va_of (i := (i 2).val) (n := 1024 * (2 * (((i 2).val - 2) / 2) + 1)) hv48 ho.1
    refine W_bind (W_load_s fun v49 hv49 => ?_)
    refine W_bind (W_load_m fun v50 hv50 => ?_)
    refine W_bind (W_load_a fun v51 hv51 => ?_)
    refine W_bind (W_load_a fun v52 hv52 => ?_)
    refine W_bind (W_store_a fun σ53 hσ53 => ?_)
    refine W_bind (W_load_m fun v54 hv54 => ?_)
    refine W_pure ?_
    try dsimp only
    refine W_bind ?_
    rw [k0_part30_eq_skeleton]; unfold k0_part30_skel
    try dsimp only
    refine W_bind (W_store_m fun σ55 hσ55 => ?_)
    have T56 : TI ((datI (i 2).val I)) 1 0 _ _ _ _ _ 512 0 _ _ := flash_512_1024 T47 hv49 hv50 hv51 hσ53 hσ55 rfl rfl hva48 (SF_disj (by omega)) (fun _ _ _ => rfl) (fun R q _ _ h => hWf (D := (datI (i 2).val I)) (show 1024 * (2 * (((i 2).val - 2) / 2) + 1) + 1024 ≤ 1024 * ((i 2).val - 1) by omega) R q h) (fun _ _ _ _ _ => rfl)
    clear hσ53 hσ55
    clear hv44 hv49 hv50 hv51 hv52 hv54
    refine W_bind (W_load_s fun v57 hv57 => ?_)
    refine W_bind (W_load_m fun v58 hv58 => ?_)
    refine W_bind (W_load_a fun v59 hv59 => ?_)
    refine W_bind (W_load_a fun v60 hv60 => ?_)
    refine W_bind (W_store_a fun σ61 hσ61 => ?_)
    refine W_bind (W_load_m fun v62 hv62 => ?_)
    refine W_bind (W_store_m fun σ63 hσ63 => ?_)
    have T64 : TI ((datI (i 2).val I)) 1 0 _ _ _ _ _ 1024 0 _ _ := flash_512_1024 T56 hv57 hv58 hv59 hσ61 hσ63 rfl rfl hva48 (SF_disj (by omega)) (fun _ _ _ => rfl) (fun R q _ _ h => hWf (D := (datI (i 2).val I)) (show 1024 * (2 * (((i 2).val - 2) / 2) + 1) + 1024 ≤ 1024 * ((i 2).val - 1) by omega) R q h) (fun _ _ _ _ _ => rfl)
    clear hσ61 hσ63
    clear hv57 hv58 hv59 hv60 hv62
    refine W_bind (W_load_s fun v65 hv65 => ?_)
    refine W_bind (W_load_m fun v66 hv66 => ?_)
    refine W_pure ?_
    try dsimp only
    refine W_bind ?_
    rw [k0_part31_eq_skeleton]; unfold k0_part31_skel
    try dsimp only
    refine W_bind (W_load_a fun v67 hv67 => ?_)
    refine W_bind (W_load_a fun v68 hv68 => ?_)
    refine W_bind (W_store_a fun σ69 hσ69 => ?_)
    refine W_bind (W_load_m fun v70 hv70 => ?_)
    refine W_bind (W_store_m fun σ71 hσ71 => ?_)
    have T72 : TI ((datI (i 2).val I)) 1 0 _ _ _ _ _ 1536 0 _ _ := flash_512_1024 T64 hv65 hv66 hv67 hσ69 hσ71 rfl rfl hva48 (SF_disj (by omega)) (fun _ _ _ => rfl) (fun R q _ _ h => hWf (D := (datI (i 2).val I)) (show 1024 * (2 * (((i 2).val - 2) / 2) + 1) + 1024 ≤ 1024 * ((i 2).val - 1) by omega) R q h) (fun _ _ _ _ _ => rfl)
    clear hσ69 hσ71
    clear hv65 hv66 hv67 hv68 hv70
    refine W_bind (W_load_s fun v73 hv73 => ?_)
    refine W_bind (W_load_m fun v74 hv74 => ?_)
    refine W_bind (W_load_a fun v75 hv75 => ?_)
    refine W_bind (W_load_a fun v76 hv76 => ?_)
    refine W_bind (W_store_a fun σ77 hσ77 => ?_)
    refine W_bind (W_load_m fun v78 hv78 => ?_)
    refine W_pure ?_
    try dsimp only
    refine W_bind (W_store_m fun σ79 hσ79 => ?_)
    have T80 : TI ((datI (i 2).val I)) 1 0 _ _ _ _ _ 2048 0 _ _ := flash_512_1024 T72 hv73 hv74 hv75 hσ77 hσ79 rfl rfl hva48 (SF_disj (by omega)) (fun _ _ _ => rfl) (fun R q _ _ h => hWf (D := (datI (i 2).val I)) (show 1024 * (2 * (((i 2).val - 2) / 2) + 1) + 1024 ≤ 1024 * ((i 2).val - 1) by omega) R q h) (fun _ _ _ _ _ => rfl)
    clear hσ77 hσ79
    clear hv73 hv74 hv75 hv76 hv78
    try dsimp only
    refine W_dite (fun h3 => ?_) (fun h3 => ?_)
    · exact absurd ((cond3_iff i).mp h3) (by omega)
    · refine W_bind (W_load_a fun v hv => ?_)
      refine W_pure ?_
      rw [acc_of hv (done T80 (by decide) (fun R => (SF_succ (m := (i 2).val - 1) R (by omega)).trans (SF_all rfl R)))]
  · have hc : ¬ _ := fun h' => h ((cond2_iff i).mpr h')
    try dsimp only
    refine W_dite (fun h3 => ?_) (fun h3 => ?_)
    · have hc3 := (cond3_iff i).mp h3
      have T := h0.2 (by omega)
      have ho := off10_eq i hc3
      refine W_bind ?_
      rw [k0_part34_eq_skeleton]; unfold k0_part34_skel
      try dsimp only
      refine W_bind ?_
      rw [k0_part32_eq_skeleton]; unfold k0_part32_skel
      try dsimp only
      refine W_bind (W_load_in7 fun v1 hv1 => ?_)
      have hva1 := va_of (i := (i 2).val) (n := 1024 * (2 * (((i 2).val - 2) / 2))) hv1 ho
      refine W_bind (W_load_s fun v2 hv2 => ?_)
      refine W_bind (W_load_m fun v3 hv3 => ?_)
      refine W_bind (W_load_a fun v4 hv4 => ?_)
      refine W_bind (W_load_a fun v5 hv5 => ?_)
      refine W_bind (W_store_a fun σ6 hσ6 => ?_)
      refine W_bind (W_load_m fun v7 hv7 => ?_)
      refine W_bind (W_store_m fun σ8 hσ8 => ?_)
      have T9 : TI ((datI (i 2).val I)) 0 1 _ _ _ _ _ 512 0 _ _ := flash_512_1024 T hv2 hv3 hv4 hσ6 hσ8 rfl rfl hva1 (SF_disj (by omega)) (fun _ _ _ => rfl) (fun R q _ _ h => hWf (D := (datI (i 2).val I)) (show 1024 * (2 * (((i 2).val - 2) / 2)) + 1024 ≤ 1024 * ((i 2).val - 1) by omega) R q h) (fun _ _ _ _ _ => rfl)
      clear hσ6 hσ8
      clear hv2 hv3 hv4 hv5 hv7
      refine W_pure ?_
      try dsimp only
      refine W_bind ?_
      rw [k0_part33_eq_skeleton]; unfold k0_part33_skel
      try dsimp only
      refine W_bind (W_load_s fun v10 hv10 => ?_)
      refine W_bind (W_load_m fun v11 hv11 => ?_)
      refine W_bind (W_load_a fun v12 hv12 => ?_)
      refine W_bind (W_load_a fun v13 hv13 => ?_)
      refine W_bind (W_store_a fun σ14 hσ14 => ?_)
      refine W_bind (W_load_m fun v15 hv15 => ?_)
      refine W_bind (W_store_m fun σ16 hσ16 => ?_)
      have T17 : TI ((datI (i 2).val I)) 0 1 _ _ _ _ _ 1024 0 _ _ := flash_512_1024 T9 hv10 hv11 hv12 hσ14 hσ16 rfl rfl hva1 (SF_disj (by omega)) (fun _ _ _ => rfl) (fun R q _ _ h => hWf (D := (datI (i 2).val I)) (show 1024 * (2 * (((i 2).val - 2) / 2)) + 1024 ≤ 1024 * ((i 2).val - 1) by omega) R q h) (fun _ _ _ _ _ => rfl)
      clear hσ14 hσ16
      clear hv10 hv11 hv12 hv13 hv15
      refine W_bind (W_load_s fun v18 hv18 => ?_)
      refine W_bind (W_load_m fun v19 hv19 => ?_)
      refine W_pure ?_
      try dsimp only
      refine W_bind (W_load_a fun v20 hv20 => ?_)
      refine W_bind (W_load_a fun v21 hv21 => ?_)
      refine W_bind (W_store_a fun σ22 hσ22 => ?_)
      refine W_bind (W_load_m fun v23 hv23 => ?_)
      refine W_bind (W_store_m fun σ24 hσ24 => ?_)
      have T25 : TI ((datI (i 2).val I)) 0 1 _ _ _ _ _ 1536 0 _ _ := flash_512_1024 T17 hv18 hv19 hv20 hσ22 hσ24 rfl rfl hva1 (SF_disj (by omega)) (fun _ _ _ => rfl) (fun R q _ _ h => hWf (D := (datI (i 2).val I)) (show 1024 * (2 * (((i 2).val - 2) / 2)) + 1024 ≤ 1024 * ((i 2).val - 1) by omega) R q h) (fun _ _ _ _ _ => rfl)
      clear hσ22 hσ24
      clear hv18 hv19 hv20 hv21 hv23
      refine W_bind (W_load_s fun v26 hv26 => ?_)
      refine W_bind (W_load_m fun v27 hv27 => ?_)
      refine W_bind (W_load_a fun v28 hv28 => ?_)
      refine W_bind (W_load_a fun v29 hv29 => ?_)
      refine W_bind (W_store_a fun σ30 hσ30 => ?_)
      refine W_bind (W_load_m fun v31 hv31 => ?_)
      refine W_pure ?_
      try dsimp only
      refine W_bind (W_store_m fun σ32 hσ32 => ?_)
      have T33 : TI ((datI (i 2).val I)) 0 1 _ _ _ _ _ 2048 0 _ _ := flash_512_1024 T25 hv26 hv27 hv28 hσ30 hσ32 rfl rfl hva1 (SF_disj (by omega)) (fun _ _ _ => rfl) (fun R q _ _ h => hWf (D := (datI (i 2).val I)) (show 1024 * (2 * (((i 2).val - 2) / 2)) + 1024 ≤ 1024 * ((i 2).val - 1) by omega) R q h) (fun _ _ _ _ _ => rfl)
      clear hσ30 hσ32
      clear hv26 hv27 hv28 hv29 hv31
      try dsimp only
      refine W_bind (W_load_a fun v hv => ?_)
      refine W_pure ?_
      rw [acc_of hv (done T33 (by decide) (fun R => (SF_succ (m := (i 2).val - 1) R (by omega)).trans (SF_all rfl R)))]
    · have hc3 : ¬ _ := fun h' => h3 ((cond3_iff i).mpr h')
      refine W_bind (W_load_a fun v hv => ?_)
      refine W_pure ?_
      rw [acc_of hv (hJ _ h0 hc hc3)]

end Cert.Proof.AttnIdeal

end
-- ==== Proof.AttnBody.lean ====
/- The attention kernel's body: the block a grid point leaves in the output. -/
module

public import proofs.«01_k».proof.Proof.AttnNear
public import proofs.«01_k».proof.Proof.AttnFar

@[expose] public section

set_option maxRecDepth 16384
set_option maxHeartbeats 4000000

noncomputable section

namespace Cert.Proof.AttnIdeal

open Idealize.ShloMosaic Idealize.ShloMosaic.Pointwise Cert.AttnIdeal Cert.AttnIdeal.Gen Cert.Proof.Flash
open Idealize.ShloMosaic.TcCoe Idealize.ShloMosaic.Tactic
open scoped BigOperators

variable {c : Dev nD} {A : Args} {I : Ins Ideal c A}

/-- The body leaves in the output the block computed from the blocks it reads. -/
theorem vl_body (i : grid0.Coords) (σ : St1 Ideal c A) :
    W I (cc0_diff_attention i A.arg3 A.harg3 A.arg4 A.harg4 A.arg5 A.harg5 A.arg6 A.harg6 A.arg7 A.harg7 A.arg8 A.harg8 A.arg9 A.harg9 A.arg10 A.harg10 sM (Memref.isWhole_whole _) mM (Memref.isWhole_whole _) aM (Memref.isWhole_whole _)) σ (fun _ σ' => A.arg10.view.read (Elt Ideal) σ'.o = outB (datI (i 2).val I) (A.arg3.view.read (Elt Ideal) I.f3) (A.arg4.view.read (Elt Ideal) I.f4)) := by
  have hDi : (datI (i 2).val I).i = (i 2).val := rfl
  rw [cc0_diff_attention_eq_skeleton]; unfold cc0_diff_attention_skel
  try dsimp only
  refine W_bind ?_
  rw [k0_part53_eq_skeleton]; unfold k0_part53_skel
  try dsimp only
  refine W_bind ?_
  rw [k0_part35_eq_skeleton]; unfold k0_part35_skel
  try dsimp only
  refine W_bind (W_load_in5 fun v1 hv1 => ?_)
  have hq := qq_of (i := (i 2).val) hv1
  refine W_bind (W_load_m fun v2 hv2 => ?_)
  refine W_bind (W_store_m fun σ3 hσ3 => ?_)
  refine W_bind (W_load_a fun v4 hv4 => ?_)
  refine W_bind (W_store_a fun σ5 hσ5 => ?_)
  have T0 := start (D := (datI (i 2).val I)) (bn := 1024 * (i 2).val) (nkn := nkD) hσ3 hσ5 rfl rfl
  refine W_bind (W_load_in6 fun v6 hv6 => ?_)
  have hk6 := k_of (i := (i 2).val) (n := 1024 * (i 2).val) hv6 (off1_eq i)
  refine W_pure ?_
  try dsimp only
  refine W_bind ?_
  rw [k0_part36_eq_skeleton]; unfold k0_part36_skel
  try dsimp only
  refine W_bind (W_load_s fun v7 hv7 => ?_)
  refine W_bind (W_store_s fun σ8 hσ8 => ?_)
  have T9 : TI ((datI (i 2).val I)) 1 0 _ _ _ _ _ 2048 256 _ _ := next T0 hσ8 (dotD256_apply 0 slices_S2048x128_o0_0_S256x128 hq hk6 rfl) (by decide) (fun R h1 h2 => by unfold nkD; omega)
  clear hσ8
  refine W_bind (W_load_s fun v10 hv10 => ?_)
  refine W_bind (W_store_s fun σ11 hσ11 => ?_)
  have T12 : TI ((datI (i 2).val I)) 1 0 _ _ _ _ _ 2048 512 _ _ := next T9 hσ11 (dotD512_apply 256 slices_S2048x128_o256_0_S256x128 hq hk6 rfl) (by decide) (fun R h1 h2 => by unfold nkD; omega)
  clear hσ11
  refine W_bind (W_load_s fun v13 hv13 => ?_)
  refine W_bind (W_store_s fun σ14 hσ14 => ?_)
  have T15 : TI ((datI (i 2).val I)) 1 0 _ _ _ _ _ 2048 768 _ _ := next T12 hσ14 (dotD768_apply 512 slices_S2048x128_o512_0_S256x128 hq hk6 rfl) (by decide) (fun R h1 h2 => by unfold nkD; omega)
  clear hσ14
  refine W_bind (W_load_s fun v16 hv16 => ?_)
  refine W_bind (W_store_s fun σ17 hσ17 => ?_)
  have T18 : TI ((datI (i 2).val I)) 1 0 _ _ _ _ _ 2048 1024 _ _ := next T15 hσ17 (dotC256_apply 768 slices_S2048x128_o768_0_S256x128 hq hk6 rfl) (by decide) (fun R h1 h2 => by unfold nkD; omega)
  clear hσ17
  refine W_pure ?_
  try dsimp only
  refine W_bind ?_
  rw [k0_part37_eq_skeleton]; unfold k0_part37_skel
  try dsimp only
  refine W_bind (W_load_s fun v19 hv19 => ?_)
  refine W_bind (W_store_s fun σ20 hσ20 => ?_)
  have T21 : TI ((datI (i 2).val I)) 1 0 _ _ _ _ _ 2048 1280 _ _ := next T18 hσ20 (dotD256_apply 1024 slices_S2048x128_o1024_0_S256x128 hq hk6 rfl) (by decide) (fun R h1 h2 => by unfold nkD; omega)
  clear hσ20
  refine W_bind (W_load_s fun v22 hv22 => ?_)
  refine W_bind (W_store_s fun σ23 hσ23 => ?_)
  have T24 : TI ((datI (i 2).val I)) 1 0 _ _ _ _ _ 2048 1536 _ _ := next T21 hσ23 (dotD512_apply 1280 slices_S2048x128_o1280_0_S256x128 hq hk6 rfl) (by decide) (fun R h1 h2 => by unfold nkD; omega)
  clear hσ23
  refine W_bind (W_load_s fun v25 hv25 => ?_)
  refine W_bind (W_store_s fun σ26 hσ26 => ?_)
  have T27 : TI ((datI (i 2).val I)) 1 0 _ _ _ _ _ 2048 1792 _ _ := next T24 hσ26 (dotD768_apply 1536 slices_S2048x128_o1536_0_S256x128 hq hk6 rfl) (by decide) (fun R h1 h2 => by unfold nkD; omega)
  clear hσ26
  refine W_bind (W_load_s fun v28 hv28 => ?_)
  refine W_bind (W_store_s fun σ29 hσ29 => ?_)
  have T30 : TI ((datI (i 2).val I)) 1 0 _ _ _ _ _ 2048 2048 _ _ := next T27 hσ29 (dotC256_apply 1792 slices_S2048x128_o1792_0_S256x128 hq hk6 rfl) (by decide) (fun R h1 h2 => by unfold nkD; omega)
  clear hσ29
  have T31 := switch (S' := fun _ => ∅) T30 (by decide) (by decide) (fun R => by simp) (1024 * ((i 2).val - 1)) (fun _ => 1024)
  refine W_pure ?_
  try dsimp only
  refine W_bind ?_
  rw [k0_part38_eq_skeleton]; unfold k0_part38_skel
  try dsimp only
  refine W_bind (W_load_in6 fun v32 hv32 => ?_)
  have hk32 := k_of (i := (i 2).val) (n := 1024 * ((i 2).val - 1)) hv32 (off2_eq i)
  refine W_bind (W_load_in7 fun v33 hv33 => ?_)
  have hva33 := va_of (i := (i 2).val) (n := 1024 * (i 2).val) hv33 (off1_eq i)
  refine W_bind (W_load_s fun v34 hv34 => ?_)
  refine W_bind (W_load_in8 fun v35 hv35 => ?_)
  refine W_bind (W_load_s fun v36 hv36 => ?_)
  refine W_bind (W_store_s fun σ37 hσ37 => ?_)
  have T38 : TI ((datI (i 2).val I)) 0 1 _ _ _ _ _ 0 0 _ _ := patch T31 hσ37 hv34 (w := _) rfl (bd_of (i := (i 2).val) hv35) (by decide)
  clear hσ37
  refine W_bind (W_load_s fun v39 hv39 => ?_)
  refine W_pure ?_
  try dsimp only
  refine W_bind ?_
  rw [k0_part39_eq_skeleton]; unfold k0_part39_skel
  try dsimp only
  refine W_bind (W_load_m fun v40 hv40 => ?_)
  refine W_bind (W_load_a fun v41 hv41 => ?_)
  refine W_bind (W_load_a fun v42 hv42 => ?_)
  refine W_bind (W_store_a fun σ43 hσ43 => ?_)
  refine W_bind (W_load_m fun v44 hv44 => ?_)
  refine W_bind (W_store_m fun σ45 hσ45 => ?_)
  have T46 : TI ((datI (i 2).val I)) 0 1 _ _ _ _ _ 256 0 _ _ := flash_256_256 T38 hv39 hv40 hv41 hσ43 hσ45 rfl rfl hva33 (fun R => Finset.disjoint_empty_left _) (fun R h1 h2 => by unfold nkD; omega) (fun R q h1 h2 h => hWd0 (D := (datI (i 2).val I)) 0 (by decide) R q h1 h2 h) (fun R q h _ _ => upd_out (by omega))
  clear hσ43 hσ45
  clear hv7 hv10 hv13 hv16 hv19 hv22 hv25 hv28 hv34 hv36 hv39 hv40 hv41 hv42 hv44
  refine W_bind (W_load_s fun v47 hv47 => ?_)
  refine W_bind (W_store_s fun σ48 hσ48 => ?_)
  have T49 : TI ((datI (i 2).val I)) 0 1 _ _ _ _ _ 256 256 _ _ := next T46 hσ48 (dotC256_apply 0 slices_S2048x128_o0_0_S256x128 hq hk32 rfl) (by decide) (fun _ _ _ => le_refl _)
  clear hσ48
  refine W_bind (W_load_s fun v50 hv50 => ?_)
  refine W_bind (W_load_in8 fun v51 hv51 => ?_)
  refine W_pure ?_
  try dsimp only
  refine W_bind ?_
  rw [k0_part40_eq_skeleton]; unfold k0_part40_skel
  try dsimp only
  refine W_bind (W_load_s fun v52 hv52 => ?_)
  refine W_bind (W_store_s fun σ53 hσ53 => ?_)
  have T54 : TI ((datI (i 2).val I)) 0 1 _ _ _ _ _ 256 256 _ _ := patch T49 hσ53 hv50 (w := _) rfl (bd_of (i := (i 2).val) hv51) (by decide)
  clear hσ53
  refine W_bind (W_load_s fun v55 hv55 => ?_)
  refine W_bind (W_load_in9 fun v56 hv56 => ?_)
  refine W_bind (W_load_s fun v57 hv57 => ?_)
  refine W_bind (W_store_s fun σ58 hσ58 => ?_)
  have T59 : TI ((datI (i 2).val I)) 0 1 _ _ _ _ _ 256 256 _ _ := patch T54 hσ58 hv55 (w := _) rfl (bp_of (i := (i 2).val) hv56) (by decide)
  clear hσ58
  refine W_bind (W_load_s fun v60 hv60 => ?_)
  refine W_bind (W_load_m fun v61 hv61 => ?_)
  refine W_pure ?_
  try dsimp only
  refine W_bind ?_
  rw [k0_part41_eq_skeleton]; unfold k0_part41_skel
  try dsimp only
  refine W_bind (W_load_a fun v62 hv62 => ?_)
  refine W_bind (W_load_a fun v63 hv63 => ?_)
  refine W_bind (W_store_a fun σ64 hσ64 => ?_)
  refine W_bind (W_load_m fun v65 hv65 => ?_)
  refine W_bind (W_store_m fun σ66 hσ66 => ?_)
  have T67 : TI ((datI (i 2).val I)) 0 1 _ _ _ _ _ 512 256 _ _ := flash_256_512 T59 hv60 hv61 hv62 hσ64 hσ66 rfl rfl hva33 (fun R => Finset.disjoint_empty_left _) (fun R h1 h2 => by unfold nkD; omega) (fun R q h1 h2 h => hWd (D := (datI (i 2).val I)) 256 256 0 (by decide) (by decide) (by decide) (by decide) R q h1 h2 h) (fun R q h _ _ => (upd_out (by omega)).trans (upd_out (by omega)))
  clear hσ64 hσ66
  clear hv47 hv50 hv52 hv55 hv57 hv60 hv61 hv62 hv63 hv65
  refine W_bind (W_load_s fun v68 hv68 => ?_)
  refine W_bind (W_store_s fun σ69 hσ69 => ?_)
  have T70 : TI ((datI (i 2).val I)) 0 1 _ _ _ _ _ 512 512 _ _ := next T67 hσ69 (dotC256_apply 256 slices_S2048x128_o256_0_S256x128 hq hk32 rfl) (by decide) (fun _ _ _ => le_refl _)
  clear hσ69
  refine W_bind (W_load_s fun v71 hv71 => ?_)
  refine W_bind (W_load_in8 fun v72 hv72 => ?_)
  refine W_bind (W_load_s fun v73 hv73 => ?_)
  refine W_bind (W_store_s fun σ74 hσ74 => ?_)
  have T75 : TI ((datI (i 2).val I)) 0 1 _ _ _ _ _ 512 512 _ _ := patch T70 hσ74 hv71 (w := _) rfl (bd_of (i := (i 2).val) hv72) (by decide)
  clear hσ74
  refine W_pure ?_
  try dsimp only
  refine W_bind ?_
  rw [k0_part42_eq_skeleton]; unfold k0_part42_skel
  try dsimp only
  refine W_bind (W_load_s fun v76 hv76 => ?_)
  refine W_bind (W_load_in9 fun v77 hv77 => ?_)
  refine W_bind (W_load_s fun v78 hv78 => ?_)
  refine W_bind (W_store_s fun σ79 hσ79 => ?_)
  have T80 : TI ((datI (i 2).val I)) 0 1 _ _ _ _ _ 512 512 _ _ := patch T75 hσ79 hv76 (w := _) rfl (bp_of (i := (i 2).val) hv77) (by decide)
  clear hσ79
  refine W_bind (W_load_s fun v81 hv81 => ?_)
  refine W_bind (W_load_m fun v82 hv82 => ?_)
  refine W_bind (W_load_a fun v83 hv83 => ?_)
  refine W_bind (W_load_a fun v84 hv84 => ?_)
  refine W_bind (W_store_a fun σ85 hσ85 => ?_)
  refine W_pure ?_
  try dsimp only
  refine W_bind ?_
  rw [k0_part43_eq_skeleton]; unfold k0_part43_skel
  try dsimp only
  refine W_bind (W_load_m fun v86 hv86 => ?_)
  refine W_bind (W_store_m fun σ87 hσ87 => ?_)
  have T88 : TI ((datI (i 2).val I)) 0 1 _ _ _ _ _ 768 512 _ _ := flash_256_768 T80 hv81 hv82 hv83 hσ85 hσ87 rfl rfl hva33 (fun R => Finset.disjoint_empty_left _) (fun R h1 h2 => by unfold nkD; omega) (fun R q h1 h2 h => hWd (D := (datI (i 2).val I)) 512 512 256 (by decide) (by decide) (by decide) (by decide) R q h1 h2 h) (fun R q h _ _ => (upd_out (by omega)).trans (upd_out (by omega)))
  clear hσ85 hσ87
  clear hv68 hv71 hv73 hv76 hv78 hv81 hv82 hv83 hv84 hv86
  refine W_bind (W_load_s fun v89 hv89 => ?_)
  refine W_bind (W_store_s fun σ90 hσ90 => ?_)
  have T91 : TI ((datI (i 2).val I)) 0 1 _ _ _ _ _ 768 768 _ _ := next T88 hσ90 (dotC256_apply 512 slices_S2048x128_o512_0_S256x128 hq hk32 rfl) (by decide) (fun _ _ _ => le_refl _)
  clear hσ90
  refine W_bind (W_load_s fun v92 hv92 => ?_)
  refine W_bind (W_load_in8 fun v93 hv93 => ?_)
  refine W_bind (W_load_s fun v94 hv94 => ?_)
  refine W_bind (W_store_s fun σ95 hσ95 => ?_)
  have T96 : TI ((datI (i 2).val I)) 0 1 _ _ _ _ _ 768 768 _ _ := patch T91 hσ95 hv92 (w := _) rfl (bd_of (i := (i 2).val) hv93) (by decide)
  clear hσ95
  refine W_bind (W_load_s fun v97 hv97 => ?_)
  refine W_bind (W_load_in9 fun v98 hv98 => ?_)
  refine W_pure ?_
  try dsimp only
  refine W_bind ?_
  rw [k0_part44_eq_skeleton]; unfold k0_part44_skel
  try dsimp only
  refine W_bind (W_load_s fun v99 hv99 => ?_)
  refine W_bind (W_store_s fun σ100 hσ100 => ?_)
  have T101 : TI ((datI (i 2).val I)) 0 1 _ _ _ _ _ 768 768 _ _ := patch T96 hσ100 hv97 (w := _) rfl (bp_of (i := (i 2).val) hv98) (by decide)
  clear hσ100
  refine W_bind (W_load_s fun v102 hv102 => ?_)
  refine W_bind (W_load_m fun v103 hv103 => ?_)
  refine W_bind (W_load_a fun v104 hv104 => ?_)
  refine W_bind (W_load_a fun v105 hv105 => ?_)
  refine W_bind (W_store_a fun σ106 hσ106 => ?_)
  refine W_bind (W_load_m fun v107 hv107 => ?_)
  refine W_bind (W_store_m fun σ108 hσ108 => ?_)
  have T109 : TI ((datI (i 2).val I)) 0 1 _ _ _ _ _ 1024 768 _ _ := flash_256_1024 T101 hv102 hv103 hv104 hσ106 hσ108 rfl rfl hva33 (fun R => Finset.disjoint_empty_left _) (fun R h1 h2 => by unfold nkD; omega) (fun R q h1 h2 h => hWd (D := (datI (i 2).val I)) 768 768 512 (by decide) (by decide) (by decide) (by decide) R q h1 h2 h) (fun R q h _ _ => (upd_out (by omega)).trans (upd_out (by omega)))
  clear hσ106 hσ108
  clear hv89 hv92 hv94 hv97 hv99 hv102 hv103 hv104 hv105 hv107
  refine W_pure ?_
  try dsimp only
  refine W_bind ?_
  rw [k0_part45_eq_skeleton]; unfold k0_part45_skel
  try dsimp only
  refine W_bind (W_load_s fun v110 hv110 => ?_)
  refine W_bind (W_store_s fun σ111 hσ111 => ?_)
  have T112 : TI ((datI (i 2).val I)) 0 1 _ _ _ _ _ 1024 1024 _ _ := next T109 hσ111 (dotC256_apply 768 slices_S2048x128_o768_0_S256x128 hq hk32 rfl) (by decide) (fun _ _ _ => le_refl _)
  clear hσ111
  refine W_bind (W_load_s fun v113 hv113 => ?_)
  refine W_bind (W_load_in8 fun v114 hv114 => ?_)
  refine W_bind (W_load_s fun v115 hv115 => ?_)
  refine W_bind (W_store_s fun σ116 hσ116 => ?_)
  have T117 : TI ((datI (i 2).val I)) 0 1 _ _ _ _ _ 1024 1024 _ _ := patch T112 hσ116 hv113 (w := _) rfl (bd_of (i := (i 2).val) hv114) (by decide)
  clear hσ116
  refine W_bind (W_load_s fun v118 hv118 => ?_)
  refine W_bind (W_load_m fun v119 hv119 => ?_)
  refine W_bind (W_load_a fun v120 hv120 => ?_)
  refine W_pure ?_
  try dsimp only
  refine W_bind ?_
  rw [k0_part46_eq_skeleton]; unfold k0_part46_skel
  try dsimp only
  refine W_bind (W_load_a fun v121 hv121 => ?_)
  refine W_bind (W_store_a fun σ122 hσ122 => ?_)
  refine W_bind (W_load_m fun v123 hv123 => ?_)
  refine W_bind (W_store_m fun σ124 hσ124 => ?_)
  have T125 : TI ((datI (i 2).val I)) 0 1 _ _ _ _ _ 1280 1024 _ _ := flash_256_256 T117 hv118 hv119 hv120 hσ122 hσ124 rfl rfl hva33 (fun R => Finset.disjoint_empty_left _) (fun R h1 h2 => by unfold nkD; omega) (fun R q h1 h2 h => hWd0 (D := (datI (i 2).val I)) 1024 (by decide) R q h1 h2 h) (fun R q h _ _ => upd_out (by omega))
  clear hσ122 hσ124
  clear hv110 hv113 hv115 hv118 hv119 hv120 hv121 hv123
  refine W_bind (W_load_s fun v126 hv126 => ?_)
  refine W_bind (W_store_s fun σ127 hσ127 => ?_)
  have T128 : TI ((datI (i 2).val I)) 0 1 _ _ _ _ _ 1280 1280 _ _ := next T125 hσ127 (dotC256_apply 1024 slices_S2048x128_o1024_0_S256x128 hq hk32 rfl) (by decide) (fun _ _ _ => le_refl _)
  clear hσ127
  refine W_bind (W_load_s fun v129 hv129 => ?_)
  refine W_bind (W_load_in8 fun v130 hv130 => ?_)
  refine W_bind (W_load_s fun v131 hv131 => ?_)
  refine W_bind (W_store_s fun σ132 hσ132 => ?_)
  have T133 : TI ((datI (i 2).val I)) 0 1 _ _ _ _ _ 1280 1280 _ _ := patch T128 hσ132 hv129 (w := _) rfl (bd_of (i := (i 2).val) hv130) (by decide)
  clear hσ132
  refine W_bind (W_load_s fun v134 hv134 => ?_)
  refine W_pure ?_
  try dsimp only
  refine W_bind ?_
  rw [k0_part47_eq_skeleton]; unfold k0_part47_skel
  try dsimp only
  refine W_bind (W_load_in9 fun v135 hv135 => ?_)
  refine W_bind (W_load_s fun v136 hv136 => ?_)
  refine W_bind (W_store_s fun σ137 hσ137 => ?_)
  have T138 : TI ((datI (i 2).val I)) 0 1 _ _ _ _ _ 1280 1280 _ _ := patch T133 hσ137 hv134 (w := _) rfl (bp_of (i := (i 2).val) hv135) (by decide)
  clear hσ137
  refine W_bind (W_load_s fun v139 hv139 => ?_)
  refine W_bind (W_load_m fun v140 hv140 => ?_)
  refine W_bind (W_load_a fun v141 hv141 => ?_)
  refine W_bind (W_load_a fun v142 hv142 => ?_)
  refine W_bind (W_store_a fun σ143 hσ143 => ?_)
  refine W_bind (W_load_m fun v144 hv144 => ?_)
  refine W_bind (W_store_m fun σ145 hσ145 => ?_)
  have T146 : TI ((datI (i 2).val I)) 0 1 _ _ _ _ _ 1536 1280 _ _ := flash_256_512 T138 hv139 hv140 hv141 hσ143 hσ145 rfl rfl hva33 (fun R => Finset.disjoint_empty_left _) (fun R h1 h2 => by unfold nkD; omega) (fun R q h1 h2 h => hWd (D := (datI (i 2).val I)) 1280 256 0 (by decide) (by decide) (by decide) (by decide) R q h1 h2 h) (fun R q h _ _ => (upd_out (by omega)).trans (upd_out (by omega)))
  clear hσ143 hσ145
  clear hv126 hv129 hv131 hv134 hv136 hv139 hv140 hv141 hv142 hv144
  refine W_pure ?_
  try dsimp only
  refine W_bind ?_
  rw [k0_part48_eq_skeleton]; unfold k0_part48_skel
  try dsimp only
  refine W_bind (W_load_s fun v147 hv147 => ?_)
  refine W_bind (W_store_s fun σ148 hσ148 => ?_)
  have T149 : TI ((datI (i 2).val I)) 0 1 _ _ _ _ _ 1536 1536 _ _ := next T146 hσ148 (dotC256_apply 1280 slices_S2048x128_o1280_0_S256x128 hq hk32 rfl) (by decide) (fun _ _ _ => le_refl _)
  clear hσ148
  refine W_bind (W_load_s fun v150 hv150 => ?_)
  refine W_bind (W_load_in8 fun v151 hv151 => ?_)
  refine W_bind (W_load_s fun v152 hv152 => ?_)
  refine W_bind (W_store_s fun σ153 hσ153 => ?_)
  have T154 : TI ((datI (i 2).val I)) 0 1 _ _ _ _ _ 1536 1536 _ _ := patch T149 hσ153 hv150 (w := _) rfl (bd_of (i := (i 2).val) hv151) (by decide)
  clear hσ153
  refine W_bind (W_load_s fun v155 hv155 => ?_)
  refine W_bind (W_load_in9 fun v156 hv156 => ?_)
  refine W_bind (W_load_s fun v157 hv157 => ?_)
  refine W_pure ?_
  try dsimp only
  refine W_bind ?_
  rw [k0_part49_eq_skeleton]; unfold k0_part49_skel
  try dsimp only
  refine W_bind (W_store_s fun σ158 hσ158 => ?_)
  have T159 : TI ((datI (i 2).val I)) 0 1 _ _ _ _ _ 1536 1536 _ _ := patch T154 hσ158 hv155 (w := _) rfl (bp_of (i := (i 2).val) hv156) (by decide)
  clear hσ158
  refine W_bind (W_load_s fun v160 hv160 => ?_)
  refine W_bind (W_load_m fun v161 hv161 => ?_)
  refine W_bind (W_load_a fun v162 hv162 => ?_)
  refine W_bind (W_load_a fun v163 hv163 => ?_)
  refine W_bind (W_store_a fun σ164 hσ164 => ?_)
  refine W_bind (W_load_m fun v165 hv165 => ?_)
  refine W_bind (W_store_m fun σ166 hσ166 => ?_)
  have T167 : TI ((datI (i 2).val I)) 0 1 _ _ _ _ _ 1792 1536 _ _ := flash_256_768 T159 hv160 hv161 hv162 hσ164 hσ166 rfl rfl hva33 (fun R => Finset.disjoint_empty_left _) (fun R h1 h2 => by unfold nkD; omega) (fun R q h1 h2 h => hWd (D := (datI (i 2).val I)) 1536 512 256 (by decide) (by decide) (by decide) (by decide) R q h1 h2 h) (fun R q h _ _ => (upd_out (by omega)).trans (upd_out (by omega)))
  clear hσ164 hσ166
  clear hv147 hv150 hv152 hv155 hv157 hv160 hv161 hv162 hv163 hv165
  refine W_bind (W_load_s fun v168 hv168 => ?_)
  refine W_bind (W_store_s fun σ169 hσ169 => ?_)
  have T170 : TI ((datI (i 2).val I)) 0 1 _ _ _ _ _ 1792 1792 _ _ := next T167 hσ169 (dotC256_apply 1536 slices_S2048x128_o1536_0_S256x128 hq hk32 rfl) (by decide) (fun _ _ _ => le_refl _)
  clear hσ169
  refine W_pure ?_
  try dsimp only
  refine W_bind ?_
  rw [k0_part50_eq_skeleton]; unfold k0_part50_skel
  try dsimp only
  refine W_bind (W_load_s fun v171 hv171 => ?_)
  refine W_bind (W_load_in8 fun v172 hv172 => ?_)
  refine W_bind (W_load_s fun v173 hv173 => ?_)
  refine W_bind (W_store_s fun σ174 hσ174 => ?_)
  have T175 : TI ((datI (i 2).val I)) 0 1 _ _ _ _ _ 1792 1792 _ _ := patch T170 hσ174 hv171 (w := _) rfl (bd_of (i := (i 2).val) hv172) (by decide)
  clear hσ174
  refine W_bind (W_load_s fun v176 hv176 => ?_)
  refine W_bind (W_load_in9 fun v177 hv177 => ?_)
  refine W_bind (W_load_s fun v178 hv178 => ?_)
  refine W_bind (W_store_s fun σ179 hσ179 => ?_)
  have T180 : TI ((datI (i 2).val I)) 0 1 _ _ _ _ _ 1792 1792 _ _ := patch T175 hσ179 hv176 (w := _) rfl (bp_of (i := (i 2).val) hv177) (by decide)
  clear hσ179
  refine W_bind (W_load_s fun v181 hv181 => ?_)
  refine W_bind (W_load_m fun v182 hv182 => ?_)
  refine W_pure ?_
  try dsimp only
  refine W_bind (W_mono (vl_part51 _ _ _ _ _ _ _ _ _ _ hq hk32 hva33 hv181 hv182 T180) fun r σa ha => ?_)
  clear hv181 hv182
  try dsimp only
  refine W_bind (W_mono (vl_part52 _ _ _ _ _ _ _ σa hq ha.1 ha.2) fun r σb hr => ?_)
  subst hr
  try dsimp only
  refine W_bind (W_load_in3 fun l0 hl0 => ?_)
  refine W_bind (W_load_in3 fun l1 hl1 => ?_)
  refine W_bind (W_load_in3 fun l2 hl2 => ?_)
  refine W_bind (W_load_in3 fun l3 hl3 => ?_)
  refine W_pure ?_
  try dsimp only
  refine W_bind (W_load_in4 fun g hg => ?_)
  refine W_bind (W_load_o fun _ _ => ?_)
  refine W_bind (W_store_o fun σc hc => ?_)
  refine W_pure ?_
  have e0 := lam_of (k := 0) hl0
  have e1 := lam_of (k := 1) hl1
  have e2 := lam_of (k := 2) hl2
  have e3 := lam_of (k := 3) hl3
  have eg := g_of hg
  have := out_of hc
  rw [this, e0, e1, e2, e3, eg]
  rfl

end Cert.Proof.AttnIdeal

end
-- ==== Proof.AttnValue.lean ====
/- The attention kernel's result array as one function of its argument arrays. -/
module

public import proofs.«01_k».proof.Proof.AttnArr
public import proofs.«01_k».proof.Proof.AttnBody
public import Idealize.ShloMosaic.Lib.StableHlo.Run

@[expose] public section

set_option maxRecDepth 16384

noncomputable section

namespace Cert.Proof.AttnIdeal

open Idealize.ShloMosaic Idealize.ShloMosaic.TcCoe Idealize.ShloMosaic.Pointwise Idealize.SL.Sem Cert.AttnIdeal Cert.AttnIdeal.Gen Cert.Proof.Flash Cert.Proof.AttnRef
open scoped BigOperators

variable (m : (ℓ : Loc nD τ sig) → Buf (Elt Ideal) ℓ) (ρ : Dev nD → PrngReg)

/-- The body leaves the named block at every point, -/
theorem hW (c : Dev nD) (t : Fin cfg0.N) (I : Ins Ideal c (argsAt t)) (σ : St1 Ideal c (argsAt t))
    (h3 : (argsAt t).arg3.view.read (Elt Ideal) I.f3 = iblk m c 0 t) (h4 : (argsAt t).arg4.view.read (Elt Ideal) I.f4 = iblk m c 1 t)
    (h5 : (argsAt t).arg5.view.read (Elt Ideal) I.f5 = iblk m c 2 t) (h6 : (argsAt t).arg6.view.read (Elt Ideal) I.f6 = iblk m c 3 t)
    (h7 : (argsAt t).arg7.view.read (Elt Ideal) I.f7 = iblk m c 4 t) (h8 : (argsAt t).arg8.view.read (Elt Ideal) I.f8 = iblk m c 5 t)
    (h9 : (argsAt t).arg9.view.read (Elt Ideal) I.f9 = iblk m c 6 t) :
    W I (bodyAt0 t) σ (fun _ σ' => (argsAt t).arg10.view.read (Elt Ideal) σ'.o = O7 m c t) := by
  have h := vl_body (I := I) (grid0.coords t) σ
  rw [datI_eq, h3, h4, h5, h6, h7, h8, h9] at h
  exact h

/-- and the run, read: the result is the attention of the arguments, the arguments are unchanged. -/
theorem run (hf : ∀ c, Fin' m c) : θ_run defs (onTc (τ := τ) (main (F := Ideal))) ⟨m, fun _ => 0, ρ⟩ fun r => ∀ c : Dev nD,
      r.2.mem ((c.tc : Thread nD τ).loc main_v10) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).1 7).trans (final m c (hf c)),
      (((h c).1 0).trans (((dats m (O7 m) 0 c).arrAt_in 0 rfl _).trans (A_eq m (O7 m) c 0))).trans (V_main_arg0 m c),
      (((h c).1 1).trans (((dats m (O7 m) 0 c).arrAt_in 1 rfl _).trans (A_eq m (O7 m) c 1))).trans (V_main_arg1 m c),
      (((h c).1 4).trans (((dats m (O7 m) 0 c).arrAt_in 4 rfl _).trans (A_eq m (O7 m) c 4))).trans (V_main_arg2 m c),
      ((h c).2 main_arg3 (Pipeline.mem_restRefs_of main_arg3 (by decide) (by decide))).trans (V_main_arg3 m c),
      (((h c).1 6).trans (((dats m (O7 m) 0 c).arrAt_in 6 rfl _).trans (A_eq m (O7 m) c 6))).trans (V_main_arg4 m c)⟩)
    (run_mainV m ρ (O7 m) (hW m))

end Cert.Proof.AttnIdeal

end
-- ==== Proof.AttnEq.lean ====
/- The attention kernel's result array is the reference's. -/
module

public import proofs.«01_k».proof.Proof.AttnValue

@[expose] public section

set_option maxRecDepth 16384

noncomputable section

namespace Cert.Proof.AttnIdeal

open Idealize.ShloMosaic Idealize.ShloMosaic.Pointwise Cert.Proof.AttnRef

/-- From equal arguments the reference's result is the attention of the arguments. -/
theorem ref_eq (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ) (c : Dev Cert.AttnIdeal.nD)
    (h0 : m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0))
    (h1 : m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1))
    (h2 : m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2))
    (h3 : m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3))
    (h4 : m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) :
    Cert.AttnRefIdeal.Value.res_main_v84 m' c = G m c := by
  funext (x : Cert.AttnRefIdeal.S2x16384x512.Idx)
  obtain ⟨b, t, e, rfl⟩ : ∃ (b : Fin 2) (t : Fin 16384) (e : Fin 512), x = ix3 b t e := ⟨x 0, x 1, x 2, eq_ix3 x⟩
  refine (ref_at m' c b t e).trans ?_
  rw [h0, h1, h2, h3, h4]
  rfl

end Cert.Proof.AttnIdeal

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.MergeRefValue
public import proofs.«01_k».proof.Proof.InprojRefValue
public import proofs.«01_k».proof.Proof.Gen.Pre_attn_args_finite
public import proofs.«01_k».proof.Proof.Gen.Pre_expert_tables
public import proofs.«01_k».proof.Proof.ExpertsTables
public import proofs.«01_k».proof.Proof.ExpertsValue
public import proofs.«01_k».proof.Proof.AttnLaunch
public import proofs.«01_k».proof.Proof.AttnIdealLaunch
public import proofs.«01_k».proof.Proof.AttnEq
public import Idealize.ShloMosaic.Adequacy
public import Idealize.ShloMosaic.Init

@[expose] public section

noncomputable section

namespace Cert.Proof

open Idealize.ShloMosaic Idealize.SL.Sem Cert.Merge

/-- The merge's reference runs, leaves its arguments unchanged, and ends with every counter at zero: it has none. -/
theorem mergeRef_frame : Cert.quiescent_MergeRefIdeal (hMergeRefIdeal := Cert.MergeRefIdeal.Gen.facts) := fun m g _ =>
  (θ_run _ _ _).mono (fun r h => ⟨fun c => (h c).2, sem_eq_zero_of_no_sems (by decide) r.2⟩) (Cert.MergeRefIdeal.Value.run m g)

/-- The merge and its reference, run from the same arguments, end with equal results. -/
theorem merge_algebraic : Cert.algebraic_MergeIdeal_MergeRefIdeal (hMergeIdeal := Cert.MergeIdeal.Gen.facts)
    (hMergeRefIdeal := Cert.MergeRefIdeal.Gen.facts) := fun m ρ m' ρ' _ hag =>
  ⟨fun c => Merge.G m c, Merge.run m ρ, (θ_run _ _ _).mono (fun _ h c => ⟨(h c).1.trans (by
    obtain ⟨h0, h1, h2, h3, h4, h5, h6, h7⟩ := hag c
    show _ = Merge.G m c
    unfold Merge.G
    rw [← h0, ← h1, ← h2, ← h3, ← h4, ← h5, ← h6, ← h7]
    exact Merge.ref_eq m' c), (h c).2⟩) (Cert.MergeRefIdeal.Value.run m' ρ')⟩

/-- The attention's reference runs, leaves its arguments unchanged, and ends with every counter at zero: it has none. -/
theorem attnRef_frame : Cert.quiescent_AttnRefIdeal (hAttnRefIdeal := Cert.AttnRefIdeal.Gen.facts) := fun m g _ =>
  (θ_run _ _ _).mono (fun r h => ⟨fun c => (h c).2, sem_eq_zero_of_no_sems (by decide) r.2⟩) (Cert.AttnRefIdeal.Value.run m g)

/-- The attention and its reference, run from the same finite arguments, end with equal results. -/
theorem attn_algebraic : Cert.algebraic_AttnIdeal_AttnRefIdeal_pre_attn_args_finite (hAttnIdeal := Cert.AttnIdeal.Gen.facts)
    (hAttnRefIdeal := Cert.AttnRefIdeal.Gen.facts) (hPre_attn_args_finite := Cert.Pre_attn_args_finite.Gen.facts) := fun m ρ m' ρ' hpre hag =>
  ⟨fun c => AttnIdeal.G m c, AttnIdeal.run m ρ (fun c => AttnIdeal.pre_real (_) (_) (_) (_) (_) (hpre c)),
    (θ_run _ _ _).mono (fun _ h c => ⟨(h c).1.trans (by
      obtain ⟨h0, h1, h2, h3, h4⟩ := hag c
      exact AttnIdeal.ref_eq m m' c h0 h1 h2 h3 h4), (h c).2⟩) (Cert.AttnRefIdeal.Value.run m' ρ')⟩

/-- The input projection's reference runs, leaves its arguments unchanged, and ends with every counter at zero: it has none. -/
theorem inprojRef_frame : Cert.quiescent_InprojRefIdeal (hInprojRefIdeal := Cert.InprojRefIdeal.Gen.facts) := fun m g _ =>
  (θ_run _ _ _).mono (fun r h => ⟨fun c => (h c).2.2.2.2.2, sem_eq_zero_of_no_sems (by decide) r.2⟩) (Cert.InprojRefIdeal.Value.run m g)

/-- The input projection and its reference, run from the same arguments, end with equal results, all five. -/
theorem inproj_algebraic : Cert.algebraic_InprojIdeal_InprojRefIdeal (hInprojIdeal := Cert.InprojIdeal.Gen.facts)
    (hInprojRefIdeal := Cert.InprojRefIdeal.Gen.facts) := fun m ρ m' ρ' _ hag =>
  ⟨fun c => Inproj.G4 m c, fun c => Inproj.G5 m c, fun c => Inproj.G6 m c, fun c => Inproj.G7 m c, fun c => Inproj.G8 m c,
    Inproj.run m ρ, (θ_run _ _ _).mono (fun _ h c => by
    obtain ⟨h0, h1, h2, h3⟩ := hag c
    refine ⟨(h c).1.trans ?_, (h c).2.1.trans ?_, (h c).2.2.1.trans ?_, (h c).2.2.2.1.trans ?_, (h c).2.2.2.2.1.trans ?_,
      (h c).2.2.2.2.2⟩
    · show _ = Inproj.G4 m c
      unfold Inproj.G4
      rw [← h0, ← h1, ← h2]
      exact Inproj.ref4 _ _ _
    · show _ = Inproj.G5 m c
      unfold Inproj.G5
      rw [← h0, ← h1, ← h2, ← h3]
      exact Inproj.ref5 _ _ _ _
    · show _ = Inproj.G6 m c
      unfold Inproj.G6
      rw [← h0, ← h1, ← h2, ← h3]
      exact Inproj.ref6 _ _ _ _
    · show _ = Inproj.G7 m c
      unfold Inproj.G7
      rw [← h0, ← h1, ← h2, ← h3]
      exact Inproj.ref7 _ _ _ _
    · show _ = Inproj.G8 m c
      unfold Inproj.G8
      rw [← h0, ← h1, ← h2, ← h3]
      exact Inproj.ref8 _ _ _ _) (Cert.InprojRefIdeal.Value.run m' ρ')⟩

/-- The experts call runs, leaves its arguments unchanged, and ends with every counter at zero, given its tables in range. -/
theorem experts_frame : Cert.quiescent_Experts (hExperts := Cert.Experts.Gen.facts) (hPre_expert_tables := Cert.Pre_expert_tables.Gen.facts) :=
  fun m g hpre =>
    letI := Cert.Pre_expert_tables.Gen.facts
    Cert.Experts.Gen.frame m g (ExpertsTables.ok (ExpertsTables.small_of_pre m _ _ _ _ (hpre 0)))

/-- The idealized experts call likewise. -/
theorem expertsIdeal_frame : Cert.quiescent_ExpertsIdeal (hExpertsIdeal := Cert.ExpertsIdeal.Gen.facts)
    (hPre_expert_tables := Cert.Pre_expert_tables.Gen.facts) := fun m g hpre =>
  letI := Cert.Pre_expert_tables.Gen.facts
  Cert.ExpertsIdeal.Gen.frame m g (ExpertsIdealTables.ok (ExpertsIdealTables.small_of_pre m _ _ _ _ (hpre 0)))

/-- The experts' reference runs, leaves its arguments unchanged, and ends with every counter at zero: it has none. -/
theorem expertsRef_frame : Cert.quiescent_ExpertsRefIdeal (hExpertsRefIdeal := Cert.ExpertsRefIdeal.Gen.facts) := fun m g _ =>
  (θ_run _ _ _).mono (fun r h => ⟨fun c => (h c).2, sem_eq_zero_of_no_sems (by decide) r.2⟩) (Cert.ExpertsRefIdeal.Value.run m g)

/-- The experts call and its reference, run from the same arguments with the tables in range, end with equal results. -/
theorem experts_algebraic : Cert.algebraic_ExpertsIdeal_ExpertsRefIdeal (hExpertsIdeal := Cert.ExpertsIdeal.Gen.facts)
    (hExpertsRefIdeal := Cert.ExpertsRefIdeal.Gen.facts) (hPre_expert_tables := Cert.Pre_expert_tables.Gen.facts) := fun m ρ m' ρ' hpre hag =>
  letI := Cert.Pre_expert_tables.Gen.facts
  ⟨fun c => Experts.G m c, Experts.run ρ (ExpertsIdealTables.small_of_pre m _ _ _ _ (hpre 0)),
    (θ_run _ _ _).mono (fun _ h c => ⟨(h c).1.trans (by
      obtain ⟨h0, h1, h2, h3, h4, h5⟩ := hag c
      show _ = Experts.G m c
      unfold Experts.G
      rw [← h0, ← h1, ← h2, ← h3, ← h4, ← h5]
      exact Experts.ref_eq _ _ _ _ _ _), (h c).2⟩) (Cert.ExpertsRefIdeal.Value.run m' ρ')⟩

/-- Everything claimed. -/
theorem claim : Cert.Claim := ⟨Cert.Merge.Gen.facts, Cert.MergeIdeal.Gen.facts, Cert.MergeRefIdeal.Gen.facts,
  Cert.Attn.Gen.facts, Cert.AttnIdeal.Gen.facts, Cert.AttnRefIdeal.Gen.facts,
  Cert.Inproj.Gen.facts, Cert.InprojIdeal.Gen.facts, Cert.InprojRefIdeal.Gen.facts,
  Cert.Experts.Gen.facts, Cert.ExpertsIdeal.Gen.facts, Cert.ExpertsRefIdeal.Gen.facts, Cert.Pre_attn_args_finite.Gen.facts,
  Cert.Pre_expert_tables.Gen.facts,
  fun m ρ _ => Cert.Merge.Gen.frame m ρ, fun m ρ _ => Cert.MergeIdeal.Gen.frame m ρ, mergeRef_frame,
  fun m ρ _ => Cert.Proof.Attn.frame m ρ, fun m ρ _ => Cert.Proof.AttnIdeal.frame m ρ, fun m ρ _ => Cert.Proof.AttnIdeal.frame m ρ,
  attnRef_frame, fun m ρ _ => attnRef_frame m ρ trivial,
  fun m ρ _ => Cert.Inproj.Gen.frame m ρ, fun m ρ _ => Cert.InprojIdeal.Gen.frame m ρ, inprojRef_frame,
  experts_frame, expertsIdeal_frame, expertsRef_frame, fun m ρ _ => expertsRef_frame m ρ trivial,
  trivial, merge_algebraic, IdealRules.named_const.statement Cert.AttnIdeal.κ "mask" .f32 0xF149F2CA#32 ⊥ rfl, attn_algebraic,
  trivial, inproj_algebraic, trivial, experts_algebraic⟩

end Cert.Proof

end
